-- ==== Defs.lean ====
def Pre_Kernel [hPre_routed : Cert.Pre_routed.Facts] (m : (ℓ : Loc Cert.Kernel.nD Cert.Kernel.τ Cert.Kernel.sig) → Buf (Elt Bits) ℓ) : Prop :=
  ∀ c : Dev Cert.Kernel.nD,
    (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Down [hPre_routed_down : Cert.Pre_routed_down.Facts] (m : (ℓ : Loc Cert.Down.nD Cert.Down.τ Cert.Down.sig) → Buf (Elt Bits) ℓ) : Prop :=
  ∀ c : Dev Cert.Down.nD,
    (Cert.Pre_routed_down.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3))) = (fun _ => 1#1)

def Pre_DownIdeal [hPre_routed_down : Cert.Pre_routed_down.Facts] (m : (ℓ : Loc Cert.DownIdeal.nD Cert.DownIdeal.τ Cert.DownIdeal.sig) → Buf (Elt Ideal) ℓ) : Prop :=
  ∀ c : Dev Cert.DownIdeal.nD,
    (Cert.Pre_routed_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3))) = (fun _ => 1#1)

def Pre_DownReferenceIdeal (m : (ℓ : Loc Cert.DownReferenceIdeal.nD Cert.DownReferenceIdeal.τ Cert.DownReferenceIdeal.sig) → Buf (Elt Ideal) ℓ) : Prop :=
  True

def Pre_DownReferenceIdeal_routed_down [hPre_routed_down : Cert.Pre_routed_down.Facts] (m : (ℓ : Loc Cert.DownReferenceIdeal.nD Cert.DownReferenceIdeal.τ Cert.DownReferenceIdeal.sig) → Buf (Elt Ideal) ℓ) : Prop :=
  ∀ c : Dev Cert.DownReferenceIdeal.nD,
    (Cert.Pre_routed_down.fn (F := Ideal) (m ((c.tc : Thread Cert.DownReferenceIdeal.nD Cert.DownReferenceIdeal.τ).loc Cert.DownReferenceIdeal.main_arg0)) (m ((c.tc : Thread Cert.DownReferenceIdeal.nD Cert.DownReferenceIdeal.τ).loc Cert.DownReferenceIdeal.main_arg1)) (m ((c.tc : Thread Cert.DownReferenceIdeal.nD Cert.DownReferenceIdeal.τ).loc Cert.DownReferenceIdeal.main_arg2)) (m ((c.tc : Thread Cert.DownReferenceIdeal.nD Cert.DownReferenceIdeal.τ).loc Cert.DownReferenceIdeal.main_arg3))) = (fun _ => 1#1)

def Pre_MixWords (m : (ℓ : Loc Cert.MixWords.nD Cert.MixWords.τ Cert.MixWords.sig) → Buf (Elt Bits) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def quiescent_Kernel [hKernel : Cert.Kernel.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Down [hDown : Cert.Down.Facts] [hPre_routed_down : Cert.Pre_routed_down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] [hPre_routed_down : Cert.Pre_routed_down.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_DownReferenceIdeal_pre_routed_down [hDownReferenceIdeal : Cert.DownReferenceIdeal.Facts] [hPre_routed_down : Cert.Pre_routed_down.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal_routed_down m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_MixWords [hMixWords : Cert.MixWords.Facts] : Prop :=
  ∀ (m : (ℓ : Loc Cert.MixWords.nD Cert.MixWords.τ Cert.MixWords.sig) → Buf (Elt Bits) ℓ) (g : Dev Cert.MixWords.nD → PrngReg), Pre_MixWords m →
    θ_run (Cert.MixWords.defs (F := Bits)) (onTc (τ := Cert.MixWords.τ) (Cert.MixWords.main (F := Bits))) ⟨m, fun _ => 0, g⟩ (fun r => (∀ c : Dev Cert.MixWords.nD,
      r.2.mem ((c.tc : Thread Cert.MixWords.nD Cert.MixWords.τ).loc Cert.MixWords.main_arg0) = m ((c.tc : Thread Cert.MixWords.nD Cert.MixWords.τ).loc Cert.MixWords.main_arg0)
      ∧ r.2.mem ((c.tc : Thread Cert.MixWords.nD Cert.MixWords.τ).loc Cert.MixWords.main_arg1) = m ((c.tc : Thread Cert.MixWords.nD Cert.MixWords.τ).loc Cert.MixWords.main_arg1)
      ∧ r.2.mem ((c.tc : Thread Cert.MixWords.nD Cert.MixWords.τ).loc Cert.MixWords.main_arg2) = m ((c.tc : Thread Cert.MixWords.nD Cert.MixWords.τ).loc Cert.MixWords.main_arg2)
      ∧ r.2.mem ((c.tc : Thread Cert.MixWords.nD Cert.MixWords.τ).loc Cert.MixWords.main_arg3) = m ((c.tc : Thread Cert.MixWords.nD Cert.MixWords.τ).loc Cert.MixWords.main_arg3)
      ∧ r.2.mem ((c.tc : Thread Cert.MixWords.nD Cert.MixWords.τ).loc Cert.MixWords.main_arg4) = m ((c.tc : Thread Cert.MixWords.nD Cert.MixWords.τ).loc Cert.MixWords.main_arg4)
      ∧ r.2.mem ((c.tc : Thread Cert.MixWords.nD Cert.MixWords.τ).loc Cert.MixWords.main_arg5) = m ((c.tc : Thread Cert.MixWords.nD Cert.MixWords.τ).loc Cert.MixWords.main_arg5)
      ∧ r.2.mem ((c.tc : Thread Cert.MixWords.nD Cert.MixWords.τ).loc Cert.MixWords.main_arg6) = m ((c.tc : Thread Cert.MixWords.nD Cert.MixWords.τ).loc Cert.MixWords.main_arg6)
      ∧ r.2.mem ((c.tc : Thread Cert.MixWords.nD Cert.MixWords.τ).loc Cert.MixWords.main_arg7) = m ((c.tc : Thread Cert.MixWords.nD Cert.MixWords.τ).loc Cert.MixWords.main_arg7))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Down_DownIdeal : Prop :=
  True

def algebraic_DownIdeal_DownReferenceIdeal [hDownIdeal : Cert.DownIdeal.Facts] [hDownReferenceIdeal : Cert.DownReferenceIdeal.Facts] [hPre_routed_down : Cert.Pre_routed_down.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v74)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v74) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v44) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def preserves_Mix_MixIdeal : Prop :=
  IdealRules.bf16_pair.PackStatement Cert.MixIdeal.S256x1024
  ∧ IdealRules.bf16_pair.Statement Cert.MixIdeal.S512x1024 Cert.MixIdeal.S256x1024

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)) →
    ∃ (v0 : (c : Dev Cert.MixIdeal.nD) → Buf (Elt Ideal) ((c.tc : Thread Cert.MixIdeal.nD Cert.MixIdeal.τ).loc Cert.MixIdeal.main_v5_0)) (v1 : (c : Dev Cert.MixIdeal.nD) → Buf (Elt Ideal) ((c.tc : Thread Cert.MixIdeal.nD Cert.MixIdeal.τ).loc Cert.MixIdeal.main_v5_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v5_0) = v0 c
          ∧ r.2.mem ((c.tc : Thread Cert.MixIdeal.nD Cert.MixIdeal.τ).loc Cert.MixIdeal.main_v5_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v30) = v0 c
          ∧ r.2.mem ((c.tc : Thread Cert.MixReferenceIdeal.nD Cert.MixReferenceIdeal.τ).loc Cert.MixReferenceIdeal.main_v32) = v1 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7))

def Claim : Prop :=
  ∃ (hKernel : Cert.Kernel.Facts) (hKernelIdeal : Cert.KernelIdeal.Facts) (hReferenceIdeal : Cert.ReferenceIdeal.Facts) (hDown : Cert.Down.Facts) (hDownIdeal : Cert.DownIdeal.Facts) (hDownReferenceIdeal : Cert.DownReferenceIdeal.Facts) (hMixWords : Cert.MixWords.Facts) (hMix : Cert.Mix.Facts) (hMixIdeal : Cert.MixIdeal.Facts) (hMixReferenceIdeal : Cert.MixReferenceIdeal.Facts) (hPre_routed : Cert.Pre_routed.Facts) (hPre_routed_down : Cert.Pre_routed_down.Facts),
    quiescent_Kernel (hKernel := hKernel) (hPre_routed := hPre_routed)
    ∧ quiescent_KernelIdeal (hKernelIdeal := hKernelIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ quiescent_Down (hDown := hDown) (hPre_routed_down := hPre_routed_down)
    ∧ quiescent_DownIdeal (hDownIdeal := hDownIdeal) (hPre_routed_down := hPre_routed_down)
    ∧ quiescent_DownReferenceIdeal (hDownReferenceIdeal := hDownReferenceIdeal)
    ∧ quiescent_DownReferenceIdeal_pre_routed_down (hDownReferenceIdeal := hDownReferenceIdeal) (hPre_routed_down := hPre_routed_down)
    ∧ quiescent_MixWords (hMixWords := hMixWords)
    ∧ quiescent_Mix (hMix := hMix)
    ∧ quiescent_MixIdeal (hMixIdeal := hMixIdeal)
    ∧ quiescent_MixReferenceIdeal (hMixReferenceIdeal := hMixReferenceIdeal)
    ∧ preserves_Kernel_KernelIdeal
    ∧ algebraic_KernelIdeal_ReferenceIdeal (hKernelIdeal := hKernelIdeal) (hReferenceIdeal := hReferenceIdeal) (hPre_routed := hPre_routed)
    ∧ preserves_Down_DownIdeal
    ∧ algebraic_DownIdeal_DownReferenceIdeal (hDownIdeal := hDownIdeal) (hDownReferenceIdeal := hDownReferenceIdeal) (hPre_routed_down := hPre_routed_down)
    ∧ preserves_Mix_MixIdeal
    ∧ algebraic_MixIdeal_MixReferenceIdeal (hMixIdeal := hMixIdeal) (hMixReferenceIdeal := hMixReferenceIdeal)
-- ==== Pre_routed.lean ====
abbrev S32 : Shape := ⟨1, ![32]⟩
abbrev S73728x1024 : Shape := ⟨2, ![73728, 1024]⟩
abbrev S32x2048x2048 : Shape := ⟨3, ![32, 2048, 2048]⟩
abbrev S32x2048 : Shape := ⟨2, ![32, 2048]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel

variable [Facts]

def fn {F : FTy → Type} [FloatOps F] (main_arg0 : IVec S32 32) (main_arg1 : IVec S73728x1024 32) (main_arg2 : FVec F S32x2048x2048 .f32) (main_arg3 : FVec F S32x2048 .f32) (main_arg4 : FVec F S32x2048x2048 .f32) (main_arg5 : FVec F S32x2048 .f32) : IVec S_ 1 :=
  let main_c : IVec S_ 32 := constantI S_ 32 0#32
  let main_v0 : IVec S32 32 := broadcastInDim S32 ![] bcast_S_S32 main_c
  let main_v1 : IVec S32 1 := cmpi .sge main_arg0 main_v0
  let main_c_0 : IVec S_ 32 := constantI S_ 32 65536#32
  let main_v2 : IVec S32 32 := broadcastInDim S32 ![] bcast_S_S32 main_c_0
  let main_v3 : IVec S32 1 := cmpi .sle main_arg0 main_v2
  let main_v4 : IVec S32 1 := andi main_v1 main_v3
  let main_c_1 : IVec S_ 1 := constantI S_ 1 1#1
  let main_v5 : IVec S_ 1 := (fun x v => Host.reduce IntOp.andi x v reducesTo_S32_S_d0 h_S_) main_v4 main_c_1
  let main_c_2 : IVec S_ 32 := constantI S_ 32 0#32
  let main_v6 : IVec S_ 32 := (fun x v => Host.reduce IntOp.addi x v reducesTo_S32_S_d0 h_S_) main_arg0 main_c_2
  let main_c_3 : IVec S_ 32 := constantI S_ 32 65536#32
  let main_v7 : IVec S_ 1 := cmpi .eq main_v6 main_c_3
  let main_v8 : IVec S_ 1 := andi main_v5 main_v7
  main_v8
-- ==== Pre_routed_down.lean ====
abbrev S32 : Shape := ⟨1, ![32]⟩
abbrev S73728x2048 : Shape := ⟨2, ![73728, 2048]⟩
abbrev S32x2048x2048 : Shape := ⟨3, ![32, 2048, 2048]⟩
abbrev S32x2048 : Shape := ⟨2, ![32, 2048]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel

variable [Facts]

def fn {F : FTy → Type} [FloatOps F] (main_arg0 : IVec S32 32) (main_arg1 : FVec F S73728x2048 .bf16) (main_arg2 : FVec F S32x2048x2048 .f32) (main_arg3 : FVec F S32x2048 .f32) : IVec S_ 1 :=
  let main_c : IVec S_ 32 := constantI S_ 32 0#32
  let main_v0 : IVec S32 32 := broadcastInDim S32 ![] bcast_S_S32 main_c
  let main_v1 : IVec S32 1 := cmpi .sge main_arg0 main_v0
  let main_c_0 : IVec S_ 32 := constantI S_ 32 65536#32
  let main_v2 : IVec S32 32 := broadcastInDim S32 ![] bcast_S_S32 main_c_0
  let main_v3 : IVec S32 1 := cmpi .sle main_arg0 main_v2
  let main_v4 : IVec S32 1 := andi main_v1 main_v3
  let main_c_1 : IVec S_ 1 := constantI S_ 1 1#1
  let main_v5 : IVec S_ 1 := (fun x v => Host.reduce IntOp.andi x v reducesTo_S32_S_d0 h_S_) main_v4 main_c_1
  let main_c_2 : IVec S_ 32 := constantI S_ 32 0#32
  let main_v6 : IVec S_ 32 := (fun x v => Host.reduce IntOp.addi x v reducesTo_S32_S_d0 h_S_) main_arg0 main_c_2
  let main_c_3 : IVec S_ 32 := constantI S_ 32 65536#32
  let main_v7 : IVec S_ 1 := cmpi .eq main_v6 main_c_3
  let main_v8 : IVec S_ 1 := andi main_v5 main_v7
  main_v8
-- ==== Kernel.lean ====
abbrev S32 : Shape := ⟨1, ![32]⟩
abbrev S73728x1024 : Shape := ⟨2, ![73728, 1024]⟩
abbrev S32x2048x2048 : Shape := ⟨3, ![32, 2048, 2048]⟩
abbrev S32x2048 : Shape := ⟨2, ![32, 2048]⟩
abbrev S_ : Shape := ⟨0, ![]⟩
abbrev S288 : Shape := ⟨1, ![288]⟩
abbrev S1 : Shape := ⟨1, ![1]⟩
abbrev S1x32 : Shape := ⟨2, ![1, 32]⟩
abbrev S288x1 : Shape := ⟨2, ![288, 1]⟩
abbrev S288x32 : Shape := ⟨2, ![288, 32]⟩
abbrev S287 : Shape := ⟨1, ![287]⟩
abbrev S1x288 : Shape := ⟨2, ![1, 288]⟩
abbrev S32x1 : Shape := ⟨2, ![32, 1]⟩
abbrev S32x288 : Shape := ⟨2, ![32, 288]⟩
abbrev S64 : Shape := ⟨1, ![64]⟩
abbrev S64x1 : Shape := ⟨2, ![64, 1]⟩
abbrev S64x32 : Shape := ⟨2, ![64, 32]⟩
abbrev S32x1x2048 : Shape := ⟨3, ![32, 1, 2048]⟩
abbrev S73728x2048 : Shape := ⟨2, ![73728, 2048]⟩
abbrev S256x1024 : Shape := ⟨2, ![256, 1024]⟩
abbrev S1x1x1024 : Shape := ⟨3, ![1, 1, 1024]⟩
abbrev S2x2x2048x1024 : Shape := ⟨4, ![2, 2, 2048, 1024]⟩
abbrev S2x2048x1024 : Shape := ⟨3, ![2, 2048, 1024]⟩
abbrev S2x2 : Shape := ⟨2, ![2, 2]⟩
abbrev S1x1 : Shape := ⟨2, ![1, 1]⟩
abbrev S1x1x2048x1024 : Shape := ⟨4, ![1, 1, 2048, 1024]⟩
abbrev S2048x1024 : Shape := ⟨2, ![2048, 1024]⟩
abbrev S1x2048x1024 : Shape := ⟨3, ![1, 2048, 1024]⟩
abbrev S1x1024x1024 : Shape := ⟨3, ![1, 1024, 1024]⟩
abbrev S1024x1024 : Shape := ⟨2, ![1024, 1024]⟩
abbrev S1x1024 : Shape := ⟨2, ![1, 1024]⟩

abbrev nBuf : Space → Nat
  | .hbm => 169
  | .vmem => 10
  | .smem => 7
  | _ => 0

abbrev hbmTy0_0 (i : Nat) : BufTy := match i % 128 with
  | 0 => ⟨S32, .i32⟩
  | 1 => ⟨S73728x1024, .i32⟩
  | 2 => ⟨S32x2048x2048, .f32⟩
  | 3 => ⟨S32x2048, .f32⟩
  | 4 => ⟨S32x2048x2048, .f32⟩
  | 5 => ⟨S32x2048, .f32⟩
  | 6 => ⟨S_, .i32⟩
  | 7 => ⟨S32, .i32⟩
  | 8 => ⟨S32, .i32⟩
  | 9 => ⟨S_, .i32⟩
  | 10 => ⟨S32, .i32⟩
  | 11 => ⟨S32, .i32⟩
  | 12 => ⟨S_, .i32⟩
  | 13 => ⟨S_, .i32⟩
  | 14 => ⟨S32, .i32⟩
  | 15 => ⟨S32, .i32⟩
  | 16 => ⟨S32, .i32⟩
  | 17 => ⟨S_, .i32⟩
  | 18 => ⟨S32, .i32⟩
  | 19 => ⟨S32, .i1⟩
  | 20 => ⟨S32, .i32⟩
  | 21 => ⟨S32, .i32⟩
  | 22 => ⟨S_, .i32⟩
  | 23 => ⟨S32, .i32⟩
  | 24 => ⟨S32, .i1⟩
  | 25 => ⟨S32, .i1⟩
  | 26 => ⟨S_, .i32⟩
  | 27 => ⟨S32, .i32⟩
  | 28 => ⟨S32, .i32⟩
  | 29 => ⟨S32, .i32⟩
  | 30 => ⟨S_, .i32⟩
  | 31 => ⟨S32, .i32⟩
  | 32 => ⟨S32, .i32⟩
  | 33 => ⟨S_, .i32⟩
  | 34 => ⟨S_, .i32⟩
  | 35 => ⟨S32, .i32⟩
  | 36 => ⟨S288, .i32⟩
  | 37 => ⟨S1, .i32⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S_, .i1⟩
  | 45 => ⟨S_, .i32⟩
  | 46 => ⟨S_, .i32⟩
  | 47 => ⟨S_, .i1⟩
  | 48 => ⟨S_, .i1⟩
  | 49 => ⟨S_, .i32⟩
  | 50 => ⟨S_, .i32⟩
  | 51 => ⟨S_, .i32⟩
  | 52 => ⟨S1x32, .i32⟩
  | 53 => ⟨S_, .i32⟩
  | 54 => ⟨S288, .i32⟩
  | 55 => ⟨S288, .i32⟩
  | 56 => ⟨S288x1, .i32⟩
  | 57 => ⟨S288x32, .i32⟩
  | 58 => ⟨S288x32, .i32⟩
  | 59 => ⟨S288x32, .i1⟩
  | 60 => ⟨S288x32, .i32⟩
  | 61 => ⟨S_, .i32⟩
  | 62 => ⟨S288, .i32⟩
  | 63 => ⟨S_, .i32⟩
  | 64 => ⟨S288, .i32⟩
  | 65 => ⟨S288, .i32⟩
  | 66 => ⟨S_, .i32⟩
  | 67 => ⟨S_, .i32⟩
  | 68 => ⟨S288, .i32⟩
  | 69 => ⟨S288, .i1⟩
  | 70 => ⟨S_, .i32⟩
  | 71 => ⟨S_, .i32⟩
  | 72 => ⟨S288, .i32⟩
  | 73 => ⟨S288, .i32⟩
  | 74 => ⟨S_, .i32⟩
  | 75 => ⟨S_, .i32⟩
  | 76 => ⟨S288, .i32⟩
  | 77 => ⟨S288, .i1⟩
  | 78 => ⟨S288, .i32⟩
  | 79 => ⟨S1, .i32⟩
  | 80 => ⟨S_, .i32⟩
  | 81 => ⟨S1, .i32⟩
  | 82 => ⟨S1, .i32⟩
  | 83 => ⟨S287, .i32⟩
  | 84 => ⟨S288, .i32⟩
  | 85 => ⟨S288, .i1⟩
  | 86 => ⟨S_, .i32⟩
  | 87 => ⟨S_, .i32⟩
  | 88 => ⟨S288, .i32⟩
  | 89 => ⟨S_, .i32⟩
  | 90 => ⟨S288, .i32⟩
  | 91 => ⟨S1, .i32⟩
  | 92 => ⟨S_, .i32⟩
  | 93 => ⟨S_, .i32⟩
  | 94 => ⟨S_, .i32⟩
  | 95 => ⟨S32, .i32⟩
  | 96 => ⟨S1x288, .i32⟩
  | 97 => ⟨S_, .i32⟩
  | 98 => ⟨S1x288, .i32⟩
  | 99 => ⟨S1x288, .i1⟩
  | 100 => ⟨S1x288, .i32⟩
  | 101 => ⟨S32x1, .i32⟩
  | 102 => ⟨S32x288, .i32⟩
  | 103 => ⟨S32x288, .i32⟩
  | 104 => ⟨S32x288, .i1⟩
  | 105 => ⟨S32x288, .i1⟩
  | 106 => ⟨S32x288, .i1⟩
  | 107 => ⟨S1x288, .i32⟩
  | 108 => ⟨S_, .i32⟩
  | 109 => ⟨S_, .i32⟩
  | 110 => ⟨S32x288, .i32⟩
  | 111 => ⟨S32x288, .i32⟩
  | 112 => ⟨S32x288, .i32⟩
  | 113 => ⟨S_, .i32⟩
  | 114 => ⟨S32, .i32⟩
  | 115 => ⟨S64, .i32⟩
  | 116 => ⟨S_, .i32⟩
  | 117 => ⟨S_, .i1⟩
  | 118 => ⟨S_, .i32⟩
  | 119 => ⟨S_, .i32⟩
  | 120 => ⟨S64, .i32⟩
  | 121 => ⟨S64, .i32⟩
  | 122 => ⟨S_, .i32⟩
  | 123 => ⟨S64, .i32⟩
  | 124 => ⟨S64, .i1⟩
  | 125 => ⟨S_, .i32⟩
  | 126 => ⟨S64, .i32⟩
  | 127 => ⟨S64, .i1⟩
  | _ => ⟨S32, .i32⟩

abbrev hbmTy0_1 (i : Nat) : BufTy := match i % 128 with
  | 0 => ⟨S_, .i32⟩
  | 1 => ⟨S_, .i1⟩
  | 2 => ⟨S64, .i1⟩
  | 3 => ⟨S64, .i1⟩
  | 4 => ⟨S64, .i1⟩
  | 5 => ⟨S64, .i32⟩
  | 6 => ⟨S64, .i32⟩
  | 7 => ⟨S64, .i32⟩
  | 8 => ⟨S64x1, .i32⟩
  | 9 => ⟨S1x32, .i32⟩
  | 10 => ⟨S64x32, .i32⟩
  | 11 => ⟨S64x32, .i32⟩
  | 12 => ⟨S64x32, .i1⟩
  | 13 => ⟨S1x32, .i32⟩
  | 14 => ⟨S_, .i32⟩
  | 15 => ⟨S_, .i32⟩
  | 16 => ⟨S64x32, .i32⟩
  | 17 => ⟨S64x32, .i32⟩
  | 18 => ⟨S64x32, .i32⟩
  | 19 => ⟨S_, .i32⟩
  | 20 => ⟨S64, .i32⟩
  | 21 => ⟨S64, .i32⟩
  | 22 => ⟨S64, .i32⟩
  | 23 => ⟨S_, .i32⟩
  | 24 => ⟨S64, .i32⟩
  | 25 => ⟨S64, .i1⟩
  | 26 => ⟨S64, .i32⟩
  | 27 => ⟨S64, .i32⟩
  | 28 => ⟨S_, .i32⟩
  | 29 => ⟨S64, .i32⟩
  | 30 => ⟨S64, .i1⟩
  | 31 => ⟨S64, .i1⟩
  | 32 => ⟨S_, .i32⟩
  | 33 => ⟨S64, .i32⟩
  | 34 => ⟨S64, .i32⟩
  | 35 => ⟨S64, .i32⟩
  | 36 => ⟨S_, .i32⟩
  | 37 => ⟨S64, .i32⟩
  | 38 => ⟨S32x1x2048, .f32⟩
  | 39 => ⟨S32x1x2048, .f32⟩
  | 40 => ⟨S73728x2048, .bf16⟩
  | _ => ⟨S32, .i32⟩

abbrev hbmTy (i : Nat) : BufTy := match i / 128 with
  | 0 => hbmTy0_0 i
  | 1 => hbmTy0_1 i
  | _ => ⟨S32, .i32⟩

abbrev bufTy : (tb : Table) → Fin (tcTables nBuf tb) → BufTy
  | .hbm, ⟨i, _⟩ => hbmTy i
  | .local _ .vmem, ⟨0, _⟩ => ⟨S256x1024, .i32⟩
  | .local _ .vmem, ⟨1, _⟩ => ⟨S256x1024, .i32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S256x1024, .bf16⟩
  | .local _ .vmem, ⟨7, _⟩ => ⟨S256x1024, .bf16⟩
  | .local _ .vmem, ⟨8, _⟩ => ⟨S2x2x2048x1024, .f32⟩
  | .local _ .vmem, ⟨9, _⟩ => ⟨S2x2048x1024, .bf16⟩
  | .local _ .smem, ⟨0, _⟩ => ⟨S288, .i32⟩
  | .local _ .smem, ⟨1, _⟩ => ⟨S1, .i32⟩
  | .local _ .smem, ⟨2, _⟩ => ⟨S288, .i32⟩
  | .local _ .smem, ⟨3, _⟩ => ⟨S288, .i32⟩
  | .local _ .smem, ⟨4, _⟩ => ⟨S1, .i32⟩
  | .local _ .smem, ⟨5, _⟩ => ⟨S64, .i32⟩
  | .local _ .smem, ⟨6, _⟩ => ⟨S64, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_c_2 : Ref sig .tc := ⟨.hbm, 30, rfl⟩
abbrev main_v5 : Ref sig .tc := ⟨.hbm, 31, rfl⟩
abbrev main_v6 : Ref sig .tc := ⟨.hbm, 32, rfl⟩
abbrev main_call1_call0_c : Ref sig .tc := ⟨.hbm, 33, rfl⟩
abbrev main_call1_call0_v0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_c_3 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_call2_v5 : Ref sig .tc := ⟨.hbm, 45, rfl⟩
abbrev main_call2_c : Ref sig .tc := ⟨.hbm, 46, rfl⟩
abbrev main_call2_v6 : Ref sig .tc := ⟨.hbm, 47, rfl⟩
abbrev main_call2_v7 : Ref sig .tc := ⟨.hbm, 48, rfl⟩
abbrev main_call2_c_0 : Ref sig .tc := ⟨.hbm, 49, rfl⟩
abbrev main_call2_v8 : Ref sig .tc := ⟨.hbm, 50, rfl⟩
abbrev main_v11 : Ref sig .tc := ⟨.hbm, 51, rfl⟩
abbrev main_v12 : Ref sig .tc := ⟨.hbm, 52, rfl⟩
abbrev main_c_4 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_c_5 : Ref sig .tc := ⟨.hbm, 61, rfl⟩
abbrev main_v20 : Ref sig .tc := ⟨.hbm, 62, rfl⟩
abbrev main_c_6 : Ref sig .tc := ⟨.hbm, 63, rfl⟩
abbrev main_v21 : Ref sig .tc := ⟨.hbm, 64, rfl⟩
abbrev main_v22 : Ref sig .tc := ⟨.hbm, 65, rfl⟩
abbrev main_c_7 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_c_8 : Ref sig .tc := ⟨.hbm, 70, rfl⟩
abbrev main_call3_v0 : Ref sig .tc := ⟨.hbm, 71, rfl⟩
abbrev main_call3_v1 : Ref sig .tc := ⟨.hbm, 72, rfl⟩
abbrev main_v26 : Ref sig .tc := ⟨.hbm, 73, rfl⟩
abbrev main_c_9 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_call4_v0 : Ref sig .tc := ⟨.hbm, 78, rfl⟩
abbrev main_v31 : Ref sig .tc := ⟨.hbm, 79, rfl⟩
abbrev main_c_10 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_call5_call0_c : Ref sig .tc := ⟨.hbm, 86, rfl⟩
abbrev main_call5_call0_v0 : Ref sig .tc := ⟨.hbm, 87, rfl⟩
abbrev main_v38 : Ref sig .tc := ⟨.hbm, 88, rfl⟩
abbrev main_c_11 : Ref sig .tc := ⟨.hbm, 89, rfl⟩
abbrev main_v39 : Ref sig .tc := ⟨.hbm, 90, rfl⟩
abbrev main_v41 : Ref sig .tc := ⟨.hbm, 91, rfl⟩
abbrev main_v42 : Ref sig .tc := ⟨.hbm, 92, rfl⟩
abbrev main_c_12 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_c_13 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_c_14 : Ref sig .tc := ⟨.hbm, 108, rfl⟩
abbrev main_call6_v0 : Ref sig .tc := ⟨.hbm, 109, rfl⟩
abbrev main_call6_v1 : Ref sig .tc := ⟨.hbm, 110, rfl⟩
abbrev main_call6_v2 : Ref sig .tc := ⟨.hbm, 111, rfl⟩
abbrev main_v56 : Ref sig .tc := ⟨.hbm, 112, rfl⟩
abbrev main_c_15 : Ref sig .tc := ⟨.hbm, 113, rfl⟩
abbrev main_v57 : Ref sig .tc := ⟨.hbm, 114, rfl⟩
abbrev main_v58 : Ref sig .tc := ⟨.hbm, 115, rfl⟩
abbrev main_call7_c : Ref sig .tc := ⟨.hbm, 116, rfl⟩
abbrev main_call7_v0 : Ref sig .tc := ⟨.hbm, 117, rfl⟩
abbrev main_call7_c_0 : Ref sig .tc := ⟨.hbm, 118, rfl⟩
abbrev main_call7_v1 : Ref sig .tc := ⟨.hbm, 119, rfl⟩
abbrev main_call7_v2 : Ref sig .tc := ⟨.hbm, 120, rfl⟩
abbrev main_call7_v3 : Ref sig .tc := ⟨.hbm, 121, rfl⟩
abbrev main_call7_c_1 : Ref sig .tc := ⟨.hbm, 122, rfl⟩
abbrev main_call7_v4 : Ref sig .tc := ⟨.hbm, 123, rfl⟩
abbrev main_call7_v5 : Ref sig .tc := ⟨.hbm, 124, rfl⟩
abbrev main_call7_c_2 : Ref sig .tc := ⟨.hbm, 125, rfl⟩
abbrev main_call7_v6 : Ref sig .tc := ⟨.hbm, 126, rfl⟩
abbrev main_call7_v7 : Ref sig .tc := ⟨.hbm, 127, rfl⟩
abbrev main_call7_c_3 : Ref sig .tc := ⟨.hbm, 128, rfl⟩
abbrev main_call7_v8 : Ref sig .tc := ⟨.hbm, 129, rfl⟩
abbrev main_call7_v9 : Ref sig .tc := ⟨.hbm, 130, rfl⟩
abbrev main_call7_v10 : Ref sig .tc := ⟨.hbm, 131, rfl⟩
abbrev main_call7_v11 : Ref sig .tc := ⟨.hbm, 132, rfl⟩
abbrev main_call7_v12 : Ref sig .tc := ⟨.hbm, 133, rfl⟩
abbrev main_call7_v13 : Ref sig .tc := ⟨.hbm, 134, rfl⟩
abbrev main_v59 : Ref sig .tc := ⟨.hbm, 135, rfl⟩
abbrev main_v60 : Ref sig .tc := ⟨.hbm, 136, rfl⟩
abbrev main_v61 : Ref sig .tc := ⟨.hbm, 137, rfl⟩
abbrev main_v62 : Ref sig .tc := ⟨.hbm, 138, rfl⟩
abbrev main_v63 : Ref sig .tc := ⟨.hbm, 139, rfl⟩
abbrev main_v64 : Ref sig .tc := ⟨.hbm, 140, rfl⟩
abbrev main_v65 : Ref sig .tc := ⟨.hbm, 141, rfl⟩
abbrev main_c_16 : Ref sig .tc := ⟨.hbm, 142, rfl⟩
abbrev main_call8_v0 : Ref sig .tc := ⟨.hbm, 143, rfl⟩
abbrev main_call8_v1 : Ref sig .tc := ⟨.hbm, 144, rfl⟩
abbrev main_call8_v2 : Ref sig .tc := ⟨.hbm, 145, rfl⟩
abbrev main_v66 : Ref sig .tc := ⟨.hbm, 146, rfl⟩
abbrev main_c_17 : Ref sig .tc := ⟨.hbm, 147, rfl⟩
abbrev main_call9_v0 : Ref sig .tc := ⟨.hbm, 148, rfl⟩
abbrev main_call9_v1 : Ref sig .tc := ⟨.hbm, 149, rfl⟩
abbrev main_call9_v2 : Ref sig .tc := ⟨.hbm, 150, rfl⟩
abbrev main_call9_v3 : Ref sig .tc := ⟨.hbm, 151, rfl⟩
abbrev main_call9_v4 : Ref sig .tc := ⟨.hbm, 152, rfl⟩
abbrev main_call9_v5 : Ref sig .tc := ⟨.hbm, 153, rfl⟩
abbrev main_call9_v6 : Ref sig .tc := ⟨.hbm, 154, rfl⟩
abbrev main_call9_v7 : Ref sig .tc := ⟨.hbm, 155, rfl⟩
abbrev main_call9_c : Ref sig .tc := ⟨.hbm, 156, rfl⟩
abbrev main_call9_v8 : Ref sig .tc := ⟨.hbm, 157, rfl⟩
abbrev main_call9_v9 : Ref sig .tc := ⟨.hbm, 158, rfl⟩
abbrev main_call9_v10 : Ref sig .tc := ⟨.hbm, 159, rfl⟩
abbrev main_call9_c_0 : Ref sig .tc := ⟨.hbm, 160, rfl⟩
abbrev main_call9_v11 : Ref sig .tc := ⟨.hbm, 161, rfl⟩
abbrev main_call9_v12 : Ref sig .tc := ⟨.hbm, 162, rfl⟩
abbrev main_v68 : Ref sig .tc := ⟨.hbm, 163, rfl⟩
abbrev main_c_18 : Ref sig .tc := ⟨.hbm, 164, rfl⟩
abbrev main_v69 : Ref sig .tc := ⟨.hbm, 165, rfl⟩
abbrev main_v73 : Ref sig .tc := ⟨.hbm, 166, rfl⟩
abbrev main_v74 : Ref sig .tc := ⟨.hbm, 167, rfl⟩
abbrev main_v75 : Ref sig .tc := ⟨.hbm, 168, rfl⟩
abbrev main_v30 : Ref sig .tc := ⟨.smem, 0, rfl⟩
abbrev main_v71 : Ref sig .tc := ⟨.smem, 1, rfl⟩
abbrev main_v37 : Ref sig .tc := ⟨.smem, 2, rfl⟩
abbrev main_v40 : Ref sig .tc := ⟨.smem, 3, rfl⟩
abbrev main_v72 : Ref sig .tc := ⟨.smem, 4, rfl⟩
abbrev main_v67 : Ref sig .tc := ⟨.smem, 5, rfl⟩
abbrev main_v70 : Ref sig .tc := ⟨.smem, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 288], ![false, false]⟩

abbrev pre0 : Pipeline.Prefetch sig := ⟨7, ![main_v30.idx, main_v71.idx, main_v37.idx, main_v40.idx, main_v72.idx, main_v67.idx, main_v70.idx], fun | 0 => main_v30.names | 1 => main_v71.names | 2 => main_v37.names | 3 => main_v40.names | 4 => main_v72.names | 5 => main_v67.names | 6 => main_v70.names | ⟨_ + 7, h⟩ => absurd h (Nat.not_lt.2 (Nat.le_add_left _ _)), fun | 0 => rfl | 1 => rfl | 2 => rfl | 3 => rfl | 4 => rfl | 5 => rfl | 6 => rfl | ⟨_ + 7, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v70 : BitVec 32) : BitVec 32 :=
  let c1024_i32_38 : BitVec 32 := 1024#32
  let v71 : BitVec 32 := Scalar.muli v70 c1024_i32_38
  v71
def k0_cond1 (v8 : BitVec 32) : BitVec 1 :=
  let c1_i32 : BitVec 32 := 1#32
  let v9 : BitVec 1 := Scalar.cmpi .eq v8 c1_i32
  let v10 : BitVec 32 := Scalar.extui v9
  let c0_i32 : BitVec 32 := 0#32
  let v11 : BitVec 1 := Scalar.cmpi .ne v10 c0_i32
  v11

def k0_cond2 (i : grid0.Coords) (v0 : BitVec 32) (v3 : BitVec 32) : BitVec 1 :=
  let arg0 : BitVec 32 := BitVec.ofNat 32 (i 0).val
  let v1 : BitVec 32 := Scalar.muli arg0 v0
  let v4 : BitVec 32 := Scalar.addi v1 v3
  let c0_i32_11 : BitVec 32 := 0#32
  let v30 : BitVec 1 := Scalar.cmpi .eq v4 c0_i32_11
  let v31 : BitVec 32 := Scalar.extui v30
  let c0_i32_12 : BitVec 32 := 0#32
  let v32 : BitVec 1 := Scalar.cmpi .ne v31 c0_i32_12
  v32

def k0_off2 (v69 : BitVec 32) (v70 : BitVec 32) : Fin 3 → Nat :=
  let c0_i32_45 : BitVec 32 := 0#32
  let c1024_i32_38 : BitVec 32 := 1024#32
  let v71 : BitVec 32 := Scalar.muli v70 c1024_i32_38
  let v72 : BitVec 32 := v71
  ![v69.toNat, 0, v72.toNat]

def k0_chk1 (i : grid0.Coords) (v0 : BitVec 32) (v3 : BitVec 32) (v8 : BitVec 32) (v69 : BitVec 32) (v70 : BitVec 32) : Prop :=
  (∀ (k0_h1 : k0_cond1 v8 = 1#1), ∀ (k0_h2 : k0_cond2 i v0 v3 = 1#1), 1024 ∣ (k0_mult1 v70).toNat) ∧
  (∀ (k0_h1 : k0_cond1 v8 = 1#1), ∀ (k0_h2 : k0_cond2 i v0 v3 = 1#1), ∀ a, (k0_off2 v69 v70) a + S1x2048x1024.size a ≤ S32x2048x2048.size a)
theorem k0_mult1_dvd : ∀ (i : grid0.Coords) (v0 : BitVec 32) (v3 : BitVec 32) (v8 : BitVec 32) (v69 : BitVec 32) (v70 : BitVec 32) (k0_hw1 : k0_chk1 i v0 v3 v8 v69 v70), ∀ (k0_h1 : k0_cond1 v8 = 1#1), ∀ (k0_h2 : k0_cond2 i v0 v3 = 1#1), 1024 ∣ (k0_mult1 v70).toNat := fun i v0 v3 v8 v69 v70 k0_hw1 k0_h1 k0_h2 => k0_hw1.1 k0_h1 k0_h2
theorem k0_off2_inb : ∀ (i : grid0.Coords) (v0 : BitVec 32) (v3 : BitVec 32) (v8 : BitVec 32) (v69 : BitVec 32) (v70 : BitVec 32) (k0_hw1 : k0_chk1 i v0 v3 v8 v69 v70), ∀ (k0_h1 : k0_cond1 v8 = 1#1), ∀ (k0_h2 : k0_cond2 i v0 v3 = 1#1), ∀ a, (k0_off2 v69 v70) a + S1x2048x1024.size a ≤ S32x2048x2048.size a := fun i v0 v3 v8 v69 v70 k0_hw1 k0_h1 k0_h2 => k0_hw1.2 k0_h1 k0_h2

def k0_off3 (i : grid0.Coords) (v0 : BitVec 32) (v3 : BitVec 32) : Fin 1 → Nat :=
  let arg0 : BitVec 32 := BitVec.ofNat 32 (i 0).val
  let v1 : BitVec 32 := Scalar.muli arg0 v0
  let v4 : BitVec 32 := Scalar.addi v1 v3
  let v33 : Index := Scalar.indexCast v4
  ![v33.toNat]

def k0_mult2 (v36 : BitVec 32) : BitVec 32 :=
  let c1024_i32 : BitVec 32 := 1024#32
  let v37 : BitVec 32 := Scalar.muli v36 c1024_i32
  v37

def k0_off4 (i : grid0.Coords) (v0 : BitVec 32) (v3 : BitVec 32) : Fin 2 → Nat :=
  let arg0 : BitVec 32 := BitVec.ofNat 32 (i 0).val
  let v1 : BitVec 32 := Scalar.muli arg0 v0
  let v4 : BitVec 32 := Scalar.addi v1 v3
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi v4 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_14 : BitVec 32 := 0#32
  ![v29.toNat, 0]
def k0_off5 (i : grid0.Coords) (v0 : BitVec 32) (v3 : BitVec 32) : Fin 4 → Nat :=
  let arg0 : BitVec 32 := BitVec.ofNat 32 (i 0).val
  let v1 : BitVec 32 := Scalar.muli arg0 v0
  let v4 : BitVec 32 := Scalar.addi v1 v3
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi v4 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_13 : BitVec 32 := 0#32
  let c0_i32_15 : BitVec 32 := 0#32
  let c0_i32_16 : BitVec 32 := 0#32
  ![v29.toNat, 0, 0, 0]
def k0_off6 (v34 : BitVec 32) (v36 : BitVec 32) : Fin 3 → Nat :=
  let c0_i32_17 : BitVec 32 := 0#32
  let c1024_i32 : BitVec 32 := 1024#32
  let v37 : BitVec 32 := Scalar.muli v36 c1024_i32
  let v38 : BitVec 32 := v37
  ![v34.toNat, 0, v38.toNat]

def k0_chk3 (v8 : BitVec 32) (v34 : BitVec 32) (v36 : BitVec 32) : Prop :=
  (∀ (k0_h1 : k0_cond1 v8 = 1#1), 1024 ∣ (k0_mult2 v36).toNat) ∧
  (∀ (k0_h1 : k0_cond1 v8 = 1#1), ∀ a, (k0_off6 v34 v36) a + S1x2048x1024.size a ≤ S32x2048x2048.size a)
theorem k0_mult2_dvd : ∀ (v8 : BitVec 32) (v34 : BitVec 32) (v36 : BitVec 32) (k0_hw3 : k0_chk3 v8 v34 v36), ∀ (k0_h1 : k0_cond1 v8 = 1#1), 1024 ∣ (k0_mult2 v36).toNat := fun v8 v34 v36 k0_hw3 k0_h1 => k0_hw3.1 k0_h1
theorem k0_off6_inb : ∀ (v8 : BitVec 32) (v34 : BitVec 32) (v36 : BitVec 32) (k0_hw3 : k0_chk3 v8 v34 v36), ∀ (k0_h1 : k0_cond1 v8 = 1#1), ∀ a, (k0_off6 v34 v36) a + S1x2048x1024.size a ≤ S32x2048x2048.size a := fun v8 v34 v36 k0_hw3 k0_h1 => k0_hw3.2 k0_h1

def k0_off7 (i : grid0.Coords) (v0 : BitVec 32) (v3 : BitVec 32) : Fin 2 → Nat :=
  let arg0 : BitVec 32 := BitVec.ofNat 32 (i 0).val
  let v1 : BitVec 32 := Scalar.muli arg0 v0
  let v4 : BitVec 32 := Scalar.addi v1 v3
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi v4 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_19 : BitVec 32 := 1#32
  ![v29.toNat, 1]
def k0_off8 (i : grid0.Coords) (v0 : BitVec 32) (v3 : BitVec 32) : Fin 4 → Nat :=
  let arg0 : BitVec 32 := BitVec.ofNat 32 (i 0).val
  let v1 : BitVec 32 := Scalar.muli arg0 v0
  let v4 : BitVec 32 := Scalar.addi v1 v3
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi v4 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_18 : BitVec 32 := 1#32
  let c0_i32_20 : BitVec 32 := 0#32
  let c0_i32_21 : BitVec 32 := 0#32
  ![v29.toNat, 1, 0, 0]
def k0_off9 (i : grid0.Coords) (v0 : BitVec 32) (v3 : BitVec 32) : Fin 1 → Nat :=
  let arg0 : BitVec 32 := BitVec.ofNat 32 (i 0).val
  let v1 : BitVec 32 := Scalar.muli arg0 v0
  let v4 : BitVec 32 := Scalar.addi v1 v3
  let c1_i32_36 : BitVec 32 := 1#32
  let v69 : BitVec 32 := Scalar.addi v4 c1_i32_36
  let v71 : Index := Scalar.indexCast v69
  ![v71.toNat]
def k0_cond3 (i : grid0.Coords) (v0 : BitVec 32) (v3 : BitVec 32) (v5 : BitVec 32) : BitVec 1 :=
  let arg0 : BitVec 32 := BitVec.ofNat 32 (i 0).val
  let v1 : BitVec 32 := Scalar.muli arg0 v0
  let v4 : BitVec 32 := Scalar.addi v1 v3
  let c1_i32_23 : BitVec 32 := 1#32
  let v51 : BitVec 32 := Scalar.addi v4 c1_i32_23
  let c2_i32 : BitVec 32 := 2#32
  let v6 : BitVec 32 := Scalar.muli c2_i32 v5
  let v52 : BitVec 1 := Scalar.cmpi .slt v51 v6
  let v53 : BitVec 32 := Scalar.extui v52
  let c0_i32_24 : BitVec 32 := 0#32
  let v54 : BitVec 1 := Scalar.cmpi .ne v53 c0_i32_24
  v54

def k0_mult3 (v74 : BitVec 32) : BitVec 32 :=
  let c1024_i32_38 : BitVec 32 := 1024#32
  let v75 : BitVec 32 := Scalar.muli v74 c1024_i32_38
  v75

def k0_off10 (i : grid0.Coords) (v0 : BitVec 32) (v3 : BitVec 32) : Fin 2 → Nat :=
  let c1_i32_37 : BitVec 32 := 1#32
  let arg0 : BitVec 32 := BitVec.ofNat 32 (i 0).val
  let v1 : BitVec 32 := Scalar.muli arg0 v0
  let v4 : BitVec 32 := Scalar.addi v1 v3
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi v4 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v70 : BitVec 32 := Scalar.subi c1_i32_37 v29
  let c0_i32_40 : BitVec 32 := 0#32
  ![v70.toNat, 0]
def k0_off11 (i : grid0.Coords) (v0 : BitVec 32) (v3 : BitVec 32) : Fin 4 → Nat :=
  let c1_i32_37 : BitVec 32 := 1#32
  let arg0 : BitVec 32 := BitVec.ofNat 32 (i 0).val
  let v1 : BitVec 32 := Scalar.muli arg0 v0
  let v4 : BitVec 32 := Scalar.addi v1 v3
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi v4 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v70 : BitVec 32 := Scalar.subi c1_i32_37 v29
  let c0_i32_39 : BitVec 32 := 0#32
  let c0_i32_41 : BitVec 32 := 0#32
  let c0_i32_42 : BitVec 32 := 0#32
  ![v70.toNat, 0, 0, 0]
def k0_off12 (v72 : BitVec 32) (v74 : BitVec 32) : Fin 3 → Nat :=
  let c0_i32_43 : BitVec 32 := 0#32
  let c1024_i32_38 : BitVec 32 := 1024#32
  let v75 : BitVec 32 := Scalar.muli v74 c1024_i32_38
  let v76 : BitVec 32 := v75
  ![v72.toNat, 0, v76.toNat]

def k0_chk4 (i : grid0.Coords) (v0 : BitVec 32) (v3 : BitVec 32) (v5 : BitVec 32) (v8 : BitVec 32) (v72 : BitVec 32) (v74 : BitVec 32) : Prop :=
  (∀ (k0_h1 : k0_cond1 v8 = 1#1), ∀ (k0_h3 : k0_cond3 i v0 v3 v5 = 1#1), 1024 ∣ (k0_mult3 v74).toNat) ∧
  (∀ (k0_h1 : k0_cond1 v8 = 1#1), ∀ (k0_h3 : k0_cond3 i v0 v3 v5 = 1#1), ∀ a, (k0_off12 v72 v74) a + S1x2048x1024.size a ≤ S32x2048x2048.size a)
theorem k0_mult3_dvd : ∀ (i : grid0.Coords) (v0 : BitVec 32) (v3 : BitVec 32) (v5 : BitVec 32) (v8 : BitVec 32) (v72 : BitVec 32) (v74 : BitVec 32) (k0_hw4 : k0_chk4 i v0 v3 v5 v8 v72 v74), ∀ (k0_h1 : k0_cond1 v8 = 1#1), ∀ (k0_h3 : k0_cond3 i v0 v3 v5 = 1#1), 1024 ∣ (k0_mult3 v74).toNat := fun i v0 v3 v5 v8 v72 v74 k0_hw4 k0_h1 k0_h3 => k0_hw4.1 k0_h1 k0_h3
theorem k0_off12_inb : ∀ (i : grid0.Coords) (v0 : BitVec 32) (v3 : BitVec 32) (v5 : BitVec 32) (v8 : BitVec 32) (v72 : BitVec 32) (v74 : BitVec 32) (k0_hw4 : k0_chk4 i v0 v3 v5 v8 v72 v74), ∀ (k0_h1 : k0_cond1 v8 = 1#1), ∀ (k0_h3 : k0_cond3 i v0 v3 v5 = 1#1), ∀ a, (k0_off12 v72 v74) a + S1x2048x1024.size a ≤ S32x2048x2048.size a := fun i v0 v3 v5 v8 v72 v74 k0_hw4 k0_h1 k0_h3 => k0_hw4.2 k0_h1 k0_h3

def k0_off13 (i : grid0.Coords) (v0 : BitVec 32) (v3 : BitVec 32) : Fin 2 → Nat :=
  let c1_i32_37 : BitVec 32 := 1#32
  let arg0 : BitVec 32 := BitVec.ofNat 32 (i 0).val
  let v1 : BitVec 32 := Scalar.muli arg0 v0
  let v4 : BitVec 32 := Scalar.addi v1 v3
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi v4 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v70 : BitVec 32 := Scalar.subi c1_i32_37 v29
  let c1_i32_45 : BitVec 32 := 1#32
  ![v70.toNat, 1]
def k0_off14 (i : grid0.Coords) (v0 : BitVec 32) (v3 : BitVec 32) : Fin 4 → Nat :=
  let c1_i32_37 : BitVec 32 := 1#32
  let arg0 : BitVec 32 := BitVec.ofNat 32 (i 0).val
  let v1 : BitVec 32 := Scalar.muli arg0 v0
  let v4 : BitVec 32 := Scalar.addi v1 v3
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi v4 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v70 : BitVec 32 := Scalar.subi c1_i32_37 v29
  let c1_i32_44 : BitVec 32 := 1#32
  let c0_i32_46 : BitVec 32 := 0#32
  let c0_i32_47 : BitVec 32 := 0#32
  ![v70.toNat, 1, 0, 0]
def k0_off15 (i : grid0.Coords) (v0 : BitVec 32) (v3 : BitVec 32) : Fin 4 → Nat :=
  let arg0 : BitVec 32 := BitVec.ofNat 32 (i 0).val
  let v1 : BitVec 32 := Scalar.muli arg0 v0
  let v4 : BitVec 32 := Scalar.addi v1 v3
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi v4 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v55 : Index := Scalar.indexCast v29
  let c0_25 : Index := 0#32
  let c0_26 : Index := 0#32
  let c0_27 : Index := 0#32
  ![v55.toNat, 0, 0, 0]
def k0_off16 (i : grid0.Coords) (v0 : BitVec 32) (v3 : BitVec 32) : Fin 4 → Nat :=
  let arg0 : BitVec 32 := BitVec.ofNat 32 (i 0).val
  let v1 : BitVec 32 := Scalar.muli arg0 v0
  let v4 : BitVec 32 := Scalar.addi v1 v3
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi v4 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v62 : Index := Scalar.indexCast v29
  let c1 : Index := 1#32
  let c0_31 : Index := 0#32
  let c0_32 : Index := 0#32
  ![v62.toNat, 1, 0, 0]

def k0_chk2 (i : grid0.Coords) (v0 : BitVec 32) (v3 : BitVec 32) (v5 : BitVec 32) (v8 : BitVec 32) : Prop :=
  (∀ (k0_h1 : k0_cond1 v8 = 1#1), ∀ a, (k0_off3 i v0 v3) a + S1.size a ≤ S64.size a) ∧
  (∀ (k0_h1 : k0_cond1 v8 = 1#1), ∀ a, (k0_off4 i v0 v3) a + S1x1.size a ≤ S2x2.size a) ∧
  (∀ (k0_h1 : k0_cond1 v8 = 1#1), ∀ a, (k0_off5 i v0 v3) a + S1x1x2048x1024.size a ≤ S2x2x2048x1024.size a) ∧
  (∀ (k0_h1 : k0_cond1 v8 = 1#1), ∀ a, (k0_off7 i v0 v3) a + S1x1.size a ≤ S2x2.size a) ∧
  (∀ (k0_h1 : k0_cond1 v8 = 1#1), ∀ a, (k0_off8 i v0 v3) a + S1x1x2048x1024.size a ≤ S2x2x2048x1024.size a) ∧
  (∀ (k0_h1 : k0_cond1 v8 = 1#1), ∀ (k0_h3 : k0_cond3 i v0 v3 v5 = 1#1), ∀ a, (k0_off9 i v0 v3) a + S1.size a ≤ S64.size a) ∧
  (∀ (k0_h1 : k0_cond1 v8 = 1#1), ∀ (k0_h3 : k0_cond3 i v0 v3 v5 = 1#1), ∀ a, (k0_off10 i v0 v3) a + S1x1.size a ≤ S2x2.size a) ∧
  (∀ (k0_h1 : k0_cond1 v8 = 1#1), ∀ (k0_h3 : k0_cond3 i v0 v3 v5 = 1#1), ∀ a, (k0_off11 i v0 v3) a + S1x1x2048x1024.size a ≤ S2x2x2048x1024.size a) ∧
  (∀ (k0_h1 : k0_cond1 v8 = 1#1), ∀ (k0_h3 : k0_cond3 i v0 v3 v5 = 1#1), ∀ a, (k0_off13 i v0 v3) a + S1x1.size a ≤ S2x2.size a) ∧
  (∀ (k0_h1 : k0_cond1 v8 = 1#1), ∀ (k0_h3 : k0_cond3 i v0 v3 v5 = 1#1), ∀ a, (k0_off14 i v0 v3) a + S1x1x2048x1024.size a ≤ S2x2x2048x1024.size a) ∧
  (∀ (k0_h1 : k0_cond1 v8 = 1#1), ∀ a, (k0_off15 i v0 v3) a + S1x1x2048x1024.size a ≤ S2x2x2048x1024.size a) ∧
  (∀ (k0_h1 : k0_cond1 v8 = 1#1), ∀ a, (k0_off16 i v0 v3) a + S1x1x2048x1024.size a ≤ S2x2x2048x1024.size a)
theorem k0_off3_inb : ∀ (i : grid0.Coords) (v0 : BitVec 32) (v3 : BitVec 32) (v5 : BitVec 32) (v8 : BitVec 32) (k0_hw2 : k0_chk2 i v0 v3 v5 v8), ∀ (k0_h1 : k0_cond1 v8 = 1#1), ∀ a, (k0_off3 i v0 v3) a + S1.size a ≤ S64.size a := fun i v0 v3 v5 v8 k0_hw2 k0_h1 => k0_hw2.1 k0_h1
theorem k0_off4_inb : ∀ (i : grid0.Coords) (v0 : BitVec 32) (v3 : BitVec 32) (v5 : BitVec 32) (v8 : BitVec 32) (k0_hw2 : k0_chk2 i v0 v3 v5 v8), ∀ (k0_h1 : k0_cond1 v8 = 1#1), ∀ a, (k0_off4 i v0 v3) a + S1x1.size a ≤ S2x2.size a := fun i v0 v3 v5 v8 k0_hw2 k0_h1 => k0_hw2.2.1 k0_h1
theorem k0_off5_inb : ∀ (i : grid0.Coords) (v0 : BitVec 32) (v3 : BitVec 32) (v5 : BitVec 32) (v8 : BitVec 32) (k0_hw2 : k0_chk2 i v0 v3 v5 v8), ∀ (k0_h1 : k0_cond1 v8 = 1#1), ∀ a, (k0_off5 i v0 v3) a + S1x1x2048x1024.size a ≤ S2x2x2048x1024.size a := fun i v0 v3 v5 v8 k0_hw2 k0_h1 => k0_hw2.2.2.1 k0_h1
theorem k0_off7_inb : ∀ (i : grid0.Coords) (v0 : BitVec 32) (v3 : BitVec 32) (v5 : BitVec 32) (v8 : BitVec 32) (k0_hw2 : k0_chk2 i v0 v3 v5 v8), ∀ (k0_h1 : k0_cond1 v8 = 1#1), ∀ a, (k0_off7 i v0 v3) a + S1x1.size a ≤ S2x2.size a := fun i v0 v3 v5 v8 k0_hw2 k0_h1 => k0_hw2.2.2.2.1 k0_h1
theorem k0_off8_inb : ∀ (i : grid0.Coords) (v0 : BitVec 32) (v3 : BitVec 32) (v5 : BitVec 32) (v8 : BitVec 32) (k0_hw2 : k0_chk2 i v0 v3 v5 v8), ∀ (k0_h1 : k0_cond1 v8 = 1#1), ∀ a, (k0_off8 i v0 v3) a + S1x1x2048x1024.size a ≤ S2x2x2048x1024.size a := fun i v0 v3 v5 v8 k0_hw2 k0_h1 => k0_hw2.2.2.2.2.1 k0_h1
theorem k0_off9_inb : ∀ (i : grid0.Coords) (v0 : BitVec 32) (v3 : BitVec 32) (v5 : BitVec 32) (v8 : BitVec 32) (k0_hw2 : k0_chk2 i v0 v3 v5 v8), ∀ (k0_h1 : k0_cond1 v8 = 1#1), ∀ (k0_h3 : k0_cond3 i v0 v3 v5 = 1#1), ∀ a, (k0_off9 i v0 v3) a + S1.size a ≤ S64.size a := fun i v0 v3 v5 v8 k0_hw2 k0_h1 k0_h3 => k0_hw2.2.2.2.2.2.1 k0_h1 k0_h3
theorem k0_off10_inb : ∀ (i : grid0.Coords) (v0 : BitVec 32) (v3 : BitVec 32) (v5 : BitVec 32) (v8 : BitVec 32) (k0_hw2 : k0_chk2 i v0 v3 v5 v8), ∀ (k0_h1 : k0_cond1 v8 = 1#1), ∀ (k0_h3 : k0_cond3 i v0 v3 v5 = 1#1), ∀ a, (k0_off10 i v0 v3) a + S1x1.size a ≤ S2x2.size a := fun i v0 v3 v5 v8 k0_hw2 k0_h1 k0_h3 => k0_hw2.2.2.2.2.2.2.1 k0_h1 k0_h3
theorem k0_off11_inb : ∀ (i : grid0.Coords) (v0 : BitVec 32) (v3 : BitVec 32) (v5 : BitVec 32) (v8 : BitVec 32) (k0_hw2 : k0_chk2 i v0 v3 v5 v8), ∀ (k0_h1 : k0_cond1 v8 = 1#1), ∀ (k0_h3 : k0_cond3 i v0 v3 v5 = 1#1), ∀ a, (k0_off11 i v0 v3) a + S1x1x2048x1024.size a ≤ S2x2x2048x1024.size a := fun i v0 v3 v5 v8 k0_hw2 k0_h1 k0_h3 => k0_hw2.2.2.2.2.2.2.2.1 k0_h1 k0_h3
theorem k0_off13_inb : ∀ (i : grid0.Coords) (v0 : BitVec 32) (v3 : BitVec 32) (v5 : BitVec 32) (v8 : BitVec 32) (k0_hw2 : k0_chk2 i v0 v3 v5 v8), ∀ (k0_h1 : k0_cond1 v8 = 1#1), ∀ (k0_h3 : k0_cond3 i v0 v3 v5 = 1#1), ∀ a, (k0_off13 i v0 v3) a + S1x1.size a ≤ S2x2.size a := fun i v0 v3 v5 v8 k0_hw2 k0_h1 k0_h3 => k0_hw2.2.2.2.2.2.2.2.2.1 k0_h1 k0_h3
theorem k0_off14_inb : ∀ (i : grid0.Coords) (v0 : BitVec 32) (v3 : BitVec 32) (v5 : BitVec 32) (v8 : BitVec 32) (k0_hw2 : k0_chk2 i v0 v3 v5 v8), ∀ (k0_h1 : k0_cond1 v8 = 1#1), ∀ (k0_h3 : k0_cond3 i v0 v3 v5 = 1#1), ∀ a, (k0_off14 i v0 v3) a + S1x1x2048x1024.size a ≤ S2x2x2048x1024.size a := fun i v0 v3 v5 v8 k0_hw2 k0_h1 k0_h3 => k0_hw2.2.2.2.2.2.2.2.2.2.1 k0_h1 k0_h3
theorem k0_off15_inb : ∀ (i : grid0.Coords) (v0 : BitVec 32) (v3 : BitVec 32) (v5 : BitVec 32) (v8 : BitVec 32) (k0_hw2 : k0_chk2 i v0 v3 v5 v8), ∀ (k0_h1 : k0_cond1 v8 = 1#1), ∀ a, (k0_off15 i v0 v3) a + S1x1x2048x1024.size a ≤ S2x2x2048x1024.size a := fun i v0 v3 v5 v8 k0_hw2 k0_h1 => k0_hw2.2.2.2.2.2.2.2.2.2.2.1 k0_h1
theorem k0_off16_inb : ∀ (i : grid0.Coords) (v0 : BitVec 32) (v3 : BitVec 32) (v5 : BitVec 32) (v8 : BitVec 32) (k0_hw2 : k0_chk2 i v0 v3 v5 v8), ∀ (k0_h1 : k0_cond1 v8 = 1#1), ∀ a, (k0_off16 i v0 v3) a + S1x1x2048x1024.size a ≤ S2x2x2048x1024.size a := fun i v0 v3 v5 v8 k0_hw2 k0_h1 => k0_hw2.2.2.2.2.2.2.2.2.2.2.2 k0_h1

def k0_cond4 (i : grid0.Coords) (v12 : BitVec 32) : BitVec 1 :=
  let arg1 : BitVec 32 := BitVec.ofNat 32 (i 1).val
  let v13 : BitVec 1 := Scalar.cmpi .slt arg1 v12
  let v14 : BitVec 32 := Scalar.extui v13
  let c0_i32_2 : BitVec 32 := 0#32
  let v15 : BitVec 1 := Scalar.cmpi .ne v14 c0_i32_2
  v15

def k0_cond5 (i : grid0.Coords) (v16 : BitVec 32) : BitVec 1 :=
  let arg1 : BitVec 32 := BitVec.ofNat 32 (i 1).val
  let v17 : BitVec 1 := Scalar.cmpi .sge arg1 v16
  let v18 : BitVec 32 := Scalar.extui v17
  let c0_i32_4 : BitVec 32 := 0#32
  let v19 : BitVec 1 := Scalar.cmpi .ne v18 c0_i32_4
  v19

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S288) ![v0.toNat] S1.size (k0_off1_inb i)) numel1_S1
  let c0_i32 : BitVec 32 := 0#32
  let c0_i32_0 : BitVec 32 := 0#32
  ![v1.toNat, c0_i32.toNat, arg0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S288) ![v0.toNat] S1.size (k0_off1_inb i)) numel1_S1
  let c0_i32 : BitVec 32 := 0#32
  let c0_i32_0 : BitVec 32 := 0#32
  ![v1.toNat, c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S32 : Shape := ⟨1, ![32]⟩
abbrev S73728x1024 : Shape := ⟨2, ![73728, 1024]⟩
abbrev S32x2048x2048 : Shape := ⟨3, ![32, 2048, 2048]⟩
abbrev S32x2048 : Shape := ⟨2, ![32, 2048]⟩
abbrev S_ : Shape := ⟨0, ![]⟩
abbrev S288 : Shape := ⟨1, ![288]⟩
abbrev S1x32 : Shape := ⟨2, ![1, 32]⟩
abbrev S288x1 : Shape := ⟨2, ![288, 1]⟩
abbrev S288x32 : Shape := ⟨2, ![288, 32]⟩
abbrev S73728x1024x2 : Shape := ⟨3, ![73728, 1024, 2]⟩
abbrev S73728x1024x1 : Shape := ⟨3, ![73728, 1024, 1]⟩
abbrev S73728x2048 : Shape := ⟨2, ![73728, 2048]⟩
abbrev S288x256x2048 : Shape := ⟨3, ![288, 256, 2048]⟩
abbrev S288x2048x2048 : Shape := ⟨3, ![288, 2048, 2048]⟩
abbrev S288x2048 : Shape := ⟨2, ![288, 2048]⟩
abbrev S288x1x2048 : Shape := ⟨3, ![288, 1, 2048]⟩
abbrev S1 : Shape := ⟨1, ![1]⟩
abbrev S288x1x1 : Shape := ⟨3, ![288, 1, 1]⟩

abbrev nBuf : Space → Nat
  | .hbm => 139
  | .vmem => 0
  | .smem => 0
  | _ => 0

abbrev hbmTy0_0 (i : Nat) : BufTy := match i % 128 with
  | 0 => ⟨S32, .i32⟩
  | 1 => ⟨S73728x1024, .i32⟩
  | 2 => ⟨S32x2048x2048, .f32⟩
  | 3 => ⟨S32x2048, .f32⟩
  | 4 => ⟨S32x2048x2048, .f32⟩
  | 5 => ⟨S32x2048, .f32⟩
  | 6 => ⟨S_, .i32⟩
  | 7 => ⟨S32, .i32⟩
  | 8 => ⟨S32, .i32⟩
  | 9 => ⟨S_, .i32⟩
  | 10 => ⟨S_, .i32⟩
  | 11 => ⟨S32, .i32⟩
  | 12 => ⟨S32, .i32⟩
  | 13 => ⟨S32, .i32⟩
  | 14 => ⟨S_, .i32⟩
  | 15 => ⟨S32, .i32⟩
  | 16 => ⟨S32, .i1⟩
  | 17 => ⟨S32, .i32⟩
  | 18 => ⟨S32, .i32⟩
  | 19 => ⟨S_, .i32⟩
  | 20 => ⟨S32, .i32⟩
  | 21 => ⟨S32, .i1⟩
  | 22 => ⟨S32, .i1⟩
  | 23 => ⟨S_, .i32⟩
  | 24 => ⟨S32, .i32⟩
  | 25 => ⟨S32, .i32⟩
  | 26 => ⟨S32, .i32⟩
  | 27 => ⟨S_, .i32⟩
  | 28 => ⟨S32, .i32⟩
  | 29 => ⟨S32, .i32⟩
  | 30 => ⟨S_, .i32⟩
  | 31 => ⟨S_, .i32⟩
  | 32 => ⟨S32, .i32⟩
  | 33 => ⟨S288, .i32⟩
  | 34 => ⟨S_, .i32⟩
  | 35 => ⟨S288, .i32⟩
  | 36 => ⟨S288, .i32⟩
  | 37 => ⟨S1x32, .i32⟩
  | 38 => ⟨S288x1, .i32⟩
  | 39 => ⟨S288x32, .i32⟩
  | 40 => ⟨S288x32, .i32⟩
  | 41 => ⟨S288x32, .i1⟩
  | 42 => ⟨S288x32, .i32⟩
  | 43 => ⟨S_, .i32⟩
  | 44 => ⟨S288, .i32⟩
  | 45 => ⟨S_, .i32⟩
  | 46 => ⟨S288, .i32⟩
  | 47 => ⟨S288, .i32⟩
  | 48 => ⟨S73728x1024x2, .bf16⟩
  | 49 => ⟨S73728x1024x1, .bf16⟩
  | 50 => ⟨S73728x1024, .bf16⟩
  | 51 => ⟨S73728x1024x1, .bf16⟩
  | 52 => ⟨S73728x1024, .bf16⟩
  | 53 => ⟨S73728x2048, .bf16⟩
  | 54 => ⟨S73728x2048, .f32⟩
  | 55 => ⟨S288x256x2048, .f32⟩
  | 56 => ⟨S_, .i32⟩
  | 57 => ⟨S288, .i32⟩
  | 58 => ⟨S288, .i1⟩
  | 59 => ⟨S_, .i32⟩
  | 60 => ⟨S288, .i32⟩
  | 61 => ⟨S288, .i32⟩
  | 62 => ⟨S288, .i32⟩
  | 63 => ⟨S288x1, .i32⟩
  | 64 => ⟨S288x2048x2048, .f32⟩
  | 65 => ⟨S288x256x2048, .f32⟩
  | 66 => ⟨S_, .i32⟩
  | 67 => ⟨S288, .i32⟩
  | 68 => ⟨S288, .i1⟩
  | 69 => ⟨S_, .i32⟩
  | 70 => ⟨S288, .i32⟩
  | 71 => ⟨S288, .i32⟩
  | 72 => ⟨S288, .i32⟩
  | 73 => ⟨S288x1, .i32⟩
  | 74 => ⟨S288x2048, .f32⟩
  | 75 => ⟨S288x1x2048, .f32⟩
  | 76 => ⟨S288x256x2048, .f32⟩
  | 77 => ⟨S288x256x2048, .f32⟩
  | 78 => ⟨S_, .f32⟩
  | 79 => ⟨S288x256x2048, .f32⟩
  | 80 => ⟨S288x256x2048, .f32⟩
  | 81 => ⟨S_, .i32⟩
  | 82 => ⟨S288, .i32⟩
  | 83 => ⟨S288, .i1⟩
  | 84 => ⟨S_, .i32⟩
  | 85 => ⟨S288, .i32⟩
  | 86 => ⟨S288, .i32⟩
  | 87 => ⟨S288, .i32⟩
  | 88 => ⟨S288x1, .i32⟩
  | 89 => ⟨S288x2048x2048, .f32⟩
  | 90 => ⟨S288x256x2048, .f32⟩
  | 91 => ⟨S_, .i32⟩
  | 92 => ⟨S288, .i32⟩
  | 93 => ⟨S288, .i1⟩
  | 94 => ⟨S_, .i32⟩
  | 95 => ⟨S288, .i32⟩
  | 96 => ⟨S288, .i32⟩
  | 97 => ⟨S288, .i32⟩
  | 98 => ⟨S288x1, .i32⟩
  | 99 => ⟨S288x2048, .f32⟩
  | 100 => ⟨S288x1x2048, .f32⟩
  | 101 => ⟨S288x256x2048, .f32⟩
  | 102 => ⟨S288x256x2048, .f32⟩
  | 103 => ⟨S_, .f32⟩
  | 104 => ⟨S_, .f32⟩
  | 105 => ⟨S_, .f32⟩
  | 106 => ⟨S288x256x2048, .f32⟩
  | 107 => ⟨S288x256x2048, .f32⟩
  | 108 => ⟨S_, .f32⟩
  | 109 => ⟨S288x256x2048, .f32⟩
  | 110 => ⟨S288x256x2048, .f32⟩
  | 111 => ⟨S_, .f32⟩
  | 112 => ⟨S288x256x2048, .f32⟩
  | 113 => ⟨S288x256x2048, .f32⟩
  | 114 => ⟨S_, .f32⟩
  | 115 => ⟨S288x256x2048, .f32⟩
  | 116 => ⟨S288x256x2048, .f32⟩
  | 117 => ⟨S288x256x2048, .f32⟩
  | 118 => ⟨S288x256x2048, .f32⟩
  | 119 => ⟨S_, .f32⟩
  | 120 => ⟨S288x256x2048, .f32⟩
  | 121 => ⟨S288x256x2048, .f32⟩
  | 122 => ⟨S_, .f32⟩
  | 123 => ⟨S288x256x2048, .f32⟩
  | 124 => ⟨S288x256x2048, .f32⟩
  | 125 => ⟨S288x256x2048, .f32⟩
  | 126 => ⟨S288x256x2048, .f32⟩
  | 127 => ⟨S1, .i32⟩
  | _ => ⟨S32, .i32⟩

abbrev hbmTy0_1 (i : Nat) : BufTy := match i % 128 with
  | 0 => ⟨S_, .i32⟩
  | 1 => ⟨S288, .i32⟩
  | 2 => ⟨S288, .i1⟩
  | 3 => ⟨S288x1x1, .i1⟩
  | 4 => ⟨S_, .f32⟩
  | 5 => ⟨S_, .f32⟩
  | 6 => ⟨S288x256x2048, .i1⟩
  | 7 => ⟨S288x256x2048, .f32⟩
  | 8 => ⟨S288x256x2048, .f32⟩
  | 9 => ⟨S73728x2048, .f32⟩
  | 10 => ⟨S73728x2048, .bf16⟩
  | _ => ⟨S32, .i32⟩

abbrev hbmTy (i : Nat) : BufTy := match i / 128 with
  | 0 => hbmTy0_0 i
  | 1 => hbmTy0_1 i
  | _ => ⟨S32, .i32⟩

abbrev bufTy : (tb : Table) → Fin (tcTables nBuf tb) → BufTy
  | .hbm, ⟨i, _⟩ => hbmTy i
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v2 : Ref sig .tc := ⟨.hbm, 26, rfl⟩
abbrev main_c_1 : Ref sig .tc := ⟨.hbm, 27, rfl⟩
abbrev main_v3 : Ref sig .tc := ⟨.hbm, 28, rfl⟩
abbrev main_v4 : Ref sig .tc := ⟨.hbm, 29, rfl⟩
abbrev main_call1_call0_c : Ref sig .tc := ⟨.hbm, 30, rfl⟩
abbrev main_call1_call0_v0 : Ref sig .tc := ⟨.hbm, 31, rfl⟩
abbrev main_v5 : Ref sig .tc := ⟨.hbm, 32, rfl⟩
abbrev main_v6 : Ref sig .tc := ⟨.hbm, 33, rfl⟩
abbrev main_c_2 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_c_3 : Ref sig .tc := ⟨.hbm, 43, rfl⟩
abbrev main_v15 : Ref sig .tc := ⟨.hbm, 44, rfl⟩
abbrev main_c_4 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_c_5 : Ref sig .tc := ⟨.hbm, 56, rfl⟩
abbrev main_v26 : Ref sig .tc := ⟨.hbm, 57, rfl⟩
abbrev main_v27 : Ref sig .tc := ⟨.hbm, 58, rfl⟩
abbrev main_c_6 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_c_7 : Ref sig .tc := ⟨.hbm, 66, rfl⟩
abbrev main_v34 : Ref sig .tc := ⟨.hbm, 67, rfl⟩
abbrev main_v35 : Ref sig .tc := ⟨.hbm, 68, rfl⟩
abbrev main_c_8 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_cst : Ref sig .tc := ⟨.hbm, 78, rfl⟩
abbrev main_v44 : Ref sig .tc := ⟨.hbm, 79, rfl⟩
abbrev main_v45 : Ref sig .tc := ⟨.hbm, 80, rfl⟩
abbrev main_c_9 : Ref sig .tc := ⟨.hbm, 81, rfl⟩
abbrev main_v46 : Ref sig .tc := ⟨.hbm, 82, rfl⟩
abbrev main_v47 : Ref sig .tc := ⟨.hbm, 83, rfl⟩
abbrev main_c_10 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_c_11 : Ref sig .tc := ⟨.hbm, 91, rfl⟩
abbrev main_v54 : Ref sig .tc := ⟨.hbm, 92, rfl⟩
abbrev main_v55 : Ref sig .tc := ⟨.hbm, 93, rfl⟩
abbrev main_c_12 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_cst_13 : Ref sig .tc := ⟨.hbm, 103, rfl⟩
abbrev main_cst_14 : Ref sig .tc := ⟨.hbm, 104, rfl⟩
abbrev main_call2_v0 : Ref sig .tc := ⟨.hbm, 105, rfl⟩
abbrev main_call2_v1 : Ref sig .tc := ⟨.hbm, 106, rfl⟩
abbrev main_call2_v2 : Ref sig .tc := ⟨.hbm, 107, rfl⟩
abbrev main_call2_v3 : Ref sig .tc := ⟨.hbm, 108, rfl⟩
abbrev main_call2_v4 : Ref sig .tc := ⟨.hbm, 109, rfl⟩
abbrev main_v64 : Ref sig .tc := ⟨.hbm, 110, rfl⟩
abbrev main_cst_15 : Ref sig .tc := ⟨.hbm, 111, rfl⟩
abbrev main_v65 : Ref sig .tc := ⟨.hbm, 112, rfl⟩
abbrev main_v66 : Ref sig .tc := ⟨.hbm, 113, rfl⟩
abbrev main_cst_16 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_cst_17 : Ref sig .tc := ⟨.hbm, 119, rfl⟩
abbrev main_v71 : Ref sig .tc := ⟨.hbm, 120, rfl⟩
abbrev main_v72 : Ref sig .tc := ⟨.hbm, 121, rfl⟩
abbrev main_cst_18 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_cst_19 : Ref sig .tc := ⟨.hbm, 132, rfl⟩
abbrev main_call3_v0 : Ref sig .tc := ⟨.hbm, 133, rfl⟩
abbrev main_call3_v1 : Ref sig .tc := ⟨.hbm, 134, rfl⟩
abbrev main_call3_v2 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩

abbrev nD : Nat := 1
abbrev τ : Topo := Topo.v7x

variable {F : FTy → Type} [FloatOps F]
-- ==== Down.lean ====
abbrev S32 : Shape := ⟨1, ![32]⟩
abbrev S73728x2048 : Shape := ⟨2, ![73728, 2048]⟩
abbrev S32x2048x2048 : Shape := ⟨3, ![32, 2048, 2048]⟩
abbrev S32x2048 : Shape := ⟨2, ![32, 2048]⟩
abbrev S_ : Shape := ⟨0, ![]⟩
abbrev S288 : Shape := ⟨1, ![288]⟩
abbrev S1 : Shape := ⟨1, ![1]⟩
abbrev S1x32 : Shape := ⟨2, ![1, 32]⟩
abbrev S288x1 : Shape := ⟨2, ![288, 1]⟩
abbrev S288x32 : Shape := ⟨2, ![288, 32]⟩
abbrev S287 : Shape := ⟨1, ![287]⟩
abbrev S1x288 : Shape := ⟨2, ![1, 288]⟩
abbrev S32x1 : Shape := ⟨2, ![32, 1]⟩
abbrev S32x288 : Shape := ⟨2, ![32, 288]⟩
abbrev S64 : Shape := ⟨1, ![64]⟩
abbrev S64x1 : Shape := ⟨2, ![64, 1]⟩
abbrev S64x32 : Shape := ⟨2, ![64, 32]⟩
abbrev S32x1x2048 : Shape := ⟨3, ![32, 1, 2048]⟩
abbrev S256x2048 : Shape := ⟨2, ![256, 2048]⟩
abbrev S1x1x2048 : Shape := ⟨3, ![1, 1, 2048]⟩
abbrev S2x2048x2048 : Shape := ⟨3, ![2, 2048, 2048]⟩
abbrev S2048x2048 : Shape := ⟨2, ![2048, 2048]⟩
abbrev S2 : Shape := ⟨1, ![2]⟩
abbrev S1x2048x2048 : Shape := ⟨3, ![1, 2048, 2048]⟩
abbrev S1x2048 : Shape := ⟨2, ![1, 2048]⟩

abbrev nBuf : Space → Nat
  | .hbm => 166
  | .vmem => 8
  | .smem => 7
  | _ => 0

abbrev hbmTy0_0 (i : Nat) : BufTy := match i % 128 with
  | 0 => ⟨S32, .i32⟩
  | 1 => ⟨S73728x2048, .bf16⟩
  | 2 => ⟨S32x2048x2048, .f32⟩
  | 3 => ⟨S32x2048, .f32⟩
  | 4 => ⟨S_, .i32⟩
  | 5 => ⟨S32, .i32⟩
  | 6 => ⟨S32, .i32⟩
  | 7 => ⟨S_, .i32⟩
  | 8 => ⟨S32, .i32⟩
  | 9 => ⟨S32, .i32⟩
  | 10 => ⟨S_, .i32⟩
  | 11 => ⟨S_, .i32⟩
  | 12 => ⟨S32, .i32⟩
  | 13 => ⟨S32, .i32⟩
  | 14 => ⟨S32, .i32⟩
  | 15 => ⟨S_, .i32⟩
  | 16 => ⟨S32, .i32⟩
  | 17 => ⟨S32, .i1⟩
  | 18 => ⟨S32, .i32⟩
  | 19 => ⟨S32, .i32⟩
  | 20 => ⟨S_, .i32⟩
  | 21 => ⟨S32, .i32⟩
  | 22 => ⟨S32, .i1⟩
  | 23 => ⟨S32, .i1⟩
  | 24 => ⟨S_, .i32⟩
  | 25 => ⟨S32, .i32⟩
  | 26 => ⟨S32, .i32⟩
  | 27 => ⟨S32, .i32⟩
  | 28 => ⟨S_, .i32⟩
  | 29 => ⟨S32, .i32⟩
  | 30 => ⟨S32, .i32⟩
  | 31 => ⟨S_, .i32⟩
  | 32 => ⟨S_, .i32⟩
  | 33 => ⟨S32, .i32⟩
  | 34 => ⟨S288, .i32⟩
  | 35 => ⟨S1, .i32⟩
  | 36 => ⟨S_, .i32⟩
  | 37 => ⟨S_, .i32⟩
  | 38 => ⟨S_, .i32⟩
  | 39 => ⟨S_, .i32⟩
  | 40 => ⟨S_, .i32⟩
  | 41 => ⟨S_, .i32⟩
  | 42 => ⟨S_, .i1⟩
  | 43 => ⟨S_, .i32⟩
  | 44 => ⟨S_, .i32⟩
  | 45 => ⟨S_, .i1⟩
  | 46 => ⟨S_, .i1⟩
  | 47 => ⟨S_, .i32⟩
  | 48 => ⟨S_, .i32⟩
  | 49 => ⟨S_, .i32⟩
  | 50 => ⟨S1x32, .i32⟩
  | 51 => ⟨S_, .i32⟩
  | 52 => ⟨S288, .i32⟩
  | 53 => ⟨S288, .i32⟩
  | 54 => ⟨S288x1, .i32⟩
  | 55 => ⟨S288x32, .i32⟩
  | 56 => ⟨S288x32, .i32⟩
  | 57 => ⟨S288x32, .i1⟩
  | 58 => ⟨S288x32, .i32⟩
  | 59 => ⟨S_, .i32⟩
  | 60 => ⟨S288, .i32⟩
  | 61 => ⟨S_, .i32⟩
  | 62 => ⟨S288, .i32⟩
  | 63 => ⟨S288, .i32⟩
  | 64 => ⟨S_, .i32⟩
  | 65 => ⟨S_, .i32⟩
  | 66 => ⟨S288, .i32⟩
  | 67 => ⟨S288, .i1⟩
  | 68 => ⟨S_, .i32⟩
  | 69 => ⟨S_, .i32⟩
  | 70 => ⟨S288, .i32⟩
  | 71 => ⟨S288, .i32⟩
  | 72 => ⟨S_, .i32⟩
  | 73 => ⟨S_, .i32⟩
  | 74 => ⟨S288, .i32⟩
  | 75 => ⟨S288, .i1⟩
  | 76 => ⟨S288, .i32⟩
  | 77 => ⟨S1, .i32⟩
  | 78 => ⟨S_, .i32⟩
  | 79 => ⟨S1, .i32⟩
  | 80 => ⟨S1, .i32⟩
  | 81 => ⟨S287, .i32⟩
  | 82 => ⟨S288, .i32⟩
  | 83 => ⟨S288, .i1⟩
  | 84 => ⟨S_, .i32⟩
  | 85 => ⟨S_, .i32⟩
  | 86 => ⟨S288, .i32⟩
  | 87 => ⟨S_, .i32⟩
  | 88 => ⟨S288, .i32⟩
  | 89 => ⟨S1, .i32⟩
  | 90 => ⟨S_, .i32⟩
  | 91 => ⟨S_, .i32⟩
  | 92 => ⟨S_, .i32⟩
  | 93 => ⟨S32, .i32⟩
  | 94 => ⟨S1x288, .i32⟩
  | 95 => ⟨S_, .i32⟩
  | 96 => ⟨S1x288, .i32⟩
  | 97 => ⟨S1x288, .i1⟩
  | 98 => ⟨S1x288, .i32⟩
  | 99 => ⟨S32x1, .i32⟩
  | 100 => ⟨S32x288, .i32⟩
  | 101 => ⟨S32x288, .i32⟩
  | 102 => ⟨S32x288, .i1⟩
  | 103 => ⟨S32x288, .i1⟩
  | 104 => ⟨S32x288, .i1⟩
  | 105 => ⟨S1x288, .i32⟩
  | 106 => ⟨S_, .i32⟩
  | 107 => ⟨S_, .i32⟩
  | 108 => ⟨S32x288, .i32⟩
  | 109 => ⟨S32x288, .i32⟩
  | 110 => ⟨S32x288, .i32⟩
  | 111 => ⟨S_, .i32⟩
  | 112 => ⟨S32, .i32⟩
  | 113 => ⟨S64, .i32⟩
  | 114 => ⟨S_, .i32⟩
  | 115 => ⟨S_, .i1⟩
  | 116 => ⟨S_, .i32⟩
  | 117 => ⟨S_, .i32⟩
  | 118 => ⟨S64, .i32⟩
  | 119 => ⟨S64, .i32⟩
  | 120 => ⟨S_, .i32⟩
  | 121 => ⟨S64, .i32⟩
  | 122 => ⟨S64, .i1⟩
  | 123 => ⟨S_, .i32⟩
  | 124 => ⟨S64, .i32⟩
  | 125 => ⟨S64, .i1⟩
  | 126 => ⟨S_, .i32⟩
  | 127 => ⟨S_, .i1⟩
  | _ => ⟨S32, .i32⟩

abbrev hbmTy0_1 (i : Nat) : BufTy := match i % 128 with
  | 0 => ⟨S64, .i1⟩
  | 1 => ⟨S64, .i1⟩
  | 2 => ⟨S64, .i1⟩
  | 3 => ⟨S64, .i32⟩
  | 4 => ⟨S64, .i32⟩
  | 5 => ⟨S64, .i32⟩
  | 6 => ⟨S64x1, .i32⟩
  | 7 => ⟨S1x32, .i32⟩
  | 8 => ⟨S64x32, .i32⟩
  | 9 => ⟨S64x32, .i32⟩
  | 10 => ⟨S64x32, .i1⟩
  | 11 => ⟨S1x32, .i32⟩
  | 12 => ⟨S_, .i32⟩
  | 13 => ⟨S_, .i32⟩
  | 14 => ⟨S64x32, .i32⟩
  | 15 => ⟨S64x32, .i32⟩
  | 16 => ⟨S64x32, .i32⟩
  | 17 => ⟨S_, .i32⟩
  | 18 => ⟨S64, .i32⟩
  | 19 => ⟨S64, .i32⟩
  | 20 => ⟨S64, .i32⟩
  | 21 => ⟨S_, .i32⟩
  | 22 => ⟨S64, .i32⟩
  | 23 => ⟨S64, .i1⟩
  | 24 => ⟨S64, .i32⟩
  | 25 => ⟨S64, .i32⟩
  | 26 => ⟨S_, .i32⟩
  | 27 => ⟨S64, .i32⟩
  | 28 => ⟨S64, .i1⟩
  | 29 => ⟨S64, .i1⟩
  | 30 => ⟨S_, .i32⟩
  | 31 => ⟨S64, .i32⟩
  | 32 => ⟨S64, .i32⟩
  | 33 => ⟨S64, .i32⟩
  | 34 => ⟨S_, .i32⟩
  | 35 => ⟨S64, .i32⟩
  | 36 => ⟨S32x1x2048, .f32⟩
  | 37 => ⟨S73728x2048, .f32⟩
  | _ => ⟨S32, .i32⟩

abbrev hbmTy (i : Nat) : BufTy := match i / 128 with
  | 0 => hbmTy0_0 i
  | 1 => hbmTy0_1 i
  | _ => ⟨S32, .i32⟩

abbrev bufTy : (tb : Table) → Fin (tcTables nBuf tb) → BufTy
  | .hbm, ⟨i, _⟩ => hbmTy i
  | .local _ .vmem, ⟨0, _⟩ => ⟨S256x2048, .bf16⟩
  | .local _ .vmem, ⟨1, _⟩ => ⟨S256x2048, .bf16⟩
  | .local _ .vmem, ⟨2, _⟩ => ⟨S1x1x2048, .f32⟩
  | .local _ .vmem, ⟨3, _⟩ => ⟨S1x1x2048, .f32⟩
  | .local _ .vmem, ⟨4, _⟩ => ⟨S256x2048, .f32⟩
  | .local _ .vmem, ⟨5, _⟩ => ⟨S256x2048, .f32⟩
  | .local _ .vmem, ⟨6, _⟩ => ⟨S2x2048x2048, .f32⟩
  | .local _ .vmem, ⟨7, _⟩ => ⟨S2048x2048, .bf16⟩
  | .local _ .smem, ⟨0, _⟩ => ⟨S288, .i32⟩
  | .local _ .smem, ⟨1, _⟩ => ⟨S1, .i32⟩
  | .local _ .smem, ⟨2, _⟩ => ⟨S288, .i32⟩
  | .local _ .smem, ⟨3, _⟩ => ⟨S288, .i32⟩
  | .local _ .smem, ⟨4, _⟩ => ⟨S1, .i32⟩
  | .local _ .smem, ⟨5, _⟩ => ⟨S64, .i32⟩
  | .local _ .smem, ⟨6, _⟩ => ⟨S64, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v4 : Ref sig .tc := ⟨.hbm, 27, rfl⟩
abbrev main_c_2 : Ref sig .tc := ⟨.hbm, 28, rfl⟩
abbrev main_v5 : Ref sig .tc := ⟨.hbm, 29, rfl⟩
abbrev main_v6 : Ref sig .tc := ⟨.hbm, 30, rfl⟩
abbrev main_call1_call0_c : Ref sig .tc := ⟨.hbm, 31, rfl⟩
abbrev main_call1_call0_v0 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_c_3 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_v5 : Ref sig .tc := ⟨.hbm, 43, rfl⟩
abbrev main_call2_c : Ref sig .tc := ⟨.hbm, 44, rfl⟩
abbrev main_call2_v6 : Ref sig .tc := ⟨.hbm, 45, rfl⟩
abbrev main_call2_v7 : Ref sig .tc := ⟨.hbm, 46, rfl⟩
abbrev main_call2_c_0 : Ref sig .tc := ⟨.hbm, 47, rfl⟩
abbrev main_call2_v8 : Ref sig .tc := ⟨.hbm, 48, rfl⟩
abbrev main_v11 : Ref sig .tc := ⟨.hbm, 49, rfl⟩
abbrev main_v12 : Ref sig .tc := ⟨.hbm, 50, rfl⟩
abbrev main_c_4 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_c_5 : Ref sig .tc := ⟨.hbm, 59, rfl⟩
abbrev main_v20 : Ref sig .tc := ⟨.hbm, 60, rfl⟩
abbrev main_c_6 : Ref sig .tc := ⟨.hbm, 61, rfl⟩
abbrev main_v21 : Ref sig .tc := ⟨.hbm, 62, rfl⟩
abbrev main_v22 : Ref sig .tc := ⟨.hbm, 63, rfl⟩
abbrev main_c_7 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_c_8 : Ref sig .tc := ⟨.hbm, 68, rfl⟩
abbrev main_call3_v0 : Ref sig .tc := ⟨.hbm, 69, rfl⟩
abbrev main_call3_v1 : Ref sig .tc := ⟨.hbm, 70, rfl⟩
abbrev main_v26 : Ref sig .tc := ⟨.hbm, 71, rfl⟩
abbrev main_c_9 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_call4_v0 : Ref sig .tc := ⟨.hbm, 76, rfl⟩
abbrev main_v31 : Ref sig .tc := ⟨.hbm, 77, rfl⟩
abbrev main_c_10 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_call5_call0_c : Ref sig .tc := ⟨.hbm, 84, rfl⟩
abbrev main_call5_call0_v0 : Ref sig .tc := ⟨.hbm, 85, rfl⟩
abbrev main_v38 : Ref sig .tc := ⟨.hbm, 86, rfl⟩
abbrev main_c_11 : Ref sig .tc := ⟨.hbm, 87, rfl⟩
abbrev main_v39 : Ref sig .tc := ⟨.hbm, 88, rfl⟩
abbrev main_v41 : Ref sig .tc := ⟨.hbm, 89, rfl⟩
abbrev main_v42 : Ref sig .tc := ⟨.hbm, 90, rfl⟩
abbrev main_c_12 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_c_13 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_c_14 : Ref sig .tc := ⟨.hbm, 106, rfl⟩
abbrev main_call6_v0 : Ref sig .tc := ⟨.hbm, 107, rfl⟩
abbrev main_call6_v1 : Ref sig .tc := ⟨.hbm, 108, rfl⟩
abbrev main_call6_v2 : Ref sig .tc := ⟨.hbm, 109, rfl⟩
abbrev main_v56 : Ref sig .tc := ⟨.hbm, 110, rfl⟩
abbrev main_c_15 : Ref sig .tc := ⟨.hbm, 111, rfl⟩
abbrev main_v57 : Ref sig .tc := ⟨.hbm, 112, rfl⟩
abbrev main_v58 : Ref sig .tc := ⟨.hbm, 113, rfl⟩
abbrev main_call7_c : Ref sig .tc := ⟨.hbm, 114, rfl⟩
abbrev main_call7_v0 : Ref sig .tc := ⟨.hbm, 115, rfl⟩
abbrev main_call7_c_0 : Ref sig .tc := ⟨.hbm, 116, rfl⟩
abbrev main_call7_v1 : Ref sig .tc := ⟨.hbm, 117, rfl⟩
abbrev main_call7_v2 : Ref sig .tc := ⟨.hbm, 118, rfl⟩
abbrev main_call7_v3 : Ref sig .tc := ⟨.hbm, 119, rfl⟩
abbrev main_call7_c_1 : Ref sig .tc := ⟨.hbm, 120, rfl⟩
abbrev main_call7_v4 : Ref sig .tc := ⟨.hbm, 121, rfl⟩
abbrev main_call7_v5 : Ref sig .tc := ⟨.hbm, 122, rfl⟩
abbrev main_call7_c_2 : Ref sig .tc := ⟨.hbm, 123, rfl⟩
abbrev main_call7_v6 : Ref sig .tc := ⟨.hbm, 124, rfl⟩
abbrev main_call7_v7 : Ref sig .tc := ⟨.hbm, 125, rfl⟩
abbrev main_call7_c_3 : Ref sig .tc := ⟨.hbm, 126, rfl⟩
abbrev main_call7_v8 : Ref sig .tc := ⟨.hbm, 127, rfl⟩
abbrev main_call7_v9 : Ref sig .tc := ⟨.hbm, 128, rfl⟩
abbrev main_call7_v10 : Ref sig .tc := ⟨.hbm, 129, rfl⟩
abbrev main_call7_v11 : Ref sig .tc := ⟨.hbm, 130, rfl⟩
abbrev main_call7_v12 : Ref sig .tc := ⟨.hbm, 131, rfl⟩
abbrev main_call7_v13 : Ref sig .tc := ⟨.hbm, 132, rfl⟩
abbrev main_v59 : Ref sig .tc := ⟨.hbm, 133, rfl⟩
abbrev main_v60 : Ref sig .tc := ⟨.hbm, 134, rfl⟩
abbrev main_v61 : Ref sig .tc := ⟨.hbm, 135, rfl⟩
abbrev main_v62 : Ref sig .tc := ⟨.hbm, 136, rfl⟩
abbrev main_v63 : Ref sig .tc := ⟨.hbm, 137, rfl⟩
abbrev main_v64 : Ref sig .tc := ⟨.hbm, 138, rfl⟩
abbrev main_v65 : Ref sig .tc := ⟨.hbm, 139, rfl⟩
abbrev main_c_16 : Ref sig .tc := ⟨.hbm, 140, rfl⟩
abbrev main_call8_v0 : Ref sig .tc := ⟨.hbm, 141, rfl⟩
abbrev main_call8_v1 : Ref sig .tc := ⟨.hbm, 142, rfl⟩
abbrev main_call8_v2 : Ref sig .tc := ⟨.hbm, 143, rfl⟩
abbrev main_v66 : Ref sig .tc := ⟨.hbm, 144, rfl⟩
abbrev main_c_17 : Ref sig .tc := ⟨.hbm, 145, rfl⟩
abbrev main_call9_v0 : Ref sig .tc := ⟨.hbm, 146, rfl⟩
abbrev main_call9_v1 : Ref sig .tc := ⟨.hbm, 147, rfl⟩
abbrev main_call9_v2 : Ref sig .tc := ⟨.hbm, 148, rfl⟩
abbrev main_call9_v3 : Ref sig .tc := ⟨.hbm, 149, rfl⟩
abbrev main_call9_v4 : Ref sig .tc := ⟨.hbm, 150, rfl⟩
abbrev main_call9_v5 : Ref sig .tc := ⟨.hbm, 151, rfl⟩
abbrev main_call9_v6 : Ref sig .tc := ⟨.hbm, 152, rfl⟩
abbrev main_call9_v7 : Ref sig .tc := ⟨.hbm, 153, rfl⟩
abbrev main_call9_c : Ref sig .tc := ⟨.hbm, 154, rfl⟩
abbrev main_call9_v8 : Ref sig .tc := ⟨.hbm, 155, rfl⟩
abbrev main_call9_v9 : Ref sig .tc := ⟨.hbm, 156, rfl⟩
abbrev main_call9_v10 : Ref sig .tc := ⟨.hbm, 157, rfl⟩
abbrev main_call9_c_0 : Ref sig .tc := ⟨.hbm, 158, rfl⟩
abbrev main_call9_v11 : Ref sig .tc := ⟨.hbm, 159, rfl⟩
abbrev main_call9_v12 : Ref sig .tc := ⟨.hbm, 160, rfl⟩
abbrev main_v68 : Ref sig .tc := ⟨.hbm, 161, rfl⟩
abbrev main_c_18 : Ref sig .tc := ⟨.hbm, 162, rfl⟩
abbrev main_v69 : Ref sig .tc := ⟨.hbm, 163, rfl⟩
abbrev main_v73 : Ref sig .tc := ⟨.hbm, 164, rfl⟩
abbrev main_v74 : Ref sig .tc := ⟨.hbm, 165, rfl⟩
abbrev main_v30 : Ref sig .tc := ⟨.smem, 0, rfl⟩
abbrev main_v71 : Ref sig .tc := ⟨.smem, 1, rfl⟩
abbrev main_v37 : Ref sig .tc := ⟨.smem, 2, rfl⟩
abbrev main_v40 : Ref sig .tc := ⟨.smem, 3, rfl⟩
abbrev main_v72 : Ref sig .tc := ⟨.smem, 4, rfl⟩
abbrev main_v67 : Ref sig .tc := ⟨.smem, 5, rfl⟩
abbrev main_v70 : Ref sig .tc := ⟨.smem, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![288], ![false]⟩

abbrev pre0 : Pipeline.Prefetch sig := ⟨7, ![main_v30.idx, main_v71.idx, main_v37.idx, main_v40.idx, main_v72.idx, main_v67.idx, main_v70.idx], fun | 0 => main_v30.names | 1 => main_v71.names | 2 => main_v37.names | 3 => main_v40.names | 4 => main_v72.names | 5 => main_v67.names | 6 => main_v70.names | ⟨_ + 7, h⟩ => absurd h (Nat.not_lt.2 (Nat.le_add_left _ _)), fun | 0 => rfl | 1 => rfl | 2 => rfl | 3 => rfl | 4 => rfl | 5 => rfl | 6 => rfl | ⟨_ + 7, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (v48 : BitVec 32) : Fin 3 → Nat :=
  let c0_i32_26 : BitVec 32 := 0#32
  let c0_i32_27 : BitVec 32 := 0#32
  ![v48.toNat, 0, 0]
def k0_cond1 (v4 : BitVec 32) : BitVec 1 :=
  let c1_i32 : BitVec 32 := 1#32
  let v5 : BitVec 1 := Scalar.cmpi .eq v4 c1_i32
  let v6 : BitVec 32 := Scalar.extui v5
  let c0_i32 : BitVec 32 := 0#32
  let v7 : BitVec 1 := Scalar.cmpi .ne v6 c0_i32
  v7

def k0_cond2 (v1 : BitVec 32) : BitVec 1 :=
  let c0_i32_9 : BitVec 32 := 0#32
  let v26 : BitVec 1 := Scalar.cmpi .eq v1 c0_i32_9
  let v27 : BitVec 32 := Scalar.extui v26
  let c0_i32_10 : BitVec 32 := 0#32
  let v28 : BitVec 1 := Scalar.cmpi .ne v27 c0_i32_10
  v28

def k0_chk1 (v1 : BitVec 32) (v4 : BitVec 32) (v48 : BitVec 32) : Prop :=
  (∀ (k0_h1 : k0_cond1 v4 = 1#1), ∀ (k0_h2 : k0_cond2 v1 = 1#1), ∀ a, (k0_off2 v48) a + S1x2048x2048.size a ≤ S32x2048x2048.size a)
theorem k0_off2_inb : ∀ (v1 : BitVec 32) (v4 : BitVec 32) (v48 : BitVec 32) (k0_hw1 : k0_chk1 v1 v4 v48), ∀ (k0_h1 : k0_cond1 v4 = 1#1), ∀ (k0_h2 : k0_cond2 v1 = 1#1), ∀ a, (k0_off2 v48) a + S1x2048x2048.size a ≤ S32x2048x2048.size a := fun v1 v4 v48 k0_hw1 k0_h1 k0_h2 => k0_hw1 k0_h1 k0_h2

def k0_off3 (v1 : BitVec 32) : Fin 1 → Nat :=
  let v29 : Index := Scalar.indexCast v1
  ![v29.toNat]

def k0_off4 (v1 : BitVec 32) : Fin 1 → Nat :=
  let c2_i32 : BitVec 32 := 2#32
  let c0_i32_4 : BitVec 32 := 0#32
  let v16 : BitVec 1 := Scalar.cmpi .eq c2_i32 c0_i32_4
  let c1_i32_5 : BitVec 32 := 1#32
  let v17 : BitVec 32 := Scalar.select v16 c1_i32_5 c2_i32
  let v18 : BitVec 32 := Scalar.remsi v1 v17
  let c0_i32_7 : BitVec 32 := 0#32
  let v20 : BitVec 1 := Scalar.cmpi .slt v18 c0_i32_7
  let c0_i32_8 : BitVec 32 := 0#32
  let v21 : BitVec 1 := Scalar.cmpi .slt v17 c0_i32_8
  let v22 : BitVec 1 := Scalar.xori v20 v21
  let c0_i32_6 : BitVec 32 := 0#32
  let v19 : BitVec 1 := Scalar.cmpi .ne v18 c0_i32_6
  let v23 : BitVec 1 := Scalar.andi v22 v19
  let v24 : BitVec 32 := Scalar.addi v18 v17
  let v25 : BitVec 32 := Scalar.select v23 v24 v18
  ![v25.toNat]
def k0_off5 (v1 : BitVec 32) : Fin 3 → Nat :=
  let c2_i32 : BitVec 32 := 2#32
  let c0_i32_4 : BitVec 32 := 0#32
  let v16 : BitVec 1 := Scalar.cmpi .eq c2_i32 c0_i32_4
  let c1_i32_5 : BitVec 32 := 1#32
  let v17 : BitVec 32 := Scalar.select v16 c1_i32_5 c2_i32
  let v18 : BitVec 32 := Scalar.remsi v1 v17
  let c0_i32_7 : BitVec 32 := 0#32
  let v20 : BitVec 1 := Scalar.cmpi .slt v18 c0_i32_7
  let c0_i32_8 : BitVec 32 := 0#32
  let v21 : BitVec 1 := Scalar.cmpi .slt v17 c0_i32_8
  let v22 : BitVec 1 := Scalar.xori v20 v21
  let c0_i32_6 : BitVec 32 := 0#32
  let v19 : BitVec 1 := Scalar.cmpi .ne v18 c0_i32_6
  let v23 : BitVec 1 := Scalar.andi v22 v19
  let v24 : BitVec 32 := Scalar.addi v18 v17
  let v25 : BitVec 32 := Scalar.select v23 v24 v18
  let c0_i32_11 : BitVec 32 := 0#32
  let c0_i32_12 : BitVec 32 := 0#32
  ![v25.toNat, 0, 0]
def k0_off6 (v30 : BitVec 32) : Fin 3 → Nat :=
  let c0_i32_13 : BitVec 32 := 0#32
  let c0_i32_14 : BitVec 32 := 0#32
  ![v30.toNat, 0, 0]

def k0_chk3 (v4 : BitVec 32) (v30 : BitVec 32) : Prop :=
  (∀ (k0_h1 : k0_cond1 v4 = 1#1), ∀ a, (k0_off6 v30) a + S1x2048x2048.size a ≤ S32x2048x2048.size a)
theorem k0_off6_inb : ∀ (v4 : BitVec 32) (v30 : BitVec 32) (k0_hw3 : k0_chk3 v4 v30), ∀ (k0_h1 : k0_cond1 v4 = 1#1), ∀ a, (k0_off6 v30) a + S1x2048x2048.size a ≤ S32x2048x2048.size a := fun v4 v30 k0_hw3 k0_h1 => k0_hw3 k0_h1

def k0_off7 (v1 : BitVec 32) : Fin 1 → Nat :=
  let c1_i32_21 : BitVec 32 := 1#32
  let v48 : BitVec 32 := Scalar.addi v1 c1_i32_21
  let v50 : Index := Scalar.indexCast v48
  ![v50.toNat]
def k0_cond3 (v1 : BitVec 32) (v2 : BitVec 32) : BitVec 1 :=
  let c1_i32_15 : BitVec 32 := 1#32
  let v37 : BitVec 32 := Scalar.addi v1 c1_i32_15
  let v38 : BitVec 1 := Scalar.cmpi .slt v37 v2
  let v39 : BitVec 32 := Scalar.extui v38
  let c0_i32_16 : BitVec 32 := 0#32
  let v40 : BitVec 1 := Scalar.cmpi .ne v39 c0_i32_16
  v40

def k0_off8 (v1 : BitVec 32) : Fin 1 → Nat :=
  let c1_i32_22 : BitVec 32 := 1#32
  let c2_i32 : BitVec 32 := 2#32
  let c0_i32_4 : BitVec 32 := 0#32
  let v16 : BitVec 1 := Scalar.cmpi .eq c2_i32 c0_i32_4
  let c1_i32_5 : BitVec 32 := 1#32
  let v17 : BitVec 32 := Scalar.select v16 c1_i32_5 c2_i32
  let v18 : BitVec 32 := Scalar.remsi v1 v17
  let c0_i32_7 : BitVec 32 := 0#32
  let v20 : BitVec 1 := Scalar.cmpi .slt v18 c0_i32_7
  let c0_i32_8 : BitVec 32 := 0#32
  let v21 : BitVec 1 := Scalar.cmpi .slt v17 c0_i32_8
  let v22 : BitVec 1 := Scalar.xori v20 v21
  let c0_i32_6 : BitVec 32 := 0#32
  let v19 : BitVec 1 := Scalar.cmpi .ne v18 c0_i32_6
  let v23 : BitVec 1 := Scalar.andi v22 v19
  let v24 : BitVec 32 := Scalar.addi v18 v17
  let v25 : BitVec 32 := Scalar.select v23 v24 v18
  let v49 : BitVec 32 := Scalar.subi c1_i32_22 v25
  ![v49.toNat]
def k0_off9 (v1 : BitVec 32) : Fin 3 → Nat :=
  let c1_i32_22 : BitVec 32 := 1#32
  let c2_i32 : BitVec 32 := 2#32
  let c0_i32_4 : BitVec 32 := 0#32
  let v16 : BitVec 1 := Scalar.cmpi .eq c2_i32 c0_i32_4
  let c1_i32_5 : BitVec 32 := 1#32
  let v17 : BitVec 32 := Scalar.select v16 c1_i32_5 c2_i32
  let v18 : BitVec 32 := Scalar.remsi v1 v17
  let c0_i32_7 : BitVec 32 := 0#32
  let v20 : BitVec 1 := Scalar.cmpi .slt v18 c0_i32_7
  let c0_i32_8 : BitVec 32 := 0#32
  let v21 : BitVec 1 := Scalar.cmpi .slt v17 c0_i32_8
  let v22 : BitVec 1 := Scalar.xori v20 v21
  let c0_i32_6 : BitVec 32 := 0#32
  let v19 : BitVec 1 := Scalar.cmpi .ne v18 c0_i32_6
  let v23 : BitVec 1 := Scalar.andi v22 v19
  let v24 : BitVec 32 := Scalar.addi v18 v17
  let v25 : BitVec 32 := Scalar.select v23 v24 v18
  let v49 : BitVec 32 := Scalar.subi c1_i32_22 v25
  let c0_i32_23 : BitVec 32 := 0#32
  let c0_i32_24 : BitVec 32 := 0#32
  ![v49.toNat, 0, 0]
def k0_off10 (v51 : BitVec 32) : Fin 3 → Nat :=
  let c0_i32_25 : BitVec 32 := 0#32
  let c0_i32_26 : BitVec 32 := 0#32
  ![v51.toNat, 0, 0]

def k0_chk4 (v1 : BitVec 32) (v2 : BitVec 32) (v4 : BitVec 32) (v51 : BitVec 32) : Prop :=
  (∀ (k0_h1 : k0_cond1 v4 = 1#1), ∀ (k0_h3 : k0_cond3 v1 v2 = 1#1), ∀ a, (k0_off10 v51) a + S1x2048x2048.size a ≤ S32x2048x2048.size a)
theorem k0_off10_inb : ∀ (v1 : BitVec 32) (v2 : BitVec 32) (v4 : BitVec 32) (v51 : BitVec 32) (k0_hw4 : k0_chk4 v1 v2 v4 v51), ∀ (k0_h1 : k0_cond1 v4 = 1#1), ∀ (k0_h3 : k0_cond3 v1 v2 = 1#1), ∀ a, (k0_off10 v51) a + S1x2048x2048.size a ≤ S32x2048x2048.size a := fun v1 v2 v4 v51 k0_hw4 k0_h1 k0_h3 => k0_hw4 k0_h1 k0_h3

def k0_off11 (v1 : BitVec 32) : Fin 3 → Nat :=
  let c2_i32 : BitVec 32 := 2#32
  let c0_i32_4 : BitVec 32 := 0#32
  let v16 : BitVec 1 := Scalar.cmpi .eq c2_i32 c0_i32_4
  let c1_i32_5 : BitVec 32 := 1#32
  let v17 : BitVec 32 := Scalar.select v16 c1_i32_5 c2_i32
  let v18 : BitVec 32 := Scalar.remsi v1 v17
  let c0_i32_7 : BitVec 32 := 0#32
  let v20 : BitVec 1 := Scalar.cmpi .slt v18 c0_i32_7
  let c0_i32_8 : BitVec 32 := 0#32
  let v21 : BitVec 1 := Scalar.cmpi .slt v17 c0_i32_8
  let v22 : BitVec 1 := Scalar.xori v20 v21
  let c0_i32_6 : BitVec 32 := 0#32
  let v19 : BitVec 1 := Scalar.cmpi .ne v18 c0_i32_6
  let v23 : BitVec 1 := Scalar.andi v22 v19
  let v24 : BitVec 32 := Scalar.addi v18 v17
  let v25 : BitVec 32 := Scalar.select v23 v24 v18
  let v41 : Index := Scalar.indexCast v25
  let c0_17 : Index := 0#32
  let c0_18 : Index := 0#32
  ![v41.toNat, 0, 0]

def k0_chk2 (v1 : BitVec 32) (v2 : BitVec 32) (v4 : BitVec 32) : Prop :=
  (∀ (k0_h1 : k0_cond1 v4 = 1#1), ∀ a, (k0_off3 v1) a + S1.size a ≤ S64.size a) ∧
  (∀ (k0_h1 : k0_cond1 v4 = 1#1), ∀ a, (k0_off4 v1) a + S1.size a ≤ S2.size a) ∧
  (∀ (k0_h1 : k0_cond1 v4 = 1#1), ∀ a, (k0_off5 v1) a + S1x2048x2048.size a ≤ S2x2048x2048.size a) ∧
  (∀ (k0_h1 : k0_cond1 v4 = 1#1), ∀ (k0_h3 : k0_cond3 v1 v2 = 1#1), ∀ a, (k0_off7 v1) a + S1.size a ≤ S64.size a) ∧
  (∀ (k0_h1 : k0_cond1 v4 = 1#1), ∀ (k0_h3 : k0_cond3 v1 v2 = 1#1), ∀ a, (k0_off8 v1) a + S1.size a ≤ S2.size a) ∧
  (∀ (k0_h1 : k0_cond1 v4 = 1#1), ∀ (k0_h3 : k0_cond3 v1 v2 = 1#1), ∀ a, (k0_off9 v1) a + S1x2048x2048.size a ≤ S2x2048x2048.size a) ∧
  (∀ (k0_h1 : k0_cond1 v4 = 1#1), ∀ a, (k0_off11 v1) a + S1x2048x2048.size a ≤ S2x2048x2048.size a)
theorem k0_off3_inb : ∀ (v1 : BitVec 32) (v2 : BitVec 32) (v4 : BitVec 32) (k0_hw2 : k0_chk2 v1 v2 v4), ∀ (k0_h1 : k0_cond1 v4 = 1#1), ∀ a, (k0_off3 v1) a + S1.size a ≤ S64.size a := fun v1 v2 v4 k0_hw2 k0_h1 => k0_hw2.1 k0_h1
theorem k0_off4_inb : ∀ (v1 : BitVec 32) (v2 : BitVec 32) (v4 : BitVec 32) (k0_hw2 : k0_chk2 v1 v2 v4), ∀ (k0_h1 : k0_cond1 v4 = 1#1), ∀ a, (k0_off4 v1) a + S1.size a ≤ S2.size a := fun v1 v2 v4 k0_hw2 k0_h1 => k0_hw2.2.1 k0_h1
theorem k0_off5_inb : ∀ (v1 : BitVec 32) (v2 : BitVec 32) (v4 : BitVec 32) (k0_hw2 : k0_chk2 v1 v2 v4), ∀ (k0_h1 : k0_cond1 v4 = 1#1), ∀ a, (k0_off5 v1) a + S1x2048x2048.size a ≤ S2x2048x2048.size a := fun v1 v2 v4 k0_hw2 k0_h1 => k0_hw2.2.2.1 k0_h1
theorem k0_off7_inb : ∀ (v1 : BitVec 32) (v2 : BitVec 32) (v4 : BitVec 32) (k0_hw2 : k0_chk2 v1 v2 v4), ∀ (k0_h1 : k0_cond1 v4 = 1#1), ∀ (k0_h3 : k0_cond3 v1 v2 = 1#1), ∀ a, (k0_off7 v1) a + S1.size a ≤ S64.size a := fun v1 v2 v4 k0_hw2 k0_h1 k0_h3 => k0_hw2.2.2.2.1 k0_h1 k0_h3
theorem k0_off8_inb : ∀ (v1 : BitVec 32) (v2 : BitVec 32) (v4 : BitVec 32) (k0_hw2 : k0_chk2 v1 v2 v4), ∀ (k0_h1 : k0_cond1 v4 = 1#1), ∀ (k0_h3 : k0_cond3 v1 v2 = 1#1), ∀ a, (k0_off8 v1) a + S1.size a ≤ S2.size a := fun v1 v2 v4 k0_hw2 k0_h1 k0_h3 => k0_hw2.2.2.2.2.1 k0_h1 k0_h3
theorem k0_off9_inb : ∀ (v1 : BitVec 32) (v2 : BitVec 32) (v4 : BitVec 32) (k0_hw2 : k0_chk2 v1 v2 v4), ∀ (k0_h1 : k0_cond1 v4 = 1#1), ∀ (k0_h3 : k0_cond3 v1 v2 = 1#1), ∀ a, (k0_off9 v1) a + S1x2048x2048.size a ≤ S2x2048x2048.size a := fun v1 v2 v4 k0_hw2 k0_h1 k0_h3 => k0_hw2.2.2.2.2.2.1 k0_h1 k0_h3
theorem k0_off11_inb : ∀ (v1 : BitVec 32) (v2 : BitVec 32) (v4 : BitVec 32) (k0_hw2 : k0_chk2 v1 v2 v4), ∀ (k0_h1 : k0_cond1 v4 = 1#1), ∀ a, (k0_off11 v1) a + S1x2048x2048.size a ≤ S2x2048x2048.size a := fun v1 v2 v4 k0_hw2 k0_h1 => k0_hw2.2.2.2.2.2.2 k0_h1

def k0_cond4 (i : grid0.Coords) (v8 : BitVec 32) : BitVec 1 :=
  let arg0 : BitVec 32 := BitVec.ofNat 32 (i 0).val
  let v9 : BitVec 1 := Scalar.cmpi .slt arg0 v8
  let v10 : BitVec 32 := Scalar.extui v9
  let c0_i32_1 : BitVec 32 := 0#32
  let v11 : BitVec 1 := Scalar.cmpi .ne v10 c0_i32_1
  v11

def k0_cond5 (i : grid0.Coords) (v12 : BitVec 32) : BitVec 1 :=
  let arg0 : BitVec 32 := BitVec.ofNat 32 (i 0).val
  let v13 : BitVec 1 := Scalar.cmpi .sge arg0 v12
  let v14 : BitVec 32 := Scalar.extui v13
  let c0_i32_3 : BitVec 32 := 0#32
  let v15 : BitVec 1 := Scalar.cmpi .ne v14 c0_i32_3
  v15

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DownReferenceIdeal.lean ====
abbrev S32 : Shape := ⟨1, ![32]⟩
abbrev S73728x2048 : Shape := ⟨2, ![73728, 2048]⟩
abbrev S32x2048x2048 : Shape := ⟨3, ![32, 2048, 2048]⟩
abbrev S32x2048 : Shape := ⟨2, ![32, 2048]⟩
abbrev S_ : Shape := ⟨0, ![]⟩
abbrev S288 : Shape := ⟨1, ![288]⟩
abbrev S1x32 : Shape := ⟨2, ![1, 32]⟩
abbrev S288x1 : Shape := ⟨2, ![288, 1]⟩
abbrev S288x32 : Shape := ⟨2, ![288, 32]⟩
abbrev S288x256x2048 : Shape := ⟨3, ![288, 256, 2048]⟩
abbrev S288x2048x2048 : Shape := ⟨3, ![288, 2048, 2048]⟩
abbrev S288x2048 : Shape := ⟨2, ![288, 2048]⟩
abbrev S288x1x2048 : Shape := ⟨3, ![288, 1, 2048]⟩
abbrev S1 : Shape := ⟨1, ![1]⟩
abbrev S288x1x1 : Shape := ⟨3, ![288, 1, 1]⟩

abbrev nBuf : Space → Nat
  | .hbm => 81
  | .vmem => 0
  | .smem => 0
  | _ => 0

abbrev bufTy : (tb : Table) → Fin (tcTables nBuf tb) → BufTy
  | .hbm, ⟨0, _⟩ => ⟨S32, .i32⟩
  | .hbm, ⟨1, _⟩ => ⟨S73728x2048, .bf16⟩
  | .hbm, ⟨2, _⟩ => ⟨S32x2048x2048, .f32⟩
  | .hbm, ⟨3, _⟩ => ⟨S32x2048, .f32⟩
  | .hbm, ⟨4, _⟩ => ⟨S_, .i32⟩
  | .hbm, ⟨5, _⟩ => ⟨S32, .i32⟩
  | .hbm, ⟨6, _⟩ => ⟨S32, .i32⟩
  | .hbm, ⟨7, _⟩ => ⟨S_, .i32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S32, .i32⟩
  | .hbm, ⟨14, _⟩ => ⟨S32, .i1⟩
  | .hbm, ⟨15, _⟩ => ⟨S32, .i32⟩
  | .hbm, ⟨16, _⟩ => ⟨S32, .i32⟩
  | .hbm, ⟨17, _⟩ => ⟨S_, .i32⟩
  | .hbm, ⟨18, _⟩ => ⟨S32, .i32⟩
  | .hbm, ⟨19, _⟩ => ⟨S32, .i1⟩
  | .hbm, ⟨20, _⟩ => ⟨S32, .i1⟩
  | .hbm, ⟨21, _⟩ => ⟨S_, .i32⟩
  | .hbm, ⟨22, _⟩ => ⟨S32, .i32⟩
  | .hbm, ⟨23, _⟩ => ⟨S32, .i32⟩
  | .hbm, ⟨24, _⟩ => ⟨S32, .i32⟩
  | .hbm, ⟨25, _⟩ => ⟨S_, .i32⟩
  | .hbm, ⟨26, _⟩ => ⟨S32, .i32⟩
  | .hbm, ⟨27, _⟩ => ⟨S32, .i32⟩
  | .hbm, ⟨28, _⟩ => ⟨S_, .i32⟩
  | .hbm, ⟨29, _⟩ => ⟨S_, .i32⟩
  | .hbm, ⟨30, _⟩ => ⟨S32, .i32⟩
  | .hbm, ⟨31, _⟩ => ⟨S288, .i32⟩
  | .hbm, ⟨32, _⟩ => ⟨S_, .i32⟩
  | .hbm, ⟨33, _⟩ => ⟨S288, .i32⟩
  | .hbm, ⟨34, _⟩ => ⟨S288, .i32⟩
  | .hbm, ⟨35, _⟩ => ⟨S1x32, .i32⟩
  | .hbm, ⟨36, _⟩ => ⟨S288x1, .i32⟩
  | .hbm, ⟨37, _⟩ => ⟨S288x32, .i32⟩
  | .hbm, ⟨38, _⟩ => ⟨S288x32, .i32⟩
  | .hbm, ⟨39, _⟩ => ⟨S288x32, .i1⟩
  | .hbm, ⟨40, _⟩ => ⟨S288x32, .i32⟩
  | .hbm, ⟨41, _⟩ => ⟨S_, .i32⟩
  | .hbm, ⟨42, _⟩ => ⟨S288, .i32⟩
  | .hbm, ⟨43, _⟩ => ⟨S_, .i32⟩
  | .hbm, ⟨44, _⟩ => ⟨S288, .i32⟩
  | .hbm, ⟨45, _⟩ => ⟨S288, .i32⟩
  | .hbm, ⟨46, _⟩ => ⟨S73728x2048, .f32⟩
  | .hbm, ⟨47, _⟩ => ⟨S288x256x2048, .f32⟩
  | .hbm, ⟨48, _⟩ => ⟨S_, .i32⟩
  | .hbm, ⟨49, _⟩ => ⟨S288, .i32⟩
  | .hbm, ⟨50, _⟩ => ⟨S288, .i1⟩
  | .hbm, ⟨51, _⟩ => ⟨S_, .i32⟩
  | .hbm, ⟨52, _⟩ => ⟨S288, .i32⟩
  | .hbm, ⟨53, _⟩ => ⟨S288, .i32⟩
  | .hbm, ⟨54, _⟩ => ⟨S288, .i32⟩
  | .hbm, ⟨55, _⟩ => ⟨S288x1, .i32⟩
  | .hbm, ⟨56, _⟩ => ⟨S288x2048x2048, .f32⟩
  | .hbm, ⟨57, _⟩ => ⟨S288x256x2048, .f32⟩
  | .hbm, ⟨58, _⟩ => ⟨S_, .i32⟩
  | .hbm, ⟨59, _⟩ => ⟨S288, .i32⟩
  | .hbm, ⟨60, _⟩ => ⟨S288, .i1⟩
  | .hbm, ⟨61, _⟩ => ⟨S_, .i32⟩
  | .hbm, ⟨62, _⟩ => ⟨S288, .i32⟩
  | .hbm, ⟨63, _⟩ => ⟨S288, .i32⟩
  | .hbm, ⟨64, _⟩ => ⟨S288, .i32⟩
  | .hbm, ⟨65, _⟩ => ⟨S288x1, .i32⟩
  | .hbm, ⟨66, _⟩ => ⟨S288x2048, .f32⟩
  | .hbm, ⟨67, _⟩ => ⟨S288x1x2048, .f32⟩
  | .hbm, ⟨68, _⟩ => ⟨S288x256x2048, .f32⟩
  | .hbm, ⟨69, _⟩ => ⟨S288x256x2048, .f32⟩
  | .hbm, ⟨70, _⟩ => ⟨S1, .i32⟩
  | .hbm, ⟨71, _⟩ => ⟨S_, .i32⟩
  | .hbm, ⟨72, _⟩ => ⟨S288, .i32⟩
  | .hbm, ⟨73, _⟩ => ⟨S288, .i1⟩
  | .hbm, ⟨74, _⟩ => ⟨S288x1x1, .i1⟩
  | .hbm, ⟨75, _⟩ => ⟨S_, .f32⟩
  | .hbm, ⟨76, _⟩ => ⟨S_, .f32⟩
  | .hbm, ⟨77, _⟩ => ⟨S288x256x2048, .i1⟩
  | .hbm, ⟨78, _⟩ => ⟨S288x256x2048, .f32⟩
  | .hbm, ⟨79, _⟩ => ⟨S288x256x2048, .f32⟩
  | .hbm, ⟨80, _⟩ => ⟨S73728x2048, .f32⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v2 : Ref sig .tc := ⟨.hbm, 24, rfl⟩
abbrev main_c_1 : Ref sig .tc := ⟨.hbm, 25, rfl⟩
abbrev main_v3 : Ref sig .tc := ⟨.hbm, 26, rfl⟩
abbrev main_v4 : Ref sig .tc := ⟨.hbm, 27, rfl⟩
abbrev main_call1_call0_c : Ref sig .tc := ⟨.hbm, 28, rfl⟩
abbrev main_call1_call0_v0 : Ref sig .tc := ⟨.hbm, 29, rfl⟩
abbrev main_v5 : Ref sig .tc := ⟨.hbm, 30, rfl⟩
abbrev main_v6 : Ref sig .tc := ⟨.hbm, 31, rfl⟩
abbrev main_c_2 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_c_3 : Ref sig .tc := ⟨.hbm, 41, rfl⟩
abbrev main_v15 : Ref sig .tc := ⟨.hbm, 42, rfl⟩
abbrev main_c_4 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_c_5 : Ref sig .tc := ⟨.hbm, 48, rfl⟩
abbrev main_v20 : Ref sig .tc := ⟨.hbm, 49, rfl⟩
abbrev main_v21 : Ref sig .tc := ⟨.hbm, 50, rfl⟩
abbrev main_c_6 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_c_7 : Ref sig .tc := ⟨.hbm, 58, rfl⟩
abbrev main_v28 : Ref sig .tc := ⟨.hbm, 59, rfl⟩
abbrev main_v29 : Ref sig .tc := ⟨.hbm, 60, rfl⟩
abbrev main_c_8 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_v43 : Ref sig .tc := ⟨.hbm, 79, rfl⟩
abbrev main_v44 : Ref sig .tc := ⟨.hbm, 80, rfl⟩

abbrev nD : Nat := 1
abbrev τ : Topo := Topo.v7x

variable {F : FTy → Type} [FloatOps F]
-- ==== MixWords.lean ====
abbrev S16384x1024 : Shape := ⟨2, ![16384, 1024]⟩
abbrev S2048x2048 : Shape := ⟨2, ![2048, 2048]⟩
abbrev S16384x2048 : Shape := ⟨2, ![16384, 2048]⟩
abbrev S8x1x12288 : Shape := ⟨3, ![8, 1, 12288]⟩
abbrev S2048 : Shape := ⟨1, ![2048]⟩
abbrev S2048x32 : Shape := ⟨2, ![2048, 32]⟩
abbrev S32 : Shape := ⟨1, ![32]⟩
abbrev S_ : Shape := ⟨0, ![]⟩
abbrev S2048x128 : Shape := ⟨2, ![2048, 128]⟩
abbrev S128 : Shape := ⟨1, ![128]⟩
abbrev S1x128 : Shape := ⟨2, ![1, 128]⟩
abbrev S1x2048 : Shape := ⟨2, ![1, 2048]⟩
abbrev S16384x128 : Shape := ⟨2, ![16384, 128]⟩
abbrev S8x128 : Shape := ⟨2, ![8, 128]⟩
abbrev S256x1024 : Shape := ⟨2, ![256, 1024]⟩
abbrev S256x2048 : Shape := ⟨2, ![256, 2048]⟩
abbrev S1x1x2048 : Shape := ⟨3, ![1, 1, 2048]⟩
abbrev S256x128 : Shape := ⟨2, ![256, 128]⟩
abbrev S1024x2048 : Shape := ⟨2, ![1024, 2048]⟩
abbrev S256 : Shape := ⟨1, ![256]⟩
abbrev S256x1 : Shape := ⟨2, ![256, 1]⟩
abbrev S256x256 : Shape := ⟨2, ![256, 256]⟩

abbrev nBuf : Space → Nat
  | .hbm => 22
  | .vmem => 26
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2048x2048, .f32⟩
  | .hbm, ⟨3, _⟩ => ⟨S16384x2048, .f32⟩
  | .hbm, ⟨4, _⟩ => ⟨S8x1x12288, .f32⟩
  | .hbm, ⟨5, _⟩ => ⟨S2048, .f32⟩
  | .hbm, ⟨6, _⟩ => ⟨S2048x32, .f32⟩
  | .hbm, ⟨7, _⟩ => ⟨S32, .f32⟩
  | .hbm, ⟨8, _⟩ => ⟨S2048x2048, .bf16⟩
  | .hbm, ⟨9, _⟩ => ⟨S_, .i32⟩
  | .hbm, ⟨10, _⟩ => ⟨S_, .f32⟩
  | .hbm, ⟨11, _⟩ => ⟨S2048x128, .f32⟩
  | .hbm, ⟨12, _⟩ => ⟨S_, .i32⟩
  | .hbm, ⟨13, _⟩ => ⟨S_, .f32⟩
  | .hbm, ⟨14, _⟩ => ⟨S128, .f32⟩
  | .hbm, ⟨15, _⟩ => ⟨S1x128, .f32⟩
  | .hbm, ⟨16, _⟩ => ⟨S1x2048, .f32⟩
  | .hbm, ⟨17, _⟩ => ⟨S16384x2048, .f32⟩
  | .hbm, ⟨18, _⟩ => ⟨S16384x1024, .i32⟩
  | .hbm, ⟨19, _⟩ => ⟨S16384x128, .i32⟩
  | .hbm, ⟨20, _⟩ => ⟨S16384x128, .f32⟩
  | .hbm, ⟨21, _⟩ => ⟨S8x128, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S2048x2048, .bf16⟩
  | .local _ .vmem, ⟨5, _⟩ => ⟨S256x2048, .f32⟩
  | .local _ .vmem, ⟨6, _⟩ => ⟨S256x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x2048, .f32⟩
  | .local _ .vmem, ⟨14, _⟩ => ⟨S2048x128, .f32⟩
  | .local _ .vmem, ⟨15, _⟩ => ⟨S1x128, .f32⟩
  | .local _ .vmem, ⟨16, _⟩ => ⟨S256x2048, .f32⟩
  | .local _ .vmem, ⟨17, _⟩ => ⟨S256x2048, .f32⟩
  | .local _ .vmem, ⟨18, _⟩ => ⟨S256x1024, .i32⟩
  | .local _ .vmem, ⟨19, _⟩ => ⟨S256x1024, .i32⟩
  | .local _ .vmem, ⟨20, _⟩ => ⟨S256x128, .i32⟩
  | .local _ .vmem, ⟨21, _⟩ => ⟨S256x128, .i32⟩
  | .local _ .vmem, ⟨22, _⟩ => ⟨S256x128, .f32⟩
  | .local _ .vmem, ⟨23, _⟩ => ⟨S256x128, .f32⟩
  | .local _ .vmem, ⟨24, _⟩ => ⟨S8x128, .f32⟩
  | .local _ .vmem, ⟨25, _⟩ => ⟨S1x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_c_0 : Ref sig .tc := ⟨.hbm, 12, rfl⟩
abbrev main_call1_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev main_v5_2 : Ref sig .tc := ⟨.hbm, 19, rfl⟩
abbrev main_v5_3 : Ref sig .tc := ⟨.hbm, 20, rfl⟩
abbrev main_v5_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c2_i32 : BitVec 32 := 2#32
  let c0_i32_5 : BitVec 32 := 0#32
  ![v16.toNat, c0_i32_4.toNat, c2_i32.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c3_i32 : BitVec 32 := 3#32
  let c0_i32_5 : BitVec 32 := 0#32
  ![v16.toNat, c0_i32_4.toNat, c3_i32.toNat]

def cc0_transform_6 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c4_i32 : BitVec 32 := 4#32
  let c0_i32_5 : BitVec 32 := 0#32
  ![v16.toNat, c0_i32_4.toNat, c4_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Mix.lean ====
abbrev S16384x1024 : Shape := ⟨2, ![16384, 1024]⟩
abbrev S2048x2048 : Shape := ⟨2, ![2048, 2048]⟩
abbrev S16384x2048 : Shape := ⟨2, ![16384, 2048]⟩
abbrev S8x1x12288 : Shape := ⟨3, ![8, 1, 12288]⟩
abbrev S2048 : Shape := ⟨1, ![2048]⟩
abbrev S2048x32 : Shape := ⟨2, ![2048, 32]⟩
abbrev S32 : Shape := ⟨1, ![32]⟩
abbrev S_ : Shape := ⟨0, ![]⟩
abbrev S2048x128 : Shape := ⟨2, ![2048, 128]⟩
abbrev S128 : Shape := ⟨1, ![128]⟩
abbrev S1x128 : Shape := ⟨2, ![1, 128]⟩
abbrev S1x2048 : Shape := ⟨2, ![1, 2048]⟩
abbrev S32768x1024 : Shape := ⟨2, ![32768, 1024]⟩
abbrev S16384x128 : Shape := ⟨2, ![16384, 128]⟩
abbrev S8x128 : Shape := ⟨2, ![8, 128]⟩
abbrev S256x1024 : Shape := ⟨2, ![256, 1024]⟩
abbrev S256x2048 : Shape := ⟨2, ![256, 2048]⟩
abbrev S1x1x2048 : Shape := ⟨3, ![1, 1, 2048]⟩
abbrev S512x1024 : Shape := ⟨2, ![512, 1024]⟩
abbrev S256x128 : Shape := ⟨2, ![256, 128]⟩
abbrev S1024x2048 : Shape := ⟨2, ![1024, 2048]⟩
abbrev S256 : Shape := ⟨1, ![256]⟩
abbrev S256x1 : Shape := ⟨2, ![256, 1]⟩
abbrev S256x256 : Shape := ⟨2, ![256, 256]⟩

abbrev nBuf : Space → Nat
  | .hbm => 22
  | .vmem => 26
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2048x2048, .f32⟩
  | .hbm, ⟨3, _⟩ => ⟨S16384x2048, .f32⟩
  | .hbm, ⟨4, _⟩ => ⟨S8x1x12288, .f32⟩
  | .hbm, ⟨5, _⟩ => ⟨S2048, .f32⟩
  | .hbm, ⟨6, _⟩ => ⟨S2048x32, .f32⟩
  | .hbm, ⟨7, _⟩ => ⟨S32, .f32⟩
  | .hbm, ⟨8, _⟩ => ⟨S2048x2048, .bf16⟩
  | .hbm, ⟨9, _⟩ => ⟨S_, .i32⟩
  | .hbm, ⟨10, _⟩ => ⟨S_, .f32⟩
  | .hbm, ⟨11, _⟩ => ⟨S2048x128, .f32⟩
  | .hbm, ⟨12, _⟩ => ⟨S_, .i32⟩
  | .hbm, ⟨13, _⟩ => ⟨S_, .f32⟩
  | .hbm, ⟨14, _⟩ => ⟨S128, .f32⟩
  | .hbm, ⟨15, _⟩ => ⟨S1x128, .f32⟩
  | .hbm, ⟨16, _⟩ => ⟨S1x2048, .f32⟩
  | .hbm, ⟨17, _⟩ => ⟨S16384x2048, .f32⟩
  | .hbm, ⟨18, _⟩ => ⟨S32768x1024, .bf16⟩
  | .hbm, ⟨19, _⟩ => ⟨S16384x128, .i32⟩
  | .hbm, ⟨20, _⟩ => ⟨S16384x128, .f32⟩
  | .hbm, ⟨21, _⟩ => ⟨S8x128, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S2048x2048, .bf16⟩
  | .local _ .vmem, ⟨5, _⟩ => ⟨S256x2048, .f32⟩
  | .local _ .vmem, ⟨6, _⟩ => ⟨S256x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x2048, .f32⟩
  | .local _ .vmem, ⟨14, _⟩ => ⟨S2048x128, .f32⟩
  | .local _ .vmem, ⟨15, _⟩ => ⟨S1x128, .f32⟩
  | .local _ .vmem, ⟨16, _⟩ => ⟨S256x2048, .f32⟩
  | .local _ .vmem, ⟨17, _⟩ => ⟨S256x2048, .f32⟩
  | .local _ .vmem, ⟨18, _⟩ => ⟨S512x1024, .bf16⟩
  | .local _ .vmem, ⟨19, _⟩ => ⟨S512x1024, .bf16⟩
  | .local _ .vmem, ⟨20, _⟩ => ⟨S256x128, .i32⟩
  | .local _ .vmem, ⟨21, _⟩ => ⟨S256x128, .i32⟩
  | .local _ .vmem, ⟨22, _⟩ => ⟨S256x128, .f32⟩
  | .local _ .vmem, ⟨23, _⟩ => ⟨S256x128, .f32⟩
  | .local _ .vmem, ⟨24, _⟩ => ⟨S8x128, .f32⟩
  | .local _ .vmem, ⟨25, _⟩ => ⟨S1x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_c_0 : Ref sig .tc := ⟨.hbm, 12, rfl⟩
abbrev main_call1_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev main_v5_2 : Ref sig .tc := ⟨.hbm, 19, rfl⟩
abbrev main_v5_3 : Ref sig .tc := ⟨.hbm, 20, rfl⟩
abbrev main_v5_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c2_i32 : BitVec 32 := 2#32
  let c0_i32_5 : BitVec 32 := 0#32
  ![v16.toNat, c0_i32_4.toNat, c2_i32.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c3_i32 : BitVec 32 := 3#32
  let c0_i32_5 : BitVec 32 := 0#32
  ![v16.toNat, c0_i32_4.toNat, c3_i32.toNat]

def cc0_transform_6 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c4_i32 : BitVec 32 := 4#32
  let c0_i32_5 : BitVec 32 := 0#32
  ![v16.toNat, c0_i32_4.toNat, c4_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== MixIdeal.lean ====
variable {F : FTy → Type} [FloatOps F]
-- ==== MixReferenceIdeal.lean ====
abbrev S16384x1024 : Shape := ⟨2, ![16384, 1024]⟩
abbrev S2048x2048 : Shape := ⟨2, ![2048, 2048]⟩
abbrev S16384x2048 : Shape := ⟨2, ![16384, 2048]⟩
abbrev S8x1x12288 : Shape := ⟨3, ![8, 1, 12288]⟩
abbrev S2048 : Shape := ⟨1, ![2048]⟩
abbrev S2048x32 : Shape := ⟨2, ![2048, 32]⟩
abbrev S32 : Shape := ⟨1, ![32]⟩
abbrev S4x4096x2048 : Shape := ⟨3, ![4, 4096, 2048]⟩
abbrev S4x1x2048 : Shape := ⟨3, ![4, 1, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S32768x1024 : Shape := ⟨2, ![32768, 1024]⟩

abbrev nBuf : Space → Nat
  | .hbm => 45
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2048x2048, .f32⟩
  | .hbm, ⟨3, _⟩ => ⟨S16384x2048, .f32⟩
  | .hbm, ⟨4, _⟩ => ⟨S8x1x12288, .f32⟩
  | .hbm, ⟨5, _⟩ => ⟨S2048, .f32⟩
  | .hbm, ⟨6, _⟩ => ⟨S2048x32, .f32⟩
  | .hbm, ⟨7, _⟩ => ⟨S32, .f32⟩
  | .hbm, ⟨8, _⟩ => ⟨S16384x2048, .bf16⟩
  | .hbm, ⟨9, _⟩ => ⟨S16384x2048, .f32⟩
  | .hbm, ⟨10, _⟩ => ⟨S16384x2048, .f32⟩
  | .hbm, ⟨11, _⟩ => ⟨S4x4096x2048, .f32⟩
  | .hbm, ⟨12, _⟩ => ⟨S4x4096x2048, .f32⟩
  | .hbm, ⟨13, _⟩ => ⟨S4x1x2048, .f32⟩
  | .hbm, ⟨14, _⟩ => ⟨S4x4096x2048, .f32⟩
  | .hbm, ⟨15, _⟩ => ⟨S4x4096x2048, .f32⟩
  | .hbm, ⟨16, _⟩ => ⟨S4x4096x2048, .f32⟩
  | .hbm, ⟨17, _⟩ => ⟨S4x4096x2048, .f32⟩
  | .hbm, ⟨18, _⟩ => ⟨S_, .f32⟩
  | .hbm, ⟨19, _⟩ => ⟨S4x4096, .f32⟩
  | .hbm, ⟨20, _⟩ => ⟨S4x4096x1, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S_, .f32⟩
  | .hbm, ⟨25, _⟩ => ⟨S4x4096x1, .f32⟩
  | .hbm, ⟨26, _⟩ => ⟨S4x4096x1, .f32⟩
  | .hbm, ⟨27, _⟩ => ⟨S4x4096x1, .f32⟩
  | .hbm, ⟨28, _⟩ => ⟨S4x4096x2048, .f32⟩
  | .hbm, ⟨29, _⟩ => ⟨S4x4096x2048, .f32⟩
  | .hbm, ⟨30, _⟩ => ⟨S1x1x2048, .f32⟩
  | .hbm, ⟨31, _⟩ => ⟨S4x4096x2048, .f32⟩
  | .hbm, ⟨32, _⟩ => ⟨S4x4096x2048, .f32⟩
  | .hbm, ⟨33, _⟩ => ⟨S4x1x2048, .f32⟩
  | .hbm, ⟨34, _⟩ => ⟨S_, .f32⟩
  | .hbm, ⟨35, _⟩ => ⟨S4x1x2048, .f32⟩
  | .hbm, ⟨36, _⟩ => ⟨S4x1x2048, .f32⟩
  | .hbm, ⟨37, _⟩ => ⟨S4x4096x2048, .f32⟩
  | .hbm, ⟨38, _⟩ => ⟨S4x4096x2048, .f32⟩
  | .hbm, ⟨39, _⟩ => ⟨S4x1x2048, .f32⟩
  | .hbm, ⟨40, _⟩ => ⟨S4x4096x2048, .f32⟩
  | .hbm, ⟨41, _⟩ => ⟨S4x4096x2048, .f32⟩
  | .hbm, ⟨42, _⟩ => ⟨S16384x2048, .f32⟩
  | .hbm, ⟨43, _⟩ => ⟨S32768x1024, .f32⟩
  | .hbm, ⟨44, _⟩ => ⟨S32768x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Proof.Operands.lean ====
module

public import proofs.«01_k».proof.Proof.Gen.KernelIdeal.Skeleton
public import proofs.«01_k».proof.Proof.Gen.KernelIdeal.Launch
public import Idealize.ShloMosaic.Lib.Pipeline.Frame
public import Idealize.ShloMosaic.Lib.Pipeline.FrameBody
public import Idealize.ShloMosaic.Lib.Pipeline.TableIdle
public import Idealize.ShloMosaic.Lib.Transfers
public import Idealize.ShloMosaic.Lib.Exec
public import Idealize.ShloMosaic.Lib.Tactic

/-! The body's operands, and the steps of its transfers: a weight tile started into a half of the
f32 buffer, and the wait that hands the tile over. -/

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-! ## The operands -/

/-- The tables: each block's expert, the blocks in use, the starts of runs, the runs before, the
    runs of a sweep, and each run's expert and column half. -/
abbrev tbE : Memref sig .tc .smem S288 .i32 := Memref.whole main_v30
abbrev tbU : Memref sig .tc .smem S1 .i32 := Memref.whole main_v71
abbrev tbF : Memref sig .tc .smem S288 .i32 := Memref.whole main_v37
abbrev tbR : Memref sig .tc .smem S288 .i32 := Memref.whole main_v40
abbrev tbN : Memref sig .tc .smem S1 .i32 := Memref.whole main_v72
abbrev tbG : Memref sig .tc .smem S64 .i32 := Memref.whole main_v67
abbrev tbJ : Memref sig .tc .smem S64 .i32 := Memref.whole main_v70
/-- The weights left in HBM. -/
abbrev hbG : Memref sig .tc .hbm S32x2048x2048 .f32 := Memref.whole main_arg2
abbrev hbU : Memref sig .tc .hbm S32x2048x2048 .f32 := Memref.whole main_arg4
/-- The f32 tiles in flight, and the tiles cast to bf16. -/
abbrev scF : Memref sig .tc .vmem S2x2x2048x1024 .f32 := Memref.whole cc0_scratch0
abbrev scB : Memref sig .tc .vmem S2x2048x1024 .bf16 := Memref.whole cc0_scratch1

/-- A word of a table, as the body reads it. -/
abbrev rdN (T : S1.Idx → Elt F .i32) : Elt F .i32 :=
  View.readAt (Elt F) tbN.view (Rect.unit (s := S1) ![0] S1.size inb_S1_S1_0).toLoadRect T (Shape.Idx.first (numel1_S1.symm ▸ Nat.one_pos))
abbrev rdU (T : S1.Idx → Elt F .i32) : Elt F .i32 :=
  View.readAt (Elt F) tbU.view (Rect.unit (s := S1) ![0] S1.size inb_S1_S1_0).toLoadRect T (Shape.Idx.first (numel1_S1.symm ▸ Nat.one_pos))
abbrev rdR (i : grid0.Coords) (T : S288.Idx → Elt F .i32) : Elt F .i32 :=
  View.readAt (Elt F) tbR.view (Rect.unit (s := S288) (k0_off1 i) S1.size (k0_off1_inb i)).toLoadRect T (Shape.Idx.first (numel1_S1.symm ▸ Nat.one_pos))
abbrev rdF (i : grid0.Coords) (T : S288.Idx → Elt F .i32) : Elt F .i32 :=
  View.readAt (Elt F) tbF.view (Rect.unit (s := S288) (k0_off1 i) S1.size (k0_off1_inb i)).toLoadRect T (Shape.Idx.first (numel1_S1.symm ▸ Nat.one_pos))

end Cert.KernelIdeal.Hand

end
-- ==== Proof.Steps.lean ====
module

public import proofs.«01_k».proof.Proof.Operands

/-! The steps of the body's transfers: a tile of the weights started into a half of the f32 buffer,
the weights lent whole meanwhile, and the wait that hands both back. -/

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-- Where the transfers' counters lie in the certificate's algebra. -/
abbrev EC : UEmb Counters 𝕄 := countersEmb

/-- A transfer under way on the cell `sm`, owing `D`. -/
abbrev Fly (c : Dev nD) (sm : DmaSem sig) (N : ℕ) (D : sProp 𝕄) : sProp 𝕄 :=
  Transfers.Flight (EC (F := F)) (c : Thread nD τ) (.dma sm) () N D

/-- What is put by while a transfer is under way may be counted to what it hands over. -/
theorem fly_frame (c : Dev nD) (sm : DmaSem sig) (N : ℕ) (D X : sProp 𝕄) :
    iprop(Fly c sm N D ∗ X) ⊢ Fly c sm N iprop(D ∗ X) := by
  unfold Fly Transfers.Flight
  iintro ⟨⟨⟨%R, HR, %hcap, %hpeek⟩, Hcred⟩, HX⟩
  isplitl [HR HX]
  · iexists iprop(R ∗ X)
    isplitl [HR HX]; · isplitl [HR] <;> iassumption
    isplit
    · ipureintro
      intro K
      refine BIBase.Entails.trans ?_ (hcap K)
      iintro ⟨⟨HR, HX⟩, HK⟩
      isplitl [HR]; · iexact HR
      iintro ⟨Hv, HD⟩
      iapply HK
      isplitl [Hv]; · iexact Hv
      isplitl [HD] <;> iassumption
    · ipureintro
      intro K
      refine BIBase.Entails.trans ?_ (hpeek K)
      iintro ⟨⟨HR, HX⟩, HK⟩
      isplitl [HR]; · iexact HR
      iintro HR
      iapply HK
      isplitl [HR] <;> iassumption
  · iexact Hcred

/-- A copy of a window of a whole array started: the destination will hold the window's words, and the
    array comes back whole. -/
theorem wp_start (c : Dev nD) {sp sp' : Space} {s : Shape} {e : EltTy} (hs : 0 < s.numel)
    {src : Memref sig .tc sp s e} {dst : Memref sig .tc sp' s e} {sm : DmaSem sig}
    {hsrc : src.view.WordExact} {hdst : dst.view.WordExact} {hsem : DmaTarget.Typed (nD := nD) (τ := τ) (p := .tc) sp (.dma sm) (.here dst)}
    {α : Type} {Q : α → sProp 𝕄} {k : PUnit → Prog (TpuEff nD τ sig (Elt F) Λ₀ .tc) α} (fs : Buf (Elt F) (src.view.loc (c : Thread nD τ))) :
    iprop((src.view.loc (c : Thread nD τ) ↦{fullShare} fs) ∗ (∃ d, owns (c : Thread nD τ) dst fullShare d) ∗ semVal ((c : Thread nD τ), SemLoc.dma sm) 0)
      ⊢ iprop((Fly c sm dst.view.dmaCredit iprop(owns (c : Thread nD τ) dst fullShare (src.view.read (Elt F) fs)
                  ∗ (src.view.loc (c : Thread nD τ) ↦{fullShare} fs))
              -∗ wp frame (wpE (defs₀ (F := F)) Variants.none (c : Thread nD τ) none) Set.univ (k ⟨⟩) Q)
          -∗ wp frame (wpE (defs₀ (F := F)) Variants.none (c : Thread nD τ) none) Set.univ (.op (.enqueueDma src (.here dst) (.dma sm) hsrc hdst hsem) k) Q) := by
  unfold owns
  iintro ⟨Hs, ⟨%d, %fd, -, Hd⟩, Hv⟩ Hk
  ihave Hs' := (pointsTo_split_subset (Finset.subset_univ src.view.set)).1 $$ Hs
  icases Hs' with ⟨Hs, Hrest⟩
  iapply (Transfers.wp_dmaLocal (EC (F := F)) Variants.none (c : Thread nD τ) none () dst.view.dmaCredit rfl (View.dmaCredit_pos _ hs) (Finset.Subset.refl _)) $$ [Hs Hd Hv]
  · isplitl [Hs]; · iexact Hs
    isplitl [Hd] <;> iassumption
  iintro Hf
  iapply Hk
  ihave Hf := (fly_frame c sm _ _ (src.view.loc (c : Thread nD τ) ↦[Finset.univ \ src.view.set]{fullShare} fs)) $$ [Hf Hrest]
  · isplitl [Hf] <;> iassumption
  iapply (Transfers.Flight_mono (EC (F := F)) (c : Thread nD τ) (D := _) ?_) $$ Hf
  iintro ⟨⟨Hd, Hs⟩, Hrest⟩
  isplitl [Hd]
  · skip
    iexists _
    isplitr; swap
    · iexact Hd
    · ipureintro; exact View.read_write_univ _ _
  · iapply (pointsTo_split_subset (Finset.subset_univ src.view.set)).2
    isplitl [Hs] <;> iassumption

/-- The wait for a transfer under way. -/
theorem wp_await (c : Dev nD) {sp sp' : Space} {s : Shape} {e : EltTy}
    {src : Memref sig .tc sp s e} {dst : Memref sig .tc sp' s e} {sm : DmaSem sig}
    {hsrc : src.view.WordExact} {hdst : dst.view.WordExact} {N : ℕ} (hN : dst.view.dmaCredit = N)
    {α : Type} {Q : α → sProp 𝕄} {k : PUnit → Prog (TpuEff nD τ sig (Elt F) Λ₀ .tc) α} {D : sProp 𝕄} :
    iprop(Fly c sm N D ∗ (∃ W, owes (c : Thread nD τ) 0 W))
      ⊢ iprop((iprop(D ∗ semVal ((c : Thread nD τ), SemLoc.dma sm) 0 ∗ (∃ W, owes (c : Thread nD τ) 0 W))
              -∗ wp frame (wpE (defs₀ (F := F)) Variants.none (c : Thread nD τ) none) Set.univ (k ⟨⟩) Q)
          -∗ wp frame (wpE (defs₀ (F := F)) Variants.none (c : Thread nD τ) none) Set.univ (.op (.waitDma2 sm src dst hsrc hdst) k) Q) := by
  iintro ⟨Hf, ⟨%W, HW⟩⟩ Hk
  have h := Transfers.wp_waitLocal (EC (F := F)) (defs := defs₀ (F := F)) Variants.none (c : Thread nD τ) none (srcw := src) (dstw := dst) (hsrc := hsrc) (hdst := hdst) (sem := sm) (k := k) (Q := Q) () hN (D := D) (W := W)
  iapply h $$ [Hf HW]
  · isplitl [Hf] <;> iassumption
  iintro ⟨HD, Hv, HW⟩
  iapply Hk
  isplitl [HD]; · iexact HD
  isplitl [Hv]; · iexact Hv
  iexists _; iexact HW

/-- `wp_start` at a window, a destination and a cell the body computes, equal to those held. -/
theorem wp_start_at (c : Dev nD) {sp sp' : Space} {s : Shape} {e : EltTy} (hs : 0 < s.numel)
    {src₀ : Memref sig .tc sp s e} {dst₀ : Memref sig .tc sp' s e} {sm₀ : DmaSem sig}
    {src : Memref sig .tc sp s e} {dst : Memref sig .tc sp' s e} {sm : DmaSem sig}
    (h1 : src = src₀) (h2 : dst = dst₀) (h3 : sm = sm₀)
    {hsrc : src.view.WordExact} {hdst : dst.view.WordExact} {hsem : DmaTarget.Typed (nD := nD) (τ := τ) (p := .tc) sp (.dma sm) (.here dst)}
    {α : Type} {Q : α → sProp 𝕄} {k : PUnit → Prog (TpuEff nD τ sig (Elt F) Λ₀ .tc) α} (fs : Buf (Elt F) (src₀.view.loc (c : Thread nD τ))) :
    iprop((src₀.view.loc (c : Thread nD τ) ↦{fullShare} fs) ∗ (∃ d, owns (c : Thread nD τ) dst₀ fullShare d) ∗ semVal ((c : Thread nD τ), SemLoc.dma sm₀) 0)
      ⊢ iprop((Fly c sm₀ dst₀.view.dmaCredit iprop(owns (c : Thread nD τ) dst₀ fullShare (src₀.view.read (Elt F) fs)
                  ∗ (src₀.view.loc (c : Thread nD τ) ↦{fullShare} fs))
              -∗ wp frame (wpE (defs₀ (F := F)) Variants.none (c : Thread nD τ) none) Set.univ (k ⟨⟩) Q)
          -∗ wp frame (wpE (defs₀ (F := F)) Variants.none (c : Thread nD τ) none) Set.univ (.op (.enqueueDma src (.here dst) (.dma sm) hsrc hdst hsem) k) Q) := by
  subst h1 h2 h3
  exact wp_start c hs fs

/-- `wp_await` at a cell the body computes, equal to the one the transfer is under way on. -/
theorem wp_await_at (c : Dev nD) {sp sp' : Space} {s : Shape} {e : EltTy}
    {src : Memref sig .tc sp s e} {dst : Memref sig .tc sp' s e} {sm sm₀ : DmaSem sig} (h3 : sm = sm₀)
    {hsrc : src.view.WordExact} {hdst : dst.view.WordExact} {N : ℕ} (hN : dst.view.dmaCredit = N)
    {α : Type} {Q : α → sProp 𝕄} {k : PUnit → Prog (TpuEff nD τ sig (Elt F) Λ₀ .tc) α} {D : sProp 𝕄} :
    iprop(Fly c sm₀ N D ∗ (∃ W, owes (c : Thread nD τ) 0 W))
      ⊢ iprop((iprop(D ∗ semVal ((c : Thread nD τ), SemLoc.dma sm₀) 0 ∗ (∃ W, owes (c : Thread nD τ) 0 W))
              -∗ wp frame (wpE (defs₀ (F := F)) Variants.none (c : Thread nD τ) none) Set.univ (k ⟨⟩) Q)
          -∗ wp frame (wpE (defs₀ (F := F)) Variants.none (c : Thread nD τ) none) Set.univ (.op (.waitDma2 sm src dst hsrc hdst) k) Q) := by
  subst h3
  exact wp_await c hN

end Cert.KernelIdeal.Hand

end
-- ==== Proof.Stream.lean ====
module

public import proofs.«01_k».proof.Proof.Steps

/-! The weight stream: what is held between two points of the grid, and the body's first part. -/

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-- A tile's place in the f32 buffer, at the offsets the body computes. -/
abbrev pcAt (o : Fin 4 → ℕ) (h : ∀ a, o a + S1x1x2048x1024.size a ≤ S2x2x2048x1024.size a) : Memref sig .tc .vmem S2048x1024 .f32 :=
  (scF.slice (Rect.unit (s := S2x2x2048x1024) o S1x1x2048x1024.size h) (fun _ => rfl)).squeeze S2048x1024 squeezes_S1x1x2048x1024_S2048x1024
/-- A tile of the weights. -/
abbrev tileAt (M : Memref sig .tc .hbm S32x2048x2048 .f32) (o : Fin 3 → ℕ) (h : ∀ a, o a + S1x2048x1024.size a ≤ S32x2048x2048.size a) :
    Memref sig .tc .hbm S2048x1024 .f32 :=
  (M.slice (Rect.unit (s := S32x2048x2048) o S1x2048x1024.size h) (fun _ => rfl)).squeeze S2048x1024 squeezes_S1x2048x1024_S2048x1024
/-- A transfer's cell. -/
abbrev cellAt (o : Fin 2 → ℕ) (h : ∀ a, o a + S1x1.size a ≤ S2x2.size a) : DmaSem sig :=
  ((cc0_scratch2.slice (Rect.unit (s := S2x2) o S1x1.size h)).squeeze S_ squeezes_S1x1_S_).sem

theorem pc_inb (s k : Fin 2) : ∀ a, (![s.val, k.val, 0, 0] : Fin 4 → ℕ) a + S1x1x2048x1024.size a ≤ S2x2x2048x1024.size a := by
  revert s k; decide
theorem tile_inb (e : Fin 32) (j : Fin 2) : ∀ a, (![e.val, 0, j.val * 1024] : Fin 3 → ℕ) a + S1x2048x1024.size a ≤ S32x2048x2048.size a := by
  revert e j; decide
theorem cell_inb (s k : Fin 2) : ∀ a, (![s.val, k.val] : Fin 2 → ℕ) a + S1x1.size a ≤ S2x2.size a := by
  revert s k; decide

abbrev pc (s k : Fin 2) : Memref sig .tc .vmem S2048x1024 .f32 := pcAt ![s.val, k.val, 0, 0] (pc_inb s k)
abbrev tile (M : Memref sig .tc .hbm S32x2048x2048 .f32) (e : Fin 32) (j : Fin 2) : Memref sig .tc .hbm S2048x1024 .f32 :=
  tileAt M ![e.val, 0, j.val * 1024] (tile_inb e j)
abbrev cell (s k : Fin 2) : DmaSem sig := cellAt ![s.val, k.val] (cell_inb s k)

/-- A tile's words. -/
def tileV (W : S32x2048x2048.Idx → Elt F .f32) (e : Fin 32) (j : Fin 2) : S2048x1024.Idx → Elt F .f32 :=
  (tile hbG e j).view.read (Elt F) W

/-- A half of the f32 buffer with nothing under way. -/
def free (c : Dev nD) (s : Fin 2) : sProp 𝕄 :=
  iprop((∃ d, owns (c : Thread nD τ) (pc s 0) fullShare d) ∗ (∃ d, owns (c : Thread nD τ) (pc s 1) fullShare d)
    ∗ semVal ((c : Thread nD τ), SemLoc.dma (cell s 0)) 0 ∗ semVal ((c : Thread nD τ), SemLoc.dma (cell s 1)) 0)

/-- The weights at rest. -/
def srcs (c : Dev nD) (WG WU : S32x2048x2048.Idx → Elt F .f32) : sProp 𝕄 :=
  iprop((hbG.view.loc (c : Thread nD τ) ↦{fullShare} WG) ∗ (hbU.view.loc (c : Thread nD τ) ↦{fullShare} WU))

/-- A half filled with the tiles `(e, j)`. -/
def full (c : Dev nD) (WG WU : S32x2048x2048.Idx → Elt F .f32) (s : Fin 2) (e : Fin 32) (j : Fin 2) : sProp 𝕄 :=
  iprop(owns (c : Thread nD τ) (pc s 0) fullShare (tileV WG e j) ∗ owns (c : Thread nD τ) (pc s 1) fullShare (tileV WU e j)
    ∗ semVal ((c : Thread nD τ), SemLoc.dma (cell s 0)) 0 ∗ semVal ((c : Thread nD τ), SemLoc.dma (cell s 1)) 0)

/-- The tiles `(e, j)` under way into a half, the weights lent. -/
def flying (c : Dev nD) (WG WU : S32x2048x2048.Idx → Elt F .f32) (s : Fin 2) (e : Fin 32) (j : Fin 2) : sProp 𝕄 :=
  iprop(Fly c (cell s 0) (pc s 0).view.dmaCredit iprop(owns (c : Thread nD τ) (pc s 0) fullShare (tileV WG e j) ∗ (hbG.view.loc (c : Thread nD τ) ↦{fullShare} WG))
    ∗ Fly c (cell s 1) (pc s 1).view.dmaCredit iprop(owns (c : Thread nD τ) (pc s 1) fullShare (tileV WU e j) ∗ (hbU.view.loc (c : Thread nD τ) ↦{fullShare} WU)))

theorem cellAt_eq {o : Fin 2 → ℕ} {h} {s k : Fin 2} (ho : o = ![s.val, k.val]) : cellAt o h = cell s k := by
  subst ho; rfl
theorem pcAt_eq {o : Fin 4 → ℕ} {h} {s k : Fin 2} (ho : o = ![s.val, k.val, 0, 0]) : pcAt o h = pc s k := by
  subst ho; rfl
theorem tileAt_eq {M} {o : Fin 3 → ℕ} {h} {e : Fin 32} {j : Fin 2} (ho : o = ![e.val, 0, j.val * 1024]) : tileAt M o h = tile M e j := by
  subst ho; rfl

theorem part1_wait (c : Dev nD) (i : grid0.Coords) (arg9 : Memref sig .tc .vmem S256x1024 .i32) (harg9 : arg9.IsWhole)
    (arg12 : Memref sig .tc .vmem S1x1x1024 .f32) (harg12 : arg12.IsWhole) (arg13 : Memref sig .tc .vmem S1x1x1024 .f32) (harg13 : arg13.IsWhole)
    (arg14 : Memref sig .tc .vmem S256x1024 .bf16) (harg14 : arg14.IsWhole)
    (TG TJ : S64.Idx → Elt F .i32) (WG WU : S32x2048x2048.Idx → Elt F .f32)
    (v0 v3 v4 v5 v6 v8 : BitVec 32) (hw2 : k0_chk2 i v0 v3 v5 v8) (h1 : k0_cond1 v8 = 1#1)
    (h2 : ¬ k0_cond2 i v0 v3 = 1#1)  (s : Fin 2) (e : Fin 32) (j : Fin 2)
    (ho4 : k0_off4 i v0 v3 = ![s.val, 0]) (ho7 : k0_off7 i v0 v3 = ![s.val, 1])
    (hc3 : ∀ hi, k0_chk3 v8 (View.readAt (Elt F) tbG.view (Rect.unit (s := S64) (k0_off3 i v0 v3) S1.size hi).toLoadRect TG (Shape.Idx.first (numel1_S1.symm ▸ Nat.one_pos)))
        (View.readAt (Elt F) tbJ.view (Rect.unit (s := S64) (k0_off3 i v0 v3) S1.size hi).toLoadRect TJ (Shape.Idx.first (numel1_S1.symm ▸ Nat.one_pos))))
    (K : BitVec 32 → sProp 𝕄) :
    iprop((tbG.view.loc (c : Thread nD τ) ↦{fullShare.right} TG) ∗ (tbJ.view.loc (c : Thread nD τ) ↦{fullShare.right} TJ)
        ∗ flying c WG WU s e j ∗ (∃ W, owes (c : Thread nD τ) 0 W)
        ∗ (∀ v, iprop((tbG.view.loc (c : Thread nD τ) ↦{fullShare.right} TG) ∗ (tbJ.view.loc (c : Thread nD τ) ↦{fullShare.right} TJ)
            ∗ full c WG WU s e j ∗ srcs c WG WU ∗ (∃ W, owes (c : Thread nD τ) 0 W)) -∗ K v))
      ⊢ wp frame (wpE (defs₀ (F := F)) Variants.none (c : Thread nD τ) none) Set.univ
          (k0_part1 i tbE (Memref.isWhole_whole _) tbU (Memref.isWhole_whole _) tbF (Memref.isWhole_whole _) tbR (Memref.isWhole_whole _)
            tbN (Memref.isWhole_whole _) tbG (Memref.isWhole_whole _) tbJ (Memref.isWhole_whole _) arg9 harg9 hbG (Memref.isWhole_whole _)
            hbU (Memref.isWhole_whole _) arg12 harg12 arg13 harg13 arg14 harg14 scF (Memref.isWhole_whole _) scB (Memref.isWhole_whole _)
            cc0_scratch2 v0 v3 v4 v5 v6 v8 hw2 h1) K := by
  rw [k0_part1_eq_skeleton]; unfold k0_part1_skel
  iintro ⟨HG, HJ, Hfl, HO, Hk⟩
  sl_exec (disch := first | exact hc3 _)
  unfold flying
  icases Hfl with ⟨Hf0, Hf1⟩
  iapply (wp_await_at c (cellAt_eq (s := s) (k := 0) ho4) rfl) $$ [Hf0 HO]
  · isplitl [Hf0]; · iexact Hf0
    iexact HO
  iintro ⟨⟨Hp0, HG0⟩, Hv0, HO⟩
  sl_exec
  iapply (wp_await_at c (cellAt_eq (s := s) (k := 1) ho7) rfl) $$ [Hf1 HO]
  · isplitl [Hf1]; · iexact Hf1
    iexact HO
  iintro ⟨⟨Hp1, HU0⟩, Hv1, HO⟩
  sl_exec
  sl_step
  iapply Hk
  isplitl [HG]; · iexact HG
  isplitl [HJ]; · iexact HJ
  unfold full srcs
  isplitl [Hp0 Hp1 Hv0 Hv1]
  · isplitl [Hp0]; · iexact Hp0
    isplitl [Hp1]; · iexact Hp1
    isplitl [Hv0] <;> iassumption
  isplitl [HG0 HU0]
  · isplitl [HG0] <;> iassumption
  iexact HO

end Cert.KernelIdeal.Hand

end
-- ==== Proof.Offsets.lean ====
module

public import proofs.«01_k».proof.Proof.Stream
public import Idealize.ShloMosaic.Lib.ValueIdxCore
public import Idealize.ShloMosaic.Lib.WordCmp

/-! The places the body computes, as numbers: where the run `g` of the stream sits, and the side
conditions the body checks of the words it reads. -/

@[expose] public section

namespace Cert.KernelIdeal.Hand

open Cert.KernelIdeal Cert.KernelIdeal.Gen
open Idealize.ShloMosaic

/-- The half of the buffer that takes run `g`. -/
abbrev slot (g : Fin 64) : Fin 2 := ⟨g.val % 2, Nat.mod_lt _ (by decide)⟩
/-- The other half. -/
abbrev other (s : Fin 2) : Fin 2 := ⟨1 - s.val, by omega⟩

/-- The run's number, as the body computes it. -/
abbrev runW (i : grid0.Coords) (v0 v3 : BitVec 32) : BitVec 32 :=
  Scalar.addi (Scalar.muli (BitVec.ofNat 32 (i 0).val) v0) v3

variable {i : grid0.Coords} {v0 v3 : BitVec 32} {g : Fin 64}

theorem off3_eq (h : runW i v0 v3 = BitVec.ofNat 32 g.val) : k0_off3 i v0 v3 = ![g.val] := by
  unfold k0_off3; dsimp only; unfold runW at h; rw [h]; clear h; revert g; decide
theorem off4_eq (h : runW i v0 v3 = BitVec.ofNat 32 g.val) : k0_off4 i v0 v3 = ![(slot g).val, 0] := by
  unfold k0_off4; dsimp only; unfold runW at h; rw [h]; clear h; revert g; decide
theorem off5_eq (h : runW i v0 v3 = BitVec.ofNat 32 g.val) : k0_off5 i v0 v3 = ![(slot g).val, 0, 0, 0] := by
  unfold k0_off5; dsimp only; unfold runW at h; rw [h]; clear h; revert g; decide
theorem off7_eq (h : runW i v0 v3 = BitVec.ofNat 32 g.val) : k0_off7 i v0 v3 = ![(slot g).val, 1] := by
  unfold k0_off7; dsimp only; unfold runW at h; rw [h]; clear h; revert g; decide
theorem off8_eq (h : runW i v0 v3 = BitVec.ofNat 32 g.val) : k0_off8 i v0 v3 = ![(slot g).val, 1, 0, 0] := by
  unfold k0_off8; dsimp only; unfold runW at h; rw [h]; clear h; revert g; decide
theorem off9_eq (h : runW i v0 v3 = BitVec.ofNat 32 g.val) : k0_off9 i v0 v3 = ![g.val + 1] := by
  unfold k0_off9; dsimp only; unfold runW at h; rw [h]; clear h; revert g; decide
theorem off10_eq (h : runW i v0 v3 = BitVec.ofNat 32 g.val) : k0_off10 i v0 v3 = ![(other (slot g)).val, 0] := by
  unfold k0_off10; dsimp only; unfold runW at h; rw [h]; clear h; revert g; decide
theorem off11_eq (h : runW i v0 v3 = BitVec.ofNat 32 g.val) : k0_off11 i v0 v3 = ![(other (slot g)).val, 0, 0, 0] := by
  unfold k0_off11; dsimp only; unfold runW at h; rw [h]; clear h; revert g; decide
theorem off13_eq (h : runW i v0 v3 = BitVec.ofNat 32 g.val) : k0_off13 i v0 v3 = ![(other (slot g)).val, 1] := by
  unfold k0_off13; dsimp only; unfold runW at h; rw [h]; clear h; revert g; decide
theorem off14_eq (h : runW i v0 v3 = BitVec.ofNat 32 g.val) : k0_off14 i v0 v3 = ![(other (slot g)).val, 1, 0, 0] := by
  unfold k0_off14; dsimp only; unfold runW at h; rw [h]; clear h; revert g; decide
theorem off15_eq (h : runW i v0 v3 = BitVec.ofNat 32 g.val) : k0_off15 i v0 v3 = ![(slot g).val, 0, 0, 0] := by
  unfold k0_off15; dsimp only; unfold runW at h; rw [h]; clear h; revert g; decide
theorem off16_eq (h : runW i v0 v3 = BitVec.ofNat 32 g.val) : k0_off16 i v0 v3 = ![(slot g).val, 1, 0, 0] := by
  unfold k0_off16; dsimp only; unfold runW at h; rw [h]; clear h; revert g; decide

theorem off2_eq {v v' : BitVec 32} {e : Fin 32} {j : Fin 2} (he : v = BitVec.ofNat 32 e.val) (hj : v' = BitVec.ofNat 32 j.val) :
    k0_off2 v v' = ![e.val, 0, j.val * 1024] := by
  subst he hj; revert e j; decide
theorem off12_eq {v v' : BitVec 32} {e : Fin 32} {j : Fin 2} (he : v = BitVec.ofNat 32 e.val) (hj : v' = BitVec.ofNat 32 j.val) :
    k0_off12 v v' = ![e.val, 0, j.val * 1024] := by
  subst he hj; revert e j; decide
theorem off6_eq {v v' : BitVec 32} {e : Fin 32} {j : Fin 2} (he : v = BitVec.ofNat 32 e.val) (hj : v' = BitVec.ofNat 32 j.val) :
    k0_off6 v v' = ![e.val, 0, j.val * 1024] := by
  subst he hj; revert e j; decide

theorem cond2_iff (h : runW i v0 v3 = BitVec.ofNat 32 g.val) : k0_cond2 i v0 v3 = 1#1 ↔ g.val = 0 := by
  unfold k0_cond2; dsimp only; unfold runW at h; rw [h]; clear h; revert g; decide
theorem cond3_iff (h : runW i v0 v3 = BitVec.ofNat 32 g.val) {v5 : BitVec 32} {n : Fin 33} (h5 : v5 = BitVec.ofNat 32 n.val) :
    k0_cond3 i v0 v3 v5 = 1#1 ↔ g.val + 1 < 2 * n.val := by
  unfold k0_cond3; dsimp only; unfold runW at h; rw [h]; clear h; subst h5; revert g n; decide +kernel
theorem cond1_iff {v8 : BitVec 32} : k0_cond1 v8 = 1#1 ↔ v8 = 1#32 := by
  unfold k0_cond1; dsimp only [Scalar.cmpi, Scalar.extui]
  by_cases h : v8 = 1#32
  · subst h; decide
  · simp only [h, iff_false]
    have e : IntOp.cmpi .eq v8 1#32 = 0#1 := by rw [WordCmp.cmpi_eq_eq]; simp [h]
    rw [e]; decide

theorem chk1_of {v8 v v' : BitVec 32} {e : Fin 32} {j : Fin 2} (he : v = BitVec.ofNat 32 e.val) (hj : v' = BitVec.ofNat 32 j.val) :
    k0_chk1 i v0 v3 v8 v v' := by
  refine ⟨fun _ _ => ?_, fun _ _ => ?_⟩
  · subst he hj; revert j; decide
  · rw [off2_eq he hj]; exact tile_inb e j
theorem chk3_of {v8 v v' : BitVec 32} {e : Fin 32} {j : Fin 2} (he : v = BitVec.ofNat 32 e.val) (hj : v' = BitVec.ofNat 32 j.val) :
    k0_chk3 v8 v v' := by
  refine ⟨fun _ => ?_, fun _ => ?_⟩
  · subst he hj; revert j; decide
  · rw [off6_eq he hj]; exact tile_inb e j
theorem chk4_of {v5 v8 v v' : BitVec 32} {e : Fin 32} {j : Fin 2} (he : v = BitVec.ofNat 32 e.val) (hj : v' = BitVec.ofNat 32 j.val) :
    k0_chk4 i v0 v3 v5 v8 v v' := by
  refine ⟨fun _ _ => ?_, fun _ _ => ?_⟩
  · subst he hj; revert j; decide
  · rw [off12_eq he hj]; exact tile_inb e j

theorem word_inb (g : Fin 64) : ∀ a, (![g.val] : Fin 1 → ℕ) a + S1.size a ≤ S64.size a := by
  revert g; decide
theorem word_inb' (g : Fin 64) (h : g.val + 1 < 64) : ∀ a, (![g.val + 1] : Fin 1 → ℕ) a + S1.size a ≤ S64.size a :=
  word_inb ⟨g.val + 1, h⟩

theorem chk2_of {v5 v8 : BitVec 32} {n : Fin 33} (h5 : v5 = BitVec.ofNat 32 n.val)
    (h : k0_cond1 v8 = 1#1 → runW i v0 v3 = BitVec.ofNat 32 g.val) : k0_chk2 i v0 v3 v5 v8 := by
  refine ⟨fun h1 => ?_, fun h1 => ?_, fun h1 => ?_, fun h1 => ?_, fun h1 => ?_, fun h1 h3 => ?_, fun h1 _ => ?_, fun h1 _ => ?_, fun h1 _ => ?_, fun h1 _ => ?_,
    fun h1 => ?_, fun h1 => ?_⟩
  · rw [off3_eq (h h1)]; exact word_inb g
  · rw [off4_eq (h h1)]; exact cell_inb (slot g) 0
  · rw [off5_eq (h h1)]; exact pc_inb (slot g) 0
  · rw [off7_eq (h h1)]; exact cell_inb (slot g) 1
  · rw [off8_eq (h h1)]; exact pc_inb (slot g) 1
  · rw [off9_eq (h h1)]
    have := (cond3_iff (h h1) h5).mp h3
    exact word_inb' g (by omega)
  · rw [off10_eq (h h1)]; exact cell_inb (other (slot g)) 0
  · rw [off11_eq (h h1)]; exact pc_inb (other (slot g)) 0
  · rw [off13_eq (h h1)]; exact cell_inb (other (slot g)) 1
  · rw [off14_eq (h h1)]; exact pc_inb (other (slot g)) 1
  · rw [off15_eq (h h1)]; exact pc_inb (slot g) 0
  · rw [off16_eq (h h1)]; exact pc_inb (slot g) 1

theorem slt_key (b : Fin 288) (n : Fin 289) :
    (Scalar.cmpi .ne (Scalar.extui (Scalar.cmpi .slt (BitVec.ofNat 32 b.val) (BitVec.ofNat 32 n.val)) : BitVec 32) 0#32 = 1#1) ↔ b.val < n.val := by
  dsimp only [Scalar.cmpi, Scalar.extui]
  rw [WordCmp.cmpi_slt_ofNat (by omega) (by omega)]
  by_cases h : b.val < n.val <;> simp only [h] <;> decide
theorem sge_key (b : Fin 288) (n : Fin 289) :
    (Scalar.cmpi .ne (Scalar.extui (Scalar.cmpi .sge (BitVec.ofNat 32 b.val) (BitVec.ofNat 32 n.val)) : BitVec 32) 0#32 = 1#1) ↔ ¬ b.val < n.val := by
  dsimp only [Scalar.cmpi, Scalar.extui]
  rw [WordCmp.cmpi_sge_ofNat (by omega) (by omega)]
  by_cases h : b.val < n.val
  · simp only [h, Nat.not_le.mpr h]; decide
  · simp only [h, Nat.not_lt.mp h]; decide
theorem cond4_iff {v : BitVec 32} {n : Fin 289} (hv : v = BitVec.ofNat 32 n.val) : k0_cond4 i v = 1#1 ↔ (i 1).val < n.val := by
  subst hv; exact slt_key (i 1) n
theorem cond5_iff {v : BitVec 32} {n : Fin 289} (hv : v = BitVec.ofNat 32 n.val) : k0_cond5 i v = 1#1 ↔ ¬ (i 1).val < n.val := by
  subst hv; exact sge_key (i 1) n

/-- The word of a table of 64 that a load of one word reads. -/
theorem readG {F : FTy → Type} [FloatOps F] (T : S64.Idx → Elt F .i32) {o : Fin 1 → ℕ} {h} {g : Fin 64} (ho : o = ![g.val]) :
    View.readAt (Elt F) tbG.view (Rect.unit (s := S64) o S1.size h).toLoadRect T (Shape.Idx.first (numel1_S1.symm ▸ Nat.one_pos)) = T (ValueIdx.ix1 g) := by
  subst ho
  refine congrArg T (funext fun a => ?_)
  match a with
  | ⟨0, _⟩ => exact Fin.ext (by rfl)
theorem readJ {F : FTy → Type} [FloatOps F] (T : S64.Idx → Elt F .i32) {o : Fin 1 → ℕ} {h} {g : Fin 64} (ho : o = ![g.val]) :
    View.readAt (Elt F) tbJ.view (Rect.unit (s := S64) o S1.size h).toLoadRect T (Shape.Idx.first (numel1_S1.symm ▸ Nat.one_pos)) = T (ValueIdx.ix1 g) :=
  readG T ho
theorem off1_eq : k0_off1 i = ![(i 1).val] := by
  have key : ∀ b : Fin 288, (![(Scalar.indexCast (BitVec.ofNat 32 b.val)).toNat] : Fin 1 → ℕ) = ![b.val] := by decide +kernel
  exact key (i 1)
theorem rdR_eq {F : FTy → Type} [FloatOps F] (T : S288.Idx → Elt F .i32) : rdR i T = T (ValueIdx.ix1 (n := 288) (i 1)) := by
  refine congrArg T (funext fun a => ?_)
  match a with
  | ⟨0, _⟩ => exact Fin.ext ((congrArg (· + 0) (congrFun (off1_eq (i := i)) 0)))
theorem rdF_eq {F : FTy → Type} [FloatOps F] (T : S288.Idx → Elt F .i32) : rdF i T = T (ValueIdx.ix1 (n := 288) (i 1)) := rdR_eq T
theorem rdN_eq {F : FTy → Type} [FloatOps F] (T : S1.Idx → Elt F .i32) : rdN T = T (ValueIdx.ix1 0) :=
  congrArg T (funext fun a => match a with | ⟨0, _⟩ => Fin.ext (by rfl))
theorem rdU_eq {F : FTy → Type} [FloatOps F] (T : S1.Idx → Elt F .i32) : rdU T = T (ValueIdx.ix1 0) := rdN_eq T

end Cert.KernelIdeal.Hand

end
-- ==== Proof.Plan.lean ====
module

public import proofs.«01_k».proof.Proof.Offsets
public import Idealize.ShloMosaic.Lib.Pipeline.Kit

/-! The schedule the tables hold, and the weight stream it makes over the grid. -/

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-- What the schedule's tables say: of each block its expert, whether it starts a run and the runs before;
    of each run its expert and its half of the columns. -/
structure Plan (TE TF TR : S288.Idx → BitVec 32) (TU TN : S1.Idx → BitVec 32) (TG TJ : S64.Idx → BitVec 32) where
  nu : Fin 289
  nr : Fin 33
  be : Fin 288 → Fin 32
  fb : Fin 288 → Bool
  rb : Fin 288 → ℕ
  re : ℕ → Fin 32
  nu_pos : 1 ≤ nu.val
  hE : ∀ b : Fin 288, TE (ValueIdx.ix1 b) = BitVec.ofNat 32 (be b).val
  hU : TU (ValueIdx.ix1 0) = BitVec.ofNat 32 nu.val
  hF : ∀ b : Fin 288, TF (ValueIdx.ix1 b) = if fb b then 1#32 else 0#32
  hR : ∀ b : Fin 288, TR (ValueIdx.ix1 b) = BitVec.ofNat 32 (rb b)
  hN : TN (ValueIdx.ix1 0) = BitVec.ofNat 32 nr.val
  f0 : fb 0 = true
  r0 : rb 0 = 0
  rs : ∀ (b : ℕ) (h : b + 1 < 288), rb ⟨b + 1, h⟩ = rb ⟨b, Nat.lt_of_succ_lt h⟩ + if fb ⟨b + 1, h⟩ then 1 else 0
  rl : rb 287 + 1 = nr.val
  hre : ∀ b, re (rb b) = be b
  hG : ∀ g : Fin 64, g.val < 2 * nr.val → TG (ValueIdx.ix1 g) = BitVec.ofNat 32 (re (g.val % nr.val)).val
  hJ : ∀ g : Fin 64, g.val < 2 * nr.val → TJ (ValueIdx.ix1 g) = BitVec.ofNat 32 (g.val / nr.val)

namespace Plan

variable {TE TF TR : S288.Idx → BitVec 32} {TU TN : S1.Idx → BitVec 32} {TG TJ : S64.Idx → BitVec 32}
variable (L : Plan TE TF TR TU TN TG TJ)

theorem rb_le : ∀ (d b : ℕ) (h : b + d < 288), L.rb ⟨b, by omega⟩ ≤ L.rb ⟨b + d, h⟩
  | 0, _, _ => le_rfl
  | d + 1, b, h => by
    have h1 := rb_le d b (by omega)
    have h2 := L.rs (b + d) h
    exact h1.trans (by rw [show (⟨b + (d + 1), h⟩ : Fin 288) = ⟨b + d + 1, h⟩ from rfl, h2]; exact Nat.le_add_right _ _)

theorem rb_lt (b : Fin 288) : L.rb b < L.nr.val := by
  have h := L.rb_le (287 - b.val) b.val (by omega)
  have h2 := L.rl
  have e : (⟨b.val + (287 - b.val), by omega⟩ : Fin 288) = 287 := Fin.ext (by simp only; omega)
  rw [e] at h
  exact lt_of_le_of_lt h (by omega)

theorem nr_pos : 1 ≤ L.nr.val := by have := L.rl; omega

/-- A point's block and its column half. -/
abbrev bk (t : ℕ) : Fin 288 := ⟨t % 288, Nat.mod_lt _ (by decide)⟩
abbrev hf (t : ℕ) : Fin 2 := ⟨t / 288 % 2, Nat.mod_lt _ (by decide)⟩
/-- The run a point lies in, and the runs started before a point. -/
def run (t : ℕ) : ℕ := t / 288 * L.nr.val + L.rb (bk t)
def pos (n : ℕ) : ℕ := if n = 0 then 0 else L.run (n - 1) + 1
/-- Each run's expert and column half. -/
def ge (g : ℕ) : Fin 32 := L.re (g % L.nr.val)
def gj (g : ℕ) : Fin 2 := ⟨g / L.nr.val % 2, Nat.mod_lt _ (by decide)⟩

theorem pos_zero : L.pos 0 = 0 := rfl
theorem pos_succ (t : ℕ) : L.pos (t + 1) = L.run t + 1 := by simp [pos]

theorem run_lt {t : ℕ} (h : t < 576) : L.run t < 2 * L.nr.val := by
  have h1 := L.rb_lt (bk t)
  have h2 : t / 288 ≤ 1 := by omega
  unfold run
  calc _ ≤ 1 * L.nr.val + L.rb (bk t) := Nat.add_le_add_right (Nat.mul_le_mul_right _ h2) _
    _ < _ := by omega

theorem bk_succ {t : ℕ} (h : (t + 1) % 288 ≠ 0) : (t + 1) % 288 = t % 288 + 1 ∧ (t + 1) / 288 = t / 288 := by omega

theorem pos_first {t : ℕ} (h : L.fb (bk t) = true) : L.pos t = L.run t := by
  cases t with
  | zero => rw [pos_zero]; unfold run; rw [show bk 0 = 0 from rfl, L.r0]; simp
  | succ t =>
    rw [pos_succ]
    unfold run
    by_cases h0 : (t + 1) % 288 = 0
    · have e1 : bk t = 287 := Fin.ext (by simp only [bk]; omega)
      have e2 : bk (t + 1) = 0 := Fin.ext (by simp only [bk]; omega)
      have e3 : (t + 1) / 288 = t / 288 + 1 := by omega
      rw [e1, e2, L.r0, e3, Nat.add_assoc, L.rl, Nat.add_mul, Nat.one_mul, Nat.add_zero]
    · obtain ⟨ha, hb⟩ := bk_succ h0
      have hlt : t % 288 + 1 < 288 := by omega
      have e : bk (t + 1) = ⟨t % 288 + 1, hlt⟩ := Fin.ext ha
      rw [hb, e, L.rs, ← e, if_pos h, Nat.add_assoc]

theorem idle_ne {t : ℕ} (h : L.fb (bk t) = false) : t % 288 ≠ 0 := fun h0 => by
  have e : bk t = 0 := Fin.ext h0
  rw [e, L.f0] at h; cases h

theorem pos_idle {t : ℕ} (h : L.fb (bk (t + 1)) = false) : L.pos (t + 1) = L.run (t + 1) + 1 := by
  rw [pos_succ]
  obtain ⟨ha, hb⟩ := bk_succ (L.idle_ne h)
  have hlt : t % 288 + 1 < 288 := by omega
  have e : bk (t + 1) = ⟨t % 288 + 1, hlt⟩ := Fin.ext ha
  unfold run
  rw [hb, e, L.rs, ← e, if_neg (by rw [h]; decide)]
  rfl

/-- A point that starts no run works on the tile of the point before. -/
theorem be_idle {t : ℕ} (h : L.fb (bk (t + 1)) = false) : L.be (bk (t + 1)) = L.be (bk t) ∧ hf (t + 1) = hf t := by
  obtain ⟨ha, hb⟩ := bk_succ (L.idle_ne h)
  have hlt : t % 288 + 1 < 288 := by omega
  have e : bk (t + 1) = ⟨t % 288 + 1, hlt⟩ := Fin.ext ha
  refine ⟨?_, Fin.ext (by simp only [hf]; omega)⟩
  have h1 := L.rs (t % 288) hlt
  rw [← e, if_neg (by rw [h]; decide)] at h1
  rw [← L.hre, ← L.hre, h1]
  rfl

theorem ge_run (t : ℕ) : L.ge (L.run t) = L.be (bk t) := by
  unfold ge run
  rw [Nat.mul_add_mod_self_right, Nat.mod_eq_of_lt (L.rb_lt _), L.hre]
theorem gj_run {t : ℕ} (h : t < 576) : L.gj (L.run t) = hf t := by
  refine Fin.ext ?_
  unfold gj run
  simp only [hf]
  rw [Nat.mul_comm, Nat.mul_add_div (by have := L.nr_pos; omega), Nat.div_eq_of_lt (L.rb_lt _), Nat.add_zero]

theorem pos_last : L.pos 576 = 2 * L.nr.val := by
  rw [show (576 : ℕ) = 575 + 1 from rfl, pos_succ]
  unfold run
  have e : bk 575 = 287 := Fin.ext (by rfl)
  rw [e, Nat.add_assoc, L.rl]; omega

theorem hG' (k : Fin 64) (h : k.val < 2 * L.nr.val) : TG (ValueIdx.ix1 k) = BitVec.ofNat 32 (L.ge k.val).val := L.hG k h
theorem hJ' (k : Fin 64) (h : k.val < 2 * L.nr.val) : TJ (ValueIdx.ix1 k) = BitVec.ofNat 32 (L.gj k.val).val := by
  rw [L.hJ k h]
  have : k.val / L.nr.val < 2 := Nat.div_lt_of_lt_mul (by omega)
  exact congrArg (BitVec.ofNat 32) (Nat.mod_eq_of_lt this).symm

end Plan

/-- A point's coordinates. -/
theorem crd0 (t : Fin grid0.N) : (grid0.coords t 0).val = t.val / 288 % 2 := Pipeline.Grid.coords_val t 0 (by rfl) (by rfl)
theorem crd1 (t : Fin grid0.N) : (grid0.coords t 1).val = t.val % 288 := by
  rw [Pipeline.Grid.coords_val t 1 (S := 1) (B := 288) (by rfl) (by rfl), Nat.div_one]

end Cert.KernelIdeal.Hand

end
-- ==== Proof.First.lean ====
module

public import proofs.«01_k».proof.Proof.Offsets

/-! The body's first part at the first run: both tiles of run 0 are started, then awaited. -/

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (Pipeline.UD sig nD τ) ℕ

theorem numel_tile : 0 < S2048x1024.numel := by decide
/-- A tile of either array reads the same places. -/
theorem tileV_up (W : S32x2048x2048.Idx → Elt F .f32) (e : Fin 32) (j : Fin 2) :
    (tile hbU e j).view.read (Elt F) W = tileV W e j := rfl

theorem part1_start (c : Dev nD) (i : grid0.Coords) (arg9 : Memref sig .tc .vmem S256x1024 .i32) (harg9 : arg9.IsWhole)
    (arg12 : Memref sig .tc .vmem S1x1x1024 .f32) (harg12 : arg12.IsWhole) (arg13 : Memref sig .tc .vmem S1x1x1024 .f32) (harg13 : arg13.IsWhole)
    (arg14 : Memref sig .tc .vmem S256x1024 .bf16) (harg14 : arg14.IsWhole)
    (TG TJ : S64.Idx → Elt F .i32) (WG WU : S32x2048x2048.Idx → Elt F .f32)
    (v0 v3 v4 v5 v6 v8 : BitVec 32) (hw2 : k0_chk2 i v0 v3 v5 v8) (h1 : k0_cond1 v8 = 1#1)
    (h2 : k0_cond2 i v0 v3 = 1#1) (e : Fin 32) (j : Fin 2)
    (ho4 : k0_off4 i v0 v3 = ![(0 : Fin 2).val, 0]) (ho7 : k0_off7 i v0 v3 = ![(0 : Fin 2).val, 1])
    (he : View.readAt (Elt F) tbG.view (Rect.unit (s := S64) ![0] S1.size inb_S64_S1_0).toLoadRect TG (Shape.Idx.first (numel1_S1.symm ▸ Nat.one_pos)) = BitVec.ofNat 32 e.val)
    (hj : View.readAt (Elt F) tbJ.view (Rect.unit (s := S64) ![0] S1.size inb_S64_S1_0).toLoadRect TJ (Shape.Idx.first (numel1_S1.symm ▸ Nat.one_pos)) = BitVec.ofNat 32 j.val)
    (hc3 : ∀ hi, k0_chk3 v8 (View.readAt (Elt F) tbG.view (Rect.unit (s := S64) (k0_off3 i v0 v3) S1.size hi).toLoadRect TG (Shape.Idx.first (numel1_S1.symm ▸ Nat.one_pos)))
        (View.readAt (Elt F) tbJ.view (Rect.unit (s := S64) (k0_off3 i v0 v3) S1.size hi).toLoadRect TJ (Shape.Idx.first (numel1_S1.symm ▸ Nat.one_pos))))
    (K : BitVec 32 → sProp 𝕄) :
    iprop((tbG.view.loc (c : Thread nD τ) ↦{fullShare.right} TG) ∗ (tbJ.view.loc (c : Thread nD τ) ↦{fullShare.right} TJ)
        ∗ free c 0 ∗ srcs c WG WU ∗ (∃ W, owes (c : Thread nD τ) 0 W)
        ∗ (∀ v, iprop((tbG.view.loc (c : Thread nD τ) ↦{fullShare.right} TG) ∗ (tbJ.view.loc (c : Thread nD τ) ↦{fullShare.right} TJ)
            ∗ full c WG WU 0 e j ∗ srcs c WG WU ∗ (∃ W, owes (c : Thread nD τ) 0 W)) -∗ K v))
      ⊢ wp frame (wpE (defs₀ (F := F)) Variants.none (c : Thread nD τ) none) Set.univ
          (k0_part1 i tbE (Memref.isWhole_whole _) tbU (Memref.isWhole_whole _) tbF (Memref.isWhole_whole _) tbR (Memref.isWhole_whole _)
            tbN (Memref.isWhole_whole _) tbG (Memref.isWhole_whole _) tbJ (Memref.isWhole_whole _) arg9 harg9 hbG (Memref.isWhole_whole _)
            hbU (Memref.isWhole_whole _) arg12 harg12 arg13 harg13 arg14 harg14 scF (Memref.isWhole_whole _) scB (Memref.isWhole_whole _)
            cc0_scratch2 v0 v3 v4 v5 v6 v8 hw2 h1) K := by
  rw [k0_part1_eq_skeleton]; unfold k0_part1_skel free srcs
  iintro ⟨HG, HJ, ⟨Hp0, Hp1, Hv0, Hv1⟩, ⟨HWG, HWU⟩, HO, Hk⟩
  sl_exec (disch := first | exact chk1_of he hj | exact hc3 _)
  iapply (wp_start_at c numel_tile (src₀ := tile hbG e j) (dst₀ := pc 0 0) (sm₀ := cell 0 0) (tileAt_eq (off2_eq he hj)) rfl rfl WG) $$ [HWG Hp0 Hv0]
  · isplitl [HWG]; · iexact HWG
    isplitl [Hp0] <;> iassumption
  iintro Hf0
  sl_exec
  iapply (wp_start_at c numel_tile (src₀ := tile hbU e j) (dst₀ := pc 0 1) (sm₀ := cell 0 1) (tileAt_eq (off2_eq he hj)) rfl rfl WU) $$ [HWU Hp1 Hv1]
  · isplitl [HWU]; · iexact HWU
    isplitl [Hp1] <;> iassumption
  iintro Hf1
  sl_exec (disch := first | exact hc3 _)
  iapply (wp_await_at c (cellAt_eq (s := 0) (k := 0) ho4) rfl) $$ [Hf0 HO]
  · isplitl [Hf0]; · iexact Hf0
    iexact HO
  iintro ⟨⟨Hp0, HG0⟩, Hv0, HO⟩
  sl_exec
  iapply (wp_await_at c (cellAt_eq (s := 0) (k := 1) ho7) rfl) $$ [Hf1 HO]
  · isplitl [Hf1]; · iexact Hf1
    iexact HO
  iintro ⟨⟨Hp1, HU0⟩, Hv1, HO⟩
  sl_exec
  sl_step
  iapply Hk
  isplitl [HG]; · iexact HG
  isplitl [HJ]; · iexact HJ
  unfold full
  isplitl [Hp0 Hp1 Hv0 Hv1]
  · isplitl [Hp0]; · iexact Hp0
    isplitl [Hp1]; · iexact Hp1
    isplitl [Hv0] <;> iassumption
  isplitl [HG0 HU0]
  · isplitl [HG0] <;> iassumption
  iexact HO

end Cert.KernelIdeal.Hand

end
-- ==== Proof.Cast.lean ====
module

public import proofs.«01_k».proof.Proof.First
public import Idealize.ShloMosaic.Lib.VecWindow
public import Idealize.ShloMosaic.Lib.Ring

/-! What the body leaves in its bf16 buffer and in its output block. -/

@[expose] public section

noncomputable section

namespace Cert.KernelIdeal.Hand

open Cert.KernelIdeal Cert.KernelIdeal.Gen
open Idealize.ShloMosaic

variable {F : FTy → Type} [FloatOps F]

/-- A tile read through its place is the load of that place, its two unit axes dropped. -/
theorem read_pcAt (o : Fin 4 → ℕ) (h) (f : S2x2x2048x1024.Idx → Elt F .f32) :
    (pcAt o h).view.read (Elt F) f = shapeCast S2048x1024 (View.readAt (Elt F) scF.view (Rect.unit (s := S2x2x2048x1024) o S1x1x2048x1024.size h).toLoadRect f) shapeCasts_S1x1x2048x1024_S2048x1024 := rfl

/-- A tile cast to bf16, as one of the bf16 buffer's two. -/
def cast16 (P : S2048x1024.Idx → Elt F .f32) : FVec F S1x2048x1024 .bf16 :=
  shapeCast S1x2048x1024 (truncf .bf16 (P : FVec F S2048x1024 .f32) bitsLt_bf16_f32) shapeCasts_S2048x1024_S1x2048x1024

/-- The bf16 buffer with the tiles `P` and `Q` in it. -/
def castB (P Q : S2048x1024.Idx → Elt F .f32) : S2x2048x1024.Idx → Elt F .bf16 :=
  scB.view.read (Elt F) (scB.view.writes (Elt F) scB.view.junk
    [⟨Rect.unit (s := S2x2048x1024) ![1, 0, 0] S1x2048x1024.size inb_S2x2048x1024_S1x2048x1024_1_0_0, cast16 Q⟩,
     ⟨Rect.unit (s := S2x2048x1024) ![0, 0, 0] S1x2048x1024.size inb_S2x2048x1024_S1x2048x1024_0_0_0, cast16 P⟩])

/-- A half of a weight's tile, as the body loads it. -/
abbrev halfB (o : Fin 3 → ℕ) (h : ∀ a, o a + S1x1024x1024.size a ≤ S2x2048x1024.size a) (B : S2x2048x1024.Idx → Elt F .bf16) : Vec F S1x1024x1024 .bf16 :=
  View.readAt (Elt F) scB.view (Rect.unit (s := S2x2048x1024) o S1x1024x1024.size h).toLoadRect B

/-- A block in use: the gated product of the two projections. -/
def outOn (X : S256x1024.Idx → Elt F .i32) (Y1 Y2 : S1x1x1024.Idx → Elt F .f32) (B : S2x2048x1024.Idx → Elt F .bf16) : FVec F S256x1024 .bf16 :=
  k0_pay3 (k0_pay7 X (halfB ![0, 0, 0] inb_S2x2048x1024_S1x1024x1024_0_0_0 B) (halfB ![0, 1024, 0] inb_S2x2048x1024_S1x1024x1024_0_1024_0 B) Y1)
    (k0_pay8 X (halfB ![1, 0, 0] inb_S2x2048x1024_S1x1024x1024_1_0_0 B) (halfB ![1, 1024, 0] inb_S2x2048x1024_S1x1024x1024_1_1024_0 B) Y2)

theorem read_scB (g : S2x2048x1024.Idx → Elt F .bf16) : scB.view.read (Elt F) g = g := rfl

theorem castB_of (f : S2x2048x1024.Idx → Elt F .bf16) (P Q : S2048x1024.Idx → Elt F .f32) :
    scB.view.writes (Elt F) f
    [⟨Rect.unit (s := S2x2048x1024) ![1, 0, 0] S1x2048x1024.size inb_S2x2048x1024_S1x2048x1024_1_0_0, cast16 Q⟩,
     ⟨Rect.unit (s := S2x2048x1024) ![0, 0, 0] S1x2048x1024.size inb_S2x2048x1024_S1x2048x1024_0_0_0, cast16 P⟩] = castB P Q := by
  refine (read_scB _).symm.trans (View.read_writes_of_cover _ _ _ _ _ fun y => ?_)
  exact View.cover_of_tiledL (s := S2x2048x1024) _ (![1, 2048, 1024] : Fin 3 → ℕ) (by sl_kernel_rfl) y

end Cert.KernelIdeal.Hand

end
-- ==== Proof.Runs.lean ====
module

public import proofs.«01_k».proof.Proof.Cast

/-! The body at a point: where no run starts, and what a run start has first. -/

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-- The body on its operands. -/
abbrev bodyOn (i : grid0.Coords) (arg9 : Memref sig .tc .vmem S256x1024 .i32) (harg9 : arg9.IsWhole)
    (arg12 : Memref sig .tc .vmem S1x1x1024 .f32) (harg12 : arg12.IsWhole) (arg13 : Memref sig .tc .vmem S1x1x1024 .f32) (harg13 : arg13.IsWhole)
    (arg14 : Memref sig .tc .vmem S256x1024 .bf16) (harg14 : arg14.IsWhole) : Prog (TpuEff nD τ sig (Elt F) Λ₀ .tc) PUnit :=
  cc0_gmm1 i tbE (Memref.isWhole_whole _) tbU (Memref.isWhole_whole _) tbF (Memref.isWhole_whole _) tbR (Memref.isWhole_whole _)
    tbN (Memref.isWhole_whole _) tbG (Memref.isWhole_whole _) tbJ (Memref.isWhole_whole _) arg9 harg9 hbG (Memref.isWhole_whole _)
    hbU (Memref.isWhole_whole _) arg12 harg12 arg13 harg13 arg14 harg14 scF (Memref.isWhole_whole _) scB (Memref.isWhole_whole _) cc0_scratch2

/-- The stream of weight tiles before run `n` of `last`: at rest before the first run and after the last, else run `n`'s
    tiles under way. -/
def Stream (c : Dev nD) (WG WU : S32x2048x2048.Idx → Elt F .f32) (ge : ℕ → Fin 32) (gj : ℕ → Fin 2) (last n : ℕ) : sProp 𝕄 :=
  if n = 0 ∨ n = last then iprop(free c 0 ∗ free c 1 ∗ srcs c WG WU)
  else iprop(flying c WG WU ⟨n % 2, Nat.mod_lt _ (by decide)⟩ (ge n) (gj n) ∗ free c (other ⟨n % 2, Nat.mod_lt _ (by decide)⟩))

/-- A block's output: the gated product where the block is in use, zeros past the blocks in use. -/
def outV (i : grid0.Coords) (TU : S1.Idx → Elt F .i32) (X : S256x1024.Idx → Elt F .i32) (Y1 Y2 : S1x1x1024.Idx → Elt F .f32)
    (B : S2x2048x1024.Idx → Elt F .bf16) : S256x1024.Idx → Elt F .bf16 :=
  if k0_cond4 i (rdU TU) = 1#1 then outOn X Y1 Y2 B else k0_pay4

/-- The output block from the staging buffers' loads. -/
theorem outOn_of (arg9 : Memref sig .tc .vmem S256x1024 .i32) (arg12 arg13 : Memref sig .tc .vmem S1x1x1024 .f32)
    (X : S256x1024.Idx → Elt F .i32) (Y1 Y2 : S1x1x1024.Idx → Elt F .f32) (B : S2x2048x1024.Idx → Elt F .bf16) :
    k0_pay3 (k0_pay7 (View.readAt (Elt F) arg9.view (Rect.unit (s := S256x1024) ![0, 0] S256x1024.size inb_S256x1024_S256x1024_0_0).toLoadRect (arg9.view.rep X))
        (halfB ![0, 0, 0] inb_S2x2048x1024_S1x1024x1024_0_0_0 B) (halfB ![0, 1024, 0] inb_S2x2048x1024_S1x1024x1024_0_1024_0 B)
        (View.readAt (Elt F) arg12.view (Rect.unit (s := S1x1x1024) ![0, 0, 0] S1x1x1024.size inb_S1x1x1024_S1x1x1024_0_0_0).toLoadRect (arg12.view.rep Y1)))
      (k0_pay8 (View.readAt (Elt F) arg9.view (Rect.unit (s := S256x1024) ![0, 0] S256x1024.size inb_S256x1024_S256x1024_0_0).toLoadRect (arg9.view.rep X))
        (halfB ![1, 0, 0] inb_S2x2048x1024_S1x1024x1024_1_0_0 B) (halfB ![1, 1024, 0] inb_S2x2048x1024_S1x1024x1024_1_1024_0 B)
        (View.readAt (Elt F) arg13.view (Rect.unit (s := S1x1x1024) ![0, 0, 0] S1x1x1024.size inb_S1x1x1024_S1x1x1024_0_0_0).toLoadRect (arg13.view.rep Y2)))
      = outOn X Y1 Y2 B := by
  have e9 := View.readAt_rep_full (Val := Elt F) arg9.view X inb_S256x1024_S256x1024_0_0
  have e12 := View.readAt_rep_full (Val := Elt F) arg12.view Y1 inb_S1x1x1024_S1x1x1024_0_0_0
  have e13 := View.readAt_rep_full (Val := Elt F) arg13.view Y2 inb_S1x1x1024_S1x1x1024_0_0_0
  unfold outOn
  exact congrArg₂ k0_pay3 (congrArg₂ (fun a b => k0_pay7 a _ _ b) e9 e12) (congrArg₂ (fun a b => k0_pay8 a _ _ b) e9 e13)

/-- Run `g`'s tiles are had: started here at the first run, awaited at every run. -/
theorem part1_run (c : Dev nD) (i : grid0.Coords) (arg9 : Memref sig .tc .vmem S256x1024 .i32) (harg9 : arg9.IsWhole)
    (arg12 : Memref sig .tc .vmem S1x1x1024 .f32) (harg12 : arg12.IsWhole) (arg13 : Memref sig .tc .vmem S1x1x1024 .f32) (harg13 : arg13.IsWhole)
    (arg14 : Memref sig .tc .vmem S256x1024 .bf16) (harg14 : arg14.IsWhole)
    (TG TJ : S64.Idx → Elt F .i32) (WG WU : S32x2048x2048.Idx → Elt F .f32) (ge : ℕ → Fin 32) (gj : ℕ → Fin 2) (last : ℕ)
    (v0 v3 v4 v5 v6 v8 : BitVec 32) (hw2 : k0_chk2 i v0 v3 v5 v8) (h1 : k0_cond1 v8 = 1#1) (g : Fin 64) (hgl : g.val < last)
    (hv : runW i v0 v3 = BitVec.ofNat 32 g.val) (hG : TG (ValueIdx.ix1 g) = BitVec.ofNat 32 (ge g.val).val) (hJ : TJ (ValueIdx.ix1 g) = BitVec.ofNat 32 (gj g.val).val)
    (K : BitVec 32 → sProp 𝕄) :
    iprop((tbG.view.loc (c : Thread nD τ) ↦{fullShare.right} TG) ∗ (tbJ.view.loc (c : Thread nD τ) ↦{fullShare.right} TJ)
        ∗ Stream c WG WU ge gj last g.val ∗ (∃ W, owes (c : Thread nD τ) 0 W)
        ∗ (∀ v, iprop((tbG.view.loc (c : Thread nD τ) ↦{fullShare.right} TG) ∗ (tbJ.view.loc (c : Thread nD τ) ↦{fullShare.right} TJ)
            ∗ full c WG WU (slot g) (ge g.val) (gj g.val) ∗ free c (other (slot g)) ∗ srcs c WG WU ∗ (∃ W, owes (c : Thread nD τ) 0 W)) -∗ K v))
      ⊢ wp frame (wpE (defs₀ (F := F)) Variants.none (c : Thread nD τ) none) Set.univ
          (k0_part1 i tbE (Memref.isWhole_whole _) tbU (Memref.isWhole_whole _) tbF (Memref.isWhole_whole _) tbR (Memref.isWhole_whole _)
            tbN (Memref.isWhole_whole _) tbG (Memref.isWhole_whole _) tbJ (Memref.isWhole_whole _) arg9 harg9 hbG (Memref.isWhole_whole _)
            hbU (Memref.isWhole_whole _) arg12 harg12 arg13 harg13 arg14 harg14 scF (Memref.isWhole_whole _) scB (Memref.isWhole_whole _)
            cc0_scratch2 v0 v3 v4 v5 v6 v8 hw2 h1) K := by
  have hc3 : ∀ hi, k0_chk3 v8 (View.readAt (Elt F) tbG.view (Rect.unit (s := S64) (k0_off3 i v0 v3) S1.size hi).toLoadRect TG (Shape.Idx.first (numel1_S1.symm ▸ Nat.one_pos)))
        (View.readAt (Elt F) tbJ.view (Rect.unit (s := S64) (k0_off3 i v0 v3) S1.size hi).toLoadRect TJ (Shape.Idx.first (numel1_S1.symm ▸ Nat.one_pos))) :=
    fun hi => chk3_of ((readG TG (off3_eq hv)).trans hG) ((readJ TJ (off3_eq hv)).trans hJ)
  by_cases hg : g.val = 0
  · have hg' : g = 0 := Fin.ext hg
    subst hg'
    unfold Stream
    rw [if_pos (Or.inl hg)]
    iintro ⟨HG, HJ, ⟨Hf0, Hf1, Hs⟩, HO, Hk⟩
    iapply (part1_start c i arg9 harg9 arg12 harg12 arg13 harg13 arg14 harg14 TG TJ WG WU v0 v3 v4 v5 v6 v8 hw2 h1 ((cond2_iff hv).mpr rfl)
      (ge 0) (gj 0) (off4_eq hv) (off7_eq hv) ((readG TG (g := 0) rfl).trans hG) ((readJ TJ (g := 0) rfl).trans hJ) hc3 K)
    isplitl [HG]; · iexact HG
    isplitl [HJ]; · iexact HJ
    isplitl [Hf0]; · iexact Hf0
    isplitl [Hs]; · iexact Hs
    isplitl [HO]; · iexact HO
    iintro %v ⟨HG, HJ, Hf, Hs, HO⟩
    iapply Hk
    isplitl [HG]; · iexact HG
    isplitl [HJ]; · iexact HJ
    isplitl [Hf]; · iexact Hf
    isplitl [Hf1]; · iexact Hf1
    isplitl [Hs] <;> iassumption
  · unfold Stream
    rw [if_neg (by omega)]
    iintro ⟨HG, HJ, ⟨Hf0, Hf1⟩, HO, Hk⟩
    iapply (part1_wait c i arg9 harg9 arg12 harg12 arg13 harg13 arg14 harg14 TG TJ WG WU v0 v3 v4 v5 v6 v8 hw2 h1 (fun h => hg ((cond2_iff hv).mp h)) (slot g)
      (ge g.val) (gj g.val) (off4_eq hv) (off7_eq hv) hc3 K)
    isplitl [HG]; · iexact HG
    isplitl [HJ]; · iexact HJ
    isplitl [Hf0]; · iexact Hf0
    isplitl [HO]; · iexact HO
    iintro %v ⟨HG, HJ, Hf, Hs, HO⟩
    iapply Hk
    isplitl [HG]; · iexact HG
    isplitl [HJ]; · iexact HJ
    isplitl [Hf]; · iexact Hf
    isplitl [Hf1]; · iexact Hf1
    isplitl [Hs] <;> iassumption

theorem run_idle (c : Dev nD) (i : grid0.Coords) (arg9 : Memref sig .tc .vmem S256x1024 .i32) (harg9 : arg9.IsWhole)
    (arg12 : Memref sig .tc .vmem S1x1x1024 .f32) (harg12 : arg12.IsWhole) (arg13 : Memref sig .tc .vmem S1x1x1024 .f32) (harg13 : arg13.IsWhole)
    (arg14 : Memref sig .tc .vmem S256x1024 .bf16) (harg14 : arg14.IsWhole)
    (TU TN : S1.Idx → Elt F .i32) (TF TR : S288.Idx → Elt F .i32)
    (X : S256x1024.Idx → Elt F .i32) (Y1 Y2 : S1x1x1024.Idx → Elt F .f32) (B : S2x2048x1024.Idx → Elt F .bf16)
    (h1 : ¬ k0_cond1 (rdF i TF) = 1#1) (hw2 : k0_chk2 i (rdN TN) (rdR i TR) (rdN TN) (rdF i TF))
    (h45 : k0_cond5 i (rdU TU) = 1#1 ↔ ¬ k0_cond4 i (rdU TU) = 1#1)
    (K : PUnit → sProp 𝕄) :
    iprop((arg9.view.loc (c : Thread nD τ) ↦[arg9.view.set]{fullShare} arg9.view.rep X)
        ∗ (arg12.view.loc (c : Thread nD τ) ↦[arg12.view.set]{fullShare} arg12.view.rep Y1)
        ∗ (arg13.view.loc (c : Thread nD τ) ↦[arg13.view.set]{fullShare} arg13.view.rep Y2)
        ∗ (∃ d, owns (c : Thread nD τ) arg14 fullShare d)
        ∗ (tbU.view.loc (c : Thread nD τ) ↦{fullShare.right} TU) ∗ (tbF.view.loc (c : Thread nD τ) ↦{fullShare.right} TF)
        ∗ (tbR.view.loc (c : Thread nD τ) ↦{fullShare.right} TR) ∗ (tbN.view.loc (c : Thread nD τ) ↦{fullShare.right} TN)
        ∗ (scB.view.loc (c : Thread nD τ) ↦{fullShare} B)
        ∗ (iprop((arg9.view.loc (c : Thread nD τ) ↦[arg9.view.set]{fullShare} arg9.view.rep X)
            ∗ (arg12.view.loc (c : Thread nD τ) ↦[arg12.view.set]{fullShare} arg12.view.rep Y1)
            ∗ (arg13.view.loc (c : Thread nD τ) ↦[arg13.view.set]{fullShare} arg13.view.rep Y2)
            ∗ owns (c : Thread nD τ) arg14 fullShare (outV i TU X Y1 Y2 B)
            ∗ (tbU.view.loc (c : Thread nD τ) ↦{fullShare.right} TU) ∗ (tbF.view.loc (c : Thread nD τ) ↦{fullShare.right} TF)
            ∗ (tbR.view.loc (c : Thread nD τ) ↦{fullShare.right} TR) ∗ (tbN.view.loc (c : Thread nD τ) ↦{fullShare.right} TN)
            ∗ (scB.view.loc (c : Thread nD τ) ↦{fullShare} B)) -∗ K ⟨⟩))
      ⊢ wp frame (wpE (defs₀ (F := F)) Variants.none (c : Thread nD τ) none) Set.univ (bodyOn i arg9 harg9 arg12 harg12 arg13 harg13 arg14 harg14) K := by
  unfold owns bodyOn
  rw [cc0_gmm1_eq_skeleton]; unfold cc0_gmm1_skel
  iintro ⟨H9, H12, H13, ⟨%d, %fd, -, H14⟩, HU, HF, HR, HN, HB, Hk⟩
  by_cases h4 : k0_cond4 i (rdU TU) = 1#1
  · have h5 : ¬ k0_cond5 i (rdU TU) = 1#1 := fun h => (h45.mp h) h4
    sl_exec (disch := first | exact h1 | exact hw2 | exact h4 | exact h5)
    sl_step
    iapply Hk
    isplitl [H9]; · iexact H9
    isplitl [H12]; · iexact H12
    isplitl [H13]; · iexact H13
    isplitl [H14]
    · iexists _; isplitr; swap
      · iexact H14
      · ipureintro
        rw [outV, if_pos h4, View.read_writes_full]
        exact outOn_of arg9 arg12 arg13 X Y1 Y2 B
    isplitl [HU]; · iexact HU
    isplitl [HF]; · iexact HF
    isplitl [HR]; · iexact HR
    isplitl [HN] <;> iassumption
  · have h5 : k0_cond5 i (rdU TU) = 1#1 := h45.mpr h4
    sl_exec (disch := first | exact h1 | exact hw2 | exact h4 | exact h5)
    sl_step
    iapply Hk
    isplitl [H9]; · iexact H9
    isplitl [H12]; · iexact H12
    isplitl [H13]; · iexact H13
    isplitl [H14]
    · iexists _; isplitr; swap
      · iexact H14
      · ipureintro
        rw [outV, if_neg h4, View.read_writes_full]
    isplitl [HU]; · iexact HU
    isplitl [HF]; · iexact HF
    isplitl [HR]; · iexact HR
    isplitl [HN] <;> iassumption

end Cert.KernelIdeal.Hand

end
-- ==== Proof.Start.lean ====
module

public import proofs.«01_k».proof.Proof.Runs

/-! The body at a point where a run starts. -/

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-- A tile held is loaded whole, its two unit axes there. -/
theorem wp_load_pc (c : Dev nD) {s k : Fin 2} {o : Fin 4 → ℕ} {h} (ho : o = ![s.val, k.val, 0, 0]) {X : S2048x1024.Idx → Elt F .f32}
    {hl : scF.view.LoadsAt (Rect.unit (s := S2x2x2048x1024) o S1x1x2048x1024.size h).toLoadRect}
    {α : Type} {Q : α → sProp 𝕄} {kk : Vec F S1x1x2048x1024 .f32 → Prog (TpuEff nD τ sig (Elt F) Λ₀ .tc) α} :
    owns (c : Thread nD τ) (pc s k) fullShare X
      ⊢ iprop((∀ v, ⌜shapeCast S2048x1024 v shapeCasts_S1x1x2048x1024_S2048x1024 = X⌝ -∗ owns (c : Thread nD τ) (pc s k) fullShare X
              -∗ wp frame (wpE (defs₀ (F := F)) Variants.none (c : Thread nD τ) none) Set.univ (kk v) Q)
          -∗ wp frame (wpE (defs₀ (F := F)) Variants.none (c : Thread nD τ) none) Set.univ
              (.op (.load scF (Rect.unit (s := S2x2x2048x1024) o S1x1x2048x1024.size h).toLoadRect hl) kk) Q) := by
  subst ho
  have hS : scF.view.setOn (Rect.unit (s := S2x2x2048x1024) ![s.val, k.val, 0, 0] S1x1x2048x1024.size h).toLoadRect.set ⊆ (pc s k).view.set := by
    refine Memref.setOn_subset_of_access_subset (c := (c : Thread nD τ)) ?_
    exact fun x hx => (Finset.ext_iff.mp (Memref.set_view_squeeze (scF.slice (Rect.unit (s := S2x2x2048x1024) ![s.val, k.val, 0, 0] S1x1x2048x1024.size h) (fun _ => rfl)) squeezes_S1x1x2048x1024_S2048x1024) x).mpr hx
  unfold owns
  iintro ⟨%f, %hf, H⟩ Hk
  iapply (wp_load Variants.none (c : Thread nD τ) none Set.univ (m := scF) hS) $$ H
  iintro H
  iapply Hk $$ [] [H]
  · ipureintro; exact (read_pcAt _ _ f).symm.trans hf
  · iexists f
    isplitr; · ipureintro; exact hf
    iexact H

/-- A half filled is a half free for the next tiles. -/
theorem free_of_full (c : Dev nD) (WG WU : S32x2048x2048.Idx → Elt F .f32) (s : Fin 2) (e : Fin 32) (j : Fin 2) :
    full c WG WU s e j ⊢ free c s := by
  unfold full free
  iintro ⟨Hp0, Hp1, Hv0, Hv1⟩
  isplitl [Hp0]; · iexists _; iexact Hp0
  isplitl [Hp1]; · iexists _; iexact Hp1
  isplitl [Hv0] <;> iassumption

theorem stream_next (c : Dev nD) (WG WU : S32x2048x2048.Idx → Elt F .f32) (ge : ℕ → Fin 32) (gj : ℕ → Fin 2) {last : ℕ} {g : Fin 64} (h : g.val + 1 < last)
    (e : Fin 32) (j : Fin 2) :
    iprop(flying c WG WU (other (slot g)) (ge (g.val + 1)) (gj (g.val + 1)) ∗ full c WG WU (slot g) e j) ⊢ Stream c WG WU ge gj last (g.val + 1) := by
  unfold Stream
  rw [if_neg (by omega)]
  have h1 : (⟨(g.val + 1) % 2, Nat.mod_lt _ (by decide)⟩ : Fin 2) = other (slot g) := Fin.ext (by simp only; omega)
  have h2 : other (other (slot g)) = slot g := Fin.ext (by simp only; omega)
  rw [h1, h2]
  iintro ⟨Hfl, Hf⟩
  isplitl [Hfl]; · iexact Hfl
  iapply free_of_full; iexact Hf

theorem stream_last (c : Dev nD) (WG WU : S32x2048x2048.Idx → Elt F .f32) (ge : ℕ → Fin 32) (gj : ℕ → Fin 2) {last : ℕ} {g : Fin 64} (h : g.val + 1 = last)
    (e : Fin 32) (j : Fin 2) :
    iprop((free c (other (slot g)) ∗ srcs c WG WU) ∗ full c WG WU (slot g) e j) ⊢ Stream c WG WU ge gj last (g.val + 1) := by
  unfold Stream
  rw [if_pos (Or.inr h)]
  iintro ⟨⟨Hfr, Hs⟩, Hf⟩
  ihave Hf := (free_of_full c WG WU (slot g) e j) $$ Hf
  rcases Nat.mod_two_eq_zero_or_one g.val with h | h
  · rw [show slot g = 0 from Fin.ext h]
    isplitl [Hf]; · iexact Hf
    isplitl [Hfr]; · iexact Hfr
    iexact Hs
  · rw [show slot g = 1 from Fin.ext h]
    isplitl [Hfr]; · iexact Hfr
    isplitl [Hf] <;> iassumption

theorem full_of (c : Dev nD) (WG WU : S32x2048x2048.Idx → Elt F .f32) (s : Fin 2) (e : Fin 32) (j : Fin 2) :
    iprop(owns (c : Thread nD τ) (pc s 0) fullShare (tileV WG e j) ∗ owns (c : Thread nD τ) (pc s 1) fullShare (tileV WU e j)
      ∗ semVal ((c : Thread nD τ), SemLoc.dma (cell s 0)) 0 ∗ semVal ((c : Thread nD τ), SemLoc.dma (cell s 1)) 0) ⊢ full c WG WU s e j := by
  unfold full; exact .rfl
theorem flying_of (c : Dev nD) (WG WU : S32x2048x2048.Idx → Elt F .f32) (s : Fin 2) (e : Fin 32) (j : Fin 2) :
    iprop(Fly c (cell s 0) (pc s 0).view.dmaCredit iprop(owns (c : Thread nD τ) (pc s 0) fullShare ((tile hbG e j).view.read (Elt F) WG) ∗ (hbG.view.loc (c : Thread nD τ) ↦{fullShare} WG))
    ∗ Fly c (cell s 1) (pc s 1).view.dmaCredit iprop(owns (c : Thread nD τ) (pc s 1) fullShare ((tile hbU e j).view.read (Elt F) WU) ∗ (hbU.view.loc (c : Thread nD τ) ↦{fullShare} WU)))
      ⊢ flying c WG WU s e j := by
  unfold flying; exact .rfl

theorem run_first (c : Dev nD) (i : grid0.Coords) (arg9 : Memref sig .tc .vmem S256x1024 .i32) (harg9 : arg9.IsWhole)
    (arg12 : Memref sig .tc .vmem S1x1x1024 .f32) (harg12 : arg12.IsWhole) (arg13 : Memref sig .tc .vmem S1x1x1024 .f32) (harg13 : arg13.IsWhole)
    (arg14 : Memref sig .tc .vmem S256x1024 .bf16) (harg14 : arg14.IsWhole)
    (TU TN : S1.Idx → Elt F .i32) (TF TR : S288.Idx → Elt F .i32) (TG TJ : S64.Idx → Elt F .i32)
    (WG WU : S32x2048x2048.Idx → Elt F .f32) (ge : ℕ → Fin 32) (gj : ℕ → Fin 2) (n : Fin 33) (hn : 1 ≤ n.val)
    (X : S256x1024.Idx → Elt F .i32) (Y1 Y2 : S1x1x1024.Idx → Elt F .f32) (B : S2x2048x1024.Idx → Elt F .bf16)
    (hf : rdF i TF = 1#32) (g : Fin 64) (hgl : g.val < 2 * n.val) (hN : rdN TN = BitVec.ofNat 32 n.val)
    (hv : runW i (rdN TN) (rdR i TR) = BitVec.ofNat 32 g.val)
    (hG : ∀ k : Fin 64, k.val < 2 * n.val → TG (ValueIdx.ix1 k) = BitVec.ofNat 32 (ge k.val).val)
    (hJ : ∀ k : Fin 64, k.val < 2 * n.val → TJ (ValueIdx.ix1 k) = BitVec.ofNat 32 (gj k.val).val)
    (h45 : k0_cond5 i (rdU TU) = 1#1 ↔ ¬ k0_cond4 i (rdU TU) = 1#1)
    (K : PUnit → sProp 𝕄) :
    iprop((arg9.view.loc (c : Thread nD τ) ↦[arg9.view.set]{fullShare} arg9.view.rep X)
        ∗ (arg12.view.loc (c : Thread nD τ) ↦[arg12.view.set]{fullShare} arg12.view.rep Y1)
        ∗ (arg13.view.loc (c : Thread nD τ) ↦[arg13.view.set]{fullShare} arg13.view.rep Y2)
        ∗ (∃ d, owns (c : Thread nD τ) arg14 fullShare d)
        ∗ (tbU.view.loc (c : Thread nD τ) ↦{fullShare.right} TU) ∗ (tbF.view.loc (c : Thread nD τ) ↦{fullShare.right} TF)
        ∗ (tbR.view.loc (c : Thread nD τ) ↦{fullShare.right} TR) ∗ (tbN.view.loc (c : Thread nD τ) ↦{fullShare.right} TN)
        ∗ (tbG.view.loc (c : Thread nD τ) ↦{fullShare.right} TG) ∗ (tbJ.view.loc (c : Thread nD τ) ↦{fullShare.right} TJ)
        ∗ (scB.view.loc (c : Thread nD τ) ↦{fullShare} B) ∗ Stream c WG WU ge gj (2 * n.val) g.val ∗ (∃ W, owes (c : Thread nD τ) 0 W)
        ∗ (iprop((arg9.view.loc (c : Thread nD τ) ↦[arg9.view.set]{fullShare} arg9.view.rep X)
            ∗ (arg12.view.loc (c : Thread nD τ) ↦[arg12.view.set]{fullShare} arg12.view.rep Y1)
            ∗ (arg13.view.loc (c : Thread nD τ) ↦[arg13.view.set]{fullShare} arg13.view.rep Y2)
            ∗ owns (c : Thread nD τ) arg14 fullShare (outV i TU X Y1 Y2 (castB (tileV WG (ge g.val) (gj g.val)) (tileV WU (ge g.val) (gj g.val))))
            ∗ (tbU.view.loc (c : Thread nD τ) ↦{fullShare.right} TU) ∗ (tbF.view.loc (c : Thread nD τ) ↦{fullShare.right} TF)
            ∗ (tbR.view.loc (c : Thread nD τ) ↦{fullShare.right} TR) ∗ (tbN.view.loc (c : Thread nD τ) ↦{fullShare.right} TN)
            ∗ (tbG.view.loc (c : Thread nD τ) ↦{fullShare.right} TG) ∗ (tbJ.view.loc (c : Thread nD τ) ↦{fullShare.right} TJ)
            ∗ (scB.view.loc (c : Thread nD τ) ↦{fullShare} castB (tileV WG (ge g.val) (gj g.val)) (tileV WU (ge g.val) (gj g.val)))
            ∗ Stream c WG WU ge gj (2 * n.val) (g.val + 1) ∗ (∃ W, owes (c : Thread nD τ) 0 W)) -∗ K ⟨⟩))
      ⊢ wp frame (wpE (defs₀ (F := F)) Variants.none (c : Thread nD τ) none) Set.univ (bodyOn i arg9 harg9 arg12 harg12 arg13 harg13 arg14 harg14) K := by
  generalize hBn : castB (tileV WG (ge g.val) (gj g.val)) (tileV WU (ge g.val) (gj g.val)) = Bn
  unfold bodyOn
  rw [cc0_gmm1_eq_skeleton]; unfold cc0_gmm1_skel
  iintro ⟨H9, H12, H13, H14, HU, HF, HR, HN, HG, HJ, HB, HS, HO, Hk⟩
  sl_exec
  have hv' : runW i (run_first.sl.r TN) (run_first.sl.r_1 i TR) = BitVec.ofNat 32 g.val := hv
  have hN' : run_first.sl.r TN = BitVec.ofNat 32 n.val := hN
  have hw2 : k0_chk2 i (run_first.sl.r TN) (run_first.sl.r_1 i TR) (run_first.sl.r TN) (run_first.sl.r_2 i TF) := chk2_of hN' fun _ => hv'
  iapply (wp_assume _ _ _ _ hw2)
  have h1 : k0_cond1 (run_first.sl.r_2 i TF) = 1#1 := cond1_iff.mpr hf
  simp -proj only [dif_pos h1, wp_bind]
  iapply (part1_run c i arg9 harg9 arg12 harg12 arg13 harg13 arg14 harg14 TG TJ WG WU ge gj (2 * n.val) _ _ _ _ _ _ hw2 h1 g hgl hv' (hG g hgl) (hJ g hgl) _)
  isplitl [HG]; · iexact HG
  isplitl [HJ]; · iexact HJ
  isplitl [HS]; · iexact HS
  isplitl [HO]; · iexact HO
  iintro %v ⟨HG, HJ, Hf, Hfree, Hs, HO⟩
  have hc4 : g.val + 1 < 2 * n.val → ∀ hi, k0_chk4 i (run_first.sl.r TN) (run_first.sl.r_1 i TR) (run_first.sl.r TN) (run_first.sl.r_2 i TF)
      (View.readAt (Elt F) tbG.view (Rect.unit (s := S64) (k0_off9 i (run_first.sl.r TN) (run_first.sl.r_1 i TR)) S1.size hi).toLoadRect TG (Shape.Idx.first (numel1_S1.symm ▸ Nat.one_pos)))
      (View.readAt (Elt F) tbJ.view (Rect.unit (s := S64) (k0_off9 i (run_first.sl.r TN) (run_first.sl.r_1 i TR)) S1.size hi).toLoadRect TJ (Shape.Idx.first (numel1_S1.symm ▸ Nat.one_pos))) :=
    fun hlt hi => chk4_of ((readG TG (g := ⟨g.val + 1, by omega⟩) (off9_eq hv')).trans (hG _ hlt)) ((readJ TJ (g := ⟨g.val + 1, by omega⟩) (off9_eq hv')).trans (hJ _ hlt))
  have hco : ∀ hi hi', k0_off12
      (View.readAt (Elt F) tbG.view (Rect.unit (s := S64) (k0_off9 i (run_first.sl.r TN) (run_first.sl.r_1 i TR)) S1.size hi).toLoadRect TG (Shape.Idx.first (numel1_S1.symm ▸ Nat.one_pos)))
      (View.readAt (Elt F) tbJ.view (Rect.unit (s := S64) (k0_off9 i (run_first.sl.r TN) (run_first.sl.r_1 i TR)) S1.size hi').toLoadRect TJ (Shape.Idx.first (numel1_S1.symm ▸ Nat.one_pos)))
      = ![(ge (g.val + 1)).val, 0, (gj (g.val + 1)).val * 1024] ∨ ¬ g.val + 1 < 2 * n.val := fun hi hi' => by
    by_cases hlt : g.val + 1 < 2 * n.val
    · exact Or.inl (off12_eq ((readG TG (g := ⟨g.val + 1, by omega⟩) (off9_eq hv')).trans (hG _ hlt)) ((readJ TJ (g := ⟨g.val + 1, by omega⟩) (off9_eq hv')).trans (hJ _ hlt)))
    · exact Or.inr hlt
  by_cases h3 : k0_cond3 i (run_first.sl.r TN) (run_first.sl.r_1 i TR) (run_first.sl.r TN) = 1#1
  · have hlt : g.val + 1 < 2 * n.val := (cond3_iff hv' hN').mp h3
    rw [dif_pos h3]
    sl_exec (disch := first | exact hc4 hlt _)
    unfold free srcs
    icases Hfree with ⟨Hp0, Hp1, Hv0, Hv1⟩
    icases Hs with ⟨HWG, HWU⟩
    iapply (wp_start_at c numel_tile (src₀ := tile hbG (ge (g.val + 1)) (gj (g.val + 1))) (dst₀ := pc (other (slot g)) 0) (sm₀ := cell (other (slot g)) 0)
      (tileAt_eq ((hco _ _).resolve_right (fun h => h hlt))) (pcAt_eq (off11_eq hv')) (cellAt_eq (k := 0) (off10_eq hv')) WG) $$ [HWG Hp0 Hv0]
    · isplitl [HWG]; · iexact HWG
      isplitl [Hp0] <;> iassumption
    iintro Hf0
    iapply (wp_start_at c numel_tile (src₀ := tile hbU (ge (g.val + 1)) (gj (g.val + 1))) (dst₀ := pc (other (slot g)) 1) (sm₀ := cell (other (slot g)) 1)
      (tileAt_eq ((hco _ _).resolve_right (fun h => h hlt))) (pcAt_eq (off14_eq hv')) (cellAt_eq (k := 1) (off13_eq hv')) WU) $$ [HWU Hp1 Hv1]
    · isplitl [HWU]; · iexact HWU
      isplitl [Hp1] <;> iassumption
    iintro Hf1
    ihave Hfl := (flying_of c WG WU (other (slot g)) (ge (g.val + 1)) (gj (g.val + 1))) $$ [Hf0 Hf1]
    · isplitl [Hf0] <;> iassumption
    simp -proj only [Prog.bind]
    unfold full
    icases Hf with ⟨Hp0, Hp1, Hv0, Hv1⟩
    iapply (wp_load_pc c (s := slot g) (k := 0) (off15_eq hv')) $$ Hp0
    iintro %w0 %hw0 Hp0
    simp -proj only [Prog.bind]
    sl_exec
    iapply (wp_load_pc c (s := slot g) (k := 1) (off16_eq hv')) $$ Hp1
    iintro %w1 %hw1 Hp1
    sl_exec
    have hB : scB.view.writes (Elt F) B
        [⟨Rect.unit (s := S2x2048x1024) ![1, 0, 0] S1x2048x1024.size inb_S2x2048x1024_S1x2048x1024_1_0_0, k0_pay2 w1⟩,
         ⟨Rect.unit (s := S2x2048x1024) ![0, 0, 0] S1x2048x1024.size inb_S2x2048x1024_S1x2048x1024_0_0_0, k0_pay1 w0⟩]
        = Bn := by
      rw [← hBn, ← hw0, ← hw1]; exact castB_of B _ _
    ihave Hf := (full_of c WG WU (slot g) (ge g.val) (gj g.val)) $$ [Hp0 Hp1 Hv0 Hv1]
    · isplitl [Hp0]; · iexact Hp0
      isplitl [Hp1]; · iexact Hp1
      isplitl [Hv0] <;> iassumption
    have hBe : (scB.view.loc (c : Thread nD τ) ↦{fullShare} scB.view.writes (Elt F) B
        [⟨Rect.unit (s := S2x2048x1024) ![1, 0, 0] S1x2048x1024.size inb_S2x2048x1024_S1x2048x1024_1_0_0, k0_pay2 w1⟩,
         ⟨Rect.unit (s := S2x2048x1024) ![0, 0, 0] S1x2048x1024.size inb_S2x2048x1024_S1x2048x1024_0_0_0, k0_pay1 w0⟩] : sProp 𝕄)
        ⊢ (scB.view.loc (c : Thread nD τ) ↦{fullShare} Bn) := by rw [hB]
    ihave HB := hBe $$ HB
    unfold owns
    icases H14 with ⟨%d, %fd, -, H14⟩
    by_cases h4 : k0_cond4 i (rdU TU) = 1#1
    · have h5 : ¬ k0_cond5 i (rdU TU) = 1#1 := fun h => (h45.mp h) h4
      sl_exec (disch := first | exact h4 | exact h5)
      sl_step
      iapply Hk
      isplitl [H9]; · iexact H9
      isplitl [H12]; · iexact H12
      isplitl [H13]; · iexact H13
      isplitl [H14]
      · iexists _; isplitr; swap
        · iexact H14
        · ipureintro
          rw [outV, if_pos h4, View.read_writes_full]
          exact outOn_of arg9 arg12 arg13 X Y1 Y2 Bn
      isplitl [HU]; · iexact HU
      isplitl [HF]; · iexact HF
      isplitl [HR]; · iexact HR
      isplitl [HN]; · iexact HN
      isplitl [HG]; · iexact HG
      isplitl [HJ]; · iexact HJ
      isplitl [HB]; · iexact HB
      isplitr [HO]
      · iapply (stream_next c WG WU ge gj hlt (ge g.val) (gj g.val)); isplitl [Hfl] <;> iassumption
      iexact HO
    · have h5 : k0_cond5 i (rdU TU) = 1#1 := h45.mpr h4
      sl_exec (disch := first | exact h4 | exact h5)
      sl_step
      iapply Hk
      isplitl [H9]; · iexact H9
      isplitl [H12]; · iexact H12
      isplitl [H13]; · iexact H13
      isplitl [H14]
      · iexists _; isplitr; swap
        · iexact H14
        · ipureintro
          rw [outV, if_neg h4, View.read_writes_full]
      isplitl [HU]; · iexact HU
      isplitl [HF]; · iexact HF
      isplitl [HR]; · iexact HR
      isplitl [HN]; · iexact HN
      isplitl [HG]; · iexact HG
      isplitl [HJ]; · iexact HJ
      isplitl [HB]; · iexact HB
      isplitr [HO]
      · iapply (stream_next c WG WU ge gj hlt (ge g.val) (gj g.val)); isplitl [Hfl] <;> iassumption
      iexact HO
  · have hlt : g.val + 1 = 2 * n.val := by
      have := mt (cond3_iff hv' hN').mpr h3
      omega
    rw [dif_neg h3]
    unfold full
    icases Hf with ⟨Hp0, Hp1, Hv0, Hv1⟩
    iapply (wp_load_pc c (s := slot g) (k := 0) (off15_eq hv')) $$ Hp0
    iintro %w0 %hw0 Hp0
    simp -proj only [Prog.bind]
    sl_exec
    iapply (wp_load_pc c (s := slot g) (k := 1) (off16_eq hv')) $$ Hp1
    iintro %w1 %hw1 Hp1
    sl_exec
    have hB : scB.view.writes (Elt F) B
        [⟨Rect.unit (s := S2x2048x1024) ![1, 0, 0] S1x2048x1024.size inb_S2x2048x1024_S1x2048x1024_1_0_0, k0_pay2 w1⟩,
         ⟨Rect.unit (s := S2x2048x1024) ![0, 0, 0] S1x2048x1024.size inb_S2x2048x1024_S1x2048x1024_0_0_0, k0_pay1 w0⟩]
        = Bn := by
      rw [← hBn, ← hw0, ← hw1]; exact castB_of B _ _
    ihave Hf := (full_of c WG WU (slot g) (ge g.val) (gj g.val)) $$ [Hp0 Hp1 Hv0 Hv1]
    · isplitl [Hp0]; · iexact Hp0
      isplitl [Hp1]; · iexact Hp1
      isplitl [Hv0] <;> iassumption
    have hBe : (scB.view.loc (c : Thread nD τ) ↦{fullShare} scB.view.writes (Elt F) B
        [⟨Rect.unit (s := S2x2048x1024) ![1, 0, 0] S1x2048x1024.size inb_S2x2048x1024_S1x2048x1024_1_0_0, k0_pay2 w1⟩,
         ⟨Rect.unit (s := S2x2048x1024) ![0, 0, 0] S1x2048x1024.size inb_S2x2048x1024_S1x2048x1024_0_0_0, k0_pay1 w0⟩] : sProp 𝕄)
        ⊢ (scB.view.loc (c : Thread nD τ) ↦{fullShare} Bn) := by rw [hB]
    ihave HB := hBe $$ HB
    unfold owns
    icases H14 with ⟨%d, %fd, -, H14⟩
    by_cases h4 : k0_cond4 i (rdU TU) = 1#1
    · have h5 : ¬ k0_cond5 i (rdU TU) = 1#1 := fun h => (h45.mp h) h4
      sl_exec (disch := first | exact h4 | exact h5)
      sl_step
      iapply Hk
      isplitl [H9]; · iexact H9
      isplitl [H12]; · iexact H12
      isplitl [H13]; · iexact H13
      isplitl [H14]
      · iexists _; isplitr; swap
        · iexact H14
        · ipureintro
          rw [outV, if_pos h4, View.read_writes_full]
          exact outOn_of arg9 arg12 arg13 X Y1 Y2 Bn
      isplitl [HU]; · iexact HU
      isplitl [HF]; · iexact HF
      isplitl [HR]; · iexact HR
      isplitl [HN]; · iexact HN
      isplitl [HG]; · iexact HG
      isplitl [HJ]; · iexact HJ
      isplitl [HB]; · iexact HB
      isplitr [HO]
      · iapply (stream_last c WG WU ge gj hlt (ge g.val) (gj g.val))
        isplitr [Hf]
        · isplitl [Hfree] <;> iassumption
        · iexact Hf
      iexact HO
    · have h5 : k0_cond5 i (rdU TU) = 1#1 := h45.mpr h4
      sl_exec (disch := first | exact h4 | exact h5)
      sl_step
      iapply Hk
      isplitl [H9]; · iexact H9
      isplitl [H12]; · iexact H12
      isplitl [H13]; · iexact H13
      isplitl [H14]
      · iexists _; isplitr; swap
        · iexact H14
        · ipureintro
          rw [outV, if_neg h4, View.read_writes_full]
      isplitl [HU]; · iexact HU
      isplitl [HF]; · iexact HF
      isplitl [HR]; · iexact HR
      isplitl [HN]; · iexact HN
      isplitl [HG]; · iexact HG
      isplitl [HJ]; · iexact HJ
      isplitl [HB]; · iexact HB
      isplitr [HO]
      · iapply (stream_last c WG WU ge gj hlt (ge g.val) (gj g.val))
        isplitr [Hf]
        · isplitl [Hfree] <;> iassumption
        · iexact Hf
      iexact HO

end Cert.KernelIdeal.Hand

end
-- ==== Proof.Cfg.lean ====
module

public import proofs.«01_k».proof.Proof.Plan
public import proofs.«01_k».proof.Proof.Start
public import proofs.«01_k».proof.Proof.Gen.KernelIdeal.Launch
public import Idealize.ShloMosaic.Lib.WordArith

/-! The pipeline at the tables of a schedule. -/

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-- The seven prefetched tables' contents. -/
structure Tabs where
  E : S288.Idx → BitVec 32
  U : S1.Idx → BitVec 32
  F : S288.Idx → BitVec 32
  R : S288.Idx → BitVec 32
  N : S1.Idx → BitVec 32
  G : S64.Idx → BitVec 32
  J : S64.Idx → BitVec 32

/-- The schedule the tables hold. -/
abbrev Tabs.Sched (T : Tabs) := Plan T.E T.F T.R T.U T.N T.G T.J

set_option backward.proofsInPublic true in
/-- The tables as the call's prefetched contents. -/
def pfT (T : Tabs) : pre0.Contents (Elt F) := fun
  | ⟨0, _⟩ => T.E
  | ⟨1, _⟩ => T.U
  | ⟨2, _⟩ => T.F
  | ⟨3, _⟩ => T.R
  | ⟨4, _⟩ => T.N
  | ⟨5, _⟩ => T.G
  | ⟨6, _⟩ => T.J
  | ⟨_ + 7, h⟩ => absurd h (Nat.not_lt.2 (Nat.le_add_left _ _))

/-- The word the index maps read of the second table. -/
theorem at_U (T : Tabs) : (pfT (F := F) T).at 1 (Rect.unit (s := S1) ![0] S1.size inb_S1_S1_0) numel1_S1 = T.U (ValueIdx.ix1 0) :=
  congrArg T.U (funext fun a => by match a with | ⟨0, _⟩ => rfl)

theorem at_E (T : Tabs) (i : grid0.Coords) :
    (pfT (F := F) T).at 0 (Rect.unit (s := S288) ![(Scalar.indexCast (BitVec.ofNat 32 (i 1).val) : BitVec 32).toNat] S1.size (k0_off1_inb i)) numel1_S1
      = T.E (ValueIdx.ix1 (n := 288) (i 1)) := by
  have hi : (i 1).val < 288 := (i 1).isLt
  refine congrArg T.E (funext fun a => ?_)
  match a with
  | ⟨0, _⟩ =>
    refine Fin.ext ?_
    show (Scalar.indexCast (BitVec.ofNat 32 (i 1).val) : BitVec 32).toNat + 1 * 0 = (i 1).val
    simp only [Scalar.indexCast, BitVec.toNat_ofNat]
    omega

variable {T : Tabs}

/-- The rows' block index: the block, held at the last one in use past the blocks in use. -/
theorem tr0 (L : T.Sched) (i : grid0.Coords) : cc0_transform_0 inb_S1_S1_0 numel1_S1 (pfT (F := F) T) i = ![min (i 1).val (L.nu.val - 1), 0] := by
  have hi : (i 1).val < 288 := (i 1).isLt
  have hn := L.nu.isLt
  have hp := L.nu_pos
  have e : Scalar.subi (BitVec.ofNat 32 L.nu.val) 1#32 = BitVec.ofNat 32 (L.nu.val - 1) := by
    apply BitVec.eq_of_toNat_eq
    show (BitVec.ofNat 32 L.nu.val - 1#32).toNat = _
    rw [BitVec.toNat_sub]
    simp only [BitVec.toNat_ofNat]
    omega
  have e2 : (Scalar.minsi (BitVec.ofNat 32 (i 1).val) (BitVec.ofNat 32 (L.nu.val - 1))).toNat = min (i 1).val (L.nu.val - 1) := by
    refine (WordArith.toNat_minsi_of_lt _ _ (by simp only [BitVec.toNat_ofNat]; omega) (by simp only [BitVec.toNat_ofNat]; omega)).trans ?_
    simp only [BitVec.toNat_ofNat]
    rw [Nat.mod_eq_of_lt (by omega), Nat.mod_eq_of_lt (by omega)]
  refine (congrArg (fun w : BitVec 32 => ![(Scalar.minsi (BitVec.ofNat 32 (i 1).val) (Scalar.subi w 1#32)).toNat, (0#32).toNat])
    ((at_U (F := F) T).trans L.hU)).trans ?_
  simp only [e, e2]
  rfl

/-- The biases' block index: the block's expert and the column half. -/
theorem tr3 (L : T.Sched) (i : grid0.Coords) : cc0_transform_3 k0_off1_inb numel1_S1 (pfT (F := F) T) i = ![(L.be (i 1)).val, 0, (i 0).val] := by
  have hi : (i 0).val < 2 := (i 0).isLt
  have hb := (L.be (i 1)).isLt
  refine (congrArg (fun w : BitVec 32 => ![w.toNat, (0#32).toNat, (BitVec.ofNat 32 (i 0).val).toNat])
    ((at_E (F := F) T i).trans (L.hE (i 1)))).trans ?_
  simp only [BitVec.toNat_ofNat]
  rw [Nat.mod_eq_of_lt (show (L.be (i 1)).val < 2 ^ 32 by omega), Nat.mod_eq_of_lt (show (i 0).val < 2 ^ 32 by omega)]

theorem tr4 (L : T.Sched) (i : grid0.Coords) : cc0_transform_4 k0_off1_inb numel1_S1 (pfT (F := F) T) i = ![(L.be (i 1)).val, 0, (i 0).val] := tr3 L i

/-- Every block lies inside its array. -/
theorem ok_pfT (L : T.Sched) : ok0 (pfT (F := F) T) := by
  have h0 : ∀ i : grid0.Coords, ∀ a, (cc0_transform_0 inb_S1_S1_0 numel1_S1 (pfT (F := F) T) i a + 1) * S256x1024.size a ≤ S73728x1024.size a := by
    intro i a
    have hi : (i 1).val < 288 := (i 1).isLt
    rw [tr0 L i]
    match a with
    | ⟨0, _⟩ => show (min (i 1).val (L.nu.val - 1) + 1) * 256 ≤ 73728; omega
    | ⟨1, _⟩ => show (0 + 1) * 1024 ≤ 1024; omega
  have h3 : ∀ i : grid0.Coords, ∀ a, (cc0_transform_3 k0_off1_inb numel1_S1 (pfT (F := F) T) i a + 1) * S1x1x1024.size a ≤ S32x1x2048.size a := by
    intro i a
    have hi : (i 0).val < 2 := (i 0).isLt
    have hb := (L.be (i 1)).isLt
    rw [tr3 L i]
    match a with
    | ⟨0, _⟩ => show ((L.be (i 1)).val + 1) * 1 ≤ 32; omega
    | ⟨1, _⟩ => show (0 + 1) * 1 ≤ 1; omega
    | ⟨2, _⟩ => show ((i 0).val + 1) * 1024 ≤ 2048; omega
  exact ⟨fun i => ⟨h0 i, Or.inl rfl⟩, fun i => ⟨h3 i, Or.inl rfl⟩, fun i => ⟨h3 i, Or.inl rfl⟩⟩

/-- The tables as admissible contents, and the pipeline at them. -/
def admT (L : T.Sched) : (pcfg0 (F := F)).Adm := ⟨pfT T, ok_pfT L⟩
abbrev cfgT (L : T.Sched) : Pipeline.Cfg sig Λ₀ := cfg0 (admT (F := F) L)
abbrev pcsT (L : T.Sched) : Fin 1 → Pipeline.Cfg sig Λ₀ := Pipeline.pin (pcfgs (F := F)) fun _ => admT L

/-- A point's coordinates, and each window's staging buffer there. -/
abbrev crd (L : T.Sched) (t : Fin (cfgT (F := F) L).N) : grid0.Coords := (cfgT (F := F) L).grid.coords t
abbrev ms0 (L : T.Sched) (t : Fin (cfgT (F := F) L).N) : Memref sig .tc .vmem S256x1024 .i32 := spec0_0.stage ((cfgT (F := F) L).slots t (0 : Fin 4))
abbrev hs0 (L : T.Sched) (t : Fin (cfgT (F := F) L).N) : (ms0 L t).IsWhole := hstage0_0 (((cfgT (F := F) L).slots t (0 : Fin 4)).cast nbuf0_0)
abbrev ms1 (L : T.Sched) (t : Fin (cfgT (F := F) L).N) : Memref sig .tc .vmem S1x1x1024 .f32 := spec0_1.stage ((cfgT (F := F) L).slots t (1 : Fin 4))
abbrev hs1 (L : T.Sched) (t : Fin (cfgT (F := F) L).N) : (ms1 L t).IsWhole := hstage0_1 (((cfgT (F := F) L).slots t (1 : Fin 4)).cast nbuf0_1)
abbrev ms2 (L : T.Sched) (t : Fin (cfgT (F := F) L).N) : Memref sig .tc .vmem S1x1x1024 .f32 := spec0_2.stage ((cfgT (F := F) L).slots t (2 : Fin 4))
abbrev hs2 (L : T.Sched) (t : Fin (cfgT (F := F) L).N) : (ms2 L t).IsWhole := hstage0_2 (((cfgT (F := F) L).slots t (2 : Fin 4)).cast nbuf0_2)
abbrev ms3 (L : T.Sched) (t : Fin (cfgT (F := F) L).N) : Memref sig .tc .vmem S256x1024 .bf16 := spec0_3.stage ((cfgT (F := F) L).slots t (3 : Fin 4))
abbrev hs3 (L : T.Sched) (t : Fin (cfgT (F := F) L).N) : (ms3 L t).IsWhole := hstage0_3 (((cfgT (F := F) L).slots t (3 : Fin 4)).cast nbuf0_3)

/-- Which of the output's two stores a point makes: exactly one. -/
theorem cond45 (L : T.Sched) (i : grid0.Coords) : k0_cond5 i (rdU (F := F) T.U) = 1#1 ↔ ¬ k0_cond4 i (rdU (F := F) T.U) = 1#1 := by
  have e : rdU (F := F) T.U = BitVec.ofNat 32 L.nu.val := (rdU_eq (F := F) T.U).trans L.hU
  rw [cond4_iff e, cond5_iff e]

theorem idle3 (L : T.Sched) (i : grid0.Coords) : (cfgT (F := F) L).idle (3 : Fin 4) i = false := by
  have h := cond45 (F := F) L i
  rw [rdU_eq] at h
  have e : (pfT (F := F) T).atD 1 ![0] = T.U (ValueIdx.ix1 0) :=
    (dif_pos (fun a => by match a with | ⟨0, _⟩ => exact Nat.le_refl 1)).trans (congrArg T.U (funext fun a => by match a with | ⟨0, _⟩ => rfl))
  have key : ∀ a b : BitVec 1, (a = 1#1 ∨ b = 1#1) → (!(a == 1#1) && !(b == 1#1)) = false := by
    rintro a b (rfl | rfl) <;> simp
  refine key _ _ ?_
  by_cases h4 : k0_cond4 i (T.U (ValueIdx.ix1 0)) = 1#1
  · exact Or.inl ((congrArg (k0_cond4 i) e).trans h4)
  · exact Or.inr ((congrArg (k0_cond5 i) e).trans (h.mpr h4))
end Cert.KernelIdeal.Hand

end
-- ==== Proof.Dats.lean ====
module

public import proofs.«01_k».proof.Proof.Cfg

/-! The proof data of the pipeline. -/

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable {T : Tabs} (L : T.Sched) (V : (c : Dev nD) → (b : Ref sig .tc) → Buf (Elt F) ((c : Thread nD τ).loc b))

/-- Window `w`'s block at point `t`, read off its array. -/
def iblk (c : Dev nD) (w : Fin (cfgT (F := F) L).W) (t : Fin (cfgT (F := F) L).N) :
    (((cfgT (F := F) L).win w).xblock (crd L t)).Idx → Elt F ((cfgT (F := F) L).win w).elt :=
  (((cfgT (F := F) L).win w).blk t).view.read (Elt F) (V c (Pipeline.arrRef spec0 w))

/-- The cast weight tiles of a point: its expert's, at its half of the columns. -/
def wtile (c : Dev nD) (t : ℕ) : S2x2048x1024.Idx → Elt F .bf16 :=
  castB (tileV (V c main_arg2) (L.be (Plan.bk t)) (Plan.hf t)) (tileV (V c main_arg4) (L.be (Plan.bk t)) (Plan.hf t))

/-- A point's output block. -/
def outT (c : Dev nD) (t : Fin (cfgT (F := F) L).N) : S256x1024.Idx → Elt F .bf16 :=
  outV (crd L t) T.U (iblk L V c 0 t) (iblk L V c 1 t) (iblk L V c 2 t) (wtile L V c t.val)

/-- Between points: the tables, the stream of weight tiles, and the cast tiles of the point before. -/
def Phi (c : Dev nD) (n : ℕ) : sProp 𝕄 :=
  iprop((tbE.view.loc (c : Thread nD τ) ↦{fullShare.right} T.E) ∗ (tbU.view.loc (c : Thread nD τ) ↦{fullShare.right} T.U)
    ∗ (tbF.view.loc (c : Thread nD τ) ↦{fullShare.right} T.F) ∗ (tbR.view.loc (c : Thread nD τ) ↦{fullShare.right} T.R)
    ∗ (tbN.view.loc (c : Thread nD τ) ↦{fullShare.right} T.N) ∗ (tbG.view.loc (c : Thread nD τ) ↦{fullShare.right} T.G)
    ∗ (tbJ.view.loc (c : Thread nD τ) ↦{fullShare.right} T.J)
    ∗ (∃ r, prngReg c r) ∗ Stream c (V c main_arg2) (V c main_arg4) L.ge L.gj (2 * L.nr.val) (L.pos n)
    ∗ (∃ B : S2x2048x1024.Idx → Elt F .bf16, ⌜∀ t, n = t + 1 → B = wtile L V c t⌝ ∗ (scB.view.loc (c : Thread nD τ) ↦{fullShare} B)))

/-- The pipeline's proof data. -/
def datT (_ : Fin 1) (c : Dev nD) : Dat τ (Elt F) Unit ℕ (Pipeline.UD sig nD τ) ℕ (cfgT (F := F) L) c where
  A w := V c (Pipeline.arrRef spec0 w)
  after w t := match w with
    | ⟨0, _⟩ => iblk L V c 0 t
    | ⟨1, _⟩ => iblk L V c 1 t
    | ⟨2, _⟩ => iblk L V c 2 t
    | ⟨3, _⟩ => outT L V c t
  Φ t := Phi L V c t.val
  q _ := fullShare
  owed _ := 0

theorem datA (c : Dev nD) (w : Fin (cfgT (F := F) L).W) : (datT L V 0 c).A w = V c (Pipeline.arrRef spec0 w) := by dsimp only [datT]
theorem aft0 (c : Dev nD) (t : Fin (cfgT (F := F) L).N) : (datT L V 0 c).after 0 t = iblk L V c 0 t := rfl
theorem aft1 (c : Dev nD) (t : Fin (cfgT (F := F) L).N) : (datT L V 0 c).after 1 t = iblk L V c 1 t := rfl
theorem aft2 (c : Dev nD) (t : Fin (cfgT (F := F) L).N) : (datT L V 0 c).after 2 t = iblk L V c 2 t := rfl
theorem aft3 (c : Dev nD) (t : Fin (cfgT (F := F) L).N) : (datT L V 0 c).after 3 t = outT L V c t := rfl
theorem bef0 (c : Dev nD) (t : Fin (cfgT (F := F) L).N) d : (datT L V 0 c).before 0 t d = iblk L V c 0 t :=
  ((datT L V 0 c).before_in_eq_fetched 0 rfl (fun _ => rfl) (fun _ _ _ => rfl) (fun t => by rw [aft0]; unfold Dat.blockOf iblk; rfl) t d).trans
    (by unfold Dat.fetched Dat.blockOf iblk; rfl)
theorem bef1 (c : Dev nD) (t : Fin (cfgT (F := F) L).N) d : (datT L V 0 c).before 1 t d = iblk L V c 1 t :=
  ((datT L V 0 c).before_in_eq_fetched 1 rfl (fun _ => rfl) (fun _ _ _ => rfl) (fun t => by rw [aft1]; unfold Dat.blockOf iblk; rfl) t d).trans
    (by unfold Dat.fetched Dat.blockOf iblk; rfl)
theorem bef2 (c : Dev nD) (t : Fin (cfgT (F := F) L).N) d : (datT L V 0 c).before 2 t d = iblk L V c 2 t :=
  ((datT L V 0 c).before_in_eq_fetched 2 rfl (fun _ => rfl) (fun _ _ _ => rfl) (fun t => by rw [aft2]; unfold Dat.blockOf iblk; rfl) t d).trans
    (by unfold Dat.fetched Dat.blockOf iblk; rfl)

theorem defs_row (t : Fin (cfgT (F := F) L).N) :
    defs₀ (F := F) .tc (cfgT (F := F) L).body ((cfgT (F := F) L).bodyArgs t ((cfgT (F := F) L).slots t))
      = bodyOn (crd L t) (ms0 L t) (hs0 L t) (ms1 L t) (hs1 L t) (ms2 L t) (hs2 L t) (ms3 L t) (hs3 L t) := by
  unfold defs₀; rw [Defs.onTc_tc]
end Cert.KernelIdeal.Hand

end
-- ==== Proof.Sound.lean ====
module

public import proofs.«01_k».proof.Proof.Dats
public import Idealize.ShloMosaic.Lib.Pipeline.TableIdle

/-! The body at every grid point. -/

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable {T : Tabs} (L : T.Sched) (V : (c : Dev nD) → (b : Ref sig .tc) → Buf (Elt F) ((c : Thread nD τ).loc b))

theorem t_lt (t : Fin (cfgT (F := F) L).N) : t.val < 576 := lt_of_lt_of_eq t.isLt N_0

theorem crd_b (t : Fin (cfgT (F := F) L).N) : (crd L t 1 : Fin 288) = Plan.bk t.val := Fin.ext (crd1 t)

/-- The words the body reads at a point. -/
theorem rdN_at : rdN (F := F) T.N = BitVec.ofNat 32 L.nr.val := (rdN_eq (F := F) T.N).trans L.hN

section Point

variable {i : grid0.Coords} {n : ℕ} (hn : n < 576) (h0 : (i 0).val = n / 288) (h1 : (i 1 : Fin 288) = Plan.bk n)

include h1 in
theorem rdR_at : rdR (F := F) i T.R = BitVec.ofNat 32 (L.rb (Plan.bk n)) :=
  (rdR_eq (F := F) (i := i) T.R).trans ((congrArg (fun b : Fin 288 => T.R (ValueIdx.ix1 b)) h1).trans (L.hR _))
include h1 in
theorem rdF_at : rdF (F := F) i T.F = if L.fb (Plan.bk n) then 1#32 else 0#32 :=
  (rdF_eq (F := F) (i := i) T.F).trans ((congrArg (fun b : Fin 288 => T.F (ValueIdx.ix1 b)) h1).trans (L.hF _))

include hn h0 h1 in
theorem runW_at : runW i (rdN (F := F) T.N) (rdR (F := F) i T.R) = BitVec.ofNat 32 (L.run n) := by
  rw [rdN_at L, rdR_at L h1]
  unfold runW Plan.run
  rw [h0]
  apply BitVec.eq_of_toNat_eq
  have hn := L.nr.isLt
  have h1 : n / 288 ≤ 1 := by omega
  rcases (by omega : n / 288 = 0 ∨ n / 288 = 1) with e | e <;> rw [e] <;>
    simp [Scalar.addi, Scalar.muli, IntOp.addi, IntOp.muli]

variable (c : Dev nD) (m0 : Memref sig .tc .vmem S256x1024 .i32) (w0 : m0.IsWhole) (m1 : Memref sig .tc .vmem S1x1x1024 .f32) (w1 : m1.IsWhole)
  (m2 : Memref sig .tc .vmem S1x1x1024 .f32) (w2 : m2.IsWhole) (m3 : Memref sig .tc .vmem S256x1024 .bf16) (w3 : m3.IsWhole)
  (X : S256x1024.Idx → Elt F .i32) (Y1 Y2 : S1x1x1024.Idx → Elt F .f32)

/-- A point's statement. -/
def PointAt (i : grid0.Coords) (n : ℕ) : Prop :=
  iprop(Phi L V c n ∗ (∃ W, owes (c : Thread nD τ) 0 W) ∗ owns (c : Thread nD τ) m0 fullShare X ∗ owns (c : Thread nD τ) m1 fullShare Y1
      ∗ owns (c : Thread nD τ) m2 fullShare Y2 ∗ (∃ d, owns (c : Thread nD τ) m3 fullShare d))
    ⊢ wp frame (wpE (defs₀ (F := F)) Variants.none (c : Thread nD τ) none) Set.univ (bodyOn i m0 w0 m1 w1 m2 w2 m3 w3) fun _ =>
      iprop(Phi L V c (n + 1) ∗ (∃ W, owes (c : Thread nD τ) 0 W) ∗ owns (c : Thread nD τ) m0 fullShare X ∗ owns (c : Thread nD τ) m1 fullShare Y1
        ∗ owns (c : Thread nD τ) m2 fullShare Y2 ∗ owns (c : Thread nD τ) m3 fullShare (outV i T.U X Y1 Y2 (wtile L V c n)))

include hn h0 h1 in
theorem point_first (hfb : L.fb (Plan.bk n) = true) : PointAt L V c m0 w0 m1 w1 m2 w2 m3 w3 X Y1 Y2 i n := by
  unfold PointAt Phi
  have hge := L.ge_run n
  have hgj := L.gj_run hn
  have hp := L.pos_first hfb
  have hr := L.run_lt hn
  have hnr := L.nr.isLt
  have hlt : L.run n < 64 := by omega
  iintro ⟨⟨HE, HU, HF, HR, HN, HG, HJ, Hg, HS, ⟨%B, -, HB⟩⟩, ⟨%W, HW⟩, H0, H1, H2, ⟨%d3, H3⟩⟩
  iapply (run_first c i m0 w0 m1 w1 m2 w2 m3 w3
    T.U T.N T.F T.R T.G T.J (V c main_arg2) (V c main_arg4) L.ge L.gj L.nr L.nr_pos X Y1 Y2 B
    ((rdF_at L h1).trans (by rw [hfb]; rfl)) ⟨L.run n, hlt⟩ hr (rdN_at L) (runW_at L hn h0 h1) L.hG' L.hJ' (cond45 L _) _)
  isplitl [H0]; · iapply (rep_of_owns (c : Thread nD τ)); iexact H0
  isplitl [H1]; · iapply (rep_of_owns (c : Thread nD τ)); iexact H1
  isplitl [H2]; · iapply (rep_of_owns (c : Thread nD τ)); iexact H2
  isplitl [H3]; · iexists _; iexact H3
  isplitl [HU]; · iexact HU
  isplitl [HF]; · iexact HF
  isplitl [HR]; · iexact HR
  isplitl [HN]; · iexact HN
  isplitl [HG]; · iexact HG
  isplitl [HJ]; · iexact HJ
  isplitl [HB]; · iexact HB
  isplitl [HS]; · rewrite [hp]; iexact HS
  isplitl [HW]; · iexists W; iexact HW
  iintro ⟨H0, H1, H2, H3, HU, HF, HR, HN, HG, HJ, HB, HS, ⟨%W', HW⟩⟩
  isplitl [HE HU HF HR HN HG HJ Hg HS HB]
  · isplitl [HE]; · iexact HE
    isplitl [HU]; · iexact HU
    isplitl [HF]; · iexact HF
    isplitl [HR]; · iexact HR
    isplitl [HN]; · iexact HN
    isplitl [HG]; · iexact HG
    isplitl [HJ]; · iexact HJ
    isplitl [Hg]; · iexact Hg
    isplitl [HS]; · rewrite [L.pos_succ]; iexact HS
    iexists _; isplitr; swap
    · iexact HB
    · ipureintro
      intro t' e
      obtain rfl : t' = n := by omega
      unfold wtile
      rw [← hge, ← hgj]
  isplitl [HW]
  · iexists W'; iexact HW
  isplitl [H0]; · iapply (owns_of_rep (c : Thread nD τ)); iexact H0
  isplitl [H1]; · iapply (owns_of_rep (c : Thread nD τ)); iexact H1
  isplitl [H2]; · iapply (owns_of_rep (c : Thread nD τ)); iexact H2
  unfold wtile
  rewrite [← hge, ← hgj]
  iexact H3

include h1 in
theorem point_idle (hfb' : L.fb (Plan.bk n) = false) : PointAt L V c m0 w0 m1 w1 m2 w2 m3 w3 X Y1 Y2 i n := by
  unfold PointAt Phi
  obtain ⟨t', e⟩ : ∃ t', n = t' + 1 := ⟨n - 1, by have := L.idle_ne hfb'; omega⟩
  have hbe := L.be_idle (t := t') (e ▸ hfb')
  have hpos := L.pos_idle (t := t') (e ▸ hfb')
  have hw : wtile L V c t' = wtile L V c n := by unfold wtile; rw [e, hbe.1, hbe.2]
  have hp2 : L.pos (n + 1) = L.pos n := by rw [L.pos_succ, e, hpos]
  have hF0 : rdF (F := F) i T.F = 0#32 := (rdF_at L h1).trans (by rw [hfb']; rfl)
  have hc1 : ¬ k0_cond1 (rdF (F := F) i T.F) = 1#1 := fun h => by
    have h2 := cond1_iff.mp h
    rw [hF0] at h2; exact absurd h2 (by decide)
  iintro ⟨⟨HE, HU, HF, HR, HN, HG, HJ, Hg, HS, ⟨%B, %hB, HB⟩⟩, ⟨%W, HW⟩, H0, H1, H2, ⟨%d3, H3⟩⟩
  obtain rfl : B = wtile L V c n := (hB t' e).trans hw
  iapply (run_idle c i m0 w0 m1 w1 m2 w2 m3 w3
    T.U T.N T.F T.R X Y1 Y2 (wtile L V c n) hc1 (chk2_of (g := 0) (rdN_at L) fun h => absurd h hc1) (cond45 L _) _)
  isplitl [H0]; · iapply (rep_of_owns (c : Thread nD τ)); iexact H0
  isplitl [H1]; · iapply (rep_of_owns (c : Thread nD τ)); iexact H1
  isplitl [H2]; · iapply (rep_of_owns (c : Thread nD τ)); iexact H2
  isplitl [H3]; · iexists _; iexact H3
  isplitl [HU]; · iexact HU
  isplitl [HF]; · iexact HF
  isplitl [HR]; · iexact HR
  isplitl [HN]; · iexact HN
  isplitl [HB]; · iexact HB
  iintro ⟨H0, H1, H2, H3, HU, HF, HR, HN, HB⟩
  isplitl [HE HU HF HR HN HG HJ Hg HS HB]
  · isplitl [HE]; · iexact HE
    isplitl [HU]; · iexact HU
    isplitl [HF]; · iexact HF
    isplitl [HR]; · iexact HR
    isplitl [HN]; · iexact HN
    isplitl [HG]; · iexact HG
    isplitl [HJ]; · iexact HJ
    isplitl [Hg]; · iexact Hg
    isplitl [HS]; · rewrite [hp2]; iexact HS
    iexists _; isplitr; swap
    · iexact HB
    · ipureintro
      intro t'' e'
      obtain rfl : t'' = n := by omega
      rfl
  isplitl [HW]
  · iexists W; iexact HW
  isplitl [H0]; · iapply (owns_of_rep (c : Thread nD τ)); iexact H0
  isplitl [H1]; · iapply (owns_of_rep (c : Thread nD τ)); iexact H1
  isplitl [H2]; · iapply (owns_of_rep (c : Thread nD τ)); iexact H2
  iexact H3

end Point

end Cert.KernelIdeal.Hand

end
-- ==== Proof.Oblig.lean ====
module

public import proofs.«01_k».proof.Proof.Sound

/-! The body obligation of the pipeline. -/

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable {T : Tabs} (L : T.Sched) (V : (c : Dev nD) → (b : Ref sig .tc) → Buf (Elt F) ((c : Thread nD τ).loc b))

/-- Before and after the body at a point. -/
def bodyPre (c : Dev nD) (t : Fin (cfgT (F := F) L).N) : sProp 𝕄 :=
  iprop((datT L V 0 c).Φ t.castSucc ∗ (datT L V 0 c).owesAt () t.castSucc
    ∗ (∃ d, owns (c : Thread nD τ) (ms0 L t) fullShare ((datT L V 0 c).before 0 t d))
    ∗ (∃ d, owns (c : Thread nD τ) (ms1 L t) fullShare ((datT L V 0 c).before 1 t d))
    ∗ (∃ d, owns (c : Thread nD τ) (ms2 L t) fullShare ((datT L V 0 c).before 2 t d))
    ∗ (∃ d, owns (c : Thread nD τ) (ms3 L t) fullShare ((datT L V 0 c).before 3 t d)))
def bodyPost (c : Dev nD) (t : Fin (cfgT (F := F) L).N) : sProp 𝕄 :=
  iprop((datT L V 0 c).Φ t.succ ∗ (datT L V 0 c).owesAt () t.succ
    ∗ owns (c : Thread nD τ) (ms0 L t) fullShare ((datT L V 0 c).after 0 t)
    ∗ owns (c : Thread nD τ) (ms1 L t) fullShare ((datT L V 0 c).after 1 t)
    ∗ owns (c : Thread nD τ) (ms2 L t) fullShare ((datT L V 0 c).after 2 t)
    ∗ owns (c : Thread nD τ) (ms3 L t) fullShare ((datT L V 0 c).after 3 t))

theorem point (c : Dev nD) (t : Fin (cfgT (F := F) L).N) :
    PointAt L V c (ms0 L t) (hs0 L t) (ms1 L t) (hs1 L t) (ms2 L t) (hs2 L t) (ms3 L t) (hs3 L t) (iblk L V c 0 t) (iblk L V c 1 t) (iblk L V c 2 t)
      (crd L t) t.val := by
  have ht := t_lt L t
  have h0 : (crd L t 0).val = t.val / 288 := (crd0 t).trans (Nat.mod_eq_of_lt (by omega))
  by_cases hfb : L.fb (Plan.bk t.val) = true
  · exact point_first L V ht h0 (crd_b L t) c _ _ _ _ _ _ _ _ _ _ _ hfb
  · exact point_idle L V (crd_b L t) c _ _ _ _ _ _ _ _ _ _ _ (by simpa using hfb)

theorem owesAt_out (c : Dev nD) (n) : (datT (F := F) L V 0 c).owesAt () n ⊢ (iprop(∃ W, owes (c : Thread nD τ) 0 W) : sProp 𝕄) := by
  unfold Dat.owesAt Pipeline.owesWithin
  rewrite [show (datT L V 0 c).owed n = 0 from rfl]
  iintro ⟨%W, -, HW⟩
  iexists W; iexact HW
theorem owesAt_in (c : Dev nD) (n) : (iprop(∃ W, owes (c : Thread nD τ) 0 W) : sProp 𝕄) ⊢ (datT (F := F) L V 0 c).owesAt () n := by
  unfold Dat.owesAt Pipeline.owesWithin
  rewrite [show (datT L V 0 c).owed n = 0 from rfl]
  iintro ⟨%W, HW⟩
  iexists W; isplitr; · ipureintro; exact fun _ _ => Or.inl trivial
  iexact HW

theorem Phi_cast (c : Dev nD) (t : Fin (cfgT (F := F) L).N) : (datT L V 0 c).Φ t.castSucc = Phi L V c t.val :=
  congrArg (Phi L V c) (Fin.val_castSucc t)
theorem Phi_succ (c : Dev nD) (t : Fin (cfgT (F := F) L).N) : (datT L V 0 c).Φ t.succ = Phi L V c (t.val + 1) :=
  congrArg (Phi L V c) (Fin.val_succ t)

theorem own0 (c : Dev nD) (t : Fin (cfgT (F := F) L).N) :
    (iprop(∃ d, owns (c : Thread nD τ) (ms0 L t) fullShare ((datT L V 0 c).before 0 t d)) : sProp 𝕄) ⊢ owns (c : Thread nD τ) (ms0 L t) fullShare (iblk L V c 0 t) :=
  BIClass.exists_elim fun d => BIBase.Entails.of_eq (congrArg (owns (c : Thread nD τ) (ms0 L t) fullShare) (bef0 L V c t d))
theorem own1 (c : Dev nD) (t : Fin (cfgT (F := F) L).N) :
    (iprop(∃ d, owns (c : Thread nD τ) (ms1 L t) fullShare ((datT L V 0 c).before 1 t d)) : sProp 𝕄) ⊢ owns (c : Thread nD τ) (ms1 L t) fullShare (iblk L V c 1 t) :=
  BIClass.exists_elim fun d => BIBase.Entails.of_eq (congrArg (owns (c : Thread nD τ) (ms1 L t) fullShare) (bef1 L V c t d))
theorem own2 (c : Dev nD) (t : Fin (cfgT (F := F) L).N) :
    (iprop(∃ d, owns (c : Thread nD τ) (ms2 L t) fullShare ((datT L V 0 c).before 2 t d)) : sProp 𝕄) ⊢ owns (c : Thread nD τ) (ms2 L t) fullShare (iblk L V c 2 t) :=
  BIClass.exists_elim fun d => BIBase.Entails.of_eq (congrArg (owns (c : Thread nD τ) (ms2 L t) fullShare) (bef2 L V c t d))
theorem own3 (c : Dev nD) (t : Fin (cfgT (F := F) L).N) :
    (iprop(∃ d, owns (c : Thread nD τ) (ms3 L t) fullShare ((datT L V 0 c).before 3 t d)) : sProp 𝕄) ⊢ iprop(∃ d, owns (c : Thread nD τ) (ms3 L t) fullShare d) :=
  BIClass.exists_elim fun d => BIClass.exists_intro (Φ := fun d => (owns (c : Thread nD τ) (ms3 L t) fullShare d : sProp 𝕄)) _

theorem pre_point (c : Dev nD) (t : Fin (cfgT (F := F) L).N) : bodyPre L V c t ⊢
    iprop(Phi L V c t.val ∗ (∃ W, owes (c : Thread nD τ) 0 W) ∗ owns (c : Thread nD τ) (ms0 L t) fullShare (iblk L V c 0 t)
      ∗ owns (c : Thread nD τ) (ms1 L t) fullShare (iblk L V c 1 t)
      ∗ owns (c : Thread nD τ) (ms2 L t) fullShare (iblk L V c 2 t) ∗ (∃ d, owns (c : Thread nD τ) (ms3 L t) fullShare d)) := by
  unfold bodyPre
  rewrite [Phi_cast L V c t]
  exact BIClass.sep_mono BIBase.Entails.rfl (BIClass.sep_mono (owesAt_out L V c _) (BIClass.sep_mono (own0 L V c t) (BIClass.sep_mono (own1 L V c t) (BIClass.sep_mono (own2 L V c t) (own3 L V c t)))))

theorem point_post (c : Dev nD) (t : Fin (cfgT (F := F) L).N) :
    iprop(Phi L V c (t.val + 1) ∗ (∃ W, owes (c : Thread nD τ) 0 W) ∗ owns (c : Thread nD τ) (ms0 L t) fullShare (iblk L V c 0 t)
      ∗ owns (c : Thread nD τ) (ms1 L t) fullShare (iblk L V c 1 t)
      ∗ owns (c : Thread nD τ) (ms2 L t) fullShare (iblk L V c 2 t)
      ∗ owns (c : Thread nD τ) (ms3 L t) fullShare (outV (crd L t) T.U (iblk L V c 0 t) (iblk L V c 1 t) (iblk L V c 2 t) (wtile L V c t.val)))
      ⊢ bodyPost L V c t := by
  unfold bodyPost
  rewrite [aft0, aft1, aft2, aft3, Phi_succ L V c t]
  iintro ⟨HP, HW, H0, H1, H2, H3⟩
  isplitl [HP]; · iexact HP
  isplitl [HW]; · iapply (owesAt_in L V c _); iexact HW
  isplitl [H0]; · iexact H0
  isplitl [H1]; · iexact H1
  isplitl [H2]; · iexact H2
  iexact H3

theorem sound_body (c : Dev nD) (t : Fin (cfgT (F := F) L).N) :
    bodyPre L V c t ⊢ wp frame (wpE (defs₀ (F := F)) Variants.none (c : Thread nD τ) none) Set.univ
      (bodyOn (crd L t) (ms0 L t) (hs0 L t) (ms1 L t) (hs1 L t) (ms2 L t) (hs2 L t) (ms3 L t) (hs3 L t)) fun _ => bodyPost L V c t :=
  (pre_point L V c t).trans ((point L V c t).trans (wp_mono (Fr := frame) (wpE := wpE (defs₀ (F := F)) Variants.none (c : Thread nD τ) none) (E := Set.univ) fun _ => point_post L V c t))

set_option backward.isDefEq.respectTransparency.types false in
set_option maxHeartbeats 1000000 in
theorem body_obligation (c : Dev nD) : BodyObligation (datT (F := F) L V 0 c) (defs₀ (F := F)) Variants.none () Set.univ := fun t => by
  rw [bigSep_W0, bigSep_W0, defs_row]
  have i3 : (cfgT (F := F) L).idle 3 ((cfgT (F := F) L).grid.coords t) = false := idle3 (F := F) L (crd L t)
  refine triple_restated (sound_body L V c t) rfl .rfl fun _ => BIClass.sep_mono BIBase.Entails.rfl (BIClass.sep_mono BIBase.Entails.rfl (BIClass.sep_mono BIBase.Entails.rfl (BIClass.sep_mono BIBase.Entails.rfl (BIClass.sep_mono BIBase.Entails.rfl
    ?_))))
  split
  · rename_i hh; exact absurd hh (fun h => Bool.noConfusion h)
  · split
    · rename_i hh; exact absurd (i3.symm.trans hh) (fun h => Bool.noConfusion h)
    · exact BIBase.Entails.rfl
end Cert.KernelIdeal.Hand

end
-- ==== Proof.Launch.lean ====
module

public import proofs.«01_k».proof.Proof.Oblig

/-! The resources the call is launched with. -/

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-! ### The scratch buffer and its four pieces -/

theorem pc_mem (s k : Fin 2) (x : S2x2x2048x1024.Idx) : x ∈ (pc s k).view.set ↔ (x 0).val = s.val ∧ (x 1).val = k.val := by
  refine (Finset.ext_iff.mp (Memref.set_view_squeeze (scF.slice (Rect.unit (s := S2x2x2048x1024) ![s.val, k.val, 0, 0] S1x1x2048x1024.size (pc_inb s k)) (fun _ => rfl))
    squeezes_S1x1x2048x1024_S2048x1024) x).trans ?_
  refine (Finset.ext_iff.mp (View.set_slice_whole cc0_scratch0 (Rect.unit (s := S2x2x2048x1024) ![s.val, k.val, 0, 0] S1x1x2048x1024.size (pc_inb s k))) x).trans ?_
  rw [Rect.mem_set_unit]
  have h2 : (x 2).val < 2048 := (x 2).isLt
  have h3 : (x 3).val < 1024 := (x 3).isLt
  constructor
  · intro h
    have a0 : s.val ≤ (x 0).val ∧ (x 0).val < s.val + 1 := h 0
    have a1 : k.val ≤ (x 1).val ∧ (x 1).val < k.val + 1 := h 1
    exact ⟨by omega, by omega⟩
  · rintro ⟨e0, e1⟩ a
    match a with
    | ⟨0, _⟩ => show s.val ≤ (x 0).val ∧ (x 0).val < s.val + 1; omega
    | ⟨1, _⟩ => show k.val ≤ (x 1).val ∧ (x 1).val < k.val + 1; omega
    | ⟨2, _⟩ => show 0 ≤ (x 2).val ∧ (x 2).val < 0 + 2048; omega
    | ⟨3, _⟩ => show 0 ≤ (x 3).val ∧ (x 3).val < 0 + 1024; omega

/-- The pieces by number. -/
abbrev pk (t : Fin 4) : Finset S2x2x2048x1024.Idx :=
  (![(pc 0 0).view.set, (pc 0 1).view.set, (pc 1 0).view.set, (pc 1 1).view.set] : Fin 4 → Finset S2x2x2048x1024.Idx) t

theorem pk_mem (t : Fin 4) (x : S2x2x2048x1024.Idx) : x ∈ pk t ↔ 2 * (x 0).val + (x 1).val = t.val := by
  have h0 : (x 0).val < 2 := (x 0).isLt
  have h1 : (x 1).val < 2 := (x 1).isLt
  match t with
  | ⟨0, _⟩ => exact (pc_mem 0 0 x).trans ⟨fun h => by have := h.1; have := h.2; simp at *; omega, fun h => by simp at *; omega⟩
  | ⟨1, _⟩ => exact (pc_mem 0 1 x).trans ⟨fun h => by have := h.1; have := h.2; simp at *; omega, fun h => by simp at *; omega⟩
  | ⟨2, _⟩ => exact (pc_mem 1 0 x).trans ⟨fun h => by have := h.1; have := h.2; simp at *; omega, fun h => by simp at *; omega⟩
  | ⟨3, _⟩ => exact (pc_mem 1 1 x).trans ⟨fun h => by have := h.1; have := h.2; simp at *; omega, fun h => by simp at *; omega⟩

theorem pk_univ : (Finset.univ : Finset (Fin 4)).biUnion pk = Finset.univ := by
  ext x
  have h0 : (x 0).val < 2 := (x 0).isLt
  have h1 : (x 1).val < 2 := (x 1).isLt
  simp only [Finset.mem_biUnion, Finset.mem_univ, true_and, iff_true]
  exact ⟨⟨2 * (x 0).val + (x 1).val, by omega⟩, (pk_mem _ x).mpr rfl⟩

theorem pk_disj : ∀ t ∈ (Finset.univ : Finset (Fin 4)), ∀ t' ∈ (Finset.univ : Finset (Fin 4)), t ≠ t' → Disjoint (pk t) (pk t') := by
  intro t _ t' _ h
  rw [Finset.disjoint_left]
  intro x hx hx'
  exact h (Fin.ext (((pk_mem t x).mp hx).symm.trans ((pk_mem t' x).mp hx')))

theorem owns_at (c : Dev nD) (s k : Fin 2) (f : S2x2x2048x1024.Idx → Elt F .f32) :
    (scF.view.loc (c : Thread nD τ) ↦[(pc s k).view.set]{fullShare} f : sProp 𝕄) ⊢ iprop(∃ d, owns (c : Thread nD τ) (pc s k) fullShare d) := by
  unfold owns
  iintro H
  iexists _; iexists f; isplitr; swap
  · iexact H
  · ipureintro; rfl
theorem owns_out (c : Dev nD) (s k : Fin 2) :
    (iprop(∃ d, owns (c : Thread nD τ) (pc s k) fullShare d) : sProp 𝕄)
      ⊢ iprop(∃ f : S2x2x2048x1024.Idx → Elt F .f32, (scF.view.loc (c : Thread nD τ) ↦[(pc s k).view.set]{fullShare} f)) := by
  unfold owns
  iintro ⟨%d, %f, -, H⟩
  iexists f; iexact H

theorem scF_split (c : Dev nD) (f : S2x2x2048x1024.Idx → Elt F .f32) :
    (scF.view.loc (c : Thread nD τ) ↦{fullShare} f : sProp 𝕄) ⊢
      iprop((∃ d, owns (c : Thread nD τ) (pc 0 0) fullShare d) ∗ (∃ d, owns (c : Thread nD τ) (pc 0 1) fullShare d)
        ∗ (∃ d, owns (c : Thread nD τ) (pc 1 0) fullShare d) ∗ (∃ d, owns (c : Thread nD τ) (pc 1 1) fullShare d)) := by
  have h : (scF.view.loc (c : Thread nD τ) ↦[(Finset.univ : Finset (Fin 4)).biUnion pk]{fullShare} f : sProp 𝕄)
      = bigSep Finset.univ fun t => (scF.view.loc (c : Thread nD τ) ↦[pk t]{fullShare} f) :=
    pointsTo_biUnion (Ix := Unit) (Name := ℕ) (U := Pipeline.UD sig nD τ) (Lvl := ℕ) (Val := Elt F) (ℓ := scF.view.loc (c : Thread nD τ)) (q := fullShare) (f := f) (T := Fin 4)
      Finset.univ pk pk_disj
  rw [pk_univ, BI.bigSep_univ_eq_bigSepL [0, 1, 2, 3] (by decide) (by decide)] at h
  refine (BIBase.Entails.of_eq h).trans ?_
  show iprop((scF.view.loc (c : Thread nD τ) ↦[pk 0]{fullShare} f) ∗ (scF.view.loc (c : Thread nD τ) ↦[pk 1]{fullShare} f)
    ∗ (scF.view.loc (c : Thread nD τ) ↦[pk 2]{fullShare} f) ∗ (scF.view.loc (c : Thread nD τ) ↦[pk 3]{fullShare} f)) ⊢ _
  exact BIClass.sep_mono (owns_at c 0 0 f) (BIClass.sep_mono (owns_at c 0 1 f) (BIClass.sep_mono (owns_at c 1 0 f) (owns_at c 1 1 f)))

theorem scF_join (c : Dev nD) :
    iprop((∃ d, owns (c : Thread nD τ) (pc 0 0) fullShare d) ∗ (∃ d, owns (c : Thread nD τ) (pc 0 1) fullShare d)
        ∗ (∃ d, owns (c : Thread nD τ) (pc 1 0) fullShare d) ∗ (∃ d, owns (c : Thread nD τ) (pc 1 1) fullShare d))
      ⊢ (iprop(∃ f : S2x2x2048x1024.Idx → Elt F .f32, (scF.view.loc (c : Thread nD τ) ↦{fullShare} f)) : sProp 𝕄) := by
  refine (BIClass.sep_mono (owns_out c 0 0) (BIClass.sep_mono (owns_out c 0 1) (BIClass.sep_mono (owns_out c 1 0) (owns_out c 1 1)))).trans ?_
  iintro ⟨⟨%f0, H0⟩, ⟨%f1, H1⟩, ⟨%f2, H2⟩, ⟨%f3, H3⟩⟩
  have h := pointsTo_biUnion_join (Ix := Unit) (Name := ℕ) (U := Pipeline.UD sig nD τ) (Lvl := ℕ) (Val := Elt F) (ℓ := scF.view.loc (c : Thread nD τ)) (q := fullShare)
    Finset.univ pk (fun t : Fin 4 => (![f0, f1, f2, f3] : Fin 4 → S2x2x2048x1024.Idx → Elt F .f32) t) f0 pk_disj
  rw [pk_univ, BI.bigSep_univ_eq_bigSepL [0, 1, 2, 3] (by decide) (by decide)] at h
  have h' : iprop((scF.view.loc (c : Thread nD τ) ↦[pk 0]{fullShare} f0) ∗ (scF.view.loc (c : Thread nD τ) ↦[pk 1]{fullShare} f1)
    ∗ (scF.view.loc (c : Thread nD τ) ↦[pk 2]{fullShare} f2) ∗ (scF.view.loc (c : Thread nD τ) ↦[pk 3]{fullShare} f3)) ⊢ _ := h
  ihave Hg := h' $$ [H0 H1 H2 H3]
  · isplitl [H0]; · iexact H0
    isplitl [H1]; · iexact H1
    isplitl [H2]; · iexact H2
    iexact H3
  icases Hg with ⟨%g, -, Hg⟩
  iexists g; iexact Hg

/-! ### The transfers' cells and the weights -/

abbrev osem0 : Fin 4 → SemLoc sig := fun j => (![SemLoc.dma 8, SemLoc.dma 9, SemLoc.dma 10, SemLoc.dma 11] : Fin 4 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (cell 0 0)) 0 ∗ semVal ((c : Thread nD τ), SemLoc.dma (cell 0 1)) 0
          ∗ semVal ((c : Thread nD τ), SemLoc.dma (cell 1 0)) 0 ∗ semVal ((c : Thread nD τ), SemLoc.dma (cell 1 1)) 0) := by
  rw [Pipeline.ownSems0_eq_of_list c osem0 [0, 1, 2, 3] (by decide) (by decide)]; rfl
def H0 : Finset (Ref sig .tc) := {main_arg2, main_arg4}
theorem H0_sub : H0 ⊆ Pipeline.restRefsP sig pre0 spec0 := by decide
theorem hbmPts0_eq (V : (c : Dev nD) → (b : Ref sig .tc) → Buf (Elt F) ((c : Thread nD τ).loc b)) (c : Dev nD) :
    (bigSep H0 fun b => ((c : Thread nD τ).loc b) ↦{fullShare} V c b : sProp 𝕄) = srcs c (V c main_arg2) (V c main_arg4) := by
  unfold H0
  rw [bigSep_insert (by decide), bigSep_singleton]; rfl
theorem tables_eq (c : Dev nD) (q : Fin 7 → PosShare TreeShare) (v : pre0.Contents (Elt F)) :
    (Pipeline.prefHeld (Ix := Unit) (Name := ℕ) (U := Pipeline.UD sig nD τ) (Lvl := ℕ) pre0 c q v : sProp 𝕄)
      = iprop((tbE.view.loc (c : Thread nD τ) ↦{q 0} v 0) ∗ (tbU.view.loc (c : Thread nD τ) ↦{q 1} v 1) ∗ (tbF.view.loc (c : Thread nD τ) ↦{q 2} v 2)
        ∗ (tbR.view.loc (c : Thread nD τ) ↦{q 3} v 3) ∗ (tbN.view.loc (c : Thread nD τ) ↦{q 4} v 4) ∗ (tbG.view.loc (c : Thread nD τ) ↦{q 5} v 5)
        ∗ (tbJ.view.loc (c : Thread nD τ) ↦{q 6} v 6)) := by
  unfold Pipeline.prefHeld
  rw [show (Finset.univ : Finset (Fin 7)) = insert 0 (insert 1 (insert 2 (insert 3 (insert 4 (insert 5 {6}))))) from by decide,
    bigSep_insert (by decide), bigSep_insert (by decide), bigSep_insert (by decide), bigSep_insert (by decide), bigSep_insert (by decide),
    bigSep_insert (by decide), bigSep_singleton]
  rfl

variable {T : Tabs} (L : T.Sched) (V : (c : Dev nD) → (b : Ref sig .tc) → Buf (Elt F) ((c : Thread nD τ).loc b))

/-- The invariant before the first point, -/
theorem phi_in (c : Dev nD) :
    iprop(Pipeline.ΦD osem0 spec0 H0 V c ∗ Pipeline.ΦT pre0 (pfT (F := F) T) c) ⊢ (Phi L V c 0 : sProp 𝕄) := by
  unfold Pipeline.ΦT
  rw [Pipeline.ΦD_eq, scopedRest0_eq, ownSems00_eq, hbmPts0_eq, tables_eq]
  unfold Phi
  rw [L.pos_zero]
  unfold Stream
  rw [if_pos (Or.inl rfl)]
  iintro ⟨⟨⟨⟨%f, HS⟩, ⟨%B, HB⟩⟩, Hg, ⟨Q0, Q1, Q2, Q3⟩, Hs⟩, HE, HU, HF, HR, HN, HG, HJ⟩
  ihave HP := (scF_split c f) $$ [HS]; · iexact HS
  icases HP with ⟨P0, P1, P2, P3⟩
  isplitl [HE]; · iexact HE
  isplitl [HU]; · iexact HU
  isplitl [HF]; · iexact HF
  isplitl [HR]; · iexact HR
  isplitl [HN]; · iexact HN
  isplitl [HG]; · iexact HG
  isplitl [HJ]; · iexact HJ
  isplitl [Hg]; · iexact Hg
  isplitl [P0 P1 P2 P3 Q0 Q1 Q2 Q3 Hs]
  · unfold free
    isplitl [P0 P1 Q0 Q1]
    · isplitl [P0]; · iexact P0
      isplitl [P1]; · iexact P1
      isplitl [Q0]; · iexact Q0
      iexact Q1
    isplitl [P2 P3 Q2 Q3]
    · isplitl [P2]; · iexact P2
      isplitl [P3]; · iexact P3
      isplitl [Q2]; · iexact Q2
      iexact Q3
    iexact Hs
  iexists B; isplitr; swap
  · iexact HB
  · ipureintro; intro t h; exact absurd h (Nat.succ_ne_zero t).symm

/-- and after the last. -/
theorem phi_out (c : Dev nD) : (Phi L V c 576 : sProp 𝕄) ⊢ Pipeline.ΦD osem0 spec0 H0 V c := by
  rw [Pipeline.ΦD_eq, scopedRest0_eq, ownSems00_eq, hbmPts0_eq]
  unfold Phi
  rw [L.pos_last]
  unfold Stream
  rw [if_pos (Or.inr rfl)]
  unfold free
  iintro ⟨-, -, -, -, -, -, -, Hg, ⟨⟨P0, P1, Q0, Q1⟩, ⟨P2, P3, Q2, Q3⟩, Hs⟩, ⟨%B, -, HB⟩⟩
  ihave HP := (scF_join c) $$ [P0 P1 P2 P3]
  · isplitl [P0]; · iexact P0
    isplitl [P1]; · iexact P1
    isplitl [P2]; · iexact P2
    iexact P3
  isplitl [HP HB]
  · isplitl [HP]; · iexact HP
    iexists B; iexact HB
  isplitl [Hg]; · iexact Hg
  isplitl [Q0 Q1 Q2 Q3]
  · isplitl [Q0]; · iexact Q0
    isplitl [Q1]; · iexact Q1
    isplitl [Q2]; · iexact Q2
    iexact Q3
  iexact Hs
end Cert.KernelIdeal.Hand

end
-- ==== Proof.Frame.lean ====
module

public import proofs.«01_k».proof.Proof.Launch
public import proofs.«01_k».proof.Proof.Oblig

/-! The run of the program, given a plan its tables hold. -/

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-- The host's operations, stretch by stretch. -/
abbrev opss : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]

theorem opss_sub : (opss : List (List (HloOp τ sig (Elt F)))).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub⟩

theorem opss_fresh : (opss : List (List (HloOp τ sig (Elt F)))).Forall fun ops => ops.Forall fun op => op.fresh = ∅ :=
  ⟨⟨rfl, rfl, rfl, rfl, rfl, rfl, rfl⟩,
    ⟨rfl, rfl, rfl, rfl, rfl, rfl, rfl, rfl, rfl, rfl, rfl, rfl, rfl, rfl, rfl, rfl, rfl⟩,
    ⟨rfl, rfl, rfl⟩,
    ⟨rfl, rfl, rfl⟩,
    ⟨rfl, rfl, rfl, rfl⟩,
    ⟨rfl, rfl, rfl, rfl, rfl, rfl, rfl, rfl, rfl, rfl, rfl, rfl⟩,
    ⟨rfl, rfl, rfl, rfl, rfl, rfl, rfl, rfl, rfl, rfl, rfl, rfl, rfl, rfl, rfl, rfl, rfl, rfl, rfl⟩,
    ⟨rfl, rfl, rfl⟩,
    ⟨rfl, rfl, rfl, rfl⟩,
    ⟨rfl, rfl⟩,
    ⟨rfl, rfl, rfl, rfl, rfl, rfl, rfl, rfl⟩,
    ⟨rfl, rfl, rfl⟩,
    ⟨rfl, rfl, rfl, rfl, rfl, rfl, rfl, rfl, rfl, rfl, rfl, rfl, rfl, rfl, rfl, rfl, rfl, rfl, rfl, rfl, rfl⟩,
    ⟨rfl, rfl, rfl, rfl⟩,
    ⟨rfl, rfl, rfl⟩,
    ⟨rfl, rfl, rfl, rfl, rfl, rfl, rfl, rfl, rfl, rfl, rfl, rfl, rfl, rfl, rfl, rfl, rfl, rfl, rfl, rfl⟩,
    ⟨rfl, rfl, rfl, rfl, rfl, rfl, rfl⟩,
    ⟨rfl, rfl, rfl, rfl⟩,
    ⟨rfl, rfl⟩,
    ⟨rfl, rfl, rfl, rfl, rfl, rfl, rfl, rfl, rfl, rfl, rfl, rfl, rfl, rfl, rfl, rfl⟩,
    ⟨rfl, rfl, rfl, rfl, rfl, rfl, rfl⟩⟩

variable (m : (ℓ : Loc nD τ sig) → Buf (Elt F) ℓ) (ρ : Dev nD → PrngReg)

/-- What a buffer holds when the region is entered. -/
abbrev V (c : Dev nD) (b : Ref sig .tc) : Buf (Elt F) ((c : Thread nD τ).loc b) := StableHlo.after opss.flatten (fun b => m (c, b)) b

theorem hmain : Pipeline.HMainP (Ix := Unit) (Name := ℕ) (U := Pipeline.UD sig nD τ) (Lvl := ℕ) (pcfgs (F := F)) 0 defs₀ Variants.none m (main (F := F)) (V m) :=
  Pipeline.hmainP_prefixes (pcfgs (F := F)) 0 defs₀ Variants.none m main opss opss_sub opss_fresh fun c => (main_chain c).trans rfl

/-- The tables of a core's launch are `T`'s. -/
structure IsTab (T : Tabs) (c : Dev nD) : Prop where
  E : V m c main_v30 = T.E
  U : V m c main_v71 = T.U
  F : V m c main_v37 = T.F
  R : V m c main_v40 = T.R
  N : V m c main_v72 = T.N
  G : V m c main_v67 = T.G
  J : V m c main_v70 = T.J

set_option backward.isDefEq.respectTransparency.types false in
/-- The run: at its end the arrays and the buffers beside them hold what the proof data say, and every counter is at zero. -/
theorem run_of {T : Tabs} (L : T.Sched) (hT : ∀ c, IsTab m T c) :
    θ_run defs (onTc (τ := τ) (main (F := F))) (s₀ m ρ)
      (fun r => Pipeline.FramePost (pcsT (F := F) L) (datT L (V m)) 0 (V m) r ∧ r.2.sem = fun _ => 0) :=
  Pipeline.θ_run_frameP_dma (Q' := _) (pcfgs (F := F)) (fun _ => admT L) (datT L (V m)) (0 : Fin 1) launch0 osem0 defs₀ Variants.none
    ownSemFacts0 H0 H0_sub m ρ main
    (hbody := fun c => (body_obligation L (V m) c).loose) (hshare := fun c => (datT L (V m) 0 c).share_full fun _ => rfl)
    (howed := fun _ _ => rfl) (V := V m) (hmain := hmain m) (hA := fun c w => datA L (V m) c w)
    (hpf := fun c k => match k with
      | ⟨0, _⟩ => (hT c).E
      | ⟨1, _⟩ => (hT c).U
      | ⟨2, _⟩ => (hT c).F
      | ⟨3, _⟩ => (hT c).R
      | ⟨4, _⟩ => (hT c).N
      | ⟨5, _⟩ => (hT c).G
      | ⟨6, _⟩ => (hT c).J)
    (hin := fun c => phi_in L (V m) c)
    (hout := fun c => (BIBase.Entails.of_eq (congrArg (Phi L (V m) c) ((Fin.val_last _).trans N_0))).trans (phi_out L (V m) c))

theorem V_arg0 (c : Dev nD) : V m c main_arg0 = m ((c : Thread nD τ).loc main_arg0) := by rfl
theorem V_arg1 (c : Dev nD) : V m c main_arg1 = m ((c : Thread nD τ).loc main_arg1) := by rfl
theorem V_arg2 (c : Dev nD) : V m c main_arg2 = m ((c : Thread nD τ).loc main_arg2) := by rfl
theorem V_arg3 (c : Dev nD) : V m c main_arg3 = m ((c : Thread nD τ).loc main_arg3) := by rfl
theorem V_arg4 (c : Dev nD) : V m c main_arg4 = m ((c : Thread nD τ).loc main_arg4) := by rfl
theorem V_arg5 (c : Dev nD) : V m c main_arg5 = m ((c : Thread nD τ).loc main_arg5) := by rfl

/-- What the run leaves in the program's arguments and in its result. -/
theorem post_of {T : Tabs} (L : T.Sched) (r : PUnit × MemSt nD τ sig (Elt F))
    (h : Pipeline.FramePost (pcsT (F := F) L) (datT L (V m)) 0 (V m) r) (c : Dev nD) :
    (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
    ∧ r.2.mem ((c.tc : Thread nD τ).loc main_v75) = (datT L (V m) 0 c).arrAt 3 (cfgT (F := F) L).N := by
  have hr (b : Ref sig .tc) (hb : b ∈ Pipeline.restRefs sig spec0) : r.2.mem ((c.tc : Thread nD τ).loc b) = V m c b := (h c).2 b hb
  refine ⟨⟨(hr main_arg0 (by decide)).trans (V_arg0 m c), ?_, (hr main_arg2 (by decide)).trans (V_arg2 m c), (hr main_arg3 (by decide)).trans (V_arg3 m c),
    (hr main_arg4 (by decide)).trans (V_arg4 m c), (hr main_arg5 (by decide)).trans (V_arg5 m c)⟩, (h c).1 3⟩
  exact (((h c).1 0).trans ((datT L (V m) 0 c).arrAt_in 0 rfl _)).trans ((datA L (V m) c 0).trans (V_arg1 m c))

end Cert.KernelIdeal.Hand

end
-- ==== Proof.HostEqs.lean ====
module

public import proofs.«01_k».proof.Proof.Frame
public import Idealize.ShloMosaic.Lib.Routing.OpsSearch

/-! What each stretch of host operations leaves. -/

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (Pipeline.UD sig nD τ) ℕ

open Idealize.ShloMosaic.Routing Idealize.ShloMosaic.ValueIdx

variable (X : Valuation τ sig (Elt F))

theorem s3 : (StableHlo.after hostOps0 X main_v3 : IVec S32 32) = subi (addi (X main_arg0 : IVec S32 32) (broadcastInDim S32 ![] bcast_S_S32 (constantI S_ 32 256#32)))
    (broadcastInDim S32 ![] bcast_S_S32 (constantI S_ 32 1#32)) := by rfl
theorem s4 : (StableHlo.after hostOps0_1 X main_v4 : IVec S32 32) = pyDiv bcast_S_S32 (X main_v3 : IVec S32 32) (X main_c_1 : IVec S_ 32) := by rfl
theorem s6 : (StableHlo.after hostOps0_2 X main_v6 : IVec S32 32) = muli (X main_v4 : IVec S32 32) (broadcastInDim S32 ![] bcast_S_S32 (constantI S_ 32 256#32)) := by rfl
theorem s7 : (StableHlo.after hostOps0_3 X main_v7 : IVec S32 32) = Host.reduceWindow IntOp.addi ![32] ![1] ![31] ![0] (X main_v6 : IVec S32 32)
    (broadcastInDim S_ ![] bcast_S_S_ (constantI S_ 32 0#32)) reduceWindows_S32_S32_w32s1p31_0 h_S_ := by rfl
theorem s10 : (StableHlo.after hostOps0_4 X main_v10 : IVec S_ 32) = shapeCast S_ (extractStridedSlice S1 ![31] (X main_v7 : IVec S32 32) slices_S32_S1_31) shapeCasts_S1_S_ := by rfl
theorem s11 : (StableHlo.after hostOps0_5 X main_v11 : IVec S_ 32) = pyDiv0 (X main_v10 : IVec S_ 32) (X main_c_3 : IVec S_ 32) := by rfl
theorem s18 : (StableHlo.after (hostOps0_6.take 8) X main_v18 : IVec S288x32 1) = cmpi .sle
      (broadcastInDim S288x32 ![0, 1] bcast_S1x32_S288x32_0_1 (broadcastInDim S1x32 ![1] bcast_S32_S1x32_1 (X main_v7 : IVec S32 32)))
      (broadcastInDim S288x32 ![0, 1] bcast_S288x1_S288x32_0_1 (broadcastInDim S288x1 ![0] bcast_S288_S288x1_0
        (muli (X main_v8 : IVec S288 32) (broadcastInDim S288 ![] bcast_S_S288 (constantI S_ 32 256#32))))) := by rfl
set_option maxRecDepth 20000 in
theorem s20 : (StableHlo.after ((hostOps0_6.drop 8).take 3) X main_v20 : IVec S288 32) = Host.reduce IntOp.addi (extui 32 (X main_v18 : IVec S288x32 1) natLt_1_32)
      (constantI S_ 32 0#32) reducesTo_S288x32_S288_d1 h_S_ := by rfl
theorem s22 : (StableHlo.after (hostOps0_6.drop 11) X main_v22 : IVec S288 32) = minsi (X main_v20 : IVec S288 32) (broadcastInDim S288 ![] bcast_S_S288 (constantI S_ 32 31#32)) := by rfl
theorem s25 : (StableHlo.after hostOps0_6 X main_v25 : IVec S288 1) = cmpi .eq (X main_v8 : IVec S288 32)
    (broadcastInDim S288 ![] bcast_S_S288 (subi (X main_v11 : IVec S_ 32) (constantI S_ 32 1#32))) := by rfl
theorem s26 : (StableHlo.after hostOps0_7 X main_v26 : IVec S288 32) = select (X main_v25 : IVec S288 1) (X main_v22 : IVec S288 32)
    (broadcastInDim S288 ![] bcast_S_S288 (X main_c_8 : IVec S_ 32)) := by rfl
theorem s27 : (StableHlo.after hostOps0_8 X main_v27 : IVec S_ 32) = Host.reduce IntOp.addi (X main_v26 : IVec S288 32) (constantI S_ 32 0#32) reducesTo_S288_S_d0 h_S_ := by rfl
theorem s29 : (StableHlo.after hostOps0_8 X main_v29 : IVec S288 1) = cmpi .slt (X main_v8 : IVec S288 32) (broadcastInDim S288 ![] bcast_S_S288 (X main_v11 : IVec S_ 32)) := by rfl
theorem s30 : (StableHlo.after hostOps0_9 X main_v30 : IVec S288 32) = select (X main_v29 : IVec S288 1) (X main_v22 : IVec S288 32)
    (broadcastInDim S288 ![] bcast_S_S288 (X main_v27 : IVec S_ 32)) := by rfl
theorem s37 : (StableHlo.after hostOps0_10 X main_v37 : IVec S288 32) = extui 32 (cmpi .ne (X main_v30 : IVec S288 32)
    (concatenate S288 0 [⟨S1, subi (extractStridedSlice S1 ![0] (X main_v30 : IVec S288 32) slices_S288_S1_0) (broadcastInDim S1 ![] bcast_S_S1 (constantI S_ 32 1#32))⟩,
      ⟨S287, extractStridedSlice S287 ![0] (X main_v30 : IVec S288 32) slices_S288_S287_0⟩] concatenates_S1_S287_S288_d0)) natLt_1_32 := by rfl
theorem s38 : (StableHlo.after hostOps0_11 X main_v38 : IVec S288 32) = Host.reduceWindow IntOp.addi ![288] ![1] ![287] ![0] (X main_v37 : IVec S288 32)
    (broadcastInDim S_ ![] bcast_S_S_ (constantI S_ 32 0#32)) reduceWindows_S288_S288_w288s1p287_0 h_S_ := by rfl
theorem s40 : (StableHlo.after hostOps0_12 X main_v40 : IVec S288 32) = subi (X main_v38 : IVec S288 32) (broadcastInDim S288 ![] bcast_S_S288 (constantI S_ 32 1#32)) := by rfl
theorem s43 : (StableHlo.after hostOps0_12 X main_v43 : IVec S_ 32) = addi (shapeCast S_ (extractStridedSlice S1 ![287]
    (subi (X main_v38 : IVec S288 32) (broadcastInDim S288 ![] bcast_S_S288 (constantI S_ 32 1#32))) slices_S288_S1_287) shapeCasts_S1_S_) (constantI S_ 32 1#32) := by rfl
theorem s54 : (StableHlo.after hostOps0_12 X main_v54 : IVec S32x288 1) = andi
    (broadcastInDim S32x288 ![0, 1] bcast_S1x288_S32x288_0_1 (cmpi .eq (broadcastInDim S1x288 ![1] bcast_S288_S1x288_1 (X main_v37 : IVec S288 32))
      (broadcastInDim S1x288 ![] bcast_S_S1x288 (constantI S_ 32 1#32))))
    (cmpi .eq (broadcastInDim S32x288 ![0, 1] bcast_S1x288_S32x288_0_1 (broadcastInDim S1x288 ![1] bcast_S288_S1x288_1
        (subi (X main_v38 : IVec S288 32) (broadcastInDim S288 ![] bcast_S_S288 (constantI S_ 32 1#32)))))
      (broadcastInDim S32x288 ![0, 1] bcast_S32x1_S32x288_0_1 (broadcastInDim S32x1 ![0] bcast_S32_S32x1_0 (iotaInDim S32 32 0)))) := by rfl
theorem s55 : (StableHlo.after hostOps0_12 X main_v55 : IVec S1x288 32) = broadcastInDim S1x288 ![1] bcast_S288_S1x288_1 (X main_v30 : IVec S288 32) := by rfl
theorem s56 : (StableHlo.after hostOps0_13 X main_v56 : IVec S32x288 32) = select (X main_v54 : IVec S32x288 1)
    (broadcastInDim S32x288 ![0, 1] bcast_S1x288_S32x288_0_1 (X main_v55 : IVec S1x288 32)) (broadcastInDim S32x288 ![] bcast_S_S32x288 (X main_c_14 : IVec S_ 32)) := by rfl
set_option maxRecDepth 20000 in
theorem s57 : (StableHlo.after hostOps0_14 X main_v57 : IVec S32 32) = Host.reduce IntOp.addi (X main_v56 : IVec S32x288 32) (constantI S_ 32 0#32) reducesTo_S32x288_S32_d1 h_S_ := by rfl
theorem s59a : (StableHlo.after (hostOps0_15.take 4) X main_call7_v1 : IVec S_ 32) = divGuard (X main_v43 : IVec S_ 32) := by rfl
theorem s59b : (StableHlo.after ((hostOps0_15.drop 4).take 2) X main_call7_v3 : IVec S64 32) = Host.remsi (X main_v58 : IVec S64 32)
    (broadcastInDim S64 ![] bcast_S_S64 (X main_call7_v1 : IVec S_ 32)) := by rfl
theorem s59c : (StableHlo.after (hostOps0_15.drop 6) X main_v59 : IVec S64 32) =
    select (andi (cmpi .ne (cmpi .slt (X main_call7_v3 : IVec S64 32) (broadcastInDim S64 ![] bcast_S_S64 (constantI S_ 32 0#32)))
        (broadcastInDim S64 ![] bcast_S_S64 (cmpi .slt (X main_call7_v1 : IVec S_ 32) (constantI S_ 32 0#32))))
      (cmpi .ne (X main_call7_v3 : IVec S64 32) (broadcastInDim S64 ![] bcast_S_S64 (constantI S_ 32 0#32))))
    (addi (X main_call7_v3 : IVec S64 32) (broadcastInDim S64 ![] bcast_S_S64 (X main_call7_v1 : IVec S_ 32)))
    (X main_call7_v3 : IVec S64 32) := by rfl
theorem s64 : (StableHlo.after hostOps0_16 X main_v64 : IVec S64x32 1) = cmpi .eq
    (broadcastInDim S64x32 ![0, 1] bcast_S64x1_S64x32_0_1 (broadcastInDim S64x1 ![0] bcast_S64_S64x1_0 (X main_v59 : IVec S64 32)))
    (broadcastInDim S64x32 ![0, 1] bcast_S1x32_S64x32_0_1 (broadcastInDim S1x32 ![1] bcast_S32_S1x32_1 (X main_v44 : IVec S32 32))) := by rfl
theorem s65 : (StableHlo.after hostOps0_16 X main_v65 : IVec S1x32 32) = broadcastInDim S1x32 ![1] bcast_S32_S1x32_1 (X main_v57 : IVec S32 32) := by rfl
theorem s66 : (StableHlo.after hostOps0_17 X main_v66 : IVec S64x32 32) = select (X main_v64 : IVec S64x32 1)
    (broadcastInDim S64x32 ![0, 1] bcast_S1x32_S64x32_0_1 (X main_v65 : IVec S1x32 32)) (broadcastInDim S64x32 ![] bcast_S_S64x32 (X main_c_16 : IVec S_ 32)) := by rfl
set_option maxRecDepth 20000 in
theorem s67 : (StableHlo.after hostOps0_18 X main_v67 : IVec S64 32) = Host.reduce IntOp.addi (X main_v66 : IVec S64x32 32) (constantI S_ 32 0#32) reducesTo_S64x32_S64_d1 h_S_ := by rfl
theorem s68 : (StableHlo.after hostOps0_19 X main_v68 : IVec S64 32) = pyDiv bcast_S_S64 (X main_v58 : IVec S64 32) (X main_v43 : IVec S_ 32) := by rfl
theorem s70 : (StableHlo.after hostOps0_20 X main_v70 : IVec S64 32) = minsi (X main_v68 : IVec S64 32) (broadcastInDim S64 ![] bcast_S_S64 (constantI S_ 32 1#32)) := by rfl
theorem s71 : (StableHlo.after hostOps0_20 X main_v71 : IVec S1 32) = shapeCast S1 (X main_v11 : IVec S_ 32) shapeCasts_S_S1 := by rfl
theorem s72 : (StableHlo.after hostOps0_20 X main_v72 : IVec S1 32) = shapeCast S1 (X main_v43 : IVec S_ 32) shapeCasts_S_S1 := by rfl

end Cert.KernelIdeal.Hand

end
-- ==== Proof.HostZ.lean ====
module

public import proofs.«01_k».proof.Proof.HostEqs

/-! What the buffers hold after all the host operations, each in terms of the others. -/

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (Pipeline.UD sig nD τ) ℕ

open Idealize.ShloMosaic.Routing Idealize.ShloMosaic.ValueIdx

/-- The buffers after the host's operations, after the first `k` stretches, and after the others. -/
abbrev Z (X : Valuation τ sig (Elt F)) : Valuation τ sig (Elt F) := StableHlo.after opss.flatten X
def pf (k : ℕ) (X : Valuation τ sig (Elt F)) : Valuation τ sig (Elt F) := StableHlo.after (opss.take k).flatten X
abbrev sf (k : ℕ) (X : Valuation τ sig (Elt F)) : Valuation τ sig (Elt F) := StableHlo.after (opss.drop k).flatten X

theorem split (k : ℕ) (X : Valuation τ sig (Elt F)) : Z X = sf k (pf k X) := by
  show StableHlo.after opss.flatten X = StableHlo.after (opss.drop k).flatten (StableHlo.after (opss.take k).flatten X)
  rw [← StableHlo.after_append, ← List.flatten_append, List.take_append_drop]

variable (X : Valuation τ sig (Elt F))

theorem s22' : (StableHlo.after hostOps0_6 X main_v22 : IVec S288 32) = minsi (Host.reduce IntOp.addi (extui 32 (cmpi .sle
      (broadcastInDim S288x32 ![0, 1] bcast_S1x32_S288x32_0_1 (broadcastInDim S1x32 ![1] bcast_S32_S1x32_1 (X main_v7 : IVec S32 32)))
      (broadcastInDim S288x32 ![0, 1] bcast_S288x1_S288x32_0_1 (broadcastInDim S288x1 ![0] bcast_S288_S288x1_0
        (muli (X main_v8 : IVec S288 32) (broadcastInDim S288 ![] bcast_S_S288 (constantI S_ 32 256#32))))))  natLt_1_32)
      (constantI S_ 32 0#32) reducesTo_S288x32_S288_d1 h_S_) (broadcastInDim S288 ![] bcast_S_S288 (constantI S_ 32 31#32)) := by
  have h1 := StableHlo.after_append (hostOps0_6.take 8) (hostOps0_6.drop 8) X
  have h2 := StableHlo.after_append ((hostOps0_6.drop 8).take 3) (hostOps0_6.drop 11) (StableHlo.after (hostOps0_6.take 8) X)
  have h3 : StableHlo.after hostOps0_6 X = StableHlo.after (hostOps0_6.drop 11) (StableHlo.after ((hostOps0_6.drop 8).take 3) (StableHlo.after (hostOps0_6.take 8) X)) :=
    h1.trans h2
  rw [h3, s22, s20, s18]

theorem s59' : (StableHlo.after hostOps0_15 X main_v59 : IVec S64 32) = pyRem bcast_S_S64 (X main_v58 : IVec S64 32) (X main_v43 : IVec S_ 32) := by
  have h1 := StableHlo.after_append (hostOps0_15.take 4) (hostOps0_15.drop 4) X
  have h2 := StableHlo.after_append ((hostOps0_15.drop 4).take 2) (hostOps0_15.drop 6) (StableHlo.after (hostOps0_15.take 4) X)
  have h3 : StableHlo.after hostOps0_15 X = StableHlo.after (hostOps0_15.drop 6) (StableHlo.after ((hostOps0_15.drop 4).take 2) (StableHlo.after (hostOps0_15.take 4) X)) :=
    h1.trans h2
  have k1 (Y : Valuation τ sig (Elt F)) : (StableHlo.after ((hostOps0_15.drop 4).take 2) Y main_call7_v1 : IVec S_ 32) = Y main_call7_v1 := by rfl
  have k2 (Y : Valuation τ sig (Elt F)) : (StableHlo.after (hostOps0_15.take 4) Y main_v58 : IVec S64 32) = Y main_v58 := by rfl
  rw [h3, s59c, k1, s59b, k2, s59a]
  rfl

private theorem u3 : (sf 0 X main_v3 : IVec S32 32) = subi (addi (sf 0 X main_arg0 : IVec S32 32) (broadcastInDim S32 ![] bcast_S_S32 (constantI S_ 32 256#32)))
    (broadcastInDim S32 ![] bcast_S_S32 (constantI S_ 32 1#32)) := by
  have e : (sf 0 X main_v3 : IVec S32 32) = StableHlo.after hostOps0 X main_v3 := by rfl
  have k_main_arg0 : (sf 0 X main_arg0 : IVec S32 32) = X main_arg0 := by rfl
  rw [e, s3 X, k_main_arg0]
theorem z3 : (Z X main_v3 : IVec S32 32) = subi (addi (Z X main_arg0 : IVec S32 32) (broadcastInDim S32 ![] bcast_S_S32 (constantI S_ 32 256#32)))
    (broadcastInDim S32 ![] bcast_S_S32 (constantI S_ 32 1#32)) := by
  have h := u3 (pf 0 X)
  rwa [← split 0 X] at h
private theorem u4 : (sf 1 X main_v4 : IVec S32 32) = pyDiv bcast_S_S32 (sf 1 X main_v3 : IVec S32 32) (sf 1 X main_c_1 : IVec S_ 32) := by
  have e : (sf 1 X main_v4 : IVec S32 32) = StableHlo.after hostOps0_1 X main_v4 := by rfl
  have k_main_c_1 : (sf 1 X main_c_1 : IVec S_ 32) = X main_c_1 := by rfl
  have k_main_v3 : (sf 1 X main_v3 : IVec S32 32) = X main_v3 := by rfl
  rw [e, s4 X, k_main_c_1, k_main_v3]
theorem z4 : (Z X main_v4 : IVec S32 32) = pyDiv bcast_S_S32 (Z X main_v3 : IVec S32 32) (Z X main_c_1 : IVec S_ 32) := by
  have h := u4 (pf 1 X)
  rwa [← split 1 X] at h
private theorem u6 : (sf 2 X main_v6 : IVec S32 32) = muli (sf 2 X main_v4 : IVec S32 32) (broadcastInDim S32 ![] bcast_S_S32 (constantI S_ 32 256#32)) := by
  have e : (sf 2 X main_v6 : IVec S32 32) = StableHlo.after hostOps0_2 X main_v6 := by rfl
  have k_main_v4 : (sf 2 X main_v4 : IVec S32 32) = X main_v4 := by rfl
  rw [e, s6 X, k_main_v4]
theorem z6 : (Z X main_v6 : IVec S32 32) = muli (Z X main_v4 : IVec S32 32) (broadcastInDim S32 ![] bcast_S_S32 (constantI S_ 32 256#32)) := by
  have h := u6 (pf 2 X)
  rwa [← split 2 X] at h
private theorem u7 : (sf 3 X main_v7 : IVec S32 32) = Host.reduceWindow IntOp.addi ![32] ![1] ![31] ![0] (sf 3 X main_v6 : IVec S32 32)
    (broadcastInDim S_ ![] bcast_S_S_ (constantI S_ 32 0#32)) reduceWindows_S32_S32_w32s1p31_0 h_S_ := by
  have e : (sf 3 X main_v7 : IVec S32 32) = StableHlo.after hostOps0_3 X main_v7 := by rfl
  have k_main_v6 : (sf 3 X main_v6 : IVec S32 32) = X main_v6 := by rfl
  rw [e, s7 X, k_main_v6]
theorem z7 : (Z X main_v7 : IVec S32 32) = Host.reduceWindow IntOp.addi ![32] ![1] ![31] ![0] (Z X main_v6 : IVec S32 32)
    (broadcastInDim S_ ![] bcast_S_S_ (constantI S_ 32 0#32)) reduceWindows_S32_S32_w32s1p31_0 h_S_ := by
  have h := u7 (pf 3 X)
  rwa [← split 3 X] at h
private theorem u10 : (sf 4 X main_v10 : IVec S_ 32) = shapeCast S_ (extractStridedSlice S1 ![31] (sf 4 X main_v7 : IVec S32 32) slices_S32_S1_31) shapeCasts_S1_S_ := by
  have e : (sf 4 X main_v10 : IVec S_ 32) = StableHlo.after hostOps0_4 X main_v10 := by rfl
  have k_main_v7 : (sf 4 X main_v7 : IVec S32 32) = X main_v7 := by rfl
  rw [e, s10 X, k_main_v7]
theorem z10 : (Z X main_v10 : IVec S_ 32) = shapeCast S_ (extractStridedSlice S1 ![31] (Z X main_v7 : IVec S32 32) slices_S32_S1_31) shapeCasts_S1_S_ := by
  have h := u10 (pf 4 X)
  rwa [← split 4 X] at h
private theorem u11 : (sf 5 X main_v11 : IVec S_ 32) = pyDiv0 (sf 5 X main_v10 : IVec S_ 32) (sf 5 X main_c_3 : IVec S_ 32) := by
  have e : (sf 5 X main_v11 : IVec S_ 32) = StableHlo.after hostOps0_5 X main_v11 := by rfl
  have k_main_c_3 : (sf 5 X main_c_3 : IVec S_ 32) = X main_c_3 := by rfl
  have k_main_v10 : (sf 5 X main_v10 : IVec S_ 32) = X main_v10 := by rfl
  rw [e, s11 X, k_main_c_3, k_main_v10]
theorem z11 : (Z X main_v11 : IVec S_ 32) = pyDiv0 (Z X main_v10 : IVec S_ 32) (Z X main_c_3 : IVec S_ 32) := by
  have h := u11 (pf 5 X)
  rwa [← split 5 X] at h
private theorem u22 : (sf 6 X main_v22 : IVec S288 32) = minsi (Host.reduce IntOp.addi (extui 32 (cmpi .sle
      (broadcastInDim S288x32 ![0, 1] bcast_S1x32_S288x32_0_1 (broadcastInDim S1x32 ![1] bcast_S32_S1x32_1 (sf 6 X main_v7 : IVec S32 32)))
      (broadcastInDim S288x32 ![0, 1] bcast_S288x1_S288x32_0_1 (broadcastInDim S288x1 ![0] bcast_S288_S288x1_0
        (muli (sf 6 X main_v8 : IVec S288 32) (broadcastInDim S288 ![] bcast_S_S288 (constantI S_ 32 256#32))))))  natLt_1_32)
      (constantI S_ 32 0#32) reducesTo_S288x32_S288_d1 h_S_) (broadcastInDim S288 ![] bcast_S_S288 (constantI S_ 32 31#32)):= by
  have e : (sf 6 X main_v22 : IVec S288 32) = StableHlo.after hostOps0_6 X main_v22 := by rfl
  have k_main_v7 : (sf 6 X main_v7 : IVec S32 32) = X main_v7 := by rfl
  have k_main_v8 : (sf 6 X main_v8 : IVec S288 32) = X main_v8 := by rfl
  rw [e, s22' X, k_main_v7, k_main_v8]
theorem z22 : (Z X main_v22 : IVec S288 32) = minsi (Host.reduce IntOp.addi (extui 32 (cmpi .sle
      (broadcastInDim S288x32 ![0, 1] bcast_S1x32_S288x32_0_1 (broadcastInDim S1x32 ![1] bcast_S32_S1x32_1 (Z X main_v7 : IVec S32 32)))
      (broadcastInDim S288x32 ![0, 1] bcast_S288x1_S288x32_0_1 (broadcastInDim S288x1 ![0] bcast_S288_S288x1_0
        (muli (Z X main_v8 : IVec S288 32) (broadcastInDim S288 ![] bcast_S_S288 (constantI S_ 32 256#32))))))  natLt_1_32)
      (constantI S_ 32 0#32) reducesTo_S288x32_S288_d1 h_S_) (broadcastInDim S288 ![] bcast_S_S288 (constantI S_ 32 31#32)):= by
  have h := u22 (pf 6 X)
  rwa [← split 6 X] at h
private theorem u25 : (sf 6 X main_v25 : IVec S288 1) = cmpi .eq (sf 6 X main_v8 : IVec S288 32)
    (broadcastInDim S288 ![] bcast_S_S288 (subi (sf 6 X main_v11 : IVec S_ 32) (constantI S_ 32 1#32))) := by
  have e : (sf 6 X main_v25 : IVec S288 1) = StableHlo.after hostOps0_6 X main_v25 := by rfl
  have k_main_v11 : (sf 6 X main_v11 : IVec S_ 32) = X main_v11 := by rfl
  have k_main_v8 : (sf 6 X main_v8 : IVec S288 32) = X main_v8 := by rfl
  rw [e, s25 X, k_main_v11, k_main_v8]
theorem z25 : (Z X main_v25 : IVec S288 1) = cmpi .eq (Z X main_v8 : IVec S288 32)
    (broadcastInDim S288 ![] bcast_S_S288 (subi (Z X main_v11 : IVec S_ 32) (constantI S_ 32 1#32))) := by
  have h := u25 (pf 6 X)
  rwa [← split 6 X] at h
private theorem u26 : (sf 7 X main_v26 : IVec S288 32) = select (sf 7 X main_v25 : IVec S288 1) (sf 7 X main_v22 : IVec S288 32)
    (broadcastInDim S288 ![] bcast_S_S288 (sf 7 X main_c_8 : IVec S_ 32)) := by
  have e : (sf 7 X main_v26 : IVec S288 32) = StableHlo.after hostOps0_7 X main_v26 := by rfl
  have k_main_c_8 : (sf 7 X main_c_8 : IVec S_ 32) = X main_c_8 := by rfl
  have k_main_v22 : (sf 7 X main_v22 : IVec S288 32) = X main_v22 := by rfl
  have k_main_v25 : (sf 7 X main_v25 : IVec S288 1) = X main_v25 := by rfl
  rw [e, s26 X, k_main_c_8, k_main_v22, k_main_v25]
theorem z26 : (Z X main_v26 : IVec S288 32) = select (Z X main_v25 : IVec S288 1) (Z X main_v22 : IVec S288 32)
    (broadcastInDim S288 ![] bcast_S_S288 (Z X main_c_8 : IVec S_ 32)) := by
  have h := u26 (pf 7 X)
  rwa [← split 7 X] at h
private theorem u27 : (sf 8 X main_v27 : IVec S_ 32) = Host.reduce IntOp.addi (sf 8 X main_v26 : IVec S288 32) (constantI S_ 32 0#32) reducesTo_S288_S_d0 h_S_ := by
  have e : (sf 8 X main_v27 : IVec S_ 32) = StableHlo.after hostOps0_8 X main_v27 := by rfl
  have k_main_v26 : (sf 8 X main_v26 : IVec S288 32) = X main_v26 := by rfl
  rw [e, s27 X, k_main_v26]
theorem z27 : (Z X main_v27 : IVec S_ 32) = Host.reduce IntOp.addi (Z X main_v26 : IVec S288 32) (constantI S_ 32 0#32) reducesTo_S288_S_d0 h_S_ := by
  have h := u27 (pf 8 X)
  rwa [← split 8 X] at h
private theorem u29 : (sf 8 X main_v29 : IVec S288 1) = cmpi .slt (sf 8 X main_v8 : IVec S288 32) (broadcastInDim S288 ![] bcast_S_S288 (sf 8 X main_v11 : IVec S_ 32)) := by
  have e : (sf 8 X main_v29 : IVec S288 1) = StableHlo.after hostOps0_8 X main_v29 := by rfl
  have k_main_v11 : (sf 8 X main_v11 : IVec S_ 32) = X main_v11 := by rfl
  have k_main_v8 : (sf 8 X main_v8 : IVec S288 32) = X main_v8 := by rfl
  rw [e, s29 X, k_main_v11, k_main_v8]
theorem z29 : (Z X main_v29 : IVec S288 1) = cmpi .slt (Z X main_v8 : IVec S288 32) (broadcastInDim S288 ![] bcast_S_S288 (Z X main_v11 : IVec S_ 32)) := by
  have h := u29 (pf 8 X)
  rwa [← split 8 X] at h
private theorem u30 : (sf 9 X main_v30 : IVec S288 32) = select (sf 9 X main_v29 : IVec S288 1) (sf 9 X main_v22 : IVec S288 32)
    (broadcastInDim S288 ![] bcast_S_S288 (sf 9 X main_v27 : IVec S_ 32)) := by
  have e : (sf 9 X main_v30 : IVec S288 32) = StableHlo.after hostOps0_9 X main_v30 := by rfl
  have k_main_v22 : (sf 9 X main_v22 : IVec S288 32) = X main_v22 := by rfl
  have k_main_v27 : (sf 9 X main_v27 : IVec S_ 32) = X main_v27 := by rfl
  have k_main_v29 : (sf 9 X main_v29 : IVec S288 1) = X main_v29 := by rfl
  rw [e, s30 X, k_main_v22, k_main_v27, k_main_v29]
theorem z30 : (Z X main_v30 : IVec S288 32) = select (Z X main_v29 : IVec S288 1) (Z X main_v22 : IVec S288 32)
    (broadcastInDim S288 ![] bcast_S_S288 (Z X main_v27 : IVec S_ 32)) := by
  have h := u30 (pf 9 X)
  rwa [← split 9 X] at h
private theorem u37 : (sf 10 X main_v37 : IVec S288 32) = extui 32 (cmpi .ne (sf 10 X main_v30 : IVec S288 32)
    (concatenate S288 0 [⟨S1, subi (extractStridedSlice S1 ![0] (sf 10 X main_v30 : IVec S288 32) slices_S288_S1_0) (broadcastInDim S1 ![] bcast_S_S1 (constantI S_ 32 1#32))⟩,
      ⟨S287, extractStridedSlice S287 ![0] (sf 10 X main_v30 : IVec S288 32) slices_S288_S287_0⟩] concatenates_S1_S287_S288_d0)) natLt_1_32 := by
  have e : (sf 10 X main_v37 : IVec S288 32) = StableHlo.after hostOps0_10 X main_v37 := by rfl
  have k_main_v30 : (sf 10 X main_v30 : IVec S288 32) = X main_v30 := by rfl
  rw [e, s37 X, k_main_v30]
theorem z37 : (Z X main_v37 : IVec S288 32) = extui 32 (cmpi .ne (Z X main_v30 : IVec S288 32)
    (concatenate S288 0 [⟨S1, subi (extractStridedSlice S1 ![0] (Z X main_v30 : IVec S288 32) slices_S288_S1_0) (broadcastInDim S1 ![] bcast_S_S1 (constantI S_ 32 1#32))⟩,
      ⟨S287, extractStridedSlice S287 ![0] (Z X main_v30 : IVec S288 32) slices_S288_S287_0⟩] concatenates_S1_S287_S288_d0)) natLt_1_32 := by
  have h := u37 (pf 10 X)
  rwa [← split 10 X] at h
private theorem u38 : (sf 11 X main_v38 : IVec S288 32) = Host.reduceWindow IntOp.addi ![288] ![1] ![287] ![0] (sf 11 X main_v37 : IVec S288 32)
    (broadcastInDim S_ ![] bcast_S_S_ (constantI S_ 32 0#32)) reduceWindows_S288_S288_w288s1p287_0 h_S_ := by
  have e : (sf 11 X main_v38 : IVec S288 32) = StableHlo.after hostOps0_11 X main_v38 := by rfl
  have k_main_v37 : (sf 11 X main_v37 : IVec S288 32) = X main_v37 := by rfl
  rw [e, s38 X, k_main_v37]
theorem z38 : (Z X main_v38 : IVec S288 32) = Host.reduceWindow IntOp.addi ![288] ![1] ![287] ![0] (Z X main_v37 : IVec S288 32)
    (broadcastInDim S_ ![] bcast_S_S_ (constantI S_ 32 0#32)) reduceWindows_S288_S288_w288s1p287_0 h_S_ := by
  have h := u38 (pf 11 X)
  rwa [← split 11 X] at h
private theorem u40 : (sf 12 X main_v40 : IVec S288 32) = subi (sf 12 X main_v38 : IVec S288 32) (broadcastInDim S288 ![] bcast_S_S288 (constantI S_ 32 1#32)) := by
  have e : (sf 12 X main_v40 : IVec S288 32) = StableHlo.after hostOps0_12 X main_v40 := by rfl
  have k_main_v38 : (sf 12 X main_v38 : IVec S288 32) = X main_v38 := by rfl
  rw [e, s40 X, k_main_v38]
theorem z40 : (Z X main_v40 : IVec S288 32) = subi (Z X main_v38 : IVec S288 32) (broadcastInDim S288 ![] bcast_S_S288 (constantI S_ 32 1#32)) := by
  have h := u40 (pf 12 X)
  rwa [← split 12 X] at h
private theorem u43 : (sf 12 X main_v43 : IVec S_ 32) = addi (shapeCast S_ (extractStridedSlice S1 ![287]
    (subi (sf 12 X main_v38 : IVec S288 32) (broadcastInDim S288 ![] bcast_S_S288 (constantI S_ 32 1#32))) slices_S288_S1_287) shapeCasts_S1_S_) (constantI S_ 32 1#32) := by
  have e : (sf 12 X main_v43 : IVec S_ 32) = StableHlo.after hostOps0_12 X main_v43 := by rfl
  have k_main_v38 : (sf 12 X main_v38 : IVec S288 32) = X main_v38 := by rfl
  rw [e, s43 X, k_main_v38]
theorem z43 : (Z X main_v43 : IVec S_ 32) = addi (shapeCast S_ (extractStridedSlice S1 ![287]
    (subi (Z X main_v38 : IVec S288 32) (broadcastInDim S288 ![] bcast_S_S288 (constantI S_ 32 1#32))) slices_S288_S1_287) shapeCasts_S1_S_) (constantI S_ 32 1#32) := by
  have h := u43 (pf 12 X)
  rwa [← split 12 X] at h
private theorem u54 : (sf 12 X main_v54 : IVec S32x288 1) = andi
    (broadcastInDim S32x288 ![0, 1] bcast_S1x288_S32x288_0_1 (cmpi .eq (broadcastInDim S1x288 ![1] bcast_S288_S1x288_1 (sf 12 X main_v37 : IVec S288 32))
      (broadcastInDim S1x288 ![] bcast_S_S1x288 (constantI S_ 32 1#32))))
    (cmpi .eq (broadcastInDim S32x288 ![0, 1] bcast_S1x288_S32x288_0_1 (broadcastInDim S1x288 ![1] bcast_S288_S1x288_1
        (subi (sf 12 X main_v38 : IVec S288 32) (broadcastInDim S288 ![] bcast_S_S288 (constantI S_ 32 1#32)))))
      (broadcastInDim S32x288 ![0, 1] bcast_S32x1_S32x288_0_1 (broadcastInDim S32x1 ![0] bcast_S32_S32x1_0 (iotaInDim S32 32 0)))) := by
  have e : (sf 12 X main_v54 : IVec S32x288 1) = StableHlo.after hostOps0_12 X main_v54 := by rfl
  have k_main_v37 : (sf 12 X main_v37 : IVec S288 32) = X main_v37 := by rfl
  have k_main_v38 : (sf 12 X main_v38 : IVec S288 32) = X main_v38 := by rfl
  rw [e, s54 X, k_main_v37, k_main_v38]
theorem z54 : (Z X main_v54 : IVec S32x288 1) = andi
    (broadcastInDim S32x288 ![0, 1] bcast_S1x288_S32x288_0_1 (cmpi .eq (broadcastInDim S1x288 ![1] bcast_S288_S1x288_1 (Z X main_v37 : IVec S288 32))
      (broadcastInDim S1x288 ![] bcast_S_S1x288 (constantI S_ 32 1#32))))
    (cmpi .eq (broadcastInDim S32x288 ![0, 1] bcast_S1x288_S32x288_0_1 (broadcastInDim S1x288 ![1] bcast_S288_S1x288_1
        (subi (Z X main_v38 : IVec S288 32) (broadcastInDim S288 ![] bcast_S_S288 (constantI S_ 32 1#32)))))
      (broadcastInDim S32x288 ![0, 1] bcast_S32x1_S32x288_0_1 (broadcastInDim S32x1 ![0] bcast_S32_S32x1_0 (iotaInDim S32 32 0)))) := by
  have h := u54 (pf 12 X)
  rwa [← split 12 X] at h
private theorem u55 : (sf 12 X main_v55 : IVec S1x288 32) = broadcastInDim S1x288 ![1] bcast_S288_S1x288_1 (sf 12 X main_v30 : IVec S288 32) := by
  have e : (sf 12 X main_v55 : IVec S1x288 32) = StableHlo.after hostOps0_12 X main_v55 := by rfl
  have k_main_v30 : (sf 12 X main_v30 : IVec S288 32) = X main_v30 := by rfl
  rw [e, s55 X, k_main_v30]
theorem z55 : (Z X main_v55 : IVec S1x288 32) = broadcastInDim S1x288 ![1] bcast_S288_S1x288_1 (Z X main_v30 : IVec S288 32) := by
  have h := u55 (pf 12 X)
  rwa [← split 12 X] at h
private theorem u56 : (sf 13 X main_v56 : IVec S32x288 32) = select (sf 13 X main_v54 : IVec S32x288 1)
    (broadcastInDim S32x288 ![0, 1] bcast_S1x288_S32x288_0_1 (sf 13 X main_v55 : IVec S1x288 32)) (broadcastInDim S32x288 ![] bcast_S_S32x288 (sf 13 X main_c_14 : IVec S_ 32)) := by
  have e : (sf 13 X main_v56 : IVec S32x288 32) = StableHlo.after hostOps0_13 X main_v56 := by rfl
  have k_main_c_14 : (sf 13 X main_c_14 : IVec S_ 32) = X main_c_14 := by rfl
  have k_main_v54 : (sf 13 X main_v54 : IVec S32x288 1) = X main_v54 := by rfl
  have k_main_v55 : (sf 13 X main_v55 : IVec S1x288 32) = X main_v55 := by rfl
  rw [e, s56 X, k_main_c_14, k_main_v54, k_main_v55]
theorem z56 : (Z X main_v56 : IVec S32x288 32) = select (Z X main_v54 : IVec S32x288 1)
    (broadcastInDim S32x288 ![0, 1] bcast_S1x288_S32x288_0_1 (Z X main_v55 : IVec S1x288 32)) (broadcastInDim S32x288 ![] bcast_S_S32x288 (Z X main_c_14 : IVec S_ 32)) := by
  have h := u56 (pf 13 X)
  rwa [← split 13 X] at h
private theorem u57 : (sf 14 X main_v57 : IVec S32 32) = Host.reduce IntOp.addi (sf 14 X main_v56 : IVec S32x288 32) (constantI S_ 32 0#32) reducesTo_S32x288_S32_d1 h_S_ := by
  have e : (sf 14 X main_v57 : IVec S32 32) = StableHlo.after hostOps0_14 X main_v57 := by rfl
  have k_main_v56 : (sf 14 X main_v56 : IVec S32x288 32) = X main_v56 := by rfl
  rw [e, s57 X, k_main_v56]
theorem z57 : (Z X main_v57 : IVec S32 32) = Host.reduce IntOp.addi (Z X main_v56 : IVec S32x288 32) (constantI S_ 32 0#32) reducesTo_S32x288_S32_d1 h_S_ := by
  have h := u57 (pf 14 X)
  rwa [← split 14 X] at h
private theorem u59 : (sf 15 X main_v59 : IVec S64 32) = pyRem bcast_S_S64 (sf 15 X main_v58 : IVec S64 32) (sf 15 X main_v43 : IVec S_ 32) := by
  have e : (sf 15 X main_v59 : IVec S64 32) = StableHlo.after hostOps0_15 X main_v59 := by rfl
  have k_main_v43 : (sf 15 X main_v43 : IVec S_ 32) = X main_v43 := by rfl
  have k_main_v58 : (sf 15 X main_v58 : IVec S64 32) = X main_v58 := by rfl
  rw [e, s59' X, k_main_v43, k_main_v58]
theorem z59 : (Z X main_v59 : IVec S64 32) = pyRem bcast_S_S64 (Z X main_v58 : IVec S64 32) (Z X main_v43 : IVec S_ 32) := by
  have h := u59 (pf 15 X)
  rwa [← split 15 X] at h
private theorem u64 : (sf 16 X main_v64 : IVec S64x32 1) = cmpi .eq
    (broadcastInDim S64x32 ![0, 1] bcast_S64x1_S64x32_0_1 (broadcastInDim S64x1 ![0] bcast_S64_S64x1_0 (sf 16 X main_v59 : IVec S64 32)))
    (broadcastInDim S64x32 ![0, 1] bcast_S1x32_S64x32_0_1 (broadcastInDim S1x32 ![1] bcast_S32_S1x32_1 (sf 16 X main_v44 : IVec S32 32))) := by
  have e : (sf 16 X main_v64 : IVec S64x32 1) = StableHlo.after hostOps0_16 X main_v64 := by rfl
  have k_main_v44 : (sf 16 X main_v44 : IVec S32 32) = X main_v44 := by rfl
  have k_main_v59 : (sf 16 X main_v59 : IVec S64 32) = X main_v59 := by rfl
  rw [e, s64 X, k_main_v44, k_main_v59]
theorem z64 : (Z X main_v64 : IVec S64x32 1) = cmpi .eq
    (broadcastInDim S64x32 ![0, 1] bcast_S64x1_S64x32_0_1 (broadcastInDim S64x1 ![0] bcast_S64_S64x1_0 (Z X main_v59 : IVec S64 32)))
    (broadcastInDim S64x32 ![0, 1] bcast_S1x32_S64x32_0_1 (broadcastInDim S1x32 ![1] bcast_S32_S1x32_1 (Z X main_v44 : IVec S32 32))) := by
  have h := u64 (pf 16 X)
  rwa [← split 16 X] at h
private theorem u65 : (sf 16 X main_v65 : IVec S1x32 32) = broadcastInDim S1x32 ![1] bcast_S32_S1x32_1 (sf 16 X main_v57 : IVec S32 32) := by
  have e : (sf 16 X main_v65 : IVec S1x32 32) = StableHlo.after hostOps0_16 X main_v65 := by rfl
  have k_main_v57 : (sf 16 X main_v57 : IVec S32 32) = X main_v57 := by rfl
  rw [e, s65 X, k_main_v57]
theorem z65 : (Z X main_v65 : IVec S1x32 32) = broadcastInDim S1x32 ![1] bcast_S32_S1x32_1 (Z X main_v57 : IVec S32 32) := by
  have h := u65 (pf 16 X)
  rwa [← split 16 X] at h
private theorem u66 : (sf 17 X main_v66 : IVec S64x32 32) = select (sf 17 X main_v64 : IVec S64x32 1)
    (broadcastInDim S64x32 ![0, 1] bcast_S1x32_S64x32_0_1 (sf 17 X main_v65 : IVec S1x32 32)) (broadcastInDim S64x32 ![] bcast_S_S64x32 (sf 17 X main_c_16 : IVec S_ 32)) := by
  have e : (sf 17 X main_v66 : IVec S64x32 32) = StableHlo.after hostOps0_17 X main_v66 := by rfl
  have k_main_c_16 : (sf 17 X main_c_16 : IVec S_ 32) = X main_c_16 := by rfl
  have k_main_v64 : (sf 17 X main_v64 : IVec S64x32 1) = X main_v64 := by rfl
  have k_main_v65 : (sf 17 X main_v65 : IVec S1x32 32) = X main_v65 := by rfl
  rw [e, s66 X, k_main_c_16, k_main_v64, k_main_v65]
theorem z66 : (Z X main_v66 : IVec S64x32 32) = select (Z X main_v64 : IVec S64x32 1)
    (broadcastInDim S64x32 ![0, 1] bcast_S1x32_S64x32_0_1 (Z X main_v65 : IVec S1x32 32)) (broadcastInDim S64x32 ![] bcast_S_S64x32 (Z X main_c_16 : IVec S_ 32)) := by
  have h := u66 (pf 17 X)
  rwa [← split 17 X] at h
private theorem u67 : (sf 18 X main_v67 : IVec S64 32) = Host.reduce IntOp.addi (sf 18 X main_v66 : IVec S64x32 32) (constantI S_ 32 0#32) reducesTo_S64x32_S64_d1 h_S_ := by
  have e : (sf 18 X main_v67 : IVec S64 32) = StableHlo.after hostOps0_18 X main_v67 := by rfl
  have k_main_v66 : (sf 18 X main_v66 : IVec S64x32 32) = X main_v66 := by rfl
  rw [e, s67 X, k_main_v66]
theorem z67 : (Z X main_v67 : IVec S64 32) = Host.reduce IntOp.addi (Z X main_v66 : IVec S64x32 32) (constantI S_ 32 0#32) reducesTo_S64x32_S64_d1 h_S_ := by
  have h := u67 (pf 18 X)
  rwa [← split 18 X] at h
private theorem u68 : (sf 19 X main_v68 : IVec S64 32) = pyDiv bcast_S_S64 (sf 19 X main_v58 : IVec S64 32) (sf 19 X main_v43 : IVec S_ 32) := by
  have e : (sf 19 X main_v68 : IVec S64 32) = StableHlo.after hostOps0_19 X main_v68 := by rfl
  have k_main_v43 : (sf 19 X main_v43 : IVec S_ 32) = X main_v43 := by rfl
  have k_main_v58 : (sf 19 X main_v58 : IVec S64 32) = X main_v58 := by rfl
  rw [e, s68 X, k_main_v43, k_main_v58]
theorem z68 : (Z X main_v68 : IVec S64 32) = pyDiv bcast_S_S64 (Z X main_v58 : IVec S64 32) (Z X main_v43 : IVec S_ 32) := by
  have h := u68 (pf 19 X)
  rwa [← split 19 X] at h
private theorem u70 : (sf 20 X main_v70 : IVec S64 32) = minsi (sf 20 X main_v68 : IVec S64 32) (broadcastInDim S64 ![] bcast_S_S64 (constantI S_ 32 1#32)) := by
  have e : (sf 20 X main_v70 : IVec S64 32) = StableHlo.after hostOps0_20 X main_v70 := by rfl
  have k_main_v68 : (sf 20 X main_v68 : IVec S64 32) = X main_v68 := by rfl
  rw [e, s70 X, k_main_v68]
theorem z70 : (Z X main_v70 : IVec S64 32) = minsi (Z X main_v68 : IVec S64 32) (broadcastInDim S64 ![] bcast_S_S64 (constantI S_ 32 1#32)) := by
  have h := u70 (pf 20 X)
  rwa [← split 20 X] at h
private theorem u71 : (sf 20 X main_v71 : IVec S1 32) = shapeCast S1 (sf 20 X main_v11 : IVec S_ 32) shapeCasts_S_S1 := by
  have e : (sf 20 X main_v71 : IVec S1 32) = StableHlo.after hostOps0_20 X main_v71 := by rfl
  have k_main_v11 : (sf 20 X main_v11 : IVec S_ 32) = X main_v11 := by rfl
  rw [e, s71 X, k_main_v11]
theorem z71 : (Z X main_v71 : IVec S1 32) = shapeCast S1 (Z X main_v11 : IVec S_ 32) shapeCasts_S_S1 := by
  have h := u71 (pf 20 X)
  rwa [← split 20 X] at h
private theorem u72 : (sf 20 X main_v72 : IVec S1 32) = shapeCast S1 (sf 20 X main_v43 : IVec S_ 32) shapeCasts_S_S1 := by
  have e : (sf 20 X main_v72 : IVec S1 32) = StableHlo.after hostOps0_20 X main_v72 := by rfl
  have k_main_v43 : (sf 20 X main_v43 : IVec S_ 32) = X main_v43 := by rfl
  rw [e, s72 X, k_main_v43]
theorem z72 : (Z X main_v72 : IVec S1 32) = shapeCast S1 (Z X main_v43 : IVec S_ 32) shapeCasts_S_S1 := by
  have h := u72 (pf 20 X)
  rwa [← split 20 X] at h
theorem zc_1 : (Z X main_c_1 : IVec S_ 32) = constantI S_ 32 256#32 := by rfl
theorem zc_3 : (Z X main_c_3 : IVec S_ 32) = constantI S_ 32 256#32 := by rfl
theorem zc_8 : (Z X main_c_8 : IVec S_ 32) = constantI S_ 32 0#32 := by rfl
theorem zc_14 : (Z X main_c_14 : IVec S_ 32) = constantI S_ 32 0#32 := by rfl
theorem zc_16 : (Z X main_c_16 : IVec S_ 32) = constantI S_ 32 0#32 := by rfl
theorem z8 : (Z X main_v8 : IVec S288 32) = iotaInDim S288 32 0 := by rfl
theorem z44 : (Z X main_v44 : IVec S32 32) = iotaInDim S32 32 0 := by rfl
theorem z58 : (Z X main_v58 : IVec S64 32) = iotaInDim S64 32 0 := by rfl
theorem za : (Z X main_arg0 : IVec S32 32) = X main_arg0 := by rfl

end Cert.KernelIdeal.Hand

end
-- ==== Proof.PlanNat.lean ====
module

public import Idealize.ShloMosaic.Lib.Routing.OpsSearch

/-! Runs of equal experts over a nondecreasing list of blocks, and sums of words that hold naturals. -/

@[expose] public section

noncomputable section

namespace Cert.KernelIdeal.Hand

open Idealize.ShloMosaic

variable (be : ℕ → ℕ)

/-- Block `b` is the first of a run of blocks of one expert. -/
def fstB (b : ℕ) : Bool := b == 0 || be b != be (b - 1)

/-- How many runs start by block `b`. -/
def cumF (b : ℕ) : ℕ := ∑ k ∈ Finset.range (b + 1), if fstB be k then 1 else 0

/-- The run block `b` is in. -/
def rbN (b : ℕ) : ℕ := cumF be b - 1

theorem fstB_zero : fstB be 0 = true := rfl

theorem cumF_zero : cumF be 0 = 1 := by
  unfold cumF
  rw [Finset.sum_range_one, fstB_zero]
  rfl

theorem cumF_succ (b : ℕ) : cumF be (b + 1) = cumF be b + if fstB be (b + 1) then 1 else 0 := Finset.sum_range_succ _ _

theorem cumF_pos : ∀ b, 1 ≤ cumF be b
  | 0 => (cumF_zero be).ge
  | b + 1 => (cumF_pos b).trans ((cumF_succ be b).ge.trans' (Nat.le_add_right _ _))

theorem rbN_zero : rbN be 0 = 0 := by unfold rbN; rw [cumF_zero]

theorem rbN_succ (b : ℕ) : rbN be (b + 1) = rbN be b + if fstB be (b + 1) then 1 else 0 := by
  have h := cumF_pos be b
  have h1 := cumF_succ be b
  unfold rbN
  omega

theorem rbN_mono : Monotone (rbN be) := monotone_nat_of_le_succ fun b => by rw [rbN_succ]; exact Nat.le_add_right _ _

theorem fstB_succ (b : ℕ) : fstB be (b + 1) = true ↔ be (b + 1) ≠ be b := by
  unfold fstB
  simp

theorem rbN_le (hm : Monotone be) : ∀ b, be 0 + rbN be b ≤ be b
  | 0 => by rw [rbN_zero]; exact le_rfl
  | b + 1 => by
    have ih := rbN_le hm b
    have h1 := hm (Nat.le_succ b)
    rw [rbN_succ]
    by_cases h : fstB be (b + 1) = true
    · have h2 := (fstB_succ be b).mp h
      rw [if_pos h]
      simp only [Nat.succ_eq_add_one] at h1
      omega
    · rw [if_neg h]
      simp only [Nat.succ_eq_add_one] at h1
      omega

theorem exists_first : ∀ b, ∃ k, k ≤ b ∧ fstB be k = true ∧ rbN be k = rbN be b ∧ be k = be b
  | 0 => ⟨0, le_rfl, rfl, rfl, rfl⟩
  | b + 1 => by
    by_cases h : fstB be (b + 1) = true
    · exact ⟨b + 1, le_rfl, h, rfl, rfl⟩
    · obtain ⟨k, h1, h2, h3, h4⟩ := exists_first b
      have h5 : be (b + 1) = be b := not_not.mp fun h6 => h ((fstB_succ be b).mpr h6)
      refine ⟨k, Nat.le_succ_of_le h1, h2, ?_, h4.trans h5.symm⟩
      rw [rbN_succ, if_neg h]
      exact h3

theorem first_lt {k l : ℕ} (h : k < l) (hl : fstB be l = true) : rbN be k < rbN be l := by
  obtain ⟨j, rfl⟩ : ∃ j, l = j + 1 := ⟨l - 1, by omega⟩
  have h1 := rbN_mono be (Nat.le_of_lt_succ h)
  rw [rbN_succ, if_pos hl]
  exact Nat.lt_succ_of_le h1

theorem first_unique {k l : ℕ} (hk : fstB be k = true) (hl : fstB be l = true) (h : rbN be k = rbN be l) : k = l := by
  rcases lt_trichotomy k l with h1 | h1 | h1
  · exact absurd h (first_lt be h1 hl).ne
  · exact h1
  · exact absurd h.symm (first_lt be h1 hk).ne

/-- The expert of run `r`, as a sum over the blocks of which one counts. -/
def reN (n r : ℕ) : ℕ := ∑ k ∈ Finset.range n, if fstB be k = true ∧ rbN be k = r then be k else 0

theorem reN_rb {n b : ℕ} (h : b < n) : reN be n (rbN be b) = be b := by
  obtain ⟨k, h1, h2, h3, h4⟩ := exists_first be b
  unfold reN
  rw [Finset.sum_eq_single k, if_pos ⟨h2, h3⟩, h4]
  · intro l _ hl
    exact if_neg fun ⟨h5, h6⟩ => hl (first_unique be h5 h2 (h6.trans h3.symm))
  · intro h5
    exact absurd (Finset.mem_range.mpr (lt_of_le_of_lt h1 h)) h5

/-- Every run up to a block's is some block's. -/
theorem exists_run : ∀ b r, r ≤ rbN be b → ∃ k, k ≤ b ∧ rbN be k = r
  | 0, r, h => ⟨0, le_rfl, by rw [rbN_zero] at h ⊢; omega⟩
  | b + 1, r, h => by
    by_cases h1 : r ≤ rbN be b
    · obtain ⟨k, h2, h3⟩ := exists_run b r h1
      exact ⟨k, Nat.le_succ_of_le h2, h3⟩
    · refine ⟨b + 1, le_rfl, ?_⟩
      have h2 := rbN_succ be b
      by_cases h3 : fstB be (b + 1) = true
      · rw [if_pos h3] at h2; omega
      · rw [if_neg h3] at h2; omega

open Idealize.ShloMosaic.Routing Idealize.ShloMosaic.ValueIdx

theorem sum_list (n : ℕ) (f : ℕ → ℕ) : ((List.range n).map f).sum = ∑ k ∈ Finset.range n, f k := rfl

theorem fold_addi_ofNat {ι : Type} (S : Finset ι) (x : ι → BitVec 32) (g : ι → ℕ) (h : ∀ k ∈ S, x k = BitVec.ofNat 32 (g k)) :
    S.fold IntOp.addi (0#32) x = BitVec.ofNat 32 (∑ k ∈ S, g k) := by
  classical
  induction S using Finset.induction_on with
  | empty => rfl
  | insert a S ha ih =>
    rw [Finset.fold_insert ha, ih fun k hk => h k (Finset.mem_insert_of_mem hk), Finset.sum_insert ha, h a (Finset.mem_insert_self _ _)]
    exact (BitVec.ofNat_add _ _).symm

/-- The sums along the rows of a rectangle of words that hold naturals. -/
theorem reduce_rows {n m : ℕ} (x : IVec (shape2 n m) 32) (h : (shape2 n m).ReducesTo [1] (shape1 n)) (hu : 0 < shape0.numel) (i : Fin n) (f : ℕ → ℕ)
    (hx : ∀ q : Fin m, x (ix2 i q) = BitVec.ofNat 32 (f q.val)) :
    Host.reduce IntOp.addi x (constantI shape0 32 0#32) h hu (ix1 i) = BitVec.ofNat 32 (∑ q ∈ Finset.range m, f q) := by
  classical
  rw [Host.reduce_eq_fold]
  have hdrop : ∀ z : (shape2 n m).Idx, h.drop z = ix1 i ↔ z 0 = i := by
    intro z
    have hv : (h.drop z 0 : ℕ) = z 0 := Shape.ReducesTo.drop_apply_val h z 0
    constructor
    · intro e; rw [e] at hv; exact Fin.ext hv.symm
    · intro e; funext b; have hb : b = 0 := Subsingleton.elim _ _; subst hb; exact Fin.ext (by rw [hv, e]; rfl)
  have hback : ∀ z : (shape2 n m).Idx, z 0 = i → ix2 i (z 1) = z := fun z h0 => by
    funext b; match b with
    | ⟨0, _⟩ => exact h0.symm
    | ⟨1, _⟩ => rfl
  refine (fold_addi_ofNat _ x (fun z => f (z 1).val) fun z hz => ?_).trans (congrArg (BitVec.ofNat 32) ?_)
  · have h0 := (hdrop z).mp (Finset.mem_filter.mp hz).2
    exact (congrArg x (hback z h0)).symm.trans (hx (z 1))
  · refine Finset.sum_bij' (fun z _ => (z 1).val) (fun q hq => ix2 i ⟨q, Finset.mem_range.mp hq⟩) ?_ ?_ ?_ ?_ ?_
    · exact fun z _ => Finset.mem_range.mpr (z 1).isLt
    · exact fun q hq => Finset.mem_filter.mpr ⟨Finset.mem_univ _, (hdrop _).mpr rfl⟩
    · exact fun z hz => hback z ((hdrop z).mp (Finset.mem_filter.mp hz).2)
    · exact fun q hq => rfl
    · exact fun z hz => rfl

end Cert.KernelIdeal.Hand

end
-- ==== Proof.HostPlan.lean ====
module

public import proofs.«01_k».proof.Proof.HostZ
public import proofs.«01_k».proof.Proof.PlanNat
public import Idealize.ShloMosaic.Lib.Pipeline.Value
public import Idealize.ShloMosaic.Lib.WordCmp

/-! What the tables hold: the plan of the blocks and of the runs. -/

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (Pipeline.UD sig nD τ) ℕ

open Idealize.ShloMosaic.Routing Idealize.ShloMosaic.ValueIdx

/-- Expert `e`'s rows. -/
def sz (a : IVec S32 32) (e : ℕ) : ℕ := if h : e < 32 then (a (ix1 ⟨e, h⟩)).toNat else 0
/-- Its rows in whole blocks. -/
def cds (a : IVec S32 32) (e : ℕ) : ℕ := (sz a e + 255) / 256 * 256
/-- Where its blocks end. -/
def pe (a : IVec S32 32) (e : ℕ) : ℕ := ∑ k ∈ Finset.range (e + 1), cds a k
/-- The blocks in use. -/
def nuN (a : IVec S32 32) : ℕ := pe a 31 / 256
/-- The experts that end by block `b`. -/
def cnt (a : IVec S32 32) (b : ℕ) : ℕ := Nat.count (fun e => pe a e ≤ b * 256) 32
/-- Block `b`'s expert. -/
def beN (a : IVec S32 32) (b : ℕ) : ℕ := min (cnt a (min b (nuN a - 1))) 31

/-- The rows are those of a routing of 65536 pairs. -/
structure Routed (a : IVec S32 32) : Prop where
  le : ∀ e, sz a e ≤ 65536
  sum : ∑ e ∈ Finset.range 32, sz a e = 65536

namespace Routed

variable {a : IVec S32 32} (h : Routed a)
include h

theorem sz_word (e : Fin 32) : a (ix1 e) = BitVec.ofNat 32 (sz a e.val) := by
  unfold sz
  rw [dif_pos e.isLt]
  exact ((BitVec.ofNat_toNat 32 _).trans (BitVec.setWidth_eq _)).symm

theorem cds_le (e : ℕ) : cds a e ≤ sz a e + 255 := Nat.div_mul_le_self _ _
theorem le_cds (e : ℕ) : sz a e ≤ cds a e := by unfold cds; omega

theorem pe31_le : pe a 31 ≤ 73696 := by
  have h1 : pe a 31 ≤ ∑ k ∈ Finset.range 32, (sz a k + 255) := Finset.sum_le_sum fun k _ => h.cds_le k
  rw [Finset.sum_add_distrib, h.sum, Finset.sum_const, Finset.card_range] at h1
  exact h1

theorem le_pe31 : 65536 ≤ pe a 31 := h.sum.ge.trans (Finset.sum_le_sum fun k _ => h.le_cds k)

omit h in
theorem pe_mono : Monotone (pe a) := fun i j hij =>
  Finset.sum_le_sum_of_subset (Finset.range_mono (Nat.succ_le_succ hij))

theorem pe_le {e : ℕ} (he : e < 32) : pe a e ≤ 73696 := (pe_mono (show e ≤ 31 by omega)).trans h.pe31_le

omit h in
theorem nu_mul : nuN a * 256 = pe a 31 := by
  have h1 : 256 ∣ pe a 31 := Finset.dvd_sum fun k _ => Dvd.intro_left _ rfl
  exact Nat.div_mul_cancel h1

theorem nu_pos : 1 ≤ nuN a := by have := h.le_pe31; unfold nuN; omega
theorem nu_le : nuN a ≤ 287 := by have := h.pe31_le; unfold nuN; omega

omit h in
theorem cnt_mono : Monotone (cnt a) := fun i j hij => by
  unfold cnt
  exact Nat.count_mono_left fun e _ (he : pe a e ≤ i * 256) => le_trans he (Nat.mul_le_mul_right 256 hij)

omit h in
theorem beN_mono : Monotone (beN a) := fun i j hij =>
  min_le_min_right _ (cnt_mono (min_le_min_right _ hij))

omit h in
theorem beN_lt (b : ℕ) : beN a b < 32 := by unfold beN; omega

omit h in
theorem cnt_le (b : ℕ) : cnt a b ≤ 32 := Nat.count_le _

end Routed

theorem iota_word {n : ℕ} (p : Fin n) : iotaInDim (⟨1, ![n]⟩ : Shape) 32 0 (ix1 p) = BitVec.ofNat 32 p.val := rfl

variable (X : Valuation τ sig (Elt F)) {a : IVec S32 32} (ha : (X main_arg0 : IVec S32 32) = a) (h : Routed a)
include ha h

theorem w6 (e : Fin 32) : (Z X main_v6 : IVec S32 32) (ix1 e) = BitVec.ofNat 32 (cds a e.val) := by
  have h3 : (Z X main_v3 : IVec S32 32) (ix1 e) = BitVec.ofNat 32 (sz a e.val + 255) := by
    rw [z3, za, ha, subi_ap, addi_ap, bc0, bc0, h.sz_word e]
    show BitVec.ofNat 32 (sz a e.val) + BitVec.ofNat 32 256 - BitVec.ofNat 32 1 = _
    rw [← BitVec.ofNat_add, ofNat32_sub (by omega)]
    rfl
  have h4 : (Z X main_v4 : IVec S32 32) (ix1 e) = BitVec.ofNat 32 ((sz a e.val + 255) / 256) := by
    rw [z4, zc_1]
    exact pyDiv_ap bcast_S_S32 _ _ (ix1 e) h3 rfl (by have := h.le e.val; omega) (by decide) (by decide)
  rw [z6, muli_ap, h4, bc0]
  exact (BitVec.ofNat_mul _ _).symm

theorem w7 (e : Fin 32) : (Z X main_v7 : IVec S32 32) (ix1 e) = BitVec.ofNat 32 (pe a e.val) := by
  rw [z7]
  refine (cumsum1 rfl _ (cds a) (w6 X ha h) _ ?_ _ _ e).trans rfl
  rw [bc0]
  rfl

theorem w11 : (Z X main_v11 : IVec S_ 32) ValueIdx.ix0 = BitVec.ofNat 32 (nuN a) := by
  have h10 : (Z X main_v10 : IVec S_ 32) ValueIdx.ix0 = BitVec.ofNat 32 (pe a 31) := by
    rw [z10]
    refine (shapeCast_apply _ _ ValueIdx.ix0 (ix1 (0 : Fin 1)) rfl).trans ?_
    refine (slice1 31 _ _ 0 (by decide)).trans ?_
    exact w7 X ha h 31
  rw [z11]
  exact pyDiv0_ap _ _ h10 (by rw [zc_3]; rfl) (by have := h.pe31_le; omega) (by decide) (by decide)

omit ha in
theorem minsi_cnt (v7 : IVec S32 32) (v8 : IVec S288 32) (h7 : ∀ e : Fin 32, v7 (ix1 e) = BitVec.ofNat 32 (pe a e.val)) (h8 : v8 = iotaInDim S288 32 0) (b : Fin 288) :
    minsi (Host.reduce IntOp.addi (extui 32 (cmpi .sle
      (broadcastInDim S288x32 ![0, 1] bcast_S1x32_S288x32_0_1 (broadcastInDim S1x32 ![1] bcast_S32_S1x32_1 v7))
      (broadcastInDim S288x32 ![0, 1] bcast_S288x1_S288x32_0_1 (broadcastInDim S288x1 ![0] bcast_S288_S288x1_0
        (muli v8 (broadcastInDim S288 ![] bcast_S_S288 (constantI S_ 32 256#32))))))  natLt_1_32)
      (constantI S_ 32 0#32) reducesTo_S288x32_S288_d1 h_S_) (broadcastInDim S288 ![] bcast_S_S288 (constantI S_ 32 31#32)) (ix1 b)
      = BitVec.ofNat 32 (min (cnt a b.val) 31) := by
  have hc := Routed.cnt_le (a := a) b.val
  have hr := reduce_count (n := 288) (m := 32) (by decide) (cmpi .sle
      (broadcastInDim S288x32 ![0, 1] bcast_S1x32_S288x32_0_1 (broadcastInDim S1x32 ![1] bcast_S32_S1x32_1 v7))
      (broadcastInDim S288x32 ![0, 1] bcast_S288x1_S288x32_0_1 (broadcastInDim S288x1 ![0] bcast_S288_S288x1_0
        (muli v8 (broadcastInDim S288 ![] bcast_S_S288 (constantI S_ 32 256#32))))))
    natLt_1_32 reducesTo_S288x32_S288_d1 h_S_ b (fun e => pe a e ≤ b.val * 256) (fun q => by
      have e1 : broadcastInDim S288x32 ![0, 1] bcast_S1x32_S288x32_0_1 (broadcastInDim S1x32 ![1] bcast_S32_S1x32_1 v7) (ix2 b q)
          = BitVec.ofNat 32 (pe a q.val) := (bcCols _ _ _ b q).trans (h7 q)
      have e2 : broadcastInDim S288x32 ![0, 1] bcast_S288x1_S288x32_0_1 (broadcastInDim S288x1 ![0] bcast_S288_S288x1_0
          (muli v8 (broadcastInDim S288 ![] bcast_S_S288 (constantI S_ 32 256#32)))) (ix2 b q)
          = BitVec.ofNat 32 (b.val * 256) := by
        refine (bcRows _ _ _ b q).trans ?_
        rw [muli_ap, h8, bc0]
        exact (BitVec.ofNat_mul _ _).symm
      have hq := h.pe_le q.isLt
      have hb := b.isLt
      refine (iff_of_eq (congrArg (· = 1#1) (congrArg₂ (IntOp.cmpi .sle) e1 e2))).trans ?_
      rw [StableHlo.Predicate.sle_iff_toNat (by rw [BitVec.toNat_ofNat]; omega) (by rw [BitVec.toNat_ofNat]; omega),
        BitVec.toNat_ofNat, BitVec.toNat_ofNat, Nat.mod_eq_of_lt (by omega), Nat.mod_eq_of_lt (by omega)])
  refine (congrArg₂ IntOp.minsi hr (bc0 _ _ _)).trans ?_
  show IntOp.minsi (BitVec.ofNat 32 (cnt a b.val)) (BitVec.ofNat 32 31) = _
  unfold IntOp.minsi
  rw [slt_ofNat32 (by omega) (by decide)]
  by_cases h1 : cnt a b.val < 31
  · rw [min_eq_left h1.le]; simp [h1]
  · rw [min_eq_right (by omega)]; simp [h1]

theorem w22 (b : Fin 288) : (Z X main_v22 : IVec S288 32) (ix1 b) = BitVec.ofNat 32 (min (cnt a b.val) 31) := by
  rw [z22]
  exact minsi_cnt h _ _ (w7 X ha h) (z8 X) b

open Idealize.ShloMosaic.WordCmp

theorem w27 : (Z X main_v27 : IVec S_ 32) ValueIdx.ix0 = BitVec.ofNat 32 (min (cnt a (nuN a - 1)) 31) := by
  have h26 (b : Fin 288) : (Z X main_v26 : IVec S288 32) (ix1 b) = BitVec.ofNat 32 (if b.val = nuN a - 1 then min (cnt a (nuN a - 1)) 31 else 0) := by
    have h25 : (Z X main_v25 : IVec S288 1) (ix1 b) = BitVec.ofBool (decide (b.val = nuN a - 1)) := by
      have hp := h.nu_pos
      have hl := h.nu_le
      have hb := b.isLt
      rw [z25, cmpi_at, z8, iota_word, bc0, subi_ap, w11 X ha h]
      show IntOp.cmpi .eq _ (BitVec.ofNat 32 (nuN a) - BitVec.ofNat 32 1) = _
      rw [ofNat32_sub hp, cmpi_eq_ofNat (w := 32) (by omega) (by omega)]
    rw [z26, select_at, h25, w22 X ha h, bc0, zc_8, select_decide]
    by_cases e : b.val = nuN a - 1
    · rw [if_pos e, if_pos e, e]
    · rw [if_neg e, if_neg e]; rfl
  rw [z27]
  refine (reduce_sum (N := 288) _ (fun b => if b = nuN a - 1 then min (cnt a (nuN a - 1)) 31 else 0) h26 _ _).trans (congrArg (BitVec.ofNat 32) ?_)
  rw [sum_list, Finset.sum_ite_eq' , if_pos (Finset.mem_range.mpr (by have := h.nu_le; omega))]

theorem w30 (b : Fin 288) : (Z X main_v30 : IVec S288 32) (ix1 b) = BitVec.ofNat 32 (beN a b.val) := by
  have hl := h.nu_le
  have hb := b.isLt
  have h29 : (Z X main_v29 : IVec S288 1) (ix1 b) = BitVec.ofBool (decide (b.val < nuN a)) := by
    rw [z29, cmpi_at, z8, iota_word, bc0, w11 X ha h, cmpi_slt_ofNat (w := 32) (by omega) (by omega)]
  rw [z30, select_at, h29, w22 X ha h, bc0, w27 X ha h, select_decide]
  unfold beN
  by_cases e : b.val < nuN a
  · rw [if_pos e, min_eq_left (show b.val ≤ nuN a - 1 by omega)]
  · rw [if_neg e, min_eq_right (show nuN a - 1 ≤ b.val by omega)]

omit ha h in
theorem shift_at (v : IVec S288 32) (b : Fin 288) (h0 : 1 ≤ b.val) :
    concatenate S288 0 [⟨S1, subi (extractStridedSlice S1 ![0] v slices_S288_S1_0) (broadcastInDim S1 ![] bcast_S_S1 (constantI S_ 32 1#32))⟩,
      ⟨S287, extractStridedSlice S287 ![0] v slices_S288_S287_0⟩] concatenates_S1_S287_S288_d0 (ix1 b) = v (ix1 ⟨b.val - 1, by omega⟩) := by
  refine (concatenate_pair_apply_right (t := S288) (s₁ := S1) (s₂ := S287) 0 _ _ _ (ix1 b) rfl rfl (ix1 ⟨b.val - 1, by omega⟩) ?_ ?_).trans ?_
  · intro c hc; exact absurd (Subsingleton.elim _ _) hc
  · show b.val - 1 + 1 = b.val; omega
  · refine (slice1 0 v _ ⟨b.val - 1, by omega⟩ (by show 0 + (b.val - 1) < 288; omega)).trans (congrArg v (congrArg ix1 (Fin.ext (Nat.zero_add _))))

omit ha h in
theorem shift_zero (v : IVec S288 32) :
    concatenate S288 0 [⟨S1, subi (extractStridedSlice S1 ![0] v slices_S288_S1_0) (broadcastInDim S1 ![] bcast_S_S1 (constantI S_ 32 1#32))⟩,
      ⟨S287, extractStridedSlice S287 ![0] v slices_S288_S287_0⟩] concatenates_S1_S287_S288_d0 (ix1 (0 : Fin 288)) = v (ix1 (0 : Fin 288)) - 1#32 := by
  refine (concatenate_pair_apply_left (t := S288) (s₁ := S1) (s₂ := S287) 0 _ _ _ (ix1 0) rfl (ix1 (0 : Fin 1)) ?_).trans ?_
  · intro c; match c with | ⟨0, _⟩ => rfl
  · rw [subi_ap, bc0]
    exact congrArg (fun z : BitVec 32 => z - 1#32) (slice1 0 v _ 0 (by decide))

theorem w37 (b : Fin 288) : (Z X main_v37 : IVec S288 32) (ix1 b) = BitVec.ofNat 32 (if fstB (beN a) b.val then 1 else 0) := by
  rw [z37]
  refine (show _ = (IntOp.cmpi .ne _ _).setWidth 32 from rfl).trans ?_
  rcases Nat.eq_zero_or_pos b.val with h0 | h0
  · obtain rfl : b = 0 := Fin.ext h0
    rw [shift_zero]
    have key (w : BitVec 32) : (IntOp.cmpi .ne w (w - 1#32)).setWidth 32 = BitVec.ofNat 32 1 := by
      have e : w ≠ w - 1#32 := by bv_omega
      rw [cmpi_ne_eq, decide_eq_true e]
      rfl
    exact key _
  · have hb := b.isLt
    have hl1 := Routed.beN_lt (a := a) b.val
    have hl2 := Routed.beN_lt (a := a) (b.val - 1)
    rw [shift_at _ b h0, w30 X ha h b, w30 X ha h ⟨b.val - 1, by omega⟩, cmpi_ne_ofNat (w := 32) (by omega) (by show beN a (b.val - 1) < _; omega), setWidth_ofBool]
    congr 1
    unfold fstB
    refine if_congr ?_ rfl rfl
    have : (b.val == 0) = false := by simp; omega
    rw [this, Bool.false_or, bne_iff_ne]

theorem w38 (b : Fin 288) : (Z X main_v38 : IVec S288 32) (ix1 b) = BitVec.ofNat 32 (cumF (beN a) b.val) := by
  rw [z38]
  refine (cumsum1 rfl _ (fun b => if fstB (beN a) b then 1 else 0) (w37 X ha h) _ ?_ _ _ b).trans rfl
  rw [bc0]
  rfl

theorem w40 (b : Fin 288) : (Z X main_v40 : IVec S288 32) (ix1 b) = BitVec.ofNat 32 (rbN (beN a) b.val) := by
  rw [z40, subi_ap, w38 X ha h, bc0]
  exact ofNat32_sub (cumF_pos _ _)

theorem w43 : (Z X main_v43 : IVec S_ 32) ValueIdx.ix0 = BitVec.ofNat 32 (rbN (beN a) 287 + 1) := by
  rw [z43, ← z40, addi_ap]
  refine (congrArg (· + 1#32) ?_).trans (BitVec.ofNat_add _ _).symm
  refine (shapeCast_apply _ _ ValueIdx.ix0 (ix1 (0 : Fin 1)) rfl).trans ?_
  exact (slice1 287 _ _ 0 (by decide)).trans (w40 X ha h 287)

omit ha h in
theorem rb_lt (b : ℕ) : rbN (beN a) b < 32 := by
  have h1 := rbN_le (beN a) Routed.beN_mono b
  have h2 := Routed.beN_lt (a := a) b
  omega

omit ha h in
theorem and_decide (p q : Prop) [Decidable p] [Decidable q] : BitVec.ofBool (decide p) &&& BitVec.ofBool (decide q) = BitVec.ofBool (decide (p ∧ q)) := by
  by_cases hp : p <;> by_cases hq : q <;> simp [hp, hq]

omit ha h in
theorem first_ap (v w : IVec S288 32) (u : IVec S32 32) (i : Fin 32) (q : Fin 288) (f : Bool) (r : ℕ)
    (hv : v (ix1 q) = BitVec.ofNat 32 (if f then 1 else 0)) (hw : w (ix1 q) = BitVec.ofNat 32 r) (hr : r < 2 ^ 32) (hu : u (ix1 i) = BitVec.ofNat 32 i.val) :
    andi (broadcastInDim S32x288 ![0, 1] bcast_S1x288_S32x288_0_1 (cmpi .eq (broadcastInDim S1x288 ![1] bcast_S288_S1x288_1 v)
        (broadcastInDim S1x288 ![] bcast_S_S1x288 (constantI S_ 32 1#32))))
      (cmpi .eq (broadcastInDim S32x288 ![0, 1] bcast_S1x288_S32x288_0_1 (broadcastInDim S1x288 ![1] bcast_S288_S1x288_1 w))
        (broadcastInDim S32x288 ![0, 1] bcast_S32x1_S32x288_0_1 (broadcastInDim S32x1 ![0] bcast_S32_S32x1_0 u))) (ix2 i q)
      = BitVec.ofBool (decide (f = true ∧ r = i.val)) := by
  have hi := i.isLt
  have e1 : broadcastInDim S32x288 ![0, 1] bcast_S1x288_S32x288_0_1 (broadcastInDim S1x288 ![1] bcast_S288_S1x288_1 v) (ix2 i q) = v (ix1 q) := bcCols _ _ v i q
  have e2 : broadcastInDim S32x288 ![0, 1] bcast_S1x288_S32x288_0_1 (broadcastInDim S1x288 ![1] bcast_S288_S1x288_1 w) (ix2 i q) = w (ix1 q) := bcCols _ _ w i q
  have e3 : broadcastInDim S32x288 ![0, 1] bcast_S32x1_S32x288_0_1 (broadcastInDim S32x1 ![0] bcast_S32_S32x1_0 u) (ix2 i q) = u (ix1 i) := bcRows _ _ u i q
  refine (show _ = IntOp.cmpi .eq (broadcastInDim S32x288 ![0, 1] bcast_S1x288_S32x288_0_1 (broadcastInDim S1x288 ![1] bcast_S288_S1x288_1 v) (ix2 i q)) 1#32 &&&
    IntOp.cmpi .eq (broadcastInDim S32x288 ![0, 1] bcast_S1x288_S32x288_0_1 (broadcastInDim S1x288 ![1] bcast_S288_S1x288_1 w) (ix2 i q))
      (broadcastInDim S32x288 ![0, 1] bcast_S32x1_S32x288_0_1 (broadcastInDim S32x1 ![0] bcast_S32_S32x1_0 u) (ix2 i q)) from rfl).trans ?_
  rw [e1, e2, e3, hv, hw, hu, show (1#32 : BitVec 32) = BitVec.ofNat 32 1 from rfl, cmpi_eq_ofNat (w := 32) (by split <;> decide) (by decide), cmpi_eq_ofNat (w := 32) hr (by omega), and_decide]
  cases f <;> simp

omit ha h in
theorem iota32 (i : Fin 32) : (iotaInDim S32 32 0 : IVec S32 32) (ix1 i) = BitVec.ofNat 32 i.val := rfl

omit ha h in
theorem iota64 (i : Fin 64) : (iotaInDim S64 32 0 : IVec S64 32) (ix1 i) = BitVec.ofNat 32 i.val := rfl

theorem w56 (i : Fin 32) (q : Fin 288) : (Z X main_v56 : IVec S32x288 32) (ix2 i q)
    = BitVec.ofNat 32 (if fstB (beN a) q.val = true ∧ rbN (beN a) q.val = i.val then beN a q.val else 0) := by
  have hq := rb_lt (a := a) q.val
  have e : broadcastInDim S32x288 ![0, 1] bcast_S1x288_S32x288_0_1 (broadcastInDim S1x288 ![1] bcast_S288_S1x288_1 (Z X main_v30 : IVec S288 32)) (ix2 i q)
      = (Z X main_v30 : IVec S288 32) (ix1 q) := bcCols _ _ _ i q
  rw [z56, select_at, z54, ← z40, first_ap _ _ _ i q _ _ (w37 X ha h q) (w40 X ha h q) (by omega) (iota32 i), z55, e, w30 X ha h, bc0, zc_14, select_decide]
  split <;> rfl

theorem w57 (i : Fin 32) : (Z X main_v57 : IVec S32 32) (ix1 i) = BitVec.ofNat 32 (reN (beN a) 288 i.val) := by
  rw [z57]
  exact reduce_rows _ _ _ i (fun q => if fstB (beN a) q = true ∧ rbN (beN a) q = i.val then beN a q else 0) (w56 X ha h i)

theorem w59 (g : Fin 64) : (Z X main_v59 : IVec S64 32) (ix1 g) = BitVec.ofNat 32 (g.val % (rbN (beN a) 287 + 1)) := by
  have hq := rb_lt (a := a) 287
  rw [z59, z58]
  exact pyRem_ap _ _ _ (ix1 g) (iota64 g) (w43 X ha h) (by omega) (by omega) (by omega)

theorem w68 (g : Fin 64) : (Z X main_v68 : IVec S64 32) (ix1 g) = BitVec.ofNat 32 (g.val / (rbN (beN a) 287 + 1)) := by
  have hq := rb_lt (a := a) 287
  rw [z68, z58]
  exact pyDiv_ap _ _ _ (ix1 g) (iota64 g) (w43 X ha h) (by omega) (by omega) (by omega)

omit ha h in
theorem minsi_one (v : IVec S64 32) (g : Fin 64) (n : ℕ) (hv : v (ix1 g) = BitVec.ofNat 32 n) (hn : n < 2) :
    minsi v (broadcastInDim S64 ![] bcast_S_S64 (constantI S_ 32 1#32)) (ix1 g) = BitVec.ofNat 32 n := by
  refine (show _ = IntOp.minsi (v (ix1 g)) 1#32 from rfl).trans ?_
  rw [hv]
  interval_cases n <;> rfl

theorem w70 (g : Fin 64) (hg : g.val < 2 * (rbN (beN a) 287 + 1)) :
    (Z X main_v70 : IVec S64 32) (ix1 g) = BitVec.ofNat 32 (g.val / (rbN (beN a) 287 + 1)) := by
  rw [z70]
  exact minsi_one _ g _ (w68 X ha h g) (Nat.div_lt_of_lt_mul (by rw [Nat.mul_comm]; exact hg))

theorem w66 (g : Fin 64) (q : Fin 32) : (Z X main_v66 : IVec S64x32 32) (ix2 g q)
    = BitVec.ofNat 32 (if q.val = g.val % (rbN (beN a) 287 + 1) then reN (beN a) 288 q.val else 0) := by
  have hq := rb_lt (a := a) 287
  have hm := Nat.mod_lt g.val (show 0 < rbN (beN a) 287 + 1 by omega)
  have e1 : broadcastInDim S64x32 ![0, 1] bcast_S1x32_S64x32_0_1 (broadcastInDim S1x32 ![1] bcast_S32_S1x32_1 (Z X main_v57 : IVec S32 32)) (ix2 g q)
      = (Z X main_v57 : IVec S32 32) (ix1 q) := bcCols _ _ _ g q
  have e2 : broadcastInDim S64x32 ![0, 1] bcast_S1x32_S64x32_0_1 (broadcastInDim S1x32 ![1] bcast_S32_S1x32_1 (Z X main_v44 : IVec S32 32)) (ix2 g q)
      = (Z X main_v44 : IVec S32 32) (ix1 q) := bcCols _ _ _ g q
  have e3 : broadcastInDim S64x32 ![0, 1] bcast_S64x1_S64x32_0_1 (broadcastInDim S64x1 ![0] bcast_S64_S64x1_0 (Z X main_v59 : IVec S64 32)) (ix2 g q)
      = (Z X main_v59 : IVec S64 32) (ix1 g) := bcRows _ _ _ g q
  rw [z66, select_at, z64, cmpi_at, e3, e2, z44, iota32, w59 X ha h, cmpi_eq_ofNat (w := 32) (by omega) (by omega), z65, e1, w57 X ha h, bc0, zc_16, select_decide]
  by_cases hh : q.val = g.val % (rbN (beN a) 287 + 1)
  · rw [if_pos hh, if_pos hh.symm]
  · rw [if_neg hh, if_neg (Ne.symm hh)]; rfl

theorem w67 (g : Fin 64) : (Z X main_v67 : IVec S64 32) (ix1 g) = BitVec.ofNat 32 (reN (beN a) 288 (g.val % (rbN (beN a) 287 + 1))) := by
  have hq := rb_lt (a := a) 287
  have hm := Nat.mod_lt g.val (show 0 < rbN (beN a) 287 + 1 by omega)
  rw [z67]
  refine (reduce_rows _ _ _ g (fun q => if q = g.val % (rbN (beN a) 287 + 1) then reN (beN a) 288 q else 0) (w66 X ha h g)).trans (congrArg (BitVec.ofNat 32) ?_)
  rw [Finset.sum_ite_eq', if_pos (Finset.mem_range.mpr (by omega))]

theorem w71 : (Z X main_v71 : IVec S1 32) (ix1 0) = BitVec.ofNat 32 (nuN a) := by
  rw [z71]
  exact (shapeCast_apply _ _ (ix1 (0 : Fin 1)) ValueIdx.ix0 rfl).trans (w11 X ha h)

theorem w72 : (Z X main_v72 : IVec S1 32) (ix1 0) = BitVec.ofNat 32 (rbN (beN a) 287 + 1) := by
  rw [z72]
  exact (shapeCast_apply _ _ (ix1 (0 : Fin 1)) ValueIdx.ix0 rfl).trans (w43 X ha h)

end Cert.KernelIdeal.Hand

end
-- ==== Proof.Tables.lean ====
module

public import proofs.«01_k».proof.Proof.Frame
public import proofs.«01_k».proof.Proof.HostPlan

/-! The tables of a state of the buffers, and the plan the sizes make of them. -/

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (Pipeline.UD sig nD τ) ℕ

theorem re_lt {a : IVec S32 32} (r : ℕ) (hr : r ≤ rbN (beN a) 287) : reN (beN a) 288 r < 32 := by
  obtain ⟨k, hk, e⟩ := exists_run (beN a) 287 r hr
  rw [← e, reN_rb (n := 288) (beN a) (by omega)]
  exact Routed.beN_lt k

section

variable (X : Valuation τ sig (Elt F)) {a : IVec S32 32} (ha : (X main_arg0 : IVec S32 32) = a) (h : Routed a)

/-- The plan the sizes make. -/
def schedOf : Plan (Z X main_v30 : IVec S288 32) (Z X main_v37 : IVec S288 32) (Z X main_v40 : IVec S288 32) (Z X main_v71 : IVec S1 32)
    (Z X main_v72 : IVec S1 32) (Z X main_v67 : IVec S64 32) (Z X main_v70 : IVec S64 32) where
  nu := ⟨nuN a, by have := h.nu_le; omega⟩
  nr := ⟨rbN (beN a) 287 + 1, by have := rb_lt (a := a) 287; omega⟩
  be b := ⟨beN a b.val, Routed.beN_lt _⟩
  fb b := fstB (beN a) b.val
  rb b := rbN (beN a) b.val
  re r := ⟨reN (beN a) 288 r % 32, Nat.mod_lt _ (by decide)⟩
  nu_pos := h.nu_pos
  hE := w30 X ha h
  hU := w71 X ha h
  hF b := (w37 X ha h b).trans (by split <;> rfl)
  hR := w40 X ha h
  hN := w72 X ha h
  f0 := fstB_zero _
  r0 := rbN_zero _
  rs b _ := rbN_succ _ b
  rl := rfl
  hre b := Fin.ext ((congrArg (· % 32) (reN_rb (n := 288) (beN a) b.isLt)).trans (Nat.mod_eq_of_lt (Routed.beN_lt _)))
  hG g _ := (w67 X ha h g).trans (congrArg (BitVec.ofNat 32)
    (Nat.mod_eq_of_lt (re_lt (a := a) _ (Nat.le_of_lt_succ (Nat.mod_lt _ (Nat.succ_pos _))))).symm)
  hJ g hg := w70 X ha h g hg

end

attribute [local irreducible] StableHlo.after

variable (m : (ℓ : Loc nD τ sig) → Buf (Elt F) ℓ)

/-- The tables a state of the buffers holds. -/
abbrev tabs : Tabs where
  E := V m 0 main_v30
  U := V m 0 main_v71
  F := V m 0 main_v37
  R := V m 0 main_v40
  N := V m 0 main_v72
  G := V m 0 main_v67
  J := V m 0 main_v70

theorem isTab (c : Dev nD) : IsTab m (tabs m) c := by
  obtain rfl : c = 0 := Subsingleton.elim _ _
  exact ⟨rfl, rfl, rfl, rfl, rfl, rfl, rfl⟩

/-- The sizes of the experts' rows. -/
abbrev sizes : IVec S32 32 := m (((0 : Dev nD) : Thread nD τ).loc main_arg0)

/-- The plan of that state. -/
def sched (h : Routed (sizes m)) : (tabs m).Sched := schedOf (fun b => m (0, b)) rfl h

theorem run_frame (ρ : Dev nD → PrngReg) (h : Routed (sizes m)) :
    θ_run (defs (F := F)) (onTc (τ := τ) (main (F := F))) ⟨m, fun _ => 0, ρ⟩ (fun r => (∀ c : Dev nD,
      (r.2.mem ((c : Thread nD τ).loc main_arg0) = m ((c : Thread nD τ).loc main_arg0) ∧
      r.2.mem ((c : Thread nD τ).loc main_arg1) = m ((c : Thread nD τ).loc main_arg1) ∧
      r.2.mem ((c : Thread nD τ).loc main_arg2) = m ((c : Thread nD τ).loc main_arg2) ∧
      r.2.mem ((c : Thread nD τ).loc main_arg3) = m ((c : Thread nD τ).loc main_arg3) ∧
      r.2.mem ((c : Thread nD τ).loc main_arg4) = m ((c : Thread nD τ).loc main_arg4) ∧
      r.2.mem ((c : Thread nD τ).loc main_arg5) = m ((c : Thread nD τ).loc main_arg5)) ∧
      r.2.mem ((c : Thread nD τ).loc main_v75) = (datT (sched m h) (V m) 0 c).arrAt 3 (cfgT (F := F) (sched m h)).N) ∧ r.2.sem = fun _ => 0) := by
  refine (θ_run (defs (F := F)) _ _).mono ?_ (run_of m ρ (sched m h) (isTab m))
  intro r hr
  exact ⟨fun c => post_of m (sched m h) r hr.1 c, hr.2⟩

end Cert.KernelIdeal.Hand

end
-- ==== Proof.PreRouted.lean ====
module

public import proofs.«01_k».proof.Proof.HostPlan
public import proofs.«01_k».proof.Proof.Gen.Pre_routed
public import Idealize.ShloMosaic.Lib.ReduceAll

/-! The sizes the precondition allows. -/

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (Pipeline.UD sig nD τ) ℕ

open Idealize.ShloMosaic.Routing Idealize.ShloMosaic.ValueIdx Idealize.ShloMosaic.WordCmp

theorem word_le (w : BitVec 32) (h6 : (0#32).toInt ≤ w.toInt) (h7 : w.toInt ≤ (65536#32).toInt) : w.toNat ≤ 65536 := by
  have e0 : (0#32 : BitVec 32).toInt = 0 := by decide
  have e1 : (65536#32 : BitVec 32).toInt = 65536 := by decide
  rw [e0] at h6
  rw [e1] at h7
  have e2 := BitVec.toInt_eq_toNat_cond w
  have := w.isLt
  split at e2 <;> omega

theorem routed_of {F : FTy → Type} [FloatOps F] (a : IVec S32 32) (x : IVec S73728x1024 32) (b1 : FVec F S32x2048x2048 .f32) (b2 : FVec F S32x2048 .f32)
    (b3 : FVec F S32x2048x2048 .f32) (b4 : FVec F S32x2048 .f32) (e : Cert.Pre_routed.fn (F := F) a x b1 b2 b3 b4 = fun _ => 1#1) : Routed a := by
  have h0 := congrFun e ValueIdx.ix0
  unfold Cert.Pre_routed.fn at h0
  obtain ⟨h1, h2⟩ := IntOp.andi_eq_one.1 h0
  have hall (i : Fin 32) : (a (ix1 i)).toNat ≤ 65536 := by
    haveI : Subsingleton Cert.Pre_routed.S_.Idx := ⟨fun i j => funext fun k => k.elim0⟩
    have h3 := Host.reduce_andi_all _ _ _ _ _ h1 (ix1 i)
    obtain ⟨h4, h5⟩ := IntOp.andi_eq_one.1 h3
    exact word_le _ (IntOp.cmpi_sge.1 h4) (IntOp.cmpi_sle.1 h5)
  have hle (i : ℕ) : sz a i ≤ 65536 := by
    unfold sz
    split
    · exact hall _
    · omega
  refine ⟨hle, ?_⟩
  have h3 := IntOp.cmpi_eq.1 h2
  have hsz (e : Fin 32) : a (ix1 e) = BitVec.ofNat 32 (sz a e.val) := by
    unfold sz
    rw [dif_pos e.isLt]
    exact ((BitVec.ofNat_toNat 32 _).trans (BitVec.setWidth_eq _)).symm
  have h4 := (reduce_sum (N := 32) a (fun i => sz a i) hsz Cert.Pre_routed.Facts.reducesTo_S32_S_d0 Cert.Pre_routed.Facts.h_S_).symm.trans h3
  rw [sum_list] at h4
  have h5 : ∑ k ∈ Finset.range 32, sz a k ≤ ∑ k ∈ Finset.range 32, 65536 := Finset.sum_le_sum fun i _ => hle i
  rw [Finset.sum_const, Finset.card_range, smul_eq_mul] at h5
  have h6 := congrArg BitVec.toNat h4
  rw [BitVec.toNat_ofNat, Nat.mod_eq_of_lt (by omega)] at h6
  exact h6

end Cert.KernelIdeal.Hand

end
-- ==== Proof.Same.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.Pre_routed
public import Idealize.ShloMosaic.Adequacy
public import Idealize.ShloMosaic.Init

/-! The two programs of the kernel have the same text. -/

@[expose] public section

noncomputable section

namespace Cert.Proof

open Idealize.ShloMosaic Idealize.SL.Sem

set_option maxHeartbeats 1000000

theorem defs₀_eq : Cert.Kernel.defs₀ (F := Bits) = Cert.KernelIdeal.defs₀ (F := Bits) := by
  unfold Cert.Kernel.defs₀ Cert.KernelIdeal.defs₀
  apply congrArg
  funext l x
  match l, x with
  | 0, (t, s) => exact rfl

theorem pcfgs_eq : Cert.Kernel.pcfgs (F := Bits) = Cert.KernelIdeal.pcfgs (F := Bits) := by rfl

theorem defs_eq : Cert.Kernel.defs (F := Bits) = Cert.KernelIdeal.defs (F := Bits) := by
  unfold Cert.Kernel.defs Cert.KernelIdeal.defs
  exact congrArg (Pipeline.defs (Cert.KernelIdeal.pcfgs (F := Bits))) defs₀_eq

theorem main_part0_eq : Cert.Kernel.main_part0 (F := Bits) = Cert.KernelIdeal.main_part0 (F := Bits) := by rfl

theorem main_part1_eq : Cert.Kernel.main_part1 (F := Bits) = Cert.KernelIdeal.main_part1 (F := Bits) := by rfl

theorem main_eq : Cert.Kernel.main (F := Bits) = Cert.KernelIdeal.main (F := Bits) := by
  funext d
  unfold Cert.Kernel.main Cert.KernelIdeal.main
  rw [main_part0_eq, main_part1_eq]
  rfl

end Cert.Proof
end
-- ==== Proof.Frames.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.Pre_routed
public import Idealize.ShloMosaic.Adequacy
public import Idealize.ShloMosaic.Init
public import proofs.«01_k».proof.Proof.Tables
public import proofs.«01_k».proof.Proof.PreRouted
public import proofs.«01_k».proof.Proof.Same

/-! The frames of the three programs. -/

@[expose] public section

noncomputable section

namespace Cert.Proof

open Idealize.ShloMosaic Idealize.SL.Sem

open Cert.KernelIdeal.Hand in
/-- The kernel at the ideal instance: it ends, its arguments as they were and every counter at zero. -/
theorem frame_pi : Cert.quiescent_KernelIdeal := by
  intro m ρ hp
  exact (θ_run (Cert.KernelIdeal.defs (F := Ideal)) _ _).mono (fun r h => ⟨fun c => (h.1 c).1, h.2⟩)
    (run_frame (F := Ideal) m ρ (routed_of (F := Ideal) _ _ _ _ _ _ (hp 0)))

open Cert.KernelIdeal.Hand in
/-- The same run at the bits. -/
theorem frame_p : Cert.quiescent_Kernel := by
  intro m ρ hp
  rw [defs_eq, main_eq]
  exact (θ_run (Cert.KernelIdeal.defs (F := Bits)) (onTc (τ := Cert.KernelIdeal.τ) (Cert.KernelIdeal.main (F := Bits))) ⟨m, fun _ => 0, ρ⟩).mono
    (fun r h => ⟨fun c => (h.1 c).1, h.2⟩)
    (run_frame (F := Bits) m ρ (routed_of (F := Bits) _ _ _ _ _ _ (hp 0)))

/-- The reference: a list of host operations. -/
theorem frame_ri : Cert.quiescent_ReferenceIdeal := by
  intro m ρ _
  exact (θ_run (Cert.ReferenceIdeal.defs (F := Ideal)) _ _).mono (fun r h => ⟨fun c => (h c).2, sem_eq_zero_of_no_sems (by decide) r.2⟩)
    (Cert.ReferenceIdeal.Value.run (F := Ideal) m ρ)

theorem preserves : Cert.preserves_Kernel_KernelIdeal := trivial

end Cert.Proof

end
-- ==== Proof.DownGen.lean ====
module

public import proofs.«01_k».proof.Proof.Gen.Down
public import proofs.«01_k».proof.Proof.Gen.Down.Skeleton
public import proofs.«01_k».proof.Proof.Gen.Down.Launch
public import proofs.«01_k».proof.Proof.Gen.Down.Flash
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Flash
public import proofs.«01_k».proof.Proof.Gen.DownReferenceIdeal
public import proofs.«01_k».proof.Proof.Gen.DownReferenceIdeal.Run
public import proofs.«01_k».proof.Proof.Gen.Pre_routed_down

/-! The second product's generated modules. -/
-- ==== Proof.RefShape.lean ====
module

public import proofs.«01_k».proof.Proof.Gen.ReferenceIdeal.Run

/-! The reference's composed term, cut in its parts. -/

@[expose] public section

noncomputable section

namespace Cert.ReferenceIdeal.Hand

open Cert.ReferenceIdeal Cert.ReferenceIdeal.Gen
open Idealize.ShloMosaic
open Idealize.ShloMosaic.TcCoe Idealize.SL.Sem

variable {F : FTy → Type} [FloatOps F]

/-- The blocks' ends: the experts' rows padded to whole blocks, summed. -/
def refPend (a : IVec S32 32) : IVec S32 32 :=
  Host.reduceWindow IntOp.addi ![32] ![1] ![31] ![0] (muli (select (andi (cmpi .ne (signi (addi a (broadcastInDim S32 ![] bcast_S_S32 (constantI S_ 32 255#32)))) (broadcastInDim S32 ![] bcast_S_S32 (signi (id (constantI S_ 32 256#32))))) (cmpi .ne (Host.remsi (addi a (broadcastInDim S32 ![] bcast_S_S32 (constantI S_ 32 255#32))) (broadcastInDim S32 ![] bcast_S_S32 (id (constantI S_ 32 256#32)))) (broadcastInDim S32 ![] bcast_S_S32 (constantI S_ 32 0#32)))) (subi (Host.divsi (addi a (broadcastInDim S32 ![] bcast_S_S32 (constantI S_ 32 255#32))) (broadcastInDim S32 ![] bcast_S_S32 (id (constantI S_ 32 256#32)))) (broadcastInDim S32 ![] bcast_S_S32 (constantI S_ 32 1#32))) (Host.divsi (addi a (broadcastInDim S32 ![] bcast_S_S32 (constantI S_ 32 255#32))) (broadcastInDim S32 ![] bcast_S_S32 (id (constantI S_ 32 256#32))))) (broadcastInDim S32 ![] bcast_S_S32 (constantI S_ 32 256#32))) (broadcastInDim S_ ![] bcast_S_S_ (constantI S_ 32 0#32)) reduceWindows_S32_S32_w32s1p31_0 h_S_

/-- The blocks' first rows. -/
def refStart : IVec S288 32 := muli (iotaInDim S288 32 0) (broadcastInDim S288 ![] bcast_S_S288 (constantI S_ 32 256#32))

/-- The blocks' experts, from the blocks' ends. -/
def refE (P : IVec S32 32) : IVec S288 32 :=
  minsi (Host.reduce IntOp.addi (extui 32 (cmpi .sle (broadcastInDim S288x32 ![0, 1] bcast_S1x32_S288x32_0_1 (broadcastInDim S1x32 ![1] bcast_S32_S1x32_1 P)) (broadcastInDim S288x32 ![0, 1] bcast_S288x1_S288x32_0_1 (broadcastInDim S288x1 ![0] bcast_S288_S288x1_0 refStart))) natLt_1_32) (constantI S_ 32 0#32) reducesTo_S288x32_S288_d1 h_S_) (broadcastInDim S288 ![] bcast_S_S288 (constantI S_ 32 31#32))

/-- The column of row numbers a lookup of the experts is made at. -/
def refIdx (E : IVec S288 32) : IVec S288x1 32 :=
  broadcastInDim S288x1 ![0] bcast_S288_S288x1_0 (select (cmpi .slt E (broadcastInDim S288 ![] bcast_S_S288 (constantI S_ 32 0#32))) (addi E (broadcastInDim S288 ![] bcast_S_S288 (constantI S_ 32 32#32))) E)

/-- The rows, unpacked. -/
def refX (X : IVec S73728x1024 32) : FVec F S288x256x2048 .f32 :=
  shapeCast _ (extf .f32 (concatenate S73728x2048 1 [⟨S73728x1024, (shapeCast _ (extractStridedSlice S73728x1024x1 ![0, 0, 0] (bitcastToFloat (F := F) .bf16 (Host.bitcastConvertNarrow S73728x1024x2 16 X splits_S73728x1024_w32_S73728x1024x2_w16)) slices_S73728x1024x2_S73728x1024x1_0_0_0) shapeCasts_S73728x1024x1_S73728x1024)⟩, ⟨S73728x1024, (shapeCast _ (extractStridedSlice S73728x1024x1 ![0, 0, 1] (bitcastToFloat (F := F) .bf16 (Host.bitcastConvertNarrow S73728x1024x2 16 X splits_S73728x1024_w32_S73728x1024x2_w16)) slices_S73728x1024x2_S73728x1024x1_0_0_1) shapeCasts_S73728x1024x1_S73728x1024)⟩] concatenates_S73728x1024_S73728x1024_S73728x2048_d1) bitsLt_bf16_f32) shapeCasts_S73728x2048_S288x256x2048

/-- A product of the rows with their experts' weights, and the bias. -/
def refProj (x : FVec F S288x256x2048 .f32) (I : IVec S288x1 32) (W : FVec F S32x2048x2048 .f32) (b : FVec F S32x2048 .f32) : FVec F S288x256x2048 .f32 :=
  addf (Host.dotGeneral dot_S288x256x2048_S288x2048x2048_S288x256x2048_2_1_1_2_0_0 none x (Host.gather gather_S32x2048x2048_S288x1_S288x2048x2048_12_0_n_n_0_1_120482048 W I)) (broadcastInDim S288x256x2048 ![0, 1, 2] bcast_S288x1x2048_S288x256x2048_0_1_2 (broadcastInDim S288x1x2048 ![0, 2] bcast_S288x2048_S288x1x2048_0_2 (Host.gather gather_S32x2048_S288x1_S288x2048_1_0_n_n_0_1_12048 b I)))

/-- The result, from the blocks' ends and the two products. -/
def refOut (P : IVec S32 32) (u g : FVec F S288x256x2048 .f32) : FVec F S73728x2048 .bf16 :=
  truncf .bf16 (shapeCast _ (select (broadcastInDim S288x256x2048 ![0, 1, 2] bcast_S288x1x1_S288x256x2048_0_1_2 (broadcastInDim S288x1x1 ![0] bcast_S288_S288x1x1_0 (cmpi .slt refStart (broadcastInDim S288 ![] bcast_S_S288 (shapeCast _ (extractStridedSlice S1 ![31] P slices_S32_S1_31) shapeCasts_S1_S_))))) (mulf (addf (minimumf (broadcastInDim S288x256x2048 ![] bcast_S_S288x256x2048 (id (constant S_ .f32 0x40E00000#32))) (maximumf (broadcastInDim S288x256x2048 ![] bcast_S_S288x256x2048 (id (constant S_ .f32 0xC0E00000#32))) u)) (broadcastInDim S288x256x2048 ![] bcast_S_S288x256x2048 (constant S_ .f32 0x3F800000#32))) (mulf (minimumf g (broadcastInDim S288x256x2048 ![] bcast_S_S288x256x2048 (constant S_ .f32 0x40E00000#32))) (Host.divf (broadcastInDim S288x256x2048 ![] bcast_S_S288x256x2048 (constant S_ .f32 0x3F800000#32)) (addf (broadcastInDim S288x256x2048 ![] bcast_S_S288x256x2048 (constant S_ .f32 0x3F800000#32)) (Host.exp (Host.negf (mulf (broadcastInDim S288x256x2048 ![] bcast_S_S288x256x2048 (constant S_ .f32 0x3FD9DB23#32)) (minimumf g (broadcastInDim S288x256x2048 ![] bcast_S_S288x256x2048 (constant S_ .f32 0x40E00000#32)))))))))) (broadcastInDim S288x256x2048 ![] bcast_S_S288x256x2048 (id (constant S_ .f32 0x00000000#32)))) shapeCasts_S288x256x2048_S73728x2048) bitsLt_bf16_f32

/-- The reference, in those parts. -/
def refA (a : IVec S32 32) (X : IVec S73728x1024 32) (Wg : FVec F S32x2048x2048 .f32) (bg : FVec F S32x2048 .f32) (Wu : FVec F S32x2048x2048 .f32) (bu : FVec F S32x2048 .f32) : FVec F S73728x2048 .bf16 :=
  refOut (refPend a) (refProj (refX X) (refIdx (refE (refPend a))) Wu bu) (refProj (refX X) (refIdx (refE (refPend a))) Wg bg)

theorem res_eq (m : (ℓ : Loc nD τ sig) → Buf (Elt F) ℓ) (c : Dev nD) :
    Cert.ReferenceIdeal.Value.res_main_v84 m c = refA (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  unfold Cert.ReferenceIdeal.Value.res_main_v84 refA
  rfl

end Cert.ReferenceIdeal.Hand

end
-- ==== Proof.Dense.lean ====
module

public import proofs.«01_k».proof.Proof.Runs
public import Idealize.ShloMosaic.Lib.Writes
public import Idealize.ShloMosaic.Lib.Pointwise

/-! What a point's block holds, entry by entry, at exact arithmetic: the clamped SwiGLU of two products of a packed row. -/

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-- A half load of the buffer, entry by entry. -/
theorem halfB_at (o : Fin 3 → ℕ) (h : ∀ a, o a + S1x1024x1024.size a ≤ S2x2048x1024.size a) (B : S2x2048x1024.Idx → Elt F .bf16) (x : S1x1024x1024.Idx) (y : S2x2048x1024.Idx)
    (hy : ∀ a, (y a).val = o a + 1 * (x a).val) : halfB (F := F) o h B x = B y :=
  congrArg B ((Rect.unit (s := S2x2048x1024) o S1x1024x1024.size h).emb_eq_of_coords x y hy)

/-- Feature `d` of a packed row. -/
def feat (X : Fin 1024 → BitVec 32) (d : Fin 2048) : EReal :=
  if h : d.val < 1024 then Ideal.ofBits .bf16 ((X ⟨d.val, h⟩).extractLsb' 0 16) else Ideal.ofBits .bf16 ((X ⟨d.val - 1024, by omega⟩).extractLsb' 16 16)

/-- A packed row times a column. -/
def dotR (X : Fin 1024 → BitVec 32) (W : Fin 2048 → EReal) : EReal := ∑ d : Fin 2048, feat X d * W d

theorem dotR_halves (X : Fin 1024 → BitVec 32) (W : Fin 2048 → EReal) :
    dotR X W = (∑ k : Fin 1024, Ideal.ofBits .bf16 ((X k).extractLsb' 0 16) * W ⟨k.val, by omega⟩)
      + ∑ k : Fin 1024, Ideal.ofBits .bf16 ((X k).extractLsb' 16 16) * W ⟨1024 + k.val, by omega⟩ := by
  unfold dotR
  rw [Fin.sum_univ_two_halves 1024 1024 rfl]
  refine congrArg₂ (· + ·) ?_ ?_
  · refine Finset.sum_congr rfl fun k _ => ?_
    rw [feat, dif_pos (show (⟨k.val, _⟩ : Fin 2048).val < 1024 from k.isLt)]
  · refine Finset.sum_congr rfl fun k _ => ?_
    rw [feat, dif_neg (show ¬ (⟨1024 + k.val, _⟩ : Fin 2048).val < 1024 by simp)]
    simp only [Nat.add_sub_cancel_left]

/-- The clamped SwiGLU of a gate and an up product. -/
def swig (g u : EReal) : EReal :=
  (min (Ideal.ofBits FTy.f32 1088421888#32) (max (Ideal.ofBits FTy.f32 3235905536#32) u) + 1)
    * (min g (Ideal.ofBits FTy.f32 1088421888#32) * Ideal.logistic (Ideal.ofBits FTy.f32 1071242019#32 * min g (Ideal.ofBits FTy.f32 1088421888#32)))

theorem pays_at (X : Vec Ideal S256x1024 .i32) (A0 A1 B0 B1 : Vec Ideal S1x1024x1024 .bf16) (Y Z : Vec Ideal S1x1x1024 .f32) (p : Fin 256) (q : Fin 1024)
    (W V : Fin 2048 → EReal) (hA0 : ∀ k : Fin 1024, A0 (ix3 0 k q) = W ⟨k.val, by omega⟩) (hA1 : ∀ k : Fin 1024, A1 (ix3 0 k q) = W ⟨1024 + k.val, by omega⟩)
    (hB0 : ∀ k : Fin 1024, B0 (ix3 0 k q) = V ⟨k.val, by omega⟩) (hB1 : ∀ k : Fin 1024, B1 (ix3 0 k q) = V ⟨1024 + k.val, by omega⟩) :
    k0_pay3 (F := Ideal) (k0_pay7 X A0 A1 Y) (k0_pay8 X B0 B1 Z) (ix2 p q)
      = swig (dotR (fun k => X (ix2 p k)) W + Y (ix3 0 0 q)) (dotR (fun k => X (ix2 p k)) V + Z (ix3 0 0 q)) := by
  pointwise [k0_pay3, k0_pay7, k0_pay8, k0_pay5, k0_pay6]
  simp only [dotR_halves, hA0, hA1, hB0, hB1]
  rfl

theorem outOn_at (X : Vec Ideal S256x1024 .i32) (Y1 Y2 : Vec Ideal S1x1x1024 .f32) (B : S2x2048x1024.Idx → Elt Ideal .bf16) (p : Fin 256) (q : Fin 1024) :
    outOn (F := Ideal) X Y1 Y2 B (ix2 p q)
      = swig (dotR (fun k => X (ix2 p k)) (fun d => B (ix3 0 d q)) + Y1 (ix3 0 0 q)) (dotR (fun k => X (ix2 p k)) (fun d => B (ix3 1 d q)) + Y2 (ix3 0 0 q)) := by
  unfold outOn
  refine pays_at _ _ _ _ _ _ _ _ _ _ _ (fun k => ?_) (fun k => ?_) (fun k => ?_) (fun k => ?_)
  all_goals (refine halfB_at (F := Ideal) _ _ _ _ _ fun a => ?_; fin_cases a <;> simp [ix3])

theorem castB_at0 (P Q : S2048x1024.Idx → Elt Ideal .f32) (k : Fin 2048) (q : Fin 1024) :
    castB (F := Ideal) P Q (ix3 0 k q) = P (ix2 k q) := by
  unfold castB
  rw [View.read_writes_cons_miss_of_axis _ _ _ _ _ (0 : Fin 3) 1 1 rfl rfl rfl (Or.inl Nat.zero_lt_one), View.read_writes_cons_hit_of_coords (x := ix3 0 k q)]
  · pointwise [cast16]
  · intro a; fin_cases a <;> simp [ix3]

theorem castB_at1 (P Q : S2048x1024.Idx → Elt Ideal .f32) (k : Fin 2048) (q : Fin 1024) :
    castB (F := Ideal) P Q (ix3 1 k q) = Q (ix2 k q) := by
  unfold castB
  rw [View.read_writes_cons_hit_of_coords (x := ix3 0 k q)]
  · pointwise [cast16]
  · intro a; fin_cases a <;> simp [ix3]

end Cert.KernelIdeal.Hand

end
-- ==== Proof.Blocks.lean ====
module

public import proofs.«01_k».proof.Proof.Dats
public import proofs.«01_k».proof.Proof.Sound
public import proofs.«01_k».proof.Proof.Dense
public import Idealize.ShloMosaic.Lib.Pipeline.Covers
public import Idealize.ShloMosaic.Lib.Pipeline.ValueKit.Geometry

/-! The array the pipeline leaves, entry by entry, from the arrays its windows and its weight stream read. -/

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (Pipeline.UD sig nD τ) ℕ

set_option maxRecDepth 16384 in
theorem drop_at {α : Type} (v : S1x2048x1024.Idx → α) (h : S1x2048x1024.ShapeCasts S2048x1024) (k : Fin 2048) (q : Fin 1024) :
    shapeCast S2048x1024 v h (ix2 k q) = v (ix3 0 k q) := by
  pointwise

theorem tileV_at (W : S32x2048x2048.Idx → Elt F .f32) (e : Fin 32) (j : Fin 2) (k : Fin 2048) (q : Fin 1024) (col : Fin 2048) (hc : col.val = j.val * 1024 + q.val) :
    tileV W e j (ix2 k q) = W (ix3 e k col) := by
  unfold tileV
  have h1 : (⟨3, S1x2048x1024.size⟩ : Shape).ShapeCasts S2048x1024 := shapeCasts_S1x2048x1024_S2048x1024
  refine (congrFun (Memref.read_squeeze_slice (Val := Elt F) hbG (Rect.unit (s := S32x2048x2048) ![e.val, 0, j.val * 1024] S1x2048x1024.size (tile_inb e j)) (fun _ => rfl)
    squeezes_S1x2048x1024_S2048x1024 h1 W) (ix2 k q)).trans ?_
  refine (drop_at _ h1 k q).trans (congrArg W (Rect.emb_eq_of_coords _ _ _ fun a => ?_))
  fin_cases a <;> simp [ix3, hc]

variable {T : Tabs} (L : T.Sched) (V : (c : Dev nD) → (b : Ref sig .tc) → Buf (Elt F) ((c : Thread nD τ).loc b))

theorem iblk0_at (c : Dev nD) (t : Fin (cfgT (F := F) L).N) (p : Fin 256) (k : Fin 1024) (r : Fin 73728)
    (hr : r.val = min (t.val % 288) (L.nu.val - 1) * 256 + p.val) :
    (iblk L V c 0 t : S256x1024.Idx → Elt F .i32) (ix2 p k) = (V c main_arg1 : S73728x1024.Idx → Elt F .i32) (ix2 r k) := by
  unfold iblk
  refine congrArg (V c main_arg1 : S73728x1024.Idx → Elt F .i32) ?_
  funext a
  apply Fin.ext
  refine (((cfgT (F := F) L).win 0).rect_emb_val t (ix2 p k : S256x1024.Idx) a rfl).trans ?_
  have h := tr0 (F := F) L (crd L t)
  rw [crd1] at h
  match a with
  | ⟨0, _⟩ => exact (congrArg (· * 256 + p.val) (congrFun h 0)).trans hr.symm
  | ⟨1, _⟩ => exact (congrArg (· * 1024 + k.val) (congrFun h 1)).trans (by simp)

theorem iblk1_at (c : Dev nD) (t : Fin (cfgT (F := F) L).N) (q : Fin 1024) (col : Fin 2048)
    (hc : col.val = t.val / 288 % 2 * 1024 + q.val) :
    (iblk L V c 1 t : S1x1x1024.Idx → Elt F .f32) (ix3 0 0 q) = (V c main_v73 : S32x1x2048.Idx → Elt F .f32) (ix3 (L.be (Plan.bk t.val)) 0 col) := by
  unfold iblk
  refine congrArg (V c main_v73 : S32x1x2048.Idx → Elt F .f32) ?_
  funext a
  apply Fin.ext
  refine (((cfgT (F := F) L).win 1).rect_emb_val t (ix3 0 0 q : S1x1x1024.Idx) a rfl).trans ?_
  have h := tr3 (F := F) L (crd L t)
  rw [crd_b, crd0] at h
  match a with
  | ⟨0, _⟩ => exact (congrArg (· * 1 + 0) (congrFun h 0)).trans (Nat.mul_one _)
  | ⟨1, _⟩ => exact (congrArg (· * 1 + 0) (congrFun h 1))
  | ⟨2, _⟩ => exact (congrArg (· * 1024 + q.val) (congrFun h 2)).trans hc.symm

theorem iblk2_at (c : Dev nD) (t : Fin (cfgT (F := F) L).N) (q : Fin 1024) (col : Fin 2048)
    (hc : col.val = t.val / 288 % 2 * 1024 + q.val) :
    (iblk L V c 2 t : S1x1x1024.Idx → Elt F .f32) (ix3 0 0 q) = (V c main_v74 : S32x1x2048.Idx → Elt F .f32) (ix3 (L.be (Plan.bk t.val)) 0 col) := by
  unfold iblk
  refine congrArg (V c main_v74 : S32x1x2048.Idx → Elt F .f32) ?_
  funext a
  apply Fin.ext
  refine (((cfgT (F := F) L).win 2).rect_emb_val t (ix3 0 0 q : S1x1x1024.Idx) a rfl).trans ?_
  have h := tr4 (F := F) L (crd L t)
  rw [crd_b, crd0] at h
  match a with
  | ⟨0, _⟩ => exact (congrArg (· * 1 + 0) (congrFun h 0)).trans (Nat.mul_one _)
  | ⟨1, _⟩ => exact (congrArg (· * 1 + 0) (congrFun h 1))
  | ⟨2, _⟩ => exact (congrArg (· * 1024 + q.val) (congrFun h 2)).trans hc.symm
section Ideal

variable (V : (c : Dev nD) → (b : Ref sig .tc) → Buf (Elt Ideal) ((c : Thread nD τ).loc b))

/-- The hidden activation of row `r` and column `col`: its block's expert, or zero past the blocks in use. -/
def hid (nu : ℕ) (be : ℕ → Fin 32) (X : S73728x1024.Idx → BitVec 32) (Wg Wu : S32x2048x2048.Idx → EReal) (bg bu : Fin 32 → Fin 2048 → EReal)
    (r : Fin 73728) (col : Fin 2048) : EReal :=
  if r.val / 256 < nu then
    swig (dotR (fun k => X (ix2 r k)) (fun d => Wg (ix3 (be (r.val / 256)) d col)) + bg (be (r.val / 256)) col)
      (dotR (fun k => X (ix2 r k)) (fun d => Wu (ix3 (be (r.val / 256)) d col)) + bu (be (r.val / 256)) col)
  else 0

/-- The array the pipeline leaves. -/
def hidL (c : Dev nD) : S73728x2048.Idx → EReal := fun i =>
  hid L.nu.val (fun b => L.be (Plan.bk b)) (V c main_arg1 : S73728x1024.Idx → BitVec 32) (V c main_arg2 : S32x2048x2048.Idx → EReal)
    (V c main_arg4 : S32x2048x2048.Idx → EReal) (fun e f => (V c main_v73 : S32x1x2048.Idx → EReal) (ix3 e 0 f))
    (fun e f => (V c main_v74 : S32x1x2048.Idx → EReal) (ix3 e 0 f)) (i 0) (i 1)

theorem hidL_at (c : Dev nD) (r : Fin 73728) (col : Fin 2048) : hidL L V c (ix2 r col) =
    hid L.nu.val (fun b => L.be (Plan.bk b)) (V c main_arg1 : S73728x1024.Idx → BitVec 32) (V c main_arg2 : S32x2048x2048.Idx → EReal)
      (V c main_arg4 : S32x2048x2048.Idx → EReal) (fun e f => (V c main_v73 : S32x1x2048.Idx → EReal) (ix3 e 0 f))
      (fun e f => (V c main_v74 : S32x1x2048.Idx → EReal) (ix3 e 0 f)) r col := rfl

theorem outT_at (c : Dev nD) (t : Fin (cfgT (F := Ideal) L).N) (p : Fin 256) (q : Fin 1024) (r : Fin 73728) (col : Fin 2048)
    (hr : r.val = t.val % 288 * 256 + p.val) (hc : col.val = t.val / 288 % 2 * 1024 + q.val) :
    (outT (F := Ideal) L V c t : S256x1024.Idx → EReal) (ix2 p q) = hidL L V c (ix2 r col) := by
  have hb : r.val / 256 = t.val % 288 := by have := p.isLt; omega
  have hbk : Plan.bk (t.val % 288) = Plan.bk t.val := Fin.ext (Nat.mod_mod _ _)
  have hk : k0_cond4 (crd L t) (rdU (F := Ideal) T.U) = 1#1 ↔ t.val % 288 < L.nu.val := by
    rw [cond4_iff (n := L.nu) ((rdU_eq (F := Ideal) T.U).trans L.hU), crd1]
  rw [hidL_at]
  unfold outT outV hid
  rw [hb]
  by_cases h : t.val % 288 < L.nu.val
  · rw [if_pos (hk.mpr h), if_pos h]
    refine (outOn_at _ _ _ _ p q).trans ?_
    have hmin : min (t.val % 288) (L.nu.val - 1) = t.val % 288 := by omega
    have e0 : ∀ k : Fin 1024, (iblk L V c 0 t : S256x1024.Idx → BitVec 32) (ix2 p k) = (V c main_arg1 : S73728x1024.Idx → BitVec 32) (ix2 r k) := fun k =>
      iblk0_at (F := Ideal) L V c t p k r (by rw [hmin]; exact hr)
    have e3 : ∀ d : Fin 2048, (wtile L V c t.val : S2x2048x1024.Idx → EReal) (ix3 0 d q) = (V c main_arg2 : S32x2048x2048.Idx → EReal) (ix3 (L.be (Plan.bk (t.val % 288))) d col) := fun d => by
      rw [hbk]; exact (castB_at0 _ _ d q).trans (tileV_at (F := Ideal) _ _ _ d q col hc)
    have e4 : ∀ d : Fin 2048, (wtile L V c t.val : S2x2048x1024.Idx → EReal) (ix3 1 d q) = (V c main_arg4 : S32x2048x2048.Idx → EReal) (ix3 (L.be (Plan.bk (t.val % 288))) d col) := fun d => by
      rw [hbk]; exact (castB_at1 _ _ d q).trans (tileV_at (F := Ideal) _ _ _ d q col hc)
    have e1 := iblk1_at (F := Ideal) L V c t q col hc
    have e2 := iblk2_at (F := Ideal) L V c t q col hc
    rw [← hbk] at e1 e2
    exact congrArg₂ swig
      (congrArg₂ (· + ·) (congrArg₂ dotR (funext e0) (funext e3)) e1)
      (congrArg₂ (· + ·) (congrArg₂ dotR (funext e0) (funext e4)) e2)
  · rw [if_neg (fun g => h (hk.mp g)), if_neg h]
    exact Ideal.ofBits_zero_bf16

theorem toNat_small (n : ℕ) (h : n < 289) : (BitVec.ofNat 32 n).toNat = n := by
  rw [BitVec.toNat_ofNat, Nat.mod_eq_of_lt (by omega)]

theorem arr_eq (c : Dev nD) : (datT (F := Ideal) L V 0 c).arrAt 3 (cfgT (F := Ideal) L).N = hidL L V c := by
  refine (datT (F := Ideal) L V 0 c).arrAt_eq_of_covers 3 (hidL L V c) (((cfgT (F := Ideal) L).win 3).covers_of_indexMap_surj rfl ?_ fun β => ?_) fun t hf (y : S256x1024.Idx) => ?_
  · exact (by decide : ∀ a : Fin 2, 0 < S256x1024.size a)
  · have h0 : (β (0 : Fin 2)).val < 288 := (β (0 : Fin 2)).isLt.trans_eq (show (73728 + 256 - 1) / 256 = 288 from rfl)
    have h1 : (β (1 : Fin 2)).val < 2 := (β (1 : Fin 2)).isLt.trans_eq (show (2048 + 1024 - 1) / 1024 = 2 from rfl)
    refine ⟨fun a => match a with | ⟨0, _⟩ => ⟨(β (1 : Fin 2)).val, h1⟩ | ⟨1, _⟩ => ⟨(β (0 : Fin 2)).val, h0⟩, fun a => ?_⟩
    match a with
    | ⟨0, _⟩ => exact toNat_small (β (0 : Fin 2)).val (by omega)
    | ⟨1, _⟩ => exact toNat_small (β (1 : Fin 2)).val (by omega)
  · rw [aft3]
    have hp : (y 0).val < 256 := (y 0).isLt
    have hq : (y 1).val < 1024 := (y 1).isLt
    have hb : (crd (F := Ideal) L t 1).val < 288 := (crd (F := Ideal) L t 1).isLt
    have hj : (crd (F := Ideal) L t 0).val < 2 := (crd (F := Ideal) L t 0).isLt
    have ey : (((cfgT (F := Ideal) L).win 3).blk t).view.emb y
        = (ix2 (⟨(crd (F := Ideal) L t 1).val * 256 + (y 0).val, by omega⟩ : Fin 73728) (⟨(crd (F := Ideal) L t 0).val * 1024 + (y 1).val, by omega⟩ : Fin 2048) : S73728x2048.Idx) := by
      funext a
      apply Fin.ext
      refine (((cfgT (F := Ideal) L).win 3).rect_emb_val t y a rfl).trans ?_
      match a with
      | ⟨0, _⟩ => exact congrArg (· * 256 + (y 0).val) (toNat_small _ (hb.trans (by decide)))
      | ⟨1, _⟩ => exact congrArg (· * 1024 + (y 1).val) (toNat_small _ (hj.trans (by decide)))
    have ex : ((cfgT (F := Ideal) L).win 3).xinj ((cfgT (F := Ideal) L).grid.coords t) y = (ix2 (⟨(y 0).val, hp⟩ : Fin 256) (⟨(y 1).val, hq⟩ : Fin 1024) : S256x1024.Idx) := by
      funext a
      match a with
      | ⟨0, _⟩ => rfl
      | ⟨1, _⟩ => rfl
    refine Eq.trans ?_ ((outT_at L V c t ⟨(y 0).val, hp⟩ ⟨(y 1).val, hq⟩ _ _ ?_ ?_).trans (congrArg (hidL L V c) ey.symm))
    · exact congrArg (outT (F := Ideal) L V c t : S256x1024.Idx → EReal) ex
    · exact congrArg (· * 256 + (y 0).val) (crd1 t)
    · exact congrArg (· * 1024 + (y 1).val) (crd0 t)

end Ideal

end Cert.KernelIdeal.Hand

end
-- ==== Proof.KernelValue.lean ====
module

public import proofs.«01_k».proof.Proof.Tables
public import proofs.«01_k».proof.Proof.Blocks

/-! The array the kernel leaves, from its arguments. -/

@[expose] public section

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (Pipeline.UD sig nD τ) ℕ

theorem z1 (X : Valuation τ sig (Elt F)) : (Z X main_arg1 : S73728x1024.Idx → Elt F .i32) = X main_arg1 := by rfl
theorem z2 (X : Valuation τ sig (Elt F)) : (Z X main_arg2 : S32x2048x2048.Idx → Elt F .f32) = X main_arg2 := by rfl
theorem z4' (X : Valuation τ sig (Elt F)) : (Z X main_arg4 : S32x2048x2048.Idx → Elt F .f32) = X main_arg4 := by rfl
theorem z73 (X : Valuation τ sig (Elt F)) : (Z X main_v73 : S32x1x2048.Idx → Elt F .f32) = shapeCast S32x1x2048 (X main_arg3 : S32x2048.Idx → Elt F .f32) shapeCasts_S32x2048_S32x1x2048 := by rfl
theorem z74 (X : Valuation τ sig (Elt F)) : (Z X main_v74 : S32x1x2048.Idx → Elt F .f32) = shapeCast S32x1x2048 (X main_arg5 : S32x2048.Idx → Elt F .f32) shapeCasts_S32x2048_S32x1x2048 := by rfl

set_option maxRecDepth 16384 in
theorem bias_at {α : Type} (v : S32x2048.Idx → α) (h : S32x2048.ShapeCasts S32x1x2048) (e : Fin 32) (f : Fin 2048) :
    shapeCast S32x1x2048 v h (ix3 e 0 f) = v (ix2 e f) := by
  pointwise

/-- The hidden activations of the sizes, the rows, the weights and the biases. -/
def hidA (a : IVec S32 32) (X : S73728x1024.Idx → BitVec 32) (Wg : S32x2048x2048.Idx → EReal) (bg : S32x2048.Idx → EReal) (Wu : S32x2048x2048.Idx → EReal)
    (bu : S32x2048.Idx → EReal) : S73728x2048.Idx → EReal := fun i =>
  hid (nuN a) (fun b => ⟨min (cnt a b) 31, by omega⟩) X Wg Wu (fun e f => bg (ix2 e f)) (fun e f => bu (ix2 e f)) (i 0) (i 1)

attribute [local irreducible] StableHlo.after

theorem hid_congr {nu : ℕ} {be be' : ℕ → Fin 32} {X X' : S73728x1024.Idx → BitVec 32} {Wg Wg' Wu Wu' : S32x2048x2048.Idx → EReal} {bg bg' bu bu' : Fin 32 → Fin 2048 → EReal}
    {r : Fin 73728} (col : Fin 2048) (hbe : r.val / 256 < nu → be (r.val / 256) = be' (r.val / 256)) (hX : X = X') (hg : Wg = Wg') (hu : Wu = Wu') (hbg : bg = bg') (hbu : bu = bu') :
    hid nu be X Wg Wu bg bu r col = hid nu be' X' Wg' Wu' bg' bu' r col := by
  subst hX hg hu hbg hbu
  unfold hid
  by_cases h : r.val / 256 < nu
  · rw [if_pos h, if_pos h, hbe h]
  · rw [if_neg h, if_neg h]

theorem kernel_val (m : (ℓ : Loc nD τ sig) → Buf (Elt Ideal) ℓ) (h : Routed (sizes m)) (c : Dev nD) :
    (datT (F := Ideal) (sched m h) (V m) 0 c).arrAt 3 (cfgT (F := Ideal) (sched m h)).N
      = hidA (sizes m) (m ((c : Thread nD τ).loc main_arg1)) (m ((c : Thread nD τ).loc main_arg2)) (m ((c : Thread nD τ).loc main_arg3))
          (m ((c : Thread nD τ).loc main_arg4)) (m ((c : Thread nD τ).loc main_arg5)) := by
  rw [arr_eq]
  funext i
  refine hid_congr _ (fun hb => ?_) (z1 _) (z2 _) (z4' _) (funext fun e => funext fun f => ?_) (funext fun e => funext fun f => ?_)
  · apply Fin.ext
    have hb' : (i 0).val / 256 < nuN (sizes m) := hb
    have hn := h.nu_le
    show beN (sizes m) ((i 0).val / 256 % 288) = min (cnt (sizes m) ((i 0).val / 256)) 31
    rw [Nat.mod_eq_of_lt (by omega)]
    unfold beN
    rw [min_eq_left (show (i 0).val / 256 ≤ nuN (sizes m) - 1 by omega)]
  · exact (congrFun (z73 _) _).trans (bias_at _ _ e f)
  · exact (congrFun (z74 _) _).trans (bias_at _ _ e f)

end Cert.KernelIdeal.Hand

end
-- ==== Proof.RefValue.lean ====
module

public import proofs.«01_k».proof.Proof.RefShape
public import proofs.«01_k».proof.Proof.KernelValue
public import Idealize.ShloMosaic.Lib.Routing.Ops
public import Idealize.ShloMosaic.Lib.Pointwise
public import Idealize.ShloMosaic.Lib.BitcastConvert

/-! The reference's array, from its arguments: the function the kernel's array is. -/

@[expose] public section

noncomputable section

namespace Cert.ReferenceIdeal.Hand

open Cert.ReferenceIdeal Cert.ReferenceIdeal.Gen
open Idealize.ShloMosaic
open Idealize.ShloMosaic.TcCoe Idealize.SL.Sem

variable {F : FTy → Type} [FloatOps F]

open Cert.KernelIdeal.Hand (pe sz cds cnt nuN Routed hidA hid feat dotR swig)
open Idealize.ShloMosaic.Routing

section
variable {a : IVec S32 32} (h : Routed a)
include h

theorem refPend_at (e : Fin 32) : refPend a (ix1 e) = BitVec.ofNat 32 (pe a e.val) := by
  have h6 (e : Fin 32) : muli (pyDiv bcast_S_S32 (addi a (broadcastInDim S32 ![] bcast_S_S32 (constantI S_ 32 255#32))) (id (constantI S_ 32 256#32)))
      (broadcastInDim S32 ![] bcast_S_S32 (constantI S_ 32 256#32)) (ix1 e) = BitVec.ofNat 32 (cds a e.val) := by
    have h3 : addi a (broadcastInDim S32 ![] bcast_S_S32 (constantI S_ 32 255#32)) (ix1 e) = BitVec.ofNat 32 (sz a e.val + 255) := by
      rw [addi_ap, bc0, show a (ix1 e) = _ from h.sz_word e]
      exact (BitVec.ofNat_add _ _).symm
    rw [muli_ap, pyDiv_ap bcast_S_S32 _ _ (ix1 e) h3 rfl (by have := h.le e.val; omega) (by decide) (by decide), bc0]
    exact (BitVec.ofNat_mul _ _).symm
  unfold refPend
  refine (cumsum1 rfl _ (cds a) h6 _ ?_ _ _ e).trans rfl
  first | rfl | (rw [bc0]; rfl)

theorem refE_at (b : Fin 288) : refE (refPend a) (ix1 b) = BitVec.ofNat 32 (min (cnt a b.val) 31) :=
  Cert.KernelIdeal.Hand.minsi_cnt h _ _ (refPend_at h) rfl b

theorem refIdx_at (b : Fin 288) : refIdx (refE (refPend a)) (ix2 b 0) = BitVec.ofNat 32 (min (cnt a b.val) 31) := by
  have e : refIdx (refE (refPend a)) (ix2 b 0) = Scalar.select (IntOp.cmpi .slt (refE (refPend a) (ix1 b)) 0#32) (refE (refPend a) (ix1 b) + 32#32) (refE (refPend a) (ix1 b)) := by
    generalize refE (refPend a) = E
    pointwise [refIdx]
    try rfl
  rw [e, refE_at h b]
  have hc : min (cnt a b.val) 31 < 32 := by omega
  generalize min (cnt a b.val) 31 = n at hc
  interval_cases n <;> rfl

end

theorem gatherB_at {α : Type} (v : S32x2048.Idx → α) (I : IVec S288x1 32) (b : Fin 288) (f : Fin 2048) (e : Fin 32) (hI : I (ix2 b 0) = BitVec.ofNat 32 e.val) :
    Host.gather gather_S32x2048_S288x1_S288x2048_1_0_n_n_0_1_12048 v I (ix2 b f) = v (ix2 e f) :=
  gather_row _ rfl rfl rfl rfl rfl v I b f e hI (by decide)

theorem gatherW_at {α : Type} (W : S32x2048x2048.Idx → α) (I : IVec S288x1 32) (b : Fin 288) (k f : Fin 2048) (e : Fin 32) (hI : I (ix2 b 0) = BitVec.ofNat 32 e.val) :
    Host.gather gather_S32x2048x2048_S288x1_S288x2048x2048_12_0_n_n_0_1_120482048 W I (ix3 b k f) = W (ix3 e k f) := by
  generalize hd : gather_S32x2048x2048_S288x1_S288x2048x2048_12_0_n_n_0_1_120482048 = d
  have hcoll : d.collapsedSliceDims = [0] := by rw [← hd]; rfl
  have hob : d.operandBatchingDims = [] := by rw [← hd]; rfl
  have hsim : d.startIndexMap = [0] := by rw [← hd]; rfl
  unfold Host.gather
  refine congrArg W (funext fun x => Fin.ext ?_)
  have hbN : ∀ a', a' ∉ d.operandBatchingDims := fun a' => by rw [hob]; exact List.not_mem_nil
  match x with
  | ⟨0, _⟩ =>
    have hk : (0 : Fin 3) ∉ d.sKept := fun h => ((d.mem_sKept 0).1 h).1 (by rw [hcoll]; exact List.mem_singleton.2 rfl)
    have hm : (0 : Fin 3) ∈ d.startIndexMap := by rw [hsim]; exact List.mem_singleton.2 rfl
    have hsl : d.sliceSizes 0 = 1 := d.slice_collapsed 0 (by rw [hcoll]; exact List.mem_singleton.2 rfl)
    show d.start (ix3 b k f) I 0 + d.batchCoord (ix3 b k f) 0 + d.offCoord (ix3 b k f) 0 = e.val
    rw [d.batchCoord_eq_zero _ _ (hbN 0), d.offCoord_eq_zero _ _ hk]
    simp only [Nat.add_zero]
    unfold GatherDims.start
    rw [dif_pos hm]
    have hsi : d.siIdx (ix3 b k f) ⟨d.startIndexMap.idxOf 0, List.idxOf_lt_length_iff.2 hm⟩ = ix2 b (0 : Fin 1) := by
      subst hd
      funext b'
      apply Fin.ext
      match b' with
      | ⟨0, _⟩ => rfl
      | ⟨1, _⟩ => rfl
    have hbl := e.isLt
    rw [hsi, hI, hsl, StableHlo.Predicate.toInt_ofNat_small _ (by omega)]
    show min ((e.val : Int)).toNat (32 - 1) = e.val
    omega
  | ⟨1, _⟩ =>
    have hm : (1 : Fin 3) ∉ d.startIndexMap := by rw [hsim]; decide
    show d.start (ix3 b k f) I 1 + d.batchCoord (ix3 b k f) 1 + d.offCoord (ix3 b k f) 1 = k.val
    rw [d.batchCoord_eq_zero _ _ (hbN 1), Nat.add_zero]
    unfold GatherDims.start
    rw [dif_neg hm, Nat.zero_add]
    subst hd
    rfl
  | ⟨2, _⟩ =>
    have hm : (2 : Fin 3) ∉ d.startIndexMap := by rw [hsim]; decide
    show d.start (ix3 b k f) I 2 + d.batchCoord (ix3 b k f) 2 + d.offCoord (ix3 b k f) 2 = f.val
    rw [d.batchCoord_eq_zero _ _ (hbN 2), Nat.add_zero]
    unfold GatherDims.start
    rw [dif_neg hm, Nat.zero_add]
    subst hd
    rfl

set_option maxRecDepth 16384

theorem drop_at (r : Fin 73728) (k : Fin 1024) (s : Fin 2) :
    splits_S73728x1024_w32_S73728x1024x2_w16.drop (ix3 r k s) = ix2 r k := by
  funext x
  apply Fin.ext
  match x with
  | ⟨0, _⟩ => rfl
  | ⟨1, _⟩ => rfl

theorem refX_at (X : IVec S73728x1024 32) (b : Fin 288) (p : Fin 256) (d : Fin 2048) (r : Fin 73728) (hr : r.val = b.val * 256 + p.val) :
    (refX (F := Ideal) X (ix3 b p d) : EReal) = feat (fun k => X (ix2 r k)) d := by
  have hr' : (⟨b.val * 256 + p.val, by omega⟩ : Fin 73728) = r := Fin.ext hr.symm
  pointwise [refX, Host.bitcastConvertNarrow]
  simp only [drop_at, hr']
  rfl

theorem refProj_at (x : FVec Ideal S288x256x2048 .f32) (I : IVec S288x1 32) (W : FVec Ideal S32x2048x2048 .f32) (v : FVec Ideal S32x2048 .f32) (b : Fin 288) (p : Fin 256) (f : Fin 2048) :
    (refProj x I W v (ix3 b p f) : EReal) = (∑ d : Fin 2048, x (ix3 b p d) * Host.gather gather_S32x2048x2048_S288x1_S288x2048x2048_12_0_n_n_0_1_120482048 W I (ix3 b d f))
      + Host.gather gather_S32x2048_S288x1_S288x2048_1_0_n_n_0_1_12048 v I (ix2 b f) := by
  unfold refProj
  generalize Host.gather gather_S32x2048x2048_S288x1_S288x2048x2048_12_0_n_n_0_1_120482048 W I = A
  generalize Host.gather gather_S32x2048_S288x1_S288x2048_1_0_n_n_0_1_12048 v I = B
  pointwise

theorem zero_bits : Ideal.ofBits FTy.f32 0#32 = 0 := by
  pointwise

theorem refOut_at (P : IVec S32 32) (u g : FVec Ideal S288x256x2048 .f32) (r : Fin 73728) (f : Fin 2048) :
    (refOut P u g (ix2 r f) : EReal) = Scalar.select (IntOp.cmpi .slt (IntOp.muli (BitVec.ofNat 32 (r.val / 256)) 256#32) (P (ix1 31)))
      (swig (g (ix3 ⟨r.val / 256, by omega⟩ ⟨r.val % 256, by omega⟩ f)) (u (ix3 ⟨r.val / 256, by omega⟩ ⟨r.val % 256, by omega⟩ f))) 0 := by
  have hz : (id (constant (F := Ideal) S_ .f32 0#32) ValueIdx.ix0 : EReal) = 0 := zero_bits
  pointwise [refOut, refStart]
  exact congrArg₂ (Scalar.select _) rfl hz

theorem sel_at (n nu : ℕ) (h1 : n * 256 < 2 ^ 31) (h2 : nu * 256 < 2 ^ 31) (x : EReal) :
    Scalar.select (IntOp.cmpi .slt (IntOp.muli (BitVec.ofNat 32 n) 256#32) (BitVec.ofNat 32 (nu * 256))) x 0 = if n < nu then x else 0 := by
  have hm : IntOp.muli (BitVec.ofNat 32 n) 256#32 = BitVec.ofNat 32 (n * 256) := (BitVec.ofNat_mul _ _).symm
  rw [hm, Idealize.ShloMosaic.WordCmp.cmpi_slt_ofNat (w := 32) h1 h2, decide_eq_decide.2 (show n * 256 < nu * 256 ↔ n < nu by omega)]
  by_cases hb : n < nu
  · rw [if_pos hb, decide_eq_true hb]
    rfl
  · rw [if_neg hb, decide_eq_false hb]
    rfl

theorem val_eq {a : IVec S32 32} (h : Routed a) (X : IVec S73728x1024 32) (Wg : FVec Ideal S32x2048x2048 .f32) (bg : FVec Ideal S32x2048 .f32)
    (Wu : FVec Ideal S32x2048x2048 .f32) (bu : FVec Ideal S32x2048 .f32) : refA (F := Ideal) a X Wg bg Wu bu = hidA a X Wg bg Wu bu := by
  have hp (W : FVec Ideal S32x2048x2048 .f32) (v : FVec Ideal S32x2048 .f32) (r : Fin 73728) (f : Fin 2048) :
      (refProj (refX X) (refIdx (refE (refPend a))) W v (ix3 ⟨r.val / 256, by omega⟩ ⟨r.val % 256, by omega⟩ f) : EReal)
        = dotR (fun k => X (ix2 r k)) (fun d => W (ix3 ⟨min (cnt a (r.val / 256)) 31, by omega⟩ d f)) + v (ix2 ⟨min (cnt a (r.val / 256)) 31, by omega⟩ f) := by
    rw [refProj_at]
    refine congrArg₂ (· + ·) (Finset.sum_congr rfl fun d _ => congrArg₂ (· * ·) ?_ ?_) ?_
    · exact refX_at X _ _ d r (by show r.val = r.val / 256 * 256 + r.val % 256; omega)
    · exact gatherW_at W _ _ d f _ (refIdx_at h _)
    · exact gatherB_at v _ _ f _ (refIdx_at h _)
  funext i
  obtain ⟨r, f, rfl⟩ : ∃ (r : Fin 73728) (f : Fin 2048), i = ix2 r f := ⟨i 0, i 1, by funext x; match x with | ⟨0, _⟩ => rfl | ⟨1, _⟩ => rfl⟩
  unfold refA
  refine (refOut_at _ _ _ r f).trans ?_
  rw [hp, hp, refPend_at h 31]
  have hr := r.isLt
  have hl := h.pe31_le
  have hn : pe a (31 : Fin 32).val = nuN a * 256 := (Routed.nu_mul (a := a)).symm
  have hl' : nuN a * 256 < 2 ^ 31 := by rw [← hn]; exact lt_of_le_of_lt hl (by decide)
  rw [hn]
  exact sel_at _ _ (by omega) hl' _

end Cert.ReferenceIdeal.Hand

end
-- ==== Proof.Algebraic.lean ====
module

public import proofs.«01_k».proof.Proof.Frames
public import proofs.«01_k».proof.Proof.RefValue

/-! The kernel's result and the reference's: one function of the arguments. -/

@[expose] public section

noncomputable section

namespace Cert.Proof

open Idealize.ShloMosaic Idealize.SL.Sem

/-- The reference's frame, on the arguments the precondition allows. -/
theorem frame_ri_routed : Cert.quiescent_ReferenceIdeal_pre_routed := fun m ρ _ => frame_ri m ρ trivial

open Cert.KernelIdeal.Hand in
/-- Both programs leave the hidden activations `hidA` of their arguments. -/
theorem algebraic : Cert.algebraic_KernelIdeal_ReferenceIdeal := by
  intro m g m' g' hp ha
  have hR : Routed (sizes m) := routed_of (F := Ideal) _ _ _ _ _ _ (hp 0)
  refine ⟨fun c => hidA (sizes m) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run (Cert.KernelIdeal.defs (F := Ideal)) _ _).mono (fun r h c => ⟨(h.1 c).2.trans (kernel_val m hR c), (h.1 c).1⟩)
      (run_frame (F := Ideal) m g hR)
  · refine (θ_run (Cert.ReferenceIdeal.defs (F := Ideal)) _ _).mono (fun r h c => ⟨(h c).1.trans ?_, (h c).2⟩)
      (Cert.ReferenceIdeal.Value.run (F := Ideal) m' g')
    obtain rfl : c = 0 := Subsingleton.elim _ _
    obtain ⟨a0, a1, a2, a3, a4, a5⟩ := ha 0
    refine (Cert.ReferenceIdeal.Hand.res_eq m' 0).trans ?_
    rw [a0, a1, a2, a3, a4, a5]
    exact Cert.ReferenceIdeal.Hand.val_eq hR _ _ _ _ _

end Cert.Proof

end
-- ==== Proof.DnOperands.lean ====
module

public import proofs.«01_k».proof.Proof.Gen.DownIdeal.Skeleton
public import proofs.«01_k».proof.Proof.Gen.DownIdeal.Launch
public import Idealize.ShloMosaic.Lib.Pipeline.Frame
public import Idealize.ShloMosaic.Lib.Pipeline.FrameBody
public import Idealize.ShloMosaic.Lib.Pipeline.TableIdle
public import Idealize.ShloMosaic.Lib.Transfers
public import Idealize.ShloMosaic.Lib.Exec
public import Idealize.ShloMosaic.Lib.Tactic

/-! The body's operands, and the steps of its transfers: a weight tile started into a half of the
f32 buffer, and the wait that hands the tile over. -/

@[expose] public section

noncomputable section

namespace Cert.DownIdeal.Hand

open Cert.DownIdeal Cert.DownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-! ## The operands -/

/-- The tables: each block's expert, the blocks in use, the starts of runs, the runs before, the
    runs of a sweep, and each run's expert and column half. -/
abbrev tbE : Memref sig .tc .smem S288 .i32 := Memref.whole main_v30
abbrev tbU : Memref sig .tc .smem S1 .i32 := Memref.whole main_v71
abbrev tbF : Memref sig .tc .smem S288 .i32 := Memref.whole main_v37
abbrev tbR : Memref sig .tc .smem S288 .i32 := Memref.whole main_v40
abbrev tbN : Memref sig .tc .smem S1 .i32 := Memref.whole main_v72
abbrev tbG : Memref sig .tc .smem S64 .i32 := Memref.whole main_v67
abbrev tbJ : Memref sig .tc .smem S64 .i32 := Memref.whole main_v70
/-- The weights left in HBM. -/
abbrev hbD : Memref sig .tc .hbm S32x2048x2048 .f32 := Memref.whole main_arg2
/-- The f32 tiles in flight, and the tile cast to bf16. -/
abbrev scF : Memref sig .tc .vmem S2x2048x2048 .f32 := Memref.whole cc0_scratch0
abbrev scB : Memref sig .tc .vmem S2048x2048 .bf16 := Memref.whole cc0_scratch1

/-- A word of a table, as the body reads it. -/
abbrev rdN (T : S1.Idx → Elt F .i32) : Elt F .i32 :=
  View.readAt (Elt F) tbN.view (Rect.unit (s := S1) ![0] S1.size inb_S1_S1_0).toLoadRect T (Shape.Idx.first (numel1_S1.symm ▸ Nat.one_pos))
abbrev rdU (T : S1.Idx → Elt F .i32) : Elt F .i32 :=
  View.readAt (Elt F) tbU.view (Rect.unit (s := S1) ![0] S1.size inb_S1_S1_0).toLoadRect T (Shape.Idx.first (numel1_S1.symm ▸ Nat.one_pos))
abbrev rdR (i : grid0.Coords) (T : S288.Idx → Elt F .i32) : Elt F .i32 :=
  View.readAt (Elt F) tbR.view (Rect.unit (s := S288) (k0_off1 i) S1.size (k0_off1_inb i)).toLoadRect T (Shape.Idx.first (numel1_S1.symm ▸ Nat.one_pos))
abbrev rdF (i : grid0.Coords) (T : S288.Idx → Elt F .i32) : Elt F .i32 :=
  View.readAt (Elt F) tbF.view (Rect.unit (s := S288) (k0_off1 i) S1.size (k0_off1_inb i)).toLoadRect T (Shape.Idx.first (numel1_S1.symm ▸ Nat.one_pos))

end Cert.DownIdeal.Hand

end
-- ==== Proof.DnSteps.lean ====
module

public import proofs.«01_k».proof.Proof.DnOperands

/-! The steps of the body's transfers: a tile of the weights started into a half of the f32 buffer,
the weights lent whole meanwhile, and the wait that hands both back. -/

@[expose] public section

noncomputable section

namespace Cert.DownIdeal.Hand

open Cert.DownIdeal Cert.DownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-- Where the transfers' counters lie in the certificate's algebra. -/
abbrev EC : UEmb Counters 𝕄 := countersEmb

/-- A transfer under way on the cell `sm`, owing `D`. -/
abbrev Fly (c : Dev nD) (sm : DmaSem sig) (N : ℕ) (D : sProp 𝕄) : sProp 𝕄 :=
  Transfers.Flight (EC (F := F)) (c : Thread nD τ) (.dma sm) () N D

/-- What is put by while a transfer is under way may be counted to what it hands over. -/
theorem fly_frame (c : Dev nD) (sm : DmaSem sig) (N : ℕ) (D X : sProp 𝕄) :
    iprop(Fly c sm N D ∗ X) ⊢ Fly c sm N iprop(D ∗ X) := by
  unfold Fly Transfers.Flight
  iintro ⟨⟨⟨%R, HR, %hcap, %hpeek⟩, Hcred⟩, HX⟩
  isplitl [HR HX]
  · iexists iprop(R ∗ X)
    isplitl [HR HX]; · isplitl [HR] <;> iassumption
    isplit
    · ipureintro
      intro K
      refine BIBase.Entails.trans ?_ (hcap K)
      iintro ⟨⟨HR, HX⟩, HK⟩
      isplitl [HR]; · iexact HR
      iintro ⟨Hv, HD⟩
      iapply HK
      isplitl [Hv]; · iexact Hv
      isplitl [HD] <;> iassumption
    · ipureintro
      intro K
      refine BIBase.Entails.trans ?_ (hpeek K)
      iintro ⟨⟨HR, HX⟩, HK⟩
      isplitl [HR]; · iexact HR
      iintro HR
      iapply HK
      isplitl [HR] <;> iassumption
  · iexact Hcred

/-- A copy of a window of a whole array started: the destination will hold the window's words, and the
    array comes back whole. -/
theorem wp_start (c : Dev nD) {sp sp' : Space} {s : Shape} {e : EltTy} (hs : 0 < s.numel)
    {src : Memref sig .tc sp s e} {dst : Memref sig .tc sp' s e} {sm : DmaSem sig}
    {hsrc : src.view.WordExact} {hdst : dst.view.WordExact} {hsem : DmaTarget.Typed (nD := nD) (τ := τ) (p := .tc) sp (.dma sm) (.here dst)}
    {α : Type} {Q : α → sProp 𝕄} {k : PUnit → Prog (TpuEff nD τ sig (Elt F) Λ₀ .tc) α} (fs : Buf (Elt F) (src.view.loc (c : Thread nD τ))) :
    iprop((src.view.loc (c : Thread nD τ) ↦{fullShare} fs) ∗ (∃ d, owns (c : Thread nD τ) dst fullShare d) ∗ semVal ((c : Thread nD τ), SemLoc.dma sm) 0)
      ⊢ iprop((Fly c sm dst.view.dmaCredit iprop(owns (c : Thread nD τ) dst fullShare (src.view.read (Elt F) fs)
                  ∗ (src.view.loc (c : Thread nD τ) ↦{fullShare} fs))
              -∗ wp frame (wpE (defs₀ (F := F)) Variants.none (c : Thread nD τ) none) Set.univ (k ⟨⟩) Q)
          -∗ wp frame (wpE (defs₀ (F := F)) Variants.none (c : Thread nD τ) none) Set.univ (.op (.enqueueDma src (.here dst) (.dma sm) hsrc hdst hsem) k) Q) := by
  unfold owns
  iintro ⟨Hs, ⟨%d, %fd, -, Hd⟩, Hv⟩ Hk
  ihave Hs' := (pointsTo_split_subset (Finset.subset_univ src.view.set)).1 $$ Hs
  icases Hs' with ⟨Hs, Hrest⟩
  iapply (Transfers.wp_dmaLocal (EC (F := F)) Variants.none (c : Thread nD τ) none () dst.view.dmaCredit rfl (View.dmaCredit_pos _ hs) (Finset.Subset.refl _)) $$ [Hs Hd Hv]
  · isplitl [Hs]; · iexact Hs
    isplitl [Hd] <;> iassumption
  iintro Hf
  iapply Hk
  ihave Hf := (fly_frame c sm _ _ (src.view.loc (c : Thread nD τ) ↦[Finset.univ \ src.view.set]{fullShare} fs)) $$ [Hf Hrest]
  · isplitl [Hf] <;> iassumption
  iapply (Transfers.Flight_mono (EC (F := F)) (c : Thread nD τ) (D := _) ?_) $$ Hf
  iintro ⟨⟨Hd, Hs⟩, Hrest⟩
  isplitl [Hd]
  · skip
    iexists _
    isplitr; swap
    · iexact Hd
    · ipureintro; exact View.read_write_univ _ _
  · iapply (pointsTo_split_subset (Finset.subset_univ src.view.set)).2
    isplitl [Hs] <;> iassumption

/-- The wait for a transfer under way. -/
theorem wp_await (c : Dev nD) {sp sp' : Space} {s : Shape} {e : EltTy}
    {src : Memref sig .tc sp s e} {dst : Memref sig .tc sp' s e} {sm : DmaSem sig}
    {hsrc : src.view.WordExact} {hdst : dst.view.WordExact} {N : ℕ} (hN : dst.view.dmaCredit = N)
    {α : Type} {Q : α → sProp 𝕄} {k : PUnit → Prog (TpuEff nD τ sig (Elt F) Λ₀ .tc) α} {D : sProp 𝕄} :
    iprop(Fly c sm N D ∗ (∃ W, owes (c : Thread nD τ) 0 W))
      ⊢ iprop((iprop(D ∗ semVal ((c : Thread nD τ), SemLoc.dma sm) 0 ∗ (∃ W, owes (c : Thread nD τ) 0 W))
              -∗ wp frame (wpE (defs₀ (F := F)) Variants.none (c : Thread nD τ) none) Set.univ (k ⟨⟩) Q)
          -∗ wp frame (wpE (defs₀ (F := F)) Variants.none (c : Thread nD τ) none) Set.univ (.op (.waitDma2 sm src dst hsrc hdst) k) Q) := by
  iintro ⟨Hf, ⟨%W, HW⟩⟩ Hk
  have h := Transfers.wp_waitLocal (EC (F := F)) (defs := defs₀ (F := F)) Variants.none (c : Thread nD τ) none (srcw := src) (dstw := dst) (hsrc := hsrc) (hdst := hdst) (sem := sm) (k := k) (Q := Q) () hN (D := D) (W := W)
  iapply h $$ [Hf HW]
  · isplitl [Hf] <;> iassumption
  iintro ⟨HD, Hv, HW⟩
  iapply Hk
  isplitl [HD]; · iexact HD
  isplitl [Hv]; · iexact Hv
  iexists _; iexact HW

/-- `wp_start` at a window, a destination and a cell the body computes, equal to those held. -/
theorem wp_start_at (c : Dev nD) {sp sp' : Space} {s : Shape} {e : EltTy} (hs : 0 < s.numel)
    {src₀ : Memref sig .tc sp s e} {dst₀ : Memref sig .tc sp' s e} {sm₀ : DmaSem sig}
    {src : Memref sig .tc sp s e} {dst : Memref sig .tc sp' s e} {sm : DmaSem sig}
    (h1 : src = src₀) (h2 : dst = dst₀) (h3 : sm = sm₀)
    {hsrc : src.view.WordExact} {hdst : dst.view.WordExact} {hsem : DmaTarget.Typed (nD := nD) (τ := τ) (p := .tc) sp (.dma sm) (.here dst)}
    {α : Type} {Q : α → sProp 𝕄} {k : PUnit → Prog (TpuEff nD τ sig (Elt F) Λ₀ .tc) α} (fs : Buf (Elt F) (src₀.view.loc (c : Thread nD τ))) :
    iprop((src₀.view.loc (c : Thread nD τ) ↦{fullShare} fs) ∗ (∃ d, owns (c : Thread nD τ) dst₀ fullShare d) ∗ semVal ((c : Thread nD τ), SemLoc.dma sm₀) 0)
      ⊢ iprop((Fly c sm₀ dst₀.view.dmaCredit iprop(owns (c : Thread nD τ) dst₀ fullShare (src₀.view.read (Elt F) fs)
                  ∗ (src₀.view.loc (c : Thread nD τ) ↦{fullShare} fs))
              -∗ wp frame (wpE (defs₀ (F := F)) Variants.none (c : Thread nD τ) none) Set.univ (k ⟨⟩) Q)
          -∗ wp frame (wpE (defs₀ (F := F)) Variants.none (c : Thread nD τ) none) Set.univ (.op (.enqueueDma src (.here dst) (.dma sm) hsrc hdst hsem) k) Q) := by
  subst h1 h2 h3
  exact wp_start c hs fs

/-- `wp_await` at a cell the body computes, equal to the one the transfer is under way on. -/
theorem wp_await_at (c : Dev nD) {sp sp' : Space} {s : Shape} {e : EltTy}
    {src : Memref sig .tc sp s e} {dst : Memref sig .tc sp' s e} {sm sm₀ : DmaSem sig} (h3 : sm = sm₀)
    {hsrc : src.view.WordExact} {hdst : dst.view.WordExact} {N : ℕ} (hN : dst.view.dmaCredit = N)
    {α : Type} {Q : α → sProp 𝕄} {k : PUnit → Prog (TpuEff nD τ sig (Elt F) Λ₀ .tc) α} {D : sProp 𝕄} :
    iprop(Fly c sm₀ N D ∗ (∃ W, owes (c : Thread nD τ) 0 W))
      ⊢ iprop((iprop(D ∗ semVal ((c : Thread nD τ), SemLoc.dma sm₀) 0 ∗ (∃ W, owes (c : Thread nD τ) 0 W))
              -∗ wp frame (wpE (defs₀ (F := F)) Variants.none (c : Thread nD τ) none) Set.univ (k ⟨⟩) Q)
          -∗ wp frame (wpE (defs₀ (F := F)) Variants.none (c : Thread nD τ) none) Set.univ (.op (.waitDma2 sm src dst hsrc hdst) k) Q) := by
  subst h3
  exact wp_await c hN

end Cert.DownIdeal.Hand

end
-- ==== Proof.DnStream.lean ====
module

public import proofs.«01_k».proof.Proof.DnSteps

/-! The weight stream: what is held between two points of the grid, and the body's first part. -/

@[expose] public section

noncomputable section

namespace Cert.DownIdeal.Hand

open Cert.DownIdeal Cert.DownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-- A tile's place in the f32 buffer, at the offsets the body computes. -/
abbrev pcAt (o : Fin 3 → ℕ) (h : ∀ a, o a + S1x2048x2048.size a ≤ S2x2048x2048.size a) : Memref sig .tc .vmem S2048x2048 .f32 :=
  (scF.slice (Rect.unit (s := S2x2048x2048) o S1x2048x2048.size h) (fun _ => rfl)).squeeze S2048x2048 squeezes_S1x2048x2048_S2048x2048
/-- A tile of the weights. -/
abbrev tileAt (o : Fin 3 → ℕ) (h : ∀ a, o a + S1x2048x2048.size a ≤ S32x2048x2048.size a) : Memref sig .tc .hbm S2048x2048 .f32 :=
  (hbD.slice (Rect.unit (s := S32x2048x2048) o S1x2048x2048.size h) (fun _ => rfl)).squeeze S2048x2048 squeezes_S1x2048x2048_S2048x2048
/-- A transfer's cell. -/
abbrev cellAt (o : Fin 1 → ℕ) (h : ∀ a, o a + S1.size a ≤ S2.size a) : DmaSem sig :=
  ((cc0_scratch2.slice (Rect.unit (s := S2) o S1.size h)).squeeze S_ squeezes_S1_S_).sem

theorem pc_inb (s : Fin 2) : ∀ a, (![s.val, 0, 0] : Fin 3 → ℕ) a + S1x2048x2048.size a ≤ S2x2048x2048.size a := by
  revert s; decide
theorem tile_inb (e : Fin 32) : ∀ a, (![e.val, 0, 0] : Fin 3 → ℕ) a + S1x2048x2048.size a ≤ S32x2048x2048.size a := by
  revert e; decide
theorem cell_inb (s : Fin 2) : ∀ a, (![s.val] : Fin 1 → ℕ) a + S1.size a ≤ S2.size a := by
  revert s; decide

abbrev pc (s : Fin 2) : Memref sig .tc .vmem S2048x2048 .f32 := pcAt ![s.val, 0, 0] (pc_inb s)
abbrev tile (e : Fin 32) : Memref sig .tc .hbm S2048x2048 .f32 := tileAt ![e.val, 0, 0] (tile_inb e)
abbrev cell (s : Fin 2) : DmaSem sig := cellAt ![s.val] (cell_inb s)

/-- A tile's words. -/
def tileV (W : S32x2048x2048.Idx → Elt F .f32) (e : Fin 32) : S2048x2048.Idx → Elt F .f32 :=
  (tile e).view.read (Elt F) W

/-- A half of the f32 buffer with nothing under way. -/
def free (c : Dev nD) (s : Fin 2) : sProp 𝕄 :=
  iprop((∃ d, owns (c : Thread nD τ) (pc s) fullShare d) ∗ semVal ((c : Thread nD τ), SemLoc.dma (cell s)) 0)

/-- The weights at rest. -/
def srcs (c : Dev nD) (W : S32x2048x2048.Idx → Elt F .f32) : sProp 𝕄 :=
  iprop(hbD.view.loc (c : Thread nD τ) ↦{fullShare} W)

/-- A half filled with the tile of the expert `e`. -/
def full (c : Dev nD) (W : S32x2048x2048.Idx → Elt F .f32) (s : Fin 2) (e : Fin 32) : sProp 𝕄 :=
  iprop(owns (c : Thread nD τ) (pc s) fullShare (tileV W e) ∗ semVal ((c : Thread nD τ), SemLoc.dma (cell s)) 0)

/-- The tile of the expert `e` under way into a half, the weights lent. -/
def flying (c : Dev nD) (W : S32x2048x2048.Idx → Elt F .f32) (s : Fin 2) (e : Fin 32) : sProp 𝕄 :=
  iprop(Fly c (cell s) (pc s).view.dmaCredit iprop(owns (c : Thread nD τ) (pc s) fullShare (tileV W e) ∗ (hbD.view.loc (c : Thread nD τ) ↦{fullShare} W)))

theorem cellAt_eq {o : Fin 1 → ℕ} {h} {s : Fin 2} (ho : o = ![s.val]) : cellAt o h = cell s := by
  subst ho; rfl
theorem pcAt_eq {o : Fin 3 → ℕ} {h} {s : Fin 2} (ho : o = ![s.val, 0, 0]) : pcAt o h = pc s := by
  subst ho; rfl
theorem tileAt_eq {o : Fin 3 → ℕ} {h} {e : Fin 32} (ho : o = ![e.val, 0, 0]) : tileAt o h = tile e := by
  subst ho; rfl
theorem numel_tile : 0 < S2048x2048.numel := by decide

end Cert.DownIdeal.Hand

end
-- ==== Proof.DnOffsets.lean ====
module

public import proofs.«01_k».proof.Proof.DnStream
public import Idealize.ShloMosaic.Lib.ValueIdxCore
public import Idealize.ShloMosaic.Lib.WordCmp

/-! The places the body computes, as numbers: where the run `g` of the stream sits, and the side
conditions the body checks of the words it reads. -/

@[expose] public section

namespace Cert.DownIdeal.Hand

open Cert.DownIdeal Cert.DownIdeal.Gen
open Idealize.ShloMosaic

/-- The half of the buffer that takes run `g`. -/
abbrev slot (g : Fin 64) : Fin 2 := ⟨g.val % 2, Nat.mod_lt _ (by decide)⟩
/-- The other half. -/
abbrev other (s : Fin 2) : Fin 2 := ⟨1 - s.val, by omega⟩

variable {i : grid0.Coords} {v1 : BitVec 32} {g : Fin 64}

theorem off3_eq (h : v1 = BitVec.ofNat 32 g.val) : k0_off3 v1 = ![g.val] := by
  subst h; revert g; decide
theorem off4_eq (h : v1 = BitVec.ofNat 32 g.val) : k0_off4 v1 = ![(slot g).val] := by
  subst h; revert g; decide
theorem off5_eq (h : v1 = BitVec.ofNat 32 g.val) : k0_off5 v1 = ![(slot g).val, 0, 0] := by
  subst h; revert g; decide
theorem off7_eq (h : v1 = BitVec.ofNat 32 g.val) : k0_off7 v1 = ![g.val + 1] := by
  subst h; revert g; decide
theorem off8_eq (h : v1 = BitVec.ofNat 32 g.val) : k0_off8 v1 = ![(other (slot g)).val] := by
  subst h; revert g; decide
theorem off9_eq (h : v1 = BitVec.ofNat 32 g.val) : k0_off9 v1 = ![(other (slot g)).val, 0, 0] := by
  subst h; revert g; decide
theorem off11_eq (h : v1 = BitVec.ofNat 32 g.val) : k0_off11 v1 = ![(slot g).val, 0, 0] := by
  subst h; revert g; decide

theorem off2_eq {v : BitVec 32} {e : Fin 32} (he : v = BitVec.ofNat 32 e.val) : k0_off2 v = ![e.val, 0, 0] := by
  subst he; revert e; decide
theorem off6_eq {v : BitVec 32} {e : Fin 32} (he : v = BitVec.ofNat 32 e.val) : k0_off6 v = ![e.val, 0, 0] := by
  subst he; revert e; decide
theorem off10_eq {v : BitVec 32} {e : Fin 32} (he : v = BitVec.ofNat 32 e.val) : k0_off10 v = ![e.val, 0, 0] := by
  subst he; revert e; decide

theorem cond2_iff (h : v1 = BitVec.ofNat 32 g.val) : k0_cond2 v1 = 1#1 ↔ g.val = 0 := by
  subst h; revert g; decide
theorem cond3_iff (h : v1 = BitVec.ofNat 32 g.val) {v2 : BitVec 32} {n : Fin 33} (h2 : v2 = BitVec.ofNat 32 n.val) :
    k0_cond3 v1 v2 = 1#1 ↔ g.val + 1 < n.val := by
  subst h; subst h2; revert g n; decide +kernel
theorem cond1_iff {v8 : BitVec 32} : k0_cond1 v8 = 1#1 ↔ v8 = 1#32 := by
  unfold k0_cond1; dsimp only [Scalar.cmpi, Scalar.extui]
  by_cases h : v8 = 1#32
  · subst h; decide
  · simp only [h, iff_false]
    have e : IntOp.cmpi .eq v8 1#32 = 0#1 := by rw [WordCmp.cmpi_eq_eq]; simp [h]
    rw [e]; decide

theorem chk1_of {v4 v : BitVec 32} {e : Fin 32} (he : v = BitVec.ofNat 32 e.val) : k0_chk1 v1 v4 v := by
  intro _ _; rw [off2_eq he]; exact tile_inb e
theorem chk3_of {v4 v : BitVec 32} {e : Fin 32} (he : v = BitVec.ofNat 32 e.val) : k0_chk3 v4 v := by
  intro _; rw [off6_eq he]; exact tile_inb e
theorem chk4_of {v2 v4 v : BitVec 32} {e : Fin 32} (he : v = BitVec.ofNat 32 e.val) : k0_chk4 v1 v2 v4 v := by
  intro _ _; rw [off10_eq he]; exact tile_inb e

theorem word_inb (g : Fin 64) : ∀ a, (![g.val] : Fin 1 → ℕ) a + S1.size a ≤ S64.size a := by
  revert g; decide
theorem word_inb' (g : Fin 64) (h : g.val + 1 < 64) : ∀ a, (![g.val + 1] : Fin 1 → ℕ) a + S1.size a ≤ S64.size a :=
  word_inb ⟨g.val + 1, h⟩

theorem chk2_of {v2 v4 : BitVec 32} {n : Fin 33} (h2 : v2 = BitVec.ofNat 32 n.val)
    (h : k0_cond1 v4 = 1#1 → v1 = BitVec.ofNat 32 g.val) : k0_chk2 v1 v2 v4 := by
  refine ⟨fun h1 => ?_, fun h1 => ?_, fun h1 => ?_, fun h1 h3 => ?_, fun h1 _ => ?_, fun h1 _ => ?_, fun h1 => ?_⟩
  · rw [off3_eq (h h1)]; exact word_inb g
  · rw [off4_eq (h h1)]; exact cell_inb (slot g)
  · rw [off5_eq (h h1)]; exact pc_inb (slot g)
  · rw [off7_eq (h h1)]
    have := (cond3_iff (h h1) h2).mp h3
    exact word_inb' g (by omega)
  · rw [off8_eq (h h1)]; exact cell_inb (other (slot g))
  · rw [off9_eq (h h1)]; exact pc_inb (other (slot g))
  · rw [off11_eq (h h1)]; exact pc_inb (slot g)

theorem slt_key (b : Fin 288) (n : Fin 289) :
    (Scalar.cmpi .ne (Scalar.extui (Scalar.cmpi .slt (BitVec.ofNat 32 b.val) (BitVec.ofNat 32 n.val)) : BitVec 32) 0#32 = 1#1) ↔ b.val < n.val := by
  dsimp only [Scalar.cmpi, Scalar.extui]
  rw [WordCmp.cmpi_slt_ofNat (by omega) (by omega)]
  by_cases h : b.val < n.val <;> simp only [h] <;> decide
theorem sge_key (b : Fin 288) (n : Fin 289) :
    (Scalar.cmpi .ne (Scalar.extui (Scalar.cmpi .sge (BitVec.ofNat 32 b.val) (BitVec.ofNat 32 n.val)) : BitVec 32) 0#32 = 1#1) ↔ ¬ b.val < n.val := by
  dsimp only [Scalar.cmpi, Scalar.extui]
  rw [WordCmp.cmpi_sge_ofNat (by omega) (by omega)]
  by_cases h : b.val < n.val
  · simp only [h, Nat.not_le.mpr h]; decide
  · simp only [h, Nat.not_lt.mp h]; decide
theorem cond4_iff {v : BitVec 32} {n : Fin 289} (hv : v = BitVec.ofNat 32 n.val) : k0_cond4 i v = 1#1 ↔ (i 0).val < n.val := by
  subst hv; exact slt_key (i 0) n
theorem cond5_iff {v : BitVec 32} {n : Fin 289} (hv : v = BitVec.ofNat 32 n.val) : k0_cond5 i v = 1#1 ↔ ¬ (i 0).val < n.val := by
  subst hv; exact sge_key (i 0) n

/-- The word of a table of 64 that a load of one word reads. -/
theorem readG {F : FTy → Type} [FloatOps F] (T : S64.Idx → Elt F .i32) {o : Fin 1 → ℕ} {h} {g : Fin 64} (ho : o = ![g.val]) :
    View.readAt (Elt F) tbG.view (Rect.unit (s := S64) o S1.size h).toLoadRect T (Shape.Idx.first (numel1_S1.symm ▸ Nat.one_pos)) = T (ValueIdx.ix1 g) := by
  subst ho
  refine congrArg T (funext fun a => ?_)
  match a with
  | ⟨0, _⟩ => exact Fin.ext (by rfl)
theorem off1_eq : k0_off1 i = ![(i 0).val] := by
  have key : ∀ b : Fin 288, (![(Scalar.indexCast (BitVec.ofNat 32 b.val)).toNat] : Fin 1 → ℕ) = ![b.val] := by decide +kernel
  exact key (i 0)
theorem rdR_eq {F : FTy → Type} [FloatOps F] (T : S288.Idx → Elt F .i32) : rdR i T = T (ValueIdx.ix1 (n := 288) (i 0)) := by
  refine congrArg T (funext fun a => ?_)
  match a with
  | ⟨0, _⟩ => exact Fin.ext ((congrArg (· + 0) (congrFun (off1_eq (i := i)) 0)))
theorem rdF_eq {F : FTy → Type} [FloatOps F] (T : S288.Idx → Elt F .i32) : rdF i T = T (ValueIdx.ix1 (n := 288) (i 0)) := rdR_eq T
theorem rdN_eq {F : FTy → Type} [FloatOps F] (T : S1.Idx → Elt F .i32) : rdN T = T (ValueIdx.ix1 0) :=
  congrArg T (funext fun a => match a with | ⟨0, _⟩ => Fin.ext (by rfl))
theorem rdU_eq {F : FTy → Type} [FloatOps F] (T : S1.Idx → Elt F .i32) : rdU T = T (ValueIdx.ix1 0) := rdN_eq T

end Cert.DownIdeal.Hand

end
-- ==== Proof.DnPlan.lean ====
module

public import proofs.«01_k».proof.Proof.DnOffsets
public import Idealize.ShloMosaic.Lib.Pipeline.Kit

/-! The schedule the tables hold, and the weight stream it makes over the grid. -/

@[expose] public section

noncomputable section

namespace Cert.DownIdeal.Hand

open Cert.DownIdeal Cert.DownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-- What the schedule's tables say: of each block its expert, whether it starts a run and the runs before;
    of each run its expert and its half of the columns. -/
structure Plan (TE TF TR : S288.Idx → BitVec 32) (TU TN : S1.Idx → BitVec 32) (TG TJ : S64.Idx → BitVec 32) where
  nu : Fin 289
  nr : Fin 33
  be : Fin 288 → Fin 32
  fb : Fin 288 → Bool
  rb : Fin 288 → ℕ
  re : ℕ → Fin 32
  nu_pos : 1 ≤ nu.val
  hE : ∀ b : Fin 288, TE (ValueIdx.ix1 b) = BitVec.ofNat 32 (be b).val
  hU : TU (ValueIdx.ix1 0) = BitVec.ofNat 32 nu.val
  hF : ∀ b : Fin 288, TF (ValueIdx.ix1 b) = if fb b then 1#32 else 0#32
  hR : ∀ b : Fin 288, TR (ValueIdx.ix1 b) = BitVec.ofNat 32 (rb b)
  hN : TN (ValueIdx.ix1 0) = BitVec.ofNat 32 nr.val
  f0 : fb 0 = true
  r0 : rb 0 = 0
  rs : ∀ (b : ℕ) (h : b + 1 < 288), rb ⟨b + 1, h⟩ = rb ⟨b, Nat.lt_of_succ_lt h⟩ + if fb ⟨b + 1, h⟩ then 1 else 0
  rl : rb 287 + 1 = nr.val
  hre : ∀ b, re (rb b) = be b
  hG : ∀ g : Fin 64, g.val < 2 * nr.val → TG (ValueIdx.ix1 g) = BitVec.ofNat 32 (re (g.val % nr.val)).val
  hJ : ∀ g : Fin 64, g.val < 2 * nr.val → TJ (ValueIdx.ix1 g) = BitVec.ofNat 32 (g.val / nr.val)

namespace Plan

variable {TE TF TR : S288.Idx → BitVec 32} {TU TN : S1.Idx → BitVec 32} {TG TJ : S64.Idx → BitVec 32}
variable (L : Plan TE TF TR TU TN TG TJ)

theorem rb_le : ∀ (d b : ℕ) (h : b + d < 288), L.rb ⟨b, by omega⟩ ≤ L.rb ⟨b + d, h⟩
  | 0, _, _ => le_rfl
  | d + 1, b, h => by
    have h1 := rb_le d b (by omega)
    have h2 := L.rs (b + d) h
    exact h1.trans (by rw [show (⟨b + (d + 1), h⟩ : Fin 288) = ⟨b + d + 1, h⟩ from rfl, h2]; exact Nat.le_add_right _ _)

theorem rb_lt (b : Fin 288) : L.rb b < L.nr.val := by
  have h := L.rb_le (287 - b.val) b.val (by omega)
  have h2 := L.rl
  have e : (⟨b.val + (287 - b.val), by omega⟩ : Fin 288) = 287 := Fin.ext (by simp only; omega)
  rw [e] at h
  exact lt_of_le_of_lt h (by omega)

theorem nr_pos : 1 ≤ L.nr.val := by have := L.rl; omega

/-- A point's block. -/
abbrev bk (t : ℕ) : Fin 288 := ⟨t % 288, Nat.mod_lt _ (by decide)⟩
/-- The run a point lies in, and the runs started before a point. -/
def run (t : ℕ) : ℕ := t / 288 * L.nr.val + L.rb (bk t)
def pos (n : ℕ) : ℕ := if n = 0 then 0 else L.run (n - 1) + 1
/-- Each run's expert. -/
def ge (g : ℕ) : Fin 32 := L.re (g % L.nr.val)

theorem pos_zero : L.pos 0 = 0 := rfl
theorem pos_succ (t : ℕ) : L.pos (t + 1) = L.run t + 1 := by simp [pos]

theorem run_lt {t : ℕ} (h : t < 288) : L.run t < L.nr.val := by
  have h1 := L.rb_lt (bk t)
  have h2 : t / 288 = 0 := by omega
  unfold run
  rw [h2]; omega

theorem bk_succ {t : ℕ} (h : (t + 1) % 288 ≠ 0) : (t + 1) % 288 = t % 288 + 1 ∧ (t + 1) / 288 = t / 288 := by omega

theorem pos_first {t : ℕ} (h : L.fb (bk t) = true) : L.pos t = L.run t := by
  cases t with
  | zero => rw [pos_zero]; unfold run; rw [show bk 0 = 0 from rfl, L.r0]; simp
  | succ t =>
    rw [pos_succ]
    unfold run
    by_cases h0 : (t + 1) % 288 = 0
    · have e1 : bk t = 287 := Fin.ext (by simp only [bk]; omega)
      have e2 : bk (t + 1) = 0 := Fin.ext (by simp only [bk]; omega)
      have e3 : (t + 1) / 288 = t / 288 + 1 := by omega
      rw [e1, e2, L.r0, e3, Nat.add_assoc, L.rl, Nat.add_mul, Nat.one_mul, Nat.add_zero]
    · obtain ⟨ha, hb⟩ := bk_succ h0
      have hlt : t % 288 + 1 < 288 := by omega
      have e : bk (t + 1) = ⟨t % 288 + 1, hlt⟩ := Fin.ext ha
      rw [hb, e, L.rs, ← e, if_pos h, Nat.add_assoc]

theorem idle_ne {t : ℕ} (h : L.fb (bk t) = false) : t % 288 ≠ 0 := fun h0 => by
  have e : bk t = 0 := Fin.ext h0
  rw [e, L.f0] at h; cases h

theorem pos_idle {t : ℕ} (h : L.fb (bk (t + 1)) = false) : L.pos (t + 1) = L.run (t + 1) + 1 := by
  rw [pos_succ]
  obtain ⟨ha, hb⟩ := bk_succ (L.idle_ne h)
  have hlt : t % 288 + 1 < 288 := by omega
  have e : bk (t + 1) = ⟨t % 288 + 1, hlt⟩ := Fin.ext ha
  unfold run
  rw [hb, e, L.rs, ← e, if_neg (by rw [h]; decide)]
  rfl

/-- A point that starts no run works on the tile of the point before. -/
theorem be_idle {t : ℕ} (h : L.fb (bk (t + 1)) = false) : L.be (bk (t + 1)) = L.be (bk t) := by
  obtain ⟨ha, hb⟩ := bk_succ (L.idle_ne h)
  have hlt : t % 288 + 1 < 288 := by omega
  have e : bk (t + 1) = ⟨t % 288 + 1, hlt⟩ := Fin.ext ha
  have h1 := L.rs (t % 288) hlt
  rw [← e, if_neg (by rw [h]; decide)] at h1
  rw [← L.hre, ← L.hre, h1]
  rfl

theorem ge_run (t : ℕ) : L.ge (L.run t) = L.be (bk t) := by
  unfold ge run
  rw [Nat.mul_add_mod_self_right, Nat.mod_eq_of_lt (L.rb_lt _), L.hre]
theorem pos_last : L.pos 288 = L.nr.val := by
  rw [show (288 : ℕ) = 287 + 1 from rfl, pos_succ]
  unfold run
  have e : bk 287 = 287 := Fin.ext (by rfl)
  rw [e, Nat.add_assoc, L.rl]; omega

theorem hG' (k : Fin 64) (h : k.val < L.nr.val) : TG (ValueIdx.ix1 k) = BitVec.ofNat 32 (L.ge k.val).val := L.hG k (by omega)

end Plan

/-- A point's coordinate. -/
theorem crd0 (t : Fin grid0.N) : (grid0.coords t 0).val = t.val % 288 := by
  rw [Pipeline.Grid.coords_val t 0 (S := 1) (B := 288) (by rfl) (by rfl), Nat.div_one]

end Cert.DownIdeal.Hand

end
-- ==== Proof.DnCast.lean ====
module

public import proofs.«01_k».proof.Proof.DnOffsets
public import Idealize.ShloMosaic.Lib.VecWindow
public import Idealize.ShloMosaic.Lib.Ring

/-! What the body leaves in its bf16 buffer and in its output block. -/

@[expose] public section

noncomputable section

namespace Cert.DownIdeal.Hand

open Cert.DownIdeal Cert.DownIdeal.Gen
open Idealize.ShloMosaic

variable {F : FTy → Type} [FloatOps F]

/-- A tile read through its place is the load of that place, its unit axis dropped. -/
theorem read_pcAt (o : Fin 3 → ℕ) (h) (f : S2x2048x2048.Idx → Elt F .f32) :
    (pcAt o h).view.read (Elt F) f = shapeCast S2048x2048 (View.readAt (Elt F) scF.view (Rect.unit (s := S2x2048x2048) o S1x2048x2048.size h).toLoadRect f) shapeCasts_S1x2048x2048_S2048x2048 := rfl

/-- A tile cast to bf16. -/
def castB (P : S2048x2048.Idx → Elt F .f32) : S2048x2048.Idx → Elt F .bf16 :=
  shapeCast S2048x2048 (truncf .bf16 (P : FVec F S2048x2048 .f32) bitsLt_bf16_f32) shapeCasts_S2048x2048_S2048x2048

/-- A block in use: its product with the tile, and the bias. -/
def outOn (X : S256x2048.Idx → Elt F .bf16) (Y : S1x1x2048.Idx → Elt F .f32) (B : S2048x2048.Idx → Elt F .bf16) : FVec F S256x2048 .f32 :=
  k0_pay2 X B Y

theorem read_scB (g : S2048x2048.Idx → Elt F .bf16) : scB.view.read (Elt F) g = g := rfl

theorem castB_of (f : S2048x2048.Idx → Elt F .bf16) (P : S2048x2048.Idx → Elt F .f32) :
    scB.view.writes (Elt F) f
    [⟨Rect.unit (s := S2048x2048) ![0, 0] S2048x2048.size inb_S2048x2048_S2048x2048_0_0, castB P⟩] = castB P :=
  (read_scB _).symm.trans (View.read_writes_full _ _ _ _ _)

end Cert.DownIdeal.Hand

end
-- ==== Proof.DnRuns.lean ====
module

public import proofs.«01_k».proof.Proof.DnCast

/-! The body at a point: where no run starts, and what a run start has first. -/

@[expose] public section

noncomputable section

namespace Cert.DownIdeal.Hand

open Cert.DownIdeal Cert.DownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-- The body on its operands. -/
abbrev bodyOn (i : grid0.Coords) (arg8 : Memref sig .tc .vmem S256x2048 .bf16) (harg8 : arg8.IsWhole)
    (arg10 : Memref sig .tc .vmem S1x1x2048 .f32) (harg10 : arg10.IsWhole) (arg11 : Memref sig .tc .vmem S256x2048 .f32) (harg11 : arg11.IsWhole) : Prog (TpuEff nD τ sig (Elt F) Λ₀ .tc) PUnit :=
  cc0_gmm2 i tbE (Memref.isWhole_whole _) tbU (Memref.isWhole_whole _) tbF (Memref.isWhole_whole _) tbR (Memref.isWhole_whole _)
    tbN (Memref.isWhole_whole _) tbG (Memref.isWhole_whole _) tbJ (Memref.isWhole_whole _) arg8 harg8 hbD (Memref.isWhole_whole _)
    arg10 harg10 arg11 harg11 scF (Memref.isWhole_whole _) scB (Memref.isWhole_whole _) cc0_scratch2

/-- The stream of weight tiles before run `n` of `last`: at rest before the first run and after the last, else run `n`'s
    tile under way. -/
def Stream (c : Dev nD) (W : S32x2048x2048.Idx → Elt F .f32) (ge : ℕ → Fin 32) (last n : ℕ) : sProp 𝕄 :=
  if n = 0 ∨ n = last then iprop(free c 0 ∗ free c 1 ∗ srcs c W)
  else iprop(flying c W ⟨n % 2, Nat.mod_lt _ (by decide)⟩ (ge n) ∗ free c (other ⟨n % 2, Nat.mod_lt _ (by decide)⟩))

/-- A block's output: the product and the bias where the block is in use, zeros past the blocks in use. -/
def outV (i : grid0.Coords) (TU : S1.Idx → Elt F .i32) (X : S256x2048.Idx → Elt F .bf16) (Y : S1x1x2048.Idx → Elt F .f32)
    (B : S2048x2048.Idx → Elt F .bf16) : S256x2048.Idx → Elt F .f32 :=
  if k0_cond4 i (rdU TU) = 1#1 then outOn X Y B else k0_pay3

/-- The output block from the loads. -/
theorem outOn_of (arg8 : Memref sig .tc .vmem S256x2048 .bf16) (arg10 : Memref sig .tc .vmem S1x1x2048 .f32)
    (X : S256x2048.Idx → Elt F .bf16) (Y : S1x1x2048.Idx → Elt F .f32) (B : S2048x2048.Idx → Elt F .bf16) :
    k0_pay2 (View.readAt (Elt F) arg8.view (Rect.unit (s := S256x2048) ![0, 0] S256x2048.size inb_S256x2048_S256x2048_0_0).toLoadRect (arg8.view.rep X))
        (View.readAt (Elt F) scB.view (Rect.unit (s := S2048x2048) ![0, 0] S2048x2048.size inb_S2048x2048_S2048x2048_0_0).toLoadRect B)
        (View.readAt (Elt F) arg10.view (Rect.unit (s := S1x1x2048) ![0, 0, 0] S1x1x2048.size inb_S1x1x2048_S1x1x2048_0_0_0).toLoadRect (arg10.view.rep Y))
      = outOn X Y B := by
  have e8 := View.readAt_rep_full (Val := Elt F) arg8.view X inb_S256x2048_S256x2048_0_0
  have e10 := View.readAt_rep_full (Val := Elt F) arg10.view Y inb_S1x1x2048_S1x1x2048_0_0_0
  have eB : View.readAt (Elt F) scB.view (Rect.unit (s := S2048x2048) ![0, 0] S2048x2048.size inb_S2048x2048_S2048x2048_0_0).toLoadRect B = B :=
    (View.readAt_full (Val := Elt F) scB.view B inb_S2048x2048_S2048x2048_0_0).trans (read_scB B)
  unfold outOn
  exact congr (congrArg₂ k0_pay2 e8 eB) e10

theorem run_idle (c : Dev nD) (i : grid0.Coords) (arg8 : Memref sig .tc .vmem S256x2048 .bf16) (harg8 : arg8.IsWhole)
    (arg10 : Memref sig .tc .vmem S1x1x2048 .f32) (harg10 : arg10.IsWhole) (arg11 : Memref sig .tc .vmem S256x2048 .f32) (harg11 : arg11.IsWhole)
    (TU TN : S1.Idx → Elt F .i32) (TF TR : S288.Idx → Elt F .i32)
    (X : S256x2048.Idx → Elt F .bf16) (Y : S1x1x2048.Idx → Elt F .f32) (BB : S2048x2048.Idx → Elt F .bf16)
    (h1 : ¬ k0_cond1 (rdF i TF) = 1#1) (hw2 : k0_chk2 (rdR i TR) (rdN TN) (rdF i TF))
    (h45 : k0_cond5 i (rdU TU) = 1#1 ↔ ¬ k0_cond4 i (rdU TU) = 1#1)
    (K : PUnit → sProp 𝕄) :
    iprop((arg8.view.loc (c : Thread nD τ) ↦[arg8.view.set]{fullShare} arg8.view.rep X)
        ∗ (arg10.view.loc (c : Thread nD τ) ↦[arg10.view.set]{fullShare} arg10.view.rep Y)
        ∗ (∃ d, owns (c : Thread nD τ) arg11 fullShare d)
        ∗ (tbU.view.loc (c : Thread nD τ) ↦{fullShare.right} TU) ∗ (tbF.view.loc (c : Thread nD τ) ↦{fullShare.right} TF) ∗ (tbR.view.loc (c : Thread nD τ) ↦{fullShare.right} TR) ∗ (tbN.view.loc (c : Thread nD τ) ↦{fullShare.right} TN)
        ∗ (scB.view.loc (c : Thread nD τ) ↦{fullShare} BB)
        ∗ (iprop((arg8.view.loc (c : Thread nD τ) ↦[arg8.view.set]{fullShare} arg8.view.rep X)
        ∗ (arg10.view.loc (c : Thread nD τ) ↦[arg10.view.set]{fullShare} arg10.view.rep Y)
            ∗ owns (c : Thread nD τ) arg11 fullShare (outV i TU X Y BB)
            ∗ (tbU.view.loc (c : Thread nD τ) ↦{fullShare.right} TU) ∗ (tbF.view.loc (c : Thread nD τ) ↦{fullShare.right} TF) ∗ (tbR.view.loc (c : Thread nD τ) ↦{fullShare.right} TR) ∗ (tbN.view.loc (c : Thread nD τ) ↦{fullShare.right} TN)
            ∗ (scB.view.loc (c : Thread nD τ) ↦{fullShare} BB)) -∗ K ⟨⟩))
      ⊢ wp frame (wpE (defs₀ (F := F)) Variants.none (c : Thread nD τ) none) Set.univ (bodyOn i arg8 harg8 arg10 harg10 arg11 harg11) K := by
  unfold owns bodyOn
  rw [cc0_gmm2_eq_skeleton]; unfold cc0_gmm2_skel
  iintro ⟨H8, H10, ⟨%d, %fd, -, H11⟩, HU, HF, HR, HN, HB, Hk⟩
  by_cases h4 : k0_cond4 i (rdU TU) = 1#1
  · have h5 : ¬ k0_cond5 i (rdU TU) = 1#1 := fun h => (h45.mp h) h4
    sl_exec (disch := first | exact h1 | exact hw2 | exact h4 | exact h5)
    sl_step
    iapply Hk
    isplitl [H8]; · iexact H8
    isplitl [H10]; · iexact H10
    isplitl [H11]
    · iexists _; isplitr; swap
      · iexact H11
      · ipureintro
        rw [outV, if_pos h4, View.read_writes_full]
        exact outOn_of arg8 arg10 X Y BB
    isplitl [HU]; · iexact HU
    isplitl [HF]; · iexact HF
    isplitl [HR]; · iexact HR
    isplitl [HN] <;> iassumption
  · have h5 : k0_cond5 i (rdU TU) = 1#1 := h45.mpr h4
    sl_exec (disch := first | exact h1 | exact hw2 | exact h4 | exact h5)
    sl_step
    iapply Hk
    isplitl [H8]; · iexact H8
    isplitl [H10]; · iexact H10
    isplitl [H11]
    · iexists _; isplitr; swap
      · iexact H11
      · ipureintro
        rw [outV, if_neg h4, View.read_writes_full]
    isplitl [HU]; · iexact HU
    isplitl [HF]; · iexact HF
    isplitl [HR]; · iexact HR
    isplitl [HN] <;> iassumption

end Cert.DownIdeal.Hand

end
-- ==== Proof.DnStart.lean ====
module

public import proofs.«01_k».proof.Proof.DnRuns

/-! The body at a point where a run starts. -/

@[expose] public section

noncomputable section

namespace Cert.DownIdeal.Hand

open Cert.DownIdeal Cert.DownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-- A tile held is loaded whole, its unit axis there. -/
theorem wp_load_pc (c : Dev nD) {s : Fin 2} {o : Fin 3 → ℕ} {h} (ho : o = ![s.val, 0, 0]) {X : S2048x2048.Idx → Elt F .f32}
    {hl : scF.view.LoadsAt (Rect.unit (s := S2x2048x2048) o S1x2048x2048.size h).toLoadRect}
    {α : Type} {Q : α → sProp 𝕄} {kk : Vec F S1x2048x2048 .f32 → Prog (TpuEff nD τ sig (Elt F) Λ₀ .tc) α} :
    owns (c : Thread nD τ) (pc s) fullShare X
      ⊢ iprop((∀ v, ⌜shapeCast S2048x2048 v shapeCasts_S1x2048x2048_S2048x2048 = X⌝ -∗ owns (c : Thread nD τ) (pc s) fullShare X
              -∗ wp frame (wpE (defs₀ (F := F)) Variants.none (c : Thread nD τ) none) Set.univ (kk v) Q)
          -∗ wp frame (wpE (defs₀ (F := F)) Variants.none (c : Thread nD τ) none) Set.univ
              (.op (.load scF (Rect.unit (s := S2x2048x2048) o S1x2048x2048.size h).toLoadRect hl) kk) Q) := by
  subst ho
  have hS : scF.view.setOn (Rect.unit (s := S2x2048x2048) ![s.val, 0, 0] S1x2048x2048.size h).toLoadRect.set ⊆ (pc s).view.set := by
    refine Memref.setOn_subset_of_access_subset (c := (c : Thread nD τ)) ?_
    exact fun x hx => (Finset.ext_iff.mp (Memref.set_view_squeeze (scF.slice (Rect.unit (s := S2x2048x2048) ![s.val, 0, 0] S1x2048x2048.size h) (fun _ => rfl)) squeezes_S1x2048x2048_S2048x2048) x).mpr hx
  unfold owns
  iintro ⟨%f, %hf, H⟩ Hk
  iapply (wp_load Variants.none (c : Thread nD τ) none Set.univ (m := scF) hS) $$ H
  iintro H
  iapply Hk $$ [] [H]
  · ipureintro; exact (read_pcAt _ _ f).symm.trans hf
  · iexists f
    isplitr; · ipureintro; exact hf
    iexact H

/-- A half filled is a half free for the next tile. -/
theorem free_of_full (c : Dev nD) (W : S32x2048x2048.Idx → Elt F .f32) (s : Fin 2) (e : Fin 32) :
    full c W s e ⊢ free c s := by
  unfold full free
  iintro ⟨Hp, Hv⟩
  isplitl [Hp]; · iexists _; iexact Hp
  iexact Hv

theorem stream_next (c : Dev nD) (W : S32x2048x2048.Idx → Elt F .f32) (ge : ℕ → Fin 32) {last : ℕ} {g : Fin 64} (h : g.val + 1 < last)
    (e : Fin 32) :
    iprop(flying c W (other (slot g)) (ge (g.val + 1)) ∗ full c W (slot g) e) ⊢ Stream c W ge last (g.val + 1) := by
  unfold Stream
  rw [if_neg (by omega)]
  have h1 : (⟨(g.val + 1) % 2, Nat.mod_lt _ (by decide)⟩ : Fin 2) = other (slot g) := Fin.ext (by simp only; omega)
  have h2 : other (other (slot g)) = slot g := Fin.ext (by simp only; omega)
  rw [h1, h2]
  iintro ⟨Hfl, Hf⟩
  isplitl [Hfl]; · iexact Hfl
  iapply free_of_full; iexact Hf

theorem stream_last (c : Dev nD) (W : S32x2048x2048.Idx → Elt F .f32) (ge : ℕ → Fin 32) {last : ℕ} {g : Fin 64} (h : g.val + 1 = last)
    (e : Fin 32) :
    iprop((free c (other (slot g)) ∗ srcs c W) ∗ full c W (slot g) e) ⊢ Stream c W ge last (g.val + 1) := by
  unfold Stream
  rw [if_pos (Or.inr h)]
  iintro ⟨⟨Hfr, Hs⟩, Hf⟩
  ihave Hf := (free_of_full c W (slot g) e) $$ Hf
  rcases Nat.mod_two_eq_zero_or_one g.val with h | h
  · rw [show slot g = 0 from Fin.ext h]
    isplitl [Hf]; · iexact Hf
    isplitl [Hfr]; · iexact Hfr
    iexact Hs
  · rw [show slot g = 1 from Fin.ext h]
    isplitl [Hfr]; · iexact Hfr
    isplitl [Hf] <;> iassumption

theorem full_of (c : Dev nD) (W : S32x2048x2048.Idx → Elt F .f32) (s : Fin 2) (e : Fin 32) :
    iprop(owns (c : Thread nD τ) (pc s) fullShare (tileV W e) ∗ semVal ((c : Thread nD τ), SemLoc.dma (cell s)) 0) ⊢ full c W s e := by
  unfold full; exact .rfl
theorem flying_of (c : Dev nD) (W : S32x2048x2048.Idx → Elt F .f32) (s : Fin 2) (e : Fin 32) :
    Fly c (cell s) (pc s).view.dmaCredit iprop(owns (c : Thread nD τ) (pc s) fullShare ((tile e).view.read (Elt F) W) ∗ (hbD.view.loc (c : Thread nD τ) ↦{fullShare} W))
      ⊢ flying c W s e := by
  unfold flying; exact .rfl

theorem stream_zero (c : Dev nD) (W : S32x2048x2048.Idx → Elt F .f32) (ge : ℕ → Fin 32) {last n : ℕ} (h : n = 0) :
    Stream c W ge last n = iprop(free c (slot 0) ∗ free c (other (slot 0)) ∗ srcs c W) := by
  unfold Stream; rw [if_pos (Or.inl h)]; rfl
theorem free_out (c : Dev nD) (s : Fin 2) :
    (free c s : sProp 𝕄) ⊢ iprop((∃ d, owns (c : Thread nD τ) (pc s) fullShare d) ∗ semVal ((c : Thread nD τ), SemLoc.dma (cell s)) 0) := by
  unfold free; exact .rfl
theorem owns_tile (c : Dev nD) (W : S32x2048x2048.Idx → Elt F .f32) (s : Fin 2) (e : Fin 32) :
    (owns (c : Thread nD τ) (pc s) fullShare ((tile e).view.read (Elt F) W) : sProp 𝕄) ⊢ owns (c : Thread nD τ) (pc s) fullShare (tileV W e) := .rfl
theorem srcs_out (c : Dev nD) (W : S32x2048x2048.Idx → Elt F .f32) : (srcs c W : sProp 𝕄) ⊢ (hbD.view.loc (c : Thread nD τ) ↦{fullShare} W) := by
  unfold srcs; exact .rfl
theorem srcs_of (c : Dev nD) (W : S32x2048x2048.Idx → Elt F .f32) : (hbD.view.loc (c : Thread nD τ) ↦{fullShare} W : sProp 𝕄) ⊢ srcs c W := by
  unfold srcs; exact .rfl
theorem stream_later (c : Dev nD) (W : S32x2048x2048.Idx → Elt F .f32) (ge : ℕ → Fin 32) {last : ℕ} {g : Fin 64} (h : ¬ g.val = 0) (h' : g.val ≠ last) :
    Stream c W ge last g.val = iprop(flying c W (slot g) (ge g.val) ∗ free c (other (slot g))) := by
  unfold Stream; rw [if_neg (by omega)]

/-- The first run: its tile is started and awaited. -/
theorem run_zero (c : Dev nD) (i : grid0.Coords) (arg8 : Memref sig .tc .vmem S256x2048 .bf16) (harg8 : arg8.IsWhole)
    (arg10 : Memref sig .tc .vmem S1x1x2048 .f32) (harg10 : arg10.IsWhole) (arg11 : Memref sig .tc .vmem S256x2048 .f32) (harg11 : arg11.IsWhole)
    (TU TN : S1.Idx → Elt F .i32) (TF TR : S288.Idx → Elt F .i32) (TG TJ : S64.Idx → Elt F .i32)
    (W : S32x2048x2048.Idx → Elt F .f32) (ge : ℕ → Fin 32) (n : Fin 33) (hn : 1 ≤ n.val)
    (X : S256x2048.Idx → Elt F .bf16) (Y : S1x1x2048.Idx → Elt F .f32) (B : S2048x2048.Idx → Elt F .bf16)
    (hf : rdF i TF = 1#32) (g : Fin 64) (hg : g.val = 0) (hgl : g.val < n.val) (hN : rdN TN = BitVec.ofNat 32 n.val)
    (hv : rdR i TR = BitVec.ofNat 32 g.val)
    (hG : ∀ k : Fin 64, k.val < n.val → TG (ValueIdx.ix1 k) = BitVec.ofNat 32 (ge k.val).val)
    (h45 : k0_cond5 i (rdU TU) = 1#1 ↔ ¬ k0_cond4 i (rdU TU) = 1#1)
    (K : PUnit → sProp 𝕄) :
    iprop((arg8.view.loc (c : Thread nD τ) ↦[arg8.view.set]{fullShare} arg8.view.rep X)
        ∗ (arg10.view.loc (c : Thread nD τ) ↦[arg10.view.set]{fullShare} arg10.view.rep Y)
        ∗ (∃ d, owns (c : Thread nD τ) arg11 fullShare d)
        ∗ (tbU.view.loc (c : Thread nD τ) ↦{fullShare.right} TU) ∗ (tbF.view.loc (c : Thread nD τ) ↦{fullShare.right} TF) ∗ (tbR.view.loc (c : Thread nD τ) ↦{fullShare.right} TR) ∗ (tbN.view.loc (c : Thread nD τ) ↦{fullShare.right} TN) ∗ (tbG.view.loc (c : Thread nD τ) ↦{fullShare.right} TG) ∗ (tbJ.view.loc (c : Thread nD τ) ↦{fullShare.right} TJ)
        ∗ (scB.view.loc (c : Thread nD τ) ↦{fullShare} B) ∗ Stream c W ge n.val g.val ∗ (∃ O, owes (c : Thread nD τ) 0 O)
        ∗ (iprop((arg8.view.loc (c : Thread nD τ) ↦[arg8.view.set]{fullShare} arg8.view.rep X)
        ∗ (arg10.view.loc (c : Thread nD τ) ↦[arg10.view.set]{fullShare} arg10.view.rep Y)
            ∗ owns (c : Thread nD τ) arg11 fullShare (outV i TU X Y (castB (tileV W (ge g.val))))
            ∗ (tbU.view.loc (c : Thread nD τ) ↦{fullShare.right} TU) ∗ (tbF.view.loc (c : Thread nD τ) ↦{fullShare.right} TF) ∗ (tbR.view.loc (c : Thread nD τ) ↦{fullShare.right} TR) ∗ (tbN.view.loc (c : Thread nD τ) ↦{fullShare.right} TN) ∗ (tbG.view.loc (c : Thread nD τ) ↦{fullShare.right} TG) ∗ (tbJ.view.loc (c : Thread nD τ) ↦{fullShare.right} TJ)
            ∗ (scB.view.loc (c : Thread nD τ) ↦{fullShare} castB (tileV W (ge g.val)))
            ∗ Stream c W ge n.val (g.val + 1) ∗ (∃ O, owes (c : Thread nD τ) 0 O)) -∗ K ⟨⟩))
      ⊢ wp frame (wpE (defs₀ (F := F)) Variants.none (c : Thread nD τ) none) Set.univ (bodyOn i arg8 harg8 arg10 harg10 arg11 harg11) K := by
  obtain rfl : g = 0 := Fin.ext hg
  rw [stream_zero c W ge hg]
  generalize hBn : castB (tileV W (ge (0 : Fin 64).val)) = BB
  unfold bodyOn
  rw [cc0_gmm2_eq_skeleton]; unfold cc0_gmm2_skel
  iintro ⟨H8, H10, H11, HU, HF, HR, HN, HG, HJ, HB, HS, HO, Hk⟩
  have h1 : k0_cond1 (rdF i TF) = 1#1 := cond1_iff.mpr hf
  have hw2 : k0_chk2 (rdR i TR) (rdN TN) (rdF i TF) := chk2_of hN fun _ => hv
  have hc3 : ∀ hi, k0_chk3 (rdF i TF) (View.readAt (Elt F) tbG.view (Rect.unit (s := S64) (k0_off3 (rdR i TR)) S1.size hi).toLoadRect TG (Shape.Idx.first (numel1_S1.symm ▸ Nat.one_pos))) :=
    fun hi => chk3_of ((readG TG (off3_eq hv)).trans (hG (0 : Fin 64) hgl))
  have hc4 : (0 : Fin 64).val + 1 < n.val → ∀ hi, k0_chk4 (rdR i TR) (rdN TN) (rdF i TF)
      (View.readAt (Elt F) tbG.view (Rect.unit (s := S64) (k0_off7 (rdR i TR)) S1.size hi).toLoadRect TG (Shape.Idx.first (numel1_S1.symm ▸ Nat.one_pos))) :=
    fun hlt hi => chk4_of ((readG TG (g := ⟨(0 : Fin 64).val + 1, by omega⟩) (off7_eq hv)).trans (hG _ hlt))
  have hco : ∀ hi, k0_off10
      (View.readAt (Elt F) tbG.view (Rect.unit (s := S64) (k0_off7 (rdR i TR)) S1.size hi).toLoadRect TG (Shape.Idx.first (numel1_S1.symm ▸ Nat.one_pos)))
      = ![(ge ((0 : Fin 64).val + 1)).val, 0, 0] ∨ ¬ (0 : Fin 64).val + 1 < n.val := fun hi => by
    by_cases hlt : (0 : Fin 64).val + 1 < n.val
    · exact Or.inl (off10_eq ((readG TG (g := ⟨(0 : Fin 64).val + 1, by omega⟩) (off7_eq hv)).trans (hG _ hlt)))
    · exact Or.inr hlt
  have h2 : k0_cond2 (rdR i TR) = 1#1 := (cond2_iff hv).mpr hg
  have he : View.readAt (Elt F) tbG.view (Rect.unit (s := S64) ![0] S1.size inb_S64_S1_0).toLoadRect TG (Shape.Idx.first (numel1_S1.symm ▸ Nat.one_pos)) = BitVec.ofNat 32 (ge (0 : Fin 64).val).val := by
    exact (readG TG (g := 0) rfl).trans (hG 0 hgl)
  icases HS with ⟨Hf0, Hfree, Hs⟩
  sl_exec (disch := first | exact hw2 | exact h1 | exact h2 | exact chk1_of he)
  ihave Hs := (srcs_out c W) $$ Hs
  ihave Hf0 := (free_out c (slot 0)) $$ Hf0
  icases Hf0 with ⟨Hp, Hv⟩
  iapply (wp_start_at c numel_tile (src₀ := tile (ge (0 : Fin 64).val)) (dst₀ := pc (slot 0)) (sm₀ := cell (slot 0)) (tileAt_eq (off2_eq he)) rfl rfl W) $$ [Hs Hp Hv]
  · isplitl [Hs]; · iexact Hs
    isplitl [Hp] <;> iassumption
  iintro Hf
  sl_exec (disch := first | exact hc3 _)
  iapply (wp_await_at c (cellAt_eq (s := slot (0 : Fin 64)) (off4_eq hv)) rfl) $$ [Hf HO]
  · isplitl [Hf]; · iexact Hf
    iexact HO
  iintro ⟨⟨Hp, Hs⟩, Hv, HO⟩
  ihave Hp := (owns_tile c W (slot (0 : Fin 64)) (ge (0 : Fin 64).val)) $$ Hp
  by_cases h3 : k0_cond3 (rdR i TR) (rdN TN) = 1#1
  · have hlt : (0 : Fin 64).val + 1 < n.val := (cond3_iff hv hN).mp h3
    sl_exec (disch := first | exact h3 | exact hc4 hlt _)
    ihave Hfree := (free_out c (other (slot (0 : Fin 64)))) $$ Hfree
    icases Hfree with ⟨Hp1, Hv1⟩
    iapply (wp_start_at c numel_tile (src₀ := tile (ge ((0 : Fin 64).val + 1))) (dst₀ := pc (other (slot (0 : Fin 64)))) (sm₀ := cell (other (slot (0 : Fin 64))))
      (tileAt_eq ((hco _).resolve_right (fun h => h hlt))) (pcAt_eq (off9_eq hv)) (cellAt_eq (off8_eq hv)) W) $$ [Hs Hp1 Hv1]
    · isplitl [Hs]; · iexact Hs
      isplitl [Hp1] <;> iassumption
    iintro Hfl
    ihave Hfl := (flying_of c W (other (slot (0 : Fin 64))) (ge ((0 : Fin 64).val + 1))) $$ Hfl
    simp -proj only [Prog.bind]
    iapply (wp_load_pc c (s := slot (0 : Fin 64)) (off11_eq hv)) $$ Hp
    iintro %w %hw Hp
    simp -proj only [Prog.bind]
    sl_exec
    have hB : scB.view.writes (Elt F) B [⟨Rect.unit (s := S2048x2048) ![0, 0] S2048x2048.size inb_S2048x2048_S2048x2048_0_0, k0_pay1 w⟩] = BB := by
      rw [← hBn, ← hw]; exact castB_of B _
    have hBe : (scB.view.loc (c : Thread nD τ) ↦{fullShare} scB.view.writes (Elt F) B
        [⟨Rect.unit (s := S2048x2048) ![0, 0] S2048x2048.size inb_S2048x2048_S2048x2048_0_0, k0_pay1 w⟩] : sProp 𝕄)
        ⊢ (scB.view.loc (c : Thread nD τ) ↦{fullShare} BB) := by rw [hB]
    ihave HB := hBe $$ HB
    ihave Hf := (full_of c W (slot (0 : Fin 64)) (ge (0 : Fin 64).val)) $$ [Hp Hv]
    · isplitl [Hp] <;> iassumption
    unfold owns
    icases H11 with ⟨%d, %fd, -, H11⟩
    by_cases h4 : k0_cond4 i (rdU TU) = 1#1
    · have h5 : ¬ k0_cond5 i (rdU TU) = 1#1 := fun h => (h45.mp h) h4
      sl_exec (disch := first | exact h4 | exact h5)
      sl_step
      iapply Hk
      isplitl [H8]; · iexact H8
      isplitl [H10]; · iexact H10
      isplitl [H11]
      · iexists _; isplitr; swap
        · iexact H11
        · ipureintro
          rw [outV, if_pos h4, View.read_writes_full]
          exact outOn_of arg8 arg10 X Y BB
      isplitl [HU]; · iexact HU
      isplitl [HF]; · iexact HF
      isplitl [HR]; · iexact HR
      isplitl [HN]; · iexact HN
      isplitl [HG]; · iexact HG
      isplitl [HJ]; · iexact HJ
      isplitl [HB]; · iexact HB
      isplitr [HO]
      · iapply (stream_next c W ge hlt (ge (0 : Fin 64).val)); isplitl [Hfl] <;> iassumption
      iexact HO
    · have h5 : k0_cond5 i (rdU TU) = 1#1 := h45.mpr h4
      sl_exec (disch := first | exact h4 | exact h5)
      sl_step
      iapply Hk
      isplitl [H8]; · iexact H8
      isplitl [H10]; · iexact H10
      isplitl [H11]
      · iexists _; isplitr; swap
        · iexact H11
        · ipureintro
          rw [outV, if_neg h4, View.read_writes_full]
      isplitl [HU]; · iexact HU
      isplitl [HF]; · iexact HF
      isplitl [HR]; · iexact HR
      isplitl [HN]; · iexact HN
      isplitl [HG]; · iexact HG
      isplitl [HJ]; · iexact HJ
      isplitl [HB]; · iexact HB
      isplitr [HO]
      · iapply (stream_next c W ge hlt (ge (0 : Fin 64).val)); isplitl [Hfl] <;> iassumption
      iexact HO
  · have hlt : (0 : Fin 64).val + 1 = n.val := by
      have := mt (cond3_iff hv hN).mpr h3
      omega
    sl_exec (disch := first | exact h3)
    iapply (wp_load_pc c (s := slot (0 : Fin 64)) (off11_eq hv)) $$ Hp
    iintro %w %hw Hp
    simp -proj only [Prog.bind]
    sl_exec
    have hB : scB.view.writes (Elt F) B [⟨Rect.unit (s := S2048x2048) ![0, 0] S2048x2048.size inb_S2048x2048_S2048x2048_0_0, k0_pay1 w⟩] = BB := by
      rw [← hBn, ← hw]; exact castB_of B _
    have hBe : (scB.view.loc (c : Thread nD τ) ↦{fullShare} scB.view.writes (Elt F) B
        [⟨Rect.unit (s := S2048x2048) ![0, 0] S2048x2048.size inb_S2048x2048_S2048x2048_0_0, k0_pay1 w⟩] : sProp 𝕄)
        ⊢ (scB.view.loc (c : Thread nD τ) ↦{fullShare} BB) := by rw [hB]
    ihave HB := hBe $$ HB
    ihave Hf := (full_of c W (slot (0 : Fin 64)) (ge (0 : Fin 64).val)) $$ [Hp Hv]
    · isplitl [Hp] <;> iassumption
    unfold owns
    icases H11 with ⟨%d, %fd, -, H11⟩
    by_cases h4 : k0_cond4 i (rdU TU) = 1#1
    · have h5 : ¬ k0_cond5 i (rdU TU) = 1#1 := fun h => (h45.mp h) h4
      sl_exec (disch := first | exact h4 | exact h5)
      sl_step
      iapply Hk
      isplitl [H8]; · iexact H8
      isplitl [H10]; · iexact H10
      isplitl [H11]
      · iexists _; isplitr; swap
        · iexact H11
        · ipureintro
          rw [outV, if_pos h4, View.read_writes_full]
          exact outOn_of arg8 arg10 X Y BB
      isplitl [HU]; · iexact HU
      isplitl [HF]; · iexact HF
      isplitl [HR]; · iexact HR
      isplitl [HN]; · iexact HN
      isplitl [HG]; · iexact HG
      isplitl [HJ]; · iexact HJ
      isplitl [HB]; · iexact HB
      isplitr [HO]
      · iapply (stream_last c W ge hlt (ge (0 : Fin 64).val))
        isplitr [Hf]
        · isplitl [Hfree]; · iexact Hfree
          iapply (srcs_of c W); iexact Hs
        · iexact Hf
      iexact HO
    · have h5 : k0_cond5 i (rdU TU) = 1#1 := h45.mpr h4
      sl_exec (disch := first | exact h4 | exact h5)
      sl_step
      iapply Hk
      isplitl [H8]; · iexact H8
      isplitl [H10]; · iexact H10
      isplitl [H11]
      · iexists _; isplitr; swap
        · iexact H11
        · ipureintro
          rw [outV, if_neg h4, View.read_writes_full]
      isplitl [HU]; · iexact HU
      isplitl [HF]; · iexact HF
      isplitl [HR]; · iexact HR
      isplitl [HN]; · iexact HN
      isplitl [HG]; · iexact HG
      isplitl [HJ]; · iexact HJ
      isplitl [HB]; · iexact HB
      isplitr [HO]
      · iapply (stream_last c W ge hlt (ge (0 : Fin 64).val))
        isplitr [Hf]
        · isplitl [Hfree]; · iexact Hfree
          iapply (srcs_of c W); iexact Hs
        · iexact Hf
      iexact HO

/-- A later run: its tile is awaited. -/
theorem run_later (c : Dev nD) (i : grid0.Coords) (arg8 : Memref sig .tc .vmem S256x2048 .bf16) (harg8 : arg8.IsWhole)
    (arg10 : Memref sig .tc .vmem S1x1x2048 .f32) (harg10 : arg10.IsWhole) (arg11 : Memref sig .tc .vmem S256x2048 .f32) (harg11 : arg11.IsWhole)
    (TU TN : S1.Idx → Elt F .i32) (TF TR : S288.Idx → Elt F .i32) (TG TJ : S64.Idx → Elt F .i32)
    (W : S32x2048x2048.Idx → Elt F .f32) (ge : ℕ → Fin 32) (n : Fin 33) (hn : 1 ≤ n.val)
    (X : S256x2048.Idx → Elt F .bf16) (Y : S1x1x2048.Idx → Elt F .f32) (B : S2048x2048.Idx → Elt F .bf16)
    (hf : rdF i TF = 1#32) (g : Fin 64) (hg : ¬ g.val = 0) (hgl : g.val < n.val) (hN : rdN TN = BitVec.ofNat 32 n.val)
    (hv : rdR i TR = BitVec.ofNat 32 g.val)
    (hG : ∀ k : Fin 64, k.val < n.val → TG (ValueIdx.ix1 k) = BitVec.ofNat 32 (ge k.val).val)
    (h45 : k0_cond5 i (rdU TU) = 1#1 ↔ ¬ k0_cond4 i (rdU TU) = 1#1)
    (K : PUnit → sProp 𝕄) :
    iprop((arg8.view.loc (c : Thread nD τ) ↦[arg8.view.set]{fullShare} arg8.view.rep X)
        ∗ (arg10.view.loc (c : Thread nD τ) ↦[arg10.view.set]{fullShare} arg10.view.rep Y)
        ∗ (∃ d, owns (c : Thread nD τ) arg11 fullShare d)
        ∗ (tbU.view.loc (c : Thread nD τ) ↦{fullShare.right} TU) ∗ (tbF.view.loc (c : Thread nD τ) ↦{fullShare.right} TF) ∗ (tbR.view.loc (c : Thread nD τ) ↦{fullShare.right} TR) ∗ (tbN.view.loc (c : Thread nD τ) ↦{fullShare.right} TN) ∗ (tbG.view.loc (c : Thread nD τ) ↦{fullShare.right} TG) ∗ (tbJ.view.loc (c : Thread nD τ) ↦{fullShare.right} TJ)
        ∗ (scB.view.loc (c : Thread nD τ) ↦{fullShare} B) ∗ Stream c W ge n.val g.val ∗ (∃ O, owes (c : Thread nD τ) 0 O)
        ∗ (iprop((arg8.view.loc (c : Thread nD τ) ↦[arg8.view.set]{fullShare} arg8.view.rep X)
        ∗ (arg10.view.loc (c : Thread nD τ) ↦[arg10.view.set]{fullShare} arg10.view.rep Y)
            ∗ owns (c : Thread nD τ) arg11 fullShare (outV i TU X Y (castB (tileV W (ge g.val))))
            ∗ (tbU.view.loc (c : Thread nD τ) ↦{fullShare.right} TU) ∗ (tbF.view.loc (c : Thread nD τ) ↦{fullShare.right} TF) ∗ (tbR.view.loc (c : Thread nD τ) ↦{fullShare.right} TR) ∗ (tbN.view.loc (c : Thread nD τ) ↦{fullShare.right} TN) ∗ (tbG.view.loc (c : Thread nD τ) ↦{fullShare.right} TG) ∗ (tbJ.view.loc (c : Thread nD τ) ↦{fullShare.right} TJ)
            ∗ (scB.view.loc (c : Thread nD τ) ↦{fullShare} castB (tileV W (ge g.val)))
            ∗ Stream c W ge n.val (g.val + 1) ∗ (∃ O, owes (c : Thread nD τ) 0 O)) -∗ K ⟨⟩))
      ⊢ wp frame (wpE (defs₀ (F := F)) Variants.none (c : Thread nD τ) none) Set.univ (bodyOn i arg8 harg8 arg10 harg10 arg11 harg11) K := by
  rw [stream_later c W ge hg (by omega)]
  generalize hBn : castB (tileV W (ge g.val)) = BB
  unfold bodyOn
  rw [cc0_gmm2_eq_skeleton]; unfold cc0_gmm2_skel
  iintro ⟨H8, H10, H11, HU, HF, HR, HN, HG, HJ, HB, HS, HO, Hk⟩
  have h1 : k0_cond1 (rdF i TF) = 1#1 := cond1_iff.mpr hf
  have hw2 : k0_chk2 (rdR i TR) (rdN TN) (rdF i TF) := chk2_of hN fun _ => hv
  have hc3 : ∀ hi, k0_chk3 (rdF i TF) (View.readAt (Elt F) tbG.view (Rect.unit (s := S64) (k0_off3 (rdR i TR)) S1.size hi).toLoadRect TG (Shape.Idx.first (numel1_S1.symm ▸ Nat.one_pos))) :=
    fun hi => chk3_of ((readG TG (off3_eq hv)).trans (hG g hgl))
  have hc4 : g.val + 1 < n.val → ∀ hi, k0_chk4 (rdR i TR) (rdN TN) (rdF i TF)
      (View.readAt (Elt F) tbG.view (Rect.unit (s := S64) (k0_off7 (rdR i TR)) S1.size hi).toLoadRect TG (Shape.Idx.first (numel1_S1.symm ▸ Nat.one_pos))) :=
    fun hlt hi => chk4_of ((readG TG (g := ⟨g.val + 1, by omega⟩) (off7_eq hv)).trans (hG _ hlt))
  have hco : ∀ hi, k0_off10
      (View.readAt (Elt F) tbG.view (Rect.unit (s := S64) (k0_off7 (rdR i TR)) S1.size hi).toLoadRect TG (Shape.Idx.first (numel1_S1.symm ▸ Nat.one_pos)))
      = ![(ge (g.val + 1)).val, 0, 0] ∨ ¬ g.val + 1 < n.val := fun hi => by
    by_cases hlt : g.val + 1 < n.val
    · exact Or.inl (off10_eq ((readG TG (g := ⟨g.val + 1, by omega⟩) (off7_eq hv)).trans (hG _ hlt)))
    · exact Or.inr hlt
  have h2 : ¬ k0_cond2 (rdR i TR) = 1#1 := fun h => hg ((cond2_iff hv).mp h)
  icases HS with ⟨Hf, Hfree⟩
  sl_exec (disch := first | exact hw2 | exact h1 | exact h2 | exact hc3 _)
  unfold flying
  iapply (wp_await_at c (cellAt_eq (s := slot g) (off4_eq hv)) rfl) $$ [Hf HO]
  · isplitl [Hf]; · iexact Hf
    iexact HO
  iintro ⟨⟨Hp, Hs⟩, Hv, HO⟩
  by_cases h3 : k0_cond3 (rdR i TR) (rdN TN) = 1#1
  · have hlt : g.val + 1 < n.val := (cond3_iff hv hN).mp h3
    sl_exec (disch := first | exact h3 | exact hc4 hlt _)
    ihave Hfree := (free_out c (other (slot g))) $$ Hfree
    icases Hfree with ⟨Hp1, Hv1⟩
    iapply (wp_start_at c numel_tile (src₀ := tile (ge (g.val + 1))) (dst₀ := pc (other (slot g))) (sm₀ := cell (other (slot g)))
      (tileAt_eq ((hco _).resolve_right (fun h => h hlt))) (pcAt_eq (off9_eq hv)) (cellAt_eq (off8_eq hv)) W) $$ [Hs Hp1 Hv1]
    · isplitl [Hs]; · iexact Hs
      isplitl [Hp1] <;> iassumption
    iintro Hfl
    ihave Hfl := (flying_of c W (other (slot g)) (ge (g.val + 1))) $$ Hfl
    simp -proj only [Prog.bind]
    iapply (wp_load_pc c (s := slot g) (off11_eq hv)) $$ Hp
    iintro %w %hw Hp
    simp -proj only [Prog.bind]
    sl_exec
    have hB : scB.view.writes (Elt F) B [⟨Rect.unit (s := S2048x2048) ![0, 0] S2048x2048.size inb_S2048x2048_S2048x2048_0_0, k0_pay1 w⟩] = BB := by
      rw [← hBn, ← hw]; exact castB_of B _
    have hBe : (scB.view.loc (c : Thread nD τ) ↦{fullShare} scB.view.writes (Elt F) B
        [⟨Rect.unit (s := S2048x2048) ![0, 0] S2048x2048.size inb_S2048x2048_S2048x2048_0_0, k0_pay1 w⟩] : sProp 𝕄)
        ⊢ (scB.view.loc (c : Thread nD τ) ↦{fullShare} BB) := by rw [hB]
    ihave HB := hBe $$ HB
    ihave Hf := (full_of c W (slot g) (ge g.val)) $$ [Hp Hv]
    · isplitl [Hp] <;> iassumption
    unfold owns
    icases H11 with ⟨%d, %fd, -, H11⟩
    by_cases h4 : k0_cond4 i (rdU TU) = 1#1
    · have h5 : ¬ k0_cond5 i (rdU TU) = 1#1 := fun h => (h45.mp h) h4
      sl_exec (disch := first | exact h4 | exact h5)
      sl_step
      iapply Hk
      isplitl [H8]; · iexact H8
      isplitl [H10]; · iexact H10
      isplitl [H11]
      · iexists _; isplitr; swap
        · iexact H11
        · ipureintro
          rw [outV, if_pos h4, View.read_writes_full]
          exact outOn_of arg8 arg10 X Y BB
      isplitl [HU]; · iexact HU
      isplitl [HF]; · iexact HF
      isplitl [HR]; · iexact HR
      isplitl [HN]; · iexact HN
      isplitl [HG]; · iexact HG
      isplitl [HJ]; · iexact HJ
      isplitl [HB]; · iexact HB
      isplitr [HO]
      · iapply (stream_next c W ge hlt (ge g.val)); isplitl [Hfl] <;> iassumption
      iexact HO
    · have h5 : k0_cond5 i (rdU TU) = 1#1 := h45.mpr h4
      sl_exec (disch := first | exact h4 | exact h5)
      sl_step
      iapply Hk
      isplitl [H8]; · iexact H8
      isplitl [H10]; · iexact H10
      isplitl [H11]
      · iexists _; isplitr; swap
        · iexact H11
        · ipureintro
          rw [outV, if_neg h4, View.read_writes_full]
      isplitl [HU]; · iexact HU
      isplitl [HF]; · iexact HF
      isplitl [HR]; · iexact HR
      isplitl [HN]; · iexact HN
      isplitl [HG]; · iexact HG
      isplitl [HJ]; · iexact HJ
      isplitl [HB]; · iexact HB
      isplitr [HO]
      · iapply (stream_next c W ge hlt (ge g.val)); isplitl [Hfl] <;> iassumption
      iexact HO
  · have hlt : g.val + 1 = n.val := by
      have := mt (cond3_iff hv hN).mpr h3
      omega
    sl_exec (disch := first | exact h3)
    iapply (wp_load_pc c (s := slot g) (off11_eq hv)) $$ Hp
    iintro %w %hw Hp
    simp -proj only [Prog.bind]
    sl_exec
    have hB : scB.view.writes (Elt F) B [⟨Rect.unit (s := S2048x2048) ![0, 0] S2048x2048.size inb_S2048x2048_S2048x2048_0_0, k0_pay1 w⟩] = BB := by
      rw [← hBn, ← hw]; exact castB_of B _
    have hBe : (scB.view.loc (c : Thread nD τ) ↦{fullShare} scB.view.writes (Elt F) B
        [⟨Rect.unit (s := S2048x2048) ![0, 0] S2048x2048.size inb_S2048x2048_S2048x2048_0_0, k0_pay1 w⟩] : sProp 𝕄)
        ⊢ (scB.view.loc (c : Thread nD τ) ↦{fullShare} BB) := by rw [hB]
    ihave HB := hBe $$ HB
    ihave Hf := (full_of c W (slot g) (ge g.val)) $$ [Hp Hv]
    · isplitl [Hp] <;> iassumption
    unfold owns
    icases H11 with ⟨%d, %fd, -, H11⟩
    by_cases h4 : k0_cond4 i (rdU TU) = 1#1
    · have h5 : ¬ k0_cond5 i (rdU TU) = 1#1 := fun h => (h45.mp h) h4
      sl_exec (disch := first | exact h4 | exact h5)
      sl_step
      iapply Hk
      isplitl [H8]; · iexact H8
      isplitl [H10]; · iexact H10
      isplitl [H11]
      · iexists _; isplitr; swap
        · iexact H11
        · ipureintro
          rw [outV, if_pos h4, View.read_writes_full]
          exact outOn_of arg8 arg10 X Y BB
      isplitl [HU]; · iexact HU
      isplitl [HF]; · iexact HF
      isplitl [HR]; · iexact HR
      isplitl [HN]; · iexact HN
      isplitl [HG]; · iexact HG
      isplitl [HJ]; · iexact HJ
      isplitl [HB]; · iexact HB
      isplitr [HO]
      · iapply (stream_last c W ge hlt (ge g.val))
        isplitr [Hf]
        · isplitl [Hfree]; · iexact Hfree
          iapply (srcs_of c W); iexact Hs
        · iexact Hf
      iexact HO
    · have h5 : k0_cond5 i (rdU TU) = 1#1 := h45.mpr h4
      sl_exec (disch := first | exact h4 | exact h5)
      sl_step
      iapply Hk
      isplitl [H8]; · iexact H8
      isplitl [H10]; · iexact H10
      isplitl [H11]
      · iexists _; isplitr; swap
        · iexact H11
        · ipureintro
          rw [outV, if_neg h4, View.read_writes_full]
      isplitl [HU]; · iexact HU
      isplitl [HF]; · iexact HF
      isplitl [HR]; · iexact HR
      isplitl [HN]; · iexact HN
      isplitl [HG]; · iexact HG
      isplitl [HJ]; · iexact HJ
      isplitl [HB]; · iexact HB
      isplitr [HO]
      · iapply (stream_last c W ge hlt (ge g.val))
        isplitr [Hf]
        · isplitl [Hfree]; · iexact Hfree
          iapply (srcs_of c W); iexact Hs
        · iexact Hf
      iexact HO

theorem run_first (c : Dev nD) (i : grid0.Coords) (arg8 : Memref sig .tc .vmem S256x2048 .bf16) (harg8 : arg8.IsWhole)
    (arg10 : Memref sig .tc .vmem S1x1x2048 .f32) (harg10 : arg10.IsWhole) (arg11 : Memref sig .tc .vmem S256x2048 .f32) (harg11 : arg11.IsWhole)
    (TU TN : S1.Idx → Elt F .i32) (TF TR : S288.Idx → Elt F .i32) (TG TJ : S64.Idx → Elt F .i32)
    (W : S32x2048x2048.Idx → Elt F .f32) (ge : ℕ → Fin 32) (n : Fin 33) (hn : 1 ≤ n.val)
    (X : S256x2048.Idx → Elt F .bf16) (Y : S1x1x2048.Idx → Elt F .f32) (B : S2048x2048.Idx → Elt F .bf16)
    (hf : rdF i TF = 1#32) (g : Fin 64) (hgl : g.val < n.val) (hN : rdN TN = BitVec.ofNat 32 n.val)
    (hv : rdR i TR = BitVec.ofNat 32 g.val)
    (hG : ∀ k : Fin 64, k.val < n.val → TG (ValueIdx.ix1 k) = BitVec.ofNat 32 (ge k.val).val)
    (h45 : k0_cond5 i (rdU TU) = 1#1 ↔ ¬ k0_cond4 i (rdU TU) = 1#1)
    (K : PUnit → sProp 𝕄) :
    iprop((arg8.view.loc (c : Thread nD τ) ↦[arg8.view.set]{fullShare} arg8.view.rep X)
        ∗ (arg10.view.loc (c : Thread nD τ) ↦[arg10.view.set]{fullShare} arg10.view.rep Y)
        ∗ (∃ d, owns (c : Thread nD τ) arg11 fullShare d)
        ∗ (tbU.view.loc (c : Thread nD τ) ↦{fullShare.right} TU) ∗ (tbF.view.loc (c : Thread nD τ) ↦{fullShare.right} TF) ∗ (tbR.view.loc (c : Thread nD τ) ↦{fullShare.right} TR) ∗ (tbN.view.loc (c : Thread nD τ) ↦{fullShare.right} TN) ∗ (tbG.view.loc (c : Thread nD τ) ↦{fullShare.right} TG) ∗ (tbJ.view.loc (c : Thread nD τ) ↦{fullShare.right} TJ)
        ∗ (scB.view.loc (c : Thread nD τ) ↦{fullShare} B) ∗ Stream c W ge n.val g.val ∗ (∃ O, owes (c : Thread nD τ) 0 O)
        ∗ (iprop((arg8.view.loc (c : Thread nD τ) ↦[arg8.view.set]{fullShare} arg8.view.rep X)
        ∗ (arg10.view.loc (c : Thread nD τ) ↦[arg10.view.set]{fullShare} arg10.view.rep Y)
            ∗ owns (c : Thread nD τ) arg11 fullShare (outV i TU X Y (castB (tileV W (ge g.val))))
            ∗ (tbU.view.loc (c : Thread nD τ) ↦{fullShare.right} TU) ∗ (tbF.view.loc (c : Thread nD τ) ↦{fullShare.right} TF) ∗ (tbR.view.loc (c : Thread nD τ) ↦{fullShare.right} TR) ∗ (tbN.view.loc (c : Thread nD τ) ↦{fullShare.right} TN) ∗ (tbG.view.loc (c : Thread nD τ) ↦{fullShare.right} TG) ∗ (tbJ.view.loc (c : Thread nD τ) ↦{fullShare.right} TJ)
            ∗ (scB.view.loc (c : Thread nD τ) ↦{fullShare} castB (tileV W (ge g.val)))
            ∗ Stream c W ge n.val (g.val + 1) ∗ (∃ O, owes (c : Thread nD τ) 0 O)) -∗ K ⟨⟩))
      ⊢ wp frame (wpE (defs₀ (F := F)) Variants.none (c : Thread nD τ) none) Set.univ (bodyOn i arg8 harg8 arg10 harg10 arg11 harg11) K := by
  by_cases hg : g.val = 0
  · exact run_zero c i arg8 harg8 arg10 harg10 arg11 harg11 TU TN TF TR TG TJ W ge n hn X Y B hf g hg hgl hN hv hG h45 K
  · exact run_later c i arg8 harg8 arg10 harg10 arg11 harg11 TU TN TF TR TG TJ W ge n hn X Y B hf g hg hgl hN hv hG h45 K

end Cert.DownIdeal.Hand

end
-- ==== Proof.DnCfg.lean ====
module

public import proofs.«01_k».proof.Proof.DnPlan
public import proofs.«01_k».proof.Proof.DnStart
public import proofs.«01_k».proof.Proof.Gen.DownIdeal.Launch
public import Idealize.ShloMosaic.Lib.WordArith

/-! The pipeline at the tables of a schedule. -/

@[expose] public section

noncomputable section

namespace Cert.DownIdeal.Hand

open Cert.DownIdeal Cert.DownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-- The seven prefetched tables' contents. -/
structure Tabs where
  E : S288.Idx → BitVec 32
  U : S1.Idx → BitVec 32
  F : S288.Idx → BitVec 32
  R : S288.Idx → BitVec 32
  N : S1.Idx → BitVec 32
  G : S64.Idx → BitVec 32
  J : S64.Idx → BitVec 32

/-- The schedule the tables hold. -/
abbrev Tabs.Sched (T : Tabs) := Plan T.E T.F T.R T.U T.N T.G T.J

set_option backward.proofsInPublic true in
/-- The tables as the call's prefetched contents. -/
def pfT (T : Tabs) : pre0.Contents (Elt F) := fun
  | ⟨0, _⟩ => T.E
  | ⟨1, _⟩ => T.U
  | ⟨2, _⟩ => T.F
  | ⟨3, _⟩ => T.R
  | ⟨4, _⟩ => T.N
  | ⟨5, _⟩ => T.G
  | ⟨6, _⟩ => T.J
  | ⟨_ + 7, h⟩ => absurd h (Nat.not_lt.2 (Nat.le_add_left _ _))

/-- The word the index maps read of the second table. -/
theorem at_U (T : Tabs) : (pfT (F := F) T).at 1 (Rect.unit (s := S1) ![0] S1.size inb_S1_S1_0) numel1_S1 = T.U (ValueIdx.ix1 0) :=
  congrArg T.U (funext fun a => by match a with | ⟨0, _⟩ => rfl)

theorem at_E (T : Tabs) (i : grid0.Coords) :
    (pfT (F := F) T).at 0 (Rect.unit (s := S288) ![(Scalar.indexCast (BitVec.ofNat 32 (i 0).val) : BitVec 32).toNat] S1.size (k0_off1_inb i)) numel1_S1
      = T.E (ValueIdx.ix1 (n := 288) (i 0)) := by
  have hi : (i 0).val < 288 := (i 0).isLt
  refine congrArg T.E (funext fun a => ?_)
  match a with
  | ⟨0, _⟩ =>
    refine Fin.ext ?_
    show (Scalar.indexCast (BitVec.ofNat 32 (i 0).val) : BitVec 32).toNat + 1 * 0 = (i 0).val
    simp only [Scalar.indexCast, BitVec.toNat_ofNat]
    omega

variable {T : Tabs}

/-- The rows' block index: the block, held at the last one in use past the blocks in use. -/
theorem tr0 (L : T.Sched) (i : grid0.Coords) : cc0_transform_0 inb_S1_S1_0 numel1_S1 (pfT (F := F) T) i = ![min (i 0).val (L.nu.val - 1), 0] := by
  have hi : (i 0).val < 288 := (i 0).isLt
  have hn := L.nu.isLt
  have hp := L.nu_pos
  have e : Scalar.subi (BitVec.ofNat 32 L.nu.val) 1#32 = BitVec.ofNat 32 (L.nu.val - 1) := by
    apply BitVec.eq_of_toNat_eq
    show (BitVec.ofNat 32 L.nu.val - 1#32).toNat = _
    rw [BitVec.toNat_sub]
    simp only [BitVec.toNat_ofNat]
    omega
  have e2 : (Scalar.minsi (BitVec.ofNat 32 (i 0).val) (BitVec.ofNat 32 (L.nu.val - 1))).toNat = min (i 0).val (L.nu.val - 1) := by
    refine (WordArith.toNat_minsi_of_lt _ _ (by simp only [BitVec.toNat_ofNat]; omega) (by simp only [BitVec.toNat_ofNat]; omega)).trans ?_
    simp only [BitVec.toNat_ofNat]
    rw [Nat.mod_eq_of_lt (by omega), Nat.mod_eq_of_lt (by omega)]
  refine (congrArg (fun w : BitVec 32 => ![(Scalar.minsi (BitVec.ofNat 32 (i 0).val) (Scalar.subi w 1#32)).toNat, (0#32).toNat])
    ((at_U (F := F) T).trans L.hU)).trans ?_
  simp only [e, e2]
  rfl

/-- The bias' block index: the block's expert. -/
theorem tr2 (L : T.Sched) (i : grid0.Coords) : cc0_transform_2 k0_off1_inb numel1_S1 (pfT (F := F) T) i = ![(L.be (i 0)).val, 0, 0] := by
  have hb := (L.be (i 0)).isLt
  refine (congrArg (fun w : BitVec 32 => ![w.toNat, (0#32).toNat, (0#32).toNat])
    ((at_E (F := F) T i).trans (L.hE (i 0)))).trans ?_
  simp only [BitVec.toNat_ofNat]
  rw [Nat.mod_eq_of_lt (show (L.be (i 0)).val < 2 ^ 32 by omega)]

/-- Every block lies inside its array. -/
theorem ok_pfT (L : T.Sched) : ok0 (pfT (F := F) T) := by
  have h0 : ∀ i : grid0.Coords, ∀ a, (cc0_transform_0 inb_S1_S1_0 numel1_S1 (pfT (F := F) T) i a + 1) * S256x2048.size a ≤ S73728x2048.size a := by
    intro i a
    have hi : (i 0).val < 288 := (i 0).isLt
    rw [tr0 L i]
    match a with
    | ⟨0, _⟩ => show (min (i 0).val (L.nu.val - 1) + 1) * 256 ≤ 73728; omega
    | ⟨1, _⟩ => show (0 + 1) * 2048 ≤ 2048; omega
  have h2 : ∀ i : grid0.Coords, ∀ a, (cc0_transform_2 k0_off1_inb numel1_S1 (pfT (F := F) T) i a + 1) * S1x1x2048.size a ≤ S32x1x2048.size a := by
    intro i a
    have hb := (L.be (i 0)).isLt
    rw [tr2 L i]
    match a with
    | ⟨0, _⟩ => show ((L.be (i 0)).val + 1) * 1 ≤ 32; omega
    | ⟨1, _⟩ => show (0 + 1) * 1 ≤ 1; omega
    | ⟨2, _⟩ => show (0 + 1) * 2048 ≤ 2048; omega
  exact ⟨fun i => ⟨h0 i, .inr (Affine.block_words_dvd (of_decide_eq_true rfl) (by decide))⟩, fun i => ⟨h2 i, Or.inl rfl⟩⟩

/-- The tables as admissible contents, and the pipeline at them. -/
def admT (L : T.Sched) : (pcfg0 (F := F)).Adm := ⟨pfT T, ok_pfT L⟩
abbrev cfgT (L : T.Sched) : Pipeline.Cfg sig Λ₀ := cfg0 (admT (F := F) L)
abbrev pcsT (L : T.Sched) : Fin 1 → Pipeline.Cfg sig Λ₀ := Pipeline.pin (pcfgs (F := F)) fun _ => admT L

/-- A point's coordinates, and each window's staging buffer there. -/
abbrev crd (L : T.Sched) (t : Fin (cfgT (F := F) L).N) : grid0.Coords := (cfgT (F := F) L).grid.coords t
abbrev ms0 (L : T.Sched) (t : Fin (cfgT (F := F) L).N) : Memref sig .tc .vmem S256x2048 .bf16 := spec0_0.stage ((cfgT (F := F) L).slots t (0 : Fin 3))
abbrev hs0 (L : T.Sched) (t : Fin (cfgT (F := F) L).N) : (ms0 L t).IsWhole := hstage0_0 (((cfgT (F := F) L).slots t (0 : Fin 3)).cast nbuf0_0)
abbrev ms1 (L : T.Sched) (t : Fin (cfgT (F := F) L).N) : Memref sig .tc .vmem S1x1x2048 .f32 := spec0_1.stage ((cfgT (F := F) L).slots t (1 : Fin 3))
abbrev hs1 (L : T.Sched) (t : Fin (cfgT (F := F) L).N) : (ms1 L t).IsWhole := hstage0_1 (((cfgT (F := F) L).slots t (1 : Fin 3)).cast nbuf0_1)
abbrev ms2 (L : T.Sched) (t : Fin (cfgT (F := F) L).N) : Memref sig .tc .vmem S256x2048 .f32 := spec0_2.stage ((cfgT (F := F) L).slots t (2 : Fin 3))
abbrev hs2 (L : T.Sched) (t : Fin (cfgT (F := F) L).N) : (ms2 L t).IsWhole := hstage0_2 (((cfgT (F := F) L).slots t (2 : Fin 3)).cast nbuf0_2)

/-- Which of the output's two stores a point makes: exactly one. -/
theorem cond45 (L : T.Sched) (i : grid0.Coords) : k0_cond5 i (rdU (F := F) T.U) = 1#1 ↔ ¬ k0_cond4 i (rdU (F := F) T.U) = 1#1 := by
  have e : rdU (F := F) T.U = BitVec.ofNat 32 L.nu.val := (rdU_eq (F := F) T.U).trans L.hU
  rw [cond4_iff e, cond5_iff e]

theorem idle2 (L : T.Sched) (i : grid0.Coords) : (cfgT (F := F) L).idle (2 : Fin 3) i = false := by
  have h := cond45 (F := F) L i
  rw [rdU_eq] at h
  have e : (pfT (F := F) T).atD 1 ![0] = T.U (ValueIdx.ix1 0) :=
    (dif_pos (fun a => by match a with | ⟨0, _⟩ => exact Nat.le_refl 1)).trans (congrArg T.U (funext fun a => by match a with | ⟨0, _⟩ => rfl))
  have key : ∀ a b : BitVec 1, (a = 1#1 ∨ b = 1#1) → (!(a == 1#1) && !(b == 1#1)) = false := by
    rintro a b (rfl | rfl) <;> simp
  refine key _ _ ?_
  by_cases h4 : k0_cond4 i (T.U (ValueIdx.ix1 0)) = 1#1
  · exact Or.inl ((congrArg (k0_cond4 i) e).trans h4)
  · exact Or.inr ((congrArg (k0_cond5 i) e).trans (h.mpr h4))
end Cert.DownIdeal.Hand

end
-- ==== Proof.DnDats.lean ====
module

public import proofs.«01_k».proof.Proof.DnCfg

/-! The proof data of the pipeline. -/

@[expose] public section

noncomputable section

namespace Cert.DownIdeal.Hand

open Cert.DownIdeal Cert.DownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable {T : Tabs} (L : T.Sched) (V : (c : Dev nD) → (b : Ref sig .tc) → Buf (Elt F) ((c : Thread nD τ).loc b))

/-- Window `w`'s block at point `t`, read off its array. -/
def iblk (c : Dev nD) (w : Fin (cfgT (F := F) L).W) (t : Fin (cfgT (F := F) L).N) :
    (((cfgT (F := F) L).win w).xblock (crd L t)).Idx → Elt F ((cfgT (F := F) L).win w).elt :=
  (((cfgT (F := F) L).win w).blk t).view.read (Elt F) (V c (Pipeline.arrRef spec0 w))

/-- The cast weight tile of a point: its expert's. -/
def wtile (c : Dev nD) (t : ℕ) : S2048x2048.Idx → Elt F .bf16 :=
  castB (tileV (V c main_arg2) (L.be (Plan.bk t)))

/-- A point's output block. -/
def outT (c : Dev nD) (t : Fin (cfgT (F := F) L).N) : S256x2048.Idx → Elt F .f32 :=
  outV (crd L t) T.U (iblk L V c 0 t) (iblk L V c 1 t) (wtile L V c t.val)

/-- Between points: the tables, the stream of weight tiles, and the cast tile of the point before. -/
def Phi (c : Dev nD) (n : ℕ) : sProp 𝕄 :=
  iprop((tbE.view.loc (c : Thread nD τ) ↦{fullShare.right} T.E) ∗ (tbU.view.loc (c : Thread nD τ) ↦{fullShare.right} T.U)
    ∗ (tbF.view.loc (c : Thread nD τ) ↦{fullShare.right} T.F) ∗ (tbR.view.loc (c : Thread nD τ) ↦{fullShare.right} T.R)
    ∗ (tbN.view.loc (c : Thread nD τ) ↦{fullShare.right} T.N) ∗ (tbG.view.loc (c : Thread nD τ) ↦{fullShare.right} T.G)
    ∗ (tbJ.view.loc (c : Thread nD τ) ↦{fullShare.right} T.J)
    ∗ (∃ r, prngReg c r) ∗ Stream c (V c main_arg2) L.ge L.nr.val (L.pos n)
    ∗ (∃ B : S2048x2048.Idx → Elt F .bf16, ⌜∀ t, n = t + 1 → B = wtile L V c t⌝ ∗ (scB.view.loc (c : Thread nD τ) ↦{fullShare} B)))

/-- The pipeline's proof data. -/
def datT (_ : Fin 1) (c : Dev nD) : Dat τ (Elt F) Unit ℕ (Pipeline.UD sig nD τ) ℕ (cfgT (F := F) L) c where
  A w := V c (Pipeline.arrRef spec0 w)
  after w t := match w with
    | ⟨0, _⟩ => iblk L V c 0 t
    | ⟨1, _⟩ => iblk L V c 1 t
    | ⟨2, _⟩ => outT L V c t
  Φ t := Phi L V c t.val
  q _ := fullShare
  owed _ := 0

theorem datA (c : Dev nD) (w : Fin (cfgT (F := F) L).W) : (datT L V 0 c).A w = V c (Pipeline.arrRef spec0 w) := by dsimp only [datT]
theorem aft0 (c : Dev nD) (t : Fin (cfgT (F := F) L).N) : (datT L V 0 c).after 0 t = iblk L V c 0 t := rfl
theorem aft1 (c : Dev nD) (t : Fin (cfgT (F := F) L).N) : (datT L V 0 c).after 1 t = iblk L V c 1 t := rfl
theorem aft2 (c : Dev nD) (t : Fin (cfgT (F := F) L).N) : (datT L V 0 c).after 2 t = outT L V c t := rfl
theorem bef0 (c : Dev nD) (t : Fin (cfgT (F := F) L).N) d : (datT L V 0 c).before 0 t d = iblk L V c 0 t :=
  ((datT L V 0 c).before_in_eq_fetched 0 rfl (fun _ => rfl) (fun _ _ _ => rfl) (fun t => by rw [aft0]; unfold Dat.blockOf iblk; rfl) t d).trans
    (by unfold Dat.fetched Dat.blockOf iblk; rfl)
theorem bef1 (c : Dev nD) (t : Fin (cfgT (F := F) L).N) d : (datT L V 0 c).before 1 t d = iblk L V c 1 t :=
  ((datT L V 0 c).before_in_eq_fetched 1 rfl (fun _ => rfl) (fun _ _ _ => rfl) (fun t => by rw [aft1]; unfold Dat.blockOf iblk; rfl) t d).trans
    (by unfold Dat.fetched Dat.blockOf iblk; rfl)
theorem defs_row (t : Fin (cfgT (F := F) L).N) :
    defs₀ (F := F) .tc (cfgT (F := F) L).body ((cfgT (F := F) L).bodyArgs t ((cfgT (F := F) L).slots t))
      = bodyOn (crd L t) (ms0 L t) (hs0 L t) (ms1 L t) (hs1 L t) (ms2 L t) (hs2 L t) := by
  unfold defs₀; rw [Defs.onTc_tc]
end Cert.DownIdeal.Hand

end
-- ==== Proof.DnSound.lean ====
module

public import proofs.«01_k».proof.Proof.DnDats
public import Idealize.ShloMosaic.Lib.Pipeline.TableIdle

/-! The body at every grid point. -/

@[expose] public section

noncomputable section

namespace Cert.DownIdeal.Hand

open Cert.DownIdeal Cert.DownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable {T : Tabs} (L : T.Sched) (V : (c : Dev nD) → (b : Ref sig .tc) → Buf (Elt F) ((c : Thread nD τ).loc b))

theorem t_lt (t : Fin (cfgT (F := F) L).N) : t.val < 288 := lt_of_lt_of_eq t.isLt N_0

theorem crd_b (t : Fin (cfgT (F := F) L).N) : (crd L t 0 : Fin 288) = Plan.bk t.val := Fin.ext (crd0 t)

/-- The words the body reads at a point. -/
theorem rdN_at : rdN (F := F) T.N = BitVec.ofNat 32 L.nr.val := (rdN_eq (F := F) T.N).trans L.hN

section Point

variable {i : grid0.Coords} {n : ℕ} (hn : n < 288) (h1 : (i 0 : Fin 288) = Plan.bk n)

include h1 in
theorem rdR_at : rdR (F := F) i T.R = BitVec.ofNat 32 (L.rb (Plan.bk n)) :=
  (rdR_eq (F := F) (i := i) T.R).trans ((congrArg (fun b : Fin 288 => T.R (ValueIdx.ix1 b)) h1).trans (L.hR _))
include h1 in
theorem rdF_at : rdF (F := F) i T.F = if L.fb (Plan.bk n) then 1#32 else 0#32 :=
  (rdF_eq (F := F) (i := i) T.F).trans ((congrArg (fun b : Fin 288 => T.F (ValueIdx.ix1 b)) h1).trans (L.hF _))

include hn h1 in
theorem runW_at : rdR (F := F) i T.R = BitVec.ofNat 32 (L.run n) := by
  rw [rdR_at L h1]
  unfold Plan.run
  rw [show n / 288 = 0 from by omega, Nat.zero_mul, Nat.zero_add]

variable (c : Dev nD) (m0 : Memref sig .tc .vmem S256x2048 .bf16) (w0 : m0.IsWhole) (m1 : Memref sig .tc .vmem S1x1x2048 .f32) (w1 : m1.IsWhole)
  (m2 : Memref sig .tc .vmem S256x2048 .f32) (w2 : m2.IsWhole)
  (X : S256x2048.Idx → Elt F .bf16) (Y : S1x1x2048.Idx → Elt F .f32)

/-- A point's statement. -/
def PointAt (i : grid0.Coords) (n : ℕ) : Prop :=
  iprop(Phi L V c n ∗ (∃ W, owes (c : Thread nD τ) 0 W) ∗ owns (c : Thread nD τ) m0 fullShare X ∗ owns (c : Thread nD τ) m1 fullShare Y
      ∗ (∃ d, owns (c : Thread nD τ) m2 fullShare d))
    ⊢ wp frame (wpE (defs₀ (F := F)) Variants.none (c : Thread nD τ) none) Set.univ (bodyOn i m0 w0 m1 w1 m2 w2) fun _ =>
      iprop(Phi L V c (n + 1) ∗ (∃ W, owes (c : Thread nD τ) 0 W) ∗ owns (c : Thread nD τ) m0 fullShare X ∗ owns (c : Thread nD τ) m1 fullShare Y
        ∗ owns (c : Thread nD τ) m2 fullShare (outV i T.U X Y (wtile L V c n)))

include hn h1 in
theorem point_first (hfb : L.fb (Plan.bk n) = true) : PointAt L V c m0 w0 m1 w1 m2 w2 X Y i n := by
  unfold PointAt Phi
  have hge := L.ge_run n
  have hp := L.pos_first hfb
  have hr := L.run_lt hn
  have hnr := L.nr.isLt
  have hlt : L.run n < 64 := by omega
  iintro ⟨⟨HE, HU, HF, HR, HN, HG, HJ, Hg, HS, ⟨%B, -, HB⟩⟩, ⟨%W, HW⟩, H0, H1, ⟨%d3, H3⟩⟩
  iapply (run_first c i m0 w0 m1 w1 m2 w2
    T.U T.N T.F T.R T.G T.J (V c main_arg2) L.ge L.nr L.nr_pos X Y B
    ((rdF_at L h1).trans (by rw [hfb]; rfl)) ⟨L.run n, hlt⟩ hr (rdN_at L) (runW_at L hn h1) L.hG' (cond45 L _) _)
  isplitl [H0]; · iapply (rep_of_owns (c : Thread nD τ)); iexact H0
  isplitl [H1]; · iapply (rep_of_owns (c : Thread nD τ)); iexact H1
  isplitl [H3]; · iexists _; iexact H3
  isplitl [HU]; · iexact HU
  isplitl [HF]; · iexact HF
  isplitl [HR]; · iexact HR
  isplitl [HN]; · iexact HN
  isplitl [HG]; · iexact HG
  isplitl [HJ]; · iexact HJ
  isplitl [HB]; · iexact HB
  isplitl [HS]; · rewrite [hp]; iexact HS
  isplitl [HW]; · iexists W; iexact HW
  iintro ⟨H0, H1, H3, HU, HF, HR, HN, HG, HJ, HB, HS, ⟨%W', HW⟩⟩
  isplitl [HE HU HF HR HN HG HJ Hg HS HB]
  · isplitl [HE]; · iexact HE
    isplitl [HU]; · iexact HU
    isplitl [HF]; · iexact HF
    isplitl [HR]; · iexact HR
    isplitl [HN]; · iexact HN
    isplitl [HG]; · iexact HG
    isplitl [HJ]; · iexact HJ
    isplitl [Hg]; · iexact Hg
    isplitl [HS]; · rewrite [L.pos_succ]; iexact HS
    iexists _; isplitr; swap
    · iexact HB
    · ipureintro
      intro t' e
      obtain rfl : t' = n := by omega
      unfold wtile
      rw [← hge]
  isplitl [HW]
  · iexists W'; iexact HW
  isplitl [H0]; · iapply (owns_of_rep (c : Thread nD τ)); iexact H0
  isplitl [H1]; · iapply (owns_of_rep (c : Thread nD τ)); iexact H1
  unfold wtile
  rewrite [← hge]
  iexact H3

include h1 in
theorem point_idle (hfb' : L.fb (Plan.bk n) = false) : PointAt L V c m0 w0 m1 w1 m2 w2 X Y i n := by
  unfold PointAt Phi
  obtain ⟨t', e⟩ : ∃ t', n = t' + 1 := ⟨n - 1, by have := L.idle_ne hfb'; omega⟩
  have hbe := L.be_idle (t := t') (e ▸ hfb')
  have hpos := L.pos_idle (t := t') (e ▸ hfb')
  have hw : wtile L V c t' = wtile L V c n := by unfold wtile; rw [e, hbe]
  have hp2 : L.pos (n + 1) = L.pos n := by rw [L.pos_succ, e, hpos]
  have hF0 : rdF (F := F) i T.F = 0#32 := (rdF_at L h1).trans (by rw [hfb']; rfl)
  have hc1 : ¬ k0_cond1 (rdF (F := F) i T.F) = 1#1 := fun h => by
    have h2 := cond1_iff.mp h
    rw [hF0] at h2; exact absurd h2 (by decide)
  iintro ⟨⟨HE, HU, HF, HR, HN, HG, HJ, Hg, HS, ⟨%B, %hB, HB⟩⟩, ⟨%W, HW⟩, H0, H1, ⟨%d3, H3⟩⟩
  obtain rfl : B = wtile L V c n := (hB t' e).trans hw
  iapply (run_idle c i m0 w0 m1 w1 m2 w2
    T.U T.N T.F T.R X Y (wtile L V c n) hc1 (chk2_of (g := 0) (rdN_at L) fun h => absurd h hc1) (cond45 L _) _)
  isplitl [H0]; · iapply (rep_of_owns (c : Thread nD τ)); iexact H0
  isplitl [H1]; · iapply (rep_of_owns (c : Thread nD τ)); iexact H1
  isplitl [H3]; · iexists _; iexact H3
  isplitl [HU]; · iexact HU
  isplitl [HF]; · iexact HF
  isplitl [HR]; · iexact HR
  isplitl [HN]; · iexact HN
  isplitl [HB]; · iexact HB
  iintro ⟨H0, H1, H3, HU, HF, HR, HN, HB⟩
  isplitl [HE HU HF HR HN HG HJ Hg HS HB]
  · isplitl [HE]; · iexact HE
    isplitl [HU]; · iexact HU
    isplitl [HF]; · iexact HF
    isplitl [HR]; · iexact HR
    isplitl [HN]; · iexact HN
    isplitl [HG]; · iexact HG
    isplitl [HJ]; · iexact HJ
    isplitl [Hg]; · iexact Hg
    isplitl [HS]; · rewrite [hp2]; iexact HS
    iexists _; isplitr; swap
    · iexact HB
    · ipureintro
      intro t'' e'
      obtain rfl : t'' = n := by omega
      rfl
  isplitl [HW]
  · iexists W; iexact HW
  isplitl [H0]; · iapply (owns_of_rep (c : Thread nD τ)); iexact H0
  isplitl [H1]; · iapply (owns_of_rep (c : Thread nD τ)); iexact H1
  iexact H3

end Point

end Cert.DownIdeal.Hand

end
-- ==== Proof.DnOblig.lean ====
module

public import proofs.«01_k».proof.Proof.DnSound

/-! The body obligation of the pipeline. -/

@[expose] public section

noncomputable section

namespace Cert.DownIdeal.Hand

open Cert.DownIdeal Cert.DownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (Pipeline.UD sig nD τ) ℕ

variable {T : Tabs} (L : T.Sched) (V : (c : Dev nD) → (b : Ref sig .tc) → Buf (Elt F) ((c : Thread nD τ).loc b))

/-- Before and after the body at a point. -/
def bodyPre (c : Dev nD) (t : Fin (cfgT (F := F) L).N) : sProp 𝕄 :=
  iprop((datT L V 0 c).Φ t.castSucc ∗ (datT L V 0 c).owesAt () t.castSucc
    ∗ (∃ d, owns (c : Thread nD τ) (ms0 L t) fullShare ((datT L V 0 c).before 0 t d))
    ∗ (∃ d, owns (c : Thread nD τ) (ms1 L t) fullShare ((datT L V 0 c).before 1 t d))
    ∗ (∃ d, owns (c : Thread nD τ) (ms2 L t) fullShare ((datT L V 0 c).before 2 t d)))
def bodyPost (c : Dev nD) (t : Fin (cfgT (F := F) L).N) : sProp 𝕄 :=
  iprop((datT L V 0 c).Φ t.succ ∗ (datT L V 0 c).owesAt () t.succ
    ∗ owns (c : Thread nD τ) (ms0 L t) fullShare ((datT L V 0 c).after 0 t)
    ∗ owns (c : Thread nD τ) (ms1 L t) fullShare ((datT L V 0 c).after 1 t)
    ∗ owns (c : Thread nD τ) (ms2 L t) fullShare ((datT L V 0 c).after 2 t))

theorem point (c : Dev nD) (t : Fin (cfgT (F := F) L).N) :
    PointAt L V c (ms0 L t) (hs0 L t) (ms1 L t) (hs1 L t) (ms2 L t) (hs2 L t) (iblk L V c 0 t) (iblk L V c 1 t)
      (crd L t) t.val := by
  have ht := t_lt L t
  by_cases hfb : L.fb (Plan.bk t.val) = true
  · exact point_first L V ht (crd_b L t) c _ _ _ _ _ _ _ _ hfb
  · exact point_idle L V (crd_b L t) c _ _ _ _ _ _ _ _ (by simpa using hfb)

theorem owesAt_out (c : Dev nD) (n) : (datT (F := F) L V 0 c).owesAt () n ⊢ (iprop(∃ W, owes (c : Thread nD τ) 0 W) : sProp 𝕄) := by
  unfold Dat.owesAt Pipeline.owesWithin
  rewrite [show (datT L V 0 c).owed n = 0 from rfl]
  iintro ⟨%W, -, HW⟩
  iexists W; iexact HW
theorem owesAt_in (c : Dev nD) (n) : (iprop(∃ W, owes (c : Thread nD τ) 0 W) : sProp 𝕄) ⊢ (datT (F := F) L V 0 c).owesAt () n := by
  unfold Dat.owesAt Pipeline.owesWithin
  rewrite [show (datT L V 0 c).owed n = 0 from rfl]
  iintro ⟨%W, HW⟩
  iexists W; isplitr; · ipureintro; exact fun _ _ => Or.inl trivial
  iexact HW

theorem Phi_cast (c : Dev nD) (t : Fin (cfgT (F := F) L).N) : (datT L V 0 c).Φ t.castSucc = Phi L V c t.val :=
  congrArg (Phi L V c) (Fin.val_castSucc t)
theorem Phi_succ (c : Dev nD) (t : Fin (cfgT (F := F) L).N) : (datT L V 0 c).Φ t.succ = Phi L V c (t.val + 1) :=
  congrArg (Phi L V c) (Fin.val_succ t)

theorem own0 (c : Dev nD) (t : Fin (cfgT (F := F) L).N) :
    (iprop(∃ d, owns (c : Thread nD τ) (ms0 L t) fullShare ((datT L V 0 c).before 0 t d)) : sProp 𝕄) ⊢ owns (c : Thread nD τ) (ms0 L t) fullShare (iblk L V c 0 t) :=
  BIClass.exists_elim fun d => BIBase.Entails.of_eq (congrArg (owns (c : Thread nD τ) (ms0 L t) fullShare) (bef0 L V c t d))
theorem own1 (c : Dev nD) (t : Fin (cfgT (F := F) L).N) :
    (iprop(∃ d, owns (c : Thread nD τ) (ms1 L t) fullShare ((datT L V 0 c).before 1 t d)) : sProp 𝕄) ⊢ owns (c : Thread nD τ) (ms1 L t) fullShare (iblk L V c 1 t) :=
  BIClass.exists_elim fun d => BIBase.Entails.of_eq (congrArg (owns (c : Thread nD τ) (ms1 L t) fullShare) (bef1 L V c t d))
theorem own2 (c : Dev nD) (t : Fin (cfgT (F := F) L).N) :
    (iprop(∃ d, owns (c : Thread nD τ) (ms2 L t) fullShare ((datT L V 0 c).before 2 t d)) : sProp 𝕄) ⊢ iprop(∃ d, owns (c : Thread nD τ) (ms2 L t) fullShare d) :=
  BIClass.exists_elim fun d => BIClass.exists_intro (Φ := fun d => (owns (c : Thread nD τ) (ms2 L t) fullShare d : sProp 𝕄)) _

theorem pre_point (c : Dev nD) (t : Fin (cfgT (F := F) L).N) : bodyPre L V c t ⊢
    iprop(Phi L V c t.val ∗ (∃ W, owes (c : Thread nD τ) 0 W) ∗ owns (c : Thread nD τ) (ms0 L t) fullShare (iblk L V c 0 t)
      ∗ owns (c : Thread nD τ) (ms1 L t) fullShare (iblk L V c 1 t) ∗ (∃ d, owns (c : Thread nD τ) (ms2 L t) fullShare d)) := by
  unfold bodyPre
  rewrite [Phi_cast L V c t]
  exact BIClass.sep_mono BIBase.Entails.rfl (BIClass.sep_mono (owesAt_out L V c _) (BIClass.sep_mono (own0 L V c t) (BIClass.sep_mono (own1 L V c t) (own2 L V c t))))

theorem point_post (c : Dev nD) (t : Fin (cfgT (F := F) L).N) :
    iprop(Phi L V c (t.val + 1) ∗ (∃ W, owes (c : Thread nD τ) 0 W) ∗ owns (c : Thread nD τ) (ms0 L t) fullShare (iblk L V c 0 t)
      ∗ owns (c : Thread nD τ) (ms1 L t) fullShare (iblk L V c 1 t)
      ∗ owns (c : Thread nD τ) (ms2 L t) fullShare (outV (crd L t) T.U (iblk L V c 0 t) (iblk L V c 1 t) (wtile L V c t.val)))
      ⊢ bodyPost L V c t := by
  unfold bodyPost
  rewrite [aft0, aft1, aft2, Phi_succ L V c t]
  iintro ⟨HP, HW, H0, H1, H3⟩
  isplitl [HP]; · iexact HP
  isplitl [HW]; · iapply (owesAt_in L V c _); iexact HW
  isplitl [H0]; · iexact H0
  isplitl [H1]; · iexact H1
  iexact H3

theorem sound_body (c : Dev nD) (t : Fin (cfgT (F := F) L).N) :
    bodyPre L V c t ⊢ wp frame (wpE (defs₀ (F := F)) Variants.none (c : Thread nD τ) none) Set.univ
      (bodyOn (crd L t) (ms0 L t) (hs0 L t) (ms1 L t) (hs1 L t) (ms2 L t) (hs2 L t)) fun _ => bodyPost L V c t :=
  (pre_point L V c t).trans ((point L V c t).trans (wp_mono (Fr := frame) (wpE := wpE (defs₀ (F := F)) Variants.none (c : Thread nD τ) none) (E := Set.univ) fun _ => point_post L V c t))

set_option backward.isDefEq.respectTransparency.types false in
set_option maxHeartbeats 1000000 in
theorem body_obligation (c : Dev nD) : BodyObligation (datT (F := F) L V 0 c) (defs₀ (F := F)) Variants.none () Set.univ := fun t => by
  rw [bigSep_W0, bigSep_W0, defs_row]
  have i3 : (cfgT (F := F) L).idle 2 ((cfgT (F := F) L).grid.coords t) = false := idle2 (F := F) L (crd L t)
  refine triple_restated (sound_body L V c t) rfl .rfl fun _ => BIClass.sep_mono BIBase.Entails.rfl (BIClass.sep_mono BIBase.Entails.rfl (BIClass.sep_mono BIBase.Entails.rfl (BIClass.sep_mono BIBase.Entails.rfl
    ?_)))
  split
  · rename_i hh; exact absurd hh (fun h => Bool.noConfusion h)
  · split
    · rename_i hh; exact absurd (i3.symm.trans hh) (fun h => Bool.noConfusion h)
    · exact BIBase.Entails.rfl
end Cert.DownIdeal.Hand

end
-- ==== Proof.DnLaunch.lean ====
module

public import proofs.«01_k».proof.Proof.DnOblig

/-! The resources the call is launched with. -/

@[expose] public section

noncomputable section

namespace Cert.DownIdeal.Hand

open Cert.DownIdeal Cert.DownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-! ### The scratch buffer and its two halves -/

theorem pc_mem (s : Fin 2) (x : S2x2048x2048.Idx) : x ∈ (pc s).view.set ↔ (x 0).val = s.val := by
  refine (Finset.ext_iff.mp (Memref.set_view_squeeze (scF.slice (Rect.unit (s := S2x2048x2048) ![s.val, 0, 0] S1x2048x2048.size (pc_inb s)) (fun _ => rfl))
    squeezes_S1x2048x2048_S2048x2048) x).trans ?_
  refine (Finset.ext_iff.mp (View.set_slice_whole cc0_scratch0 (Rect.unit (s := S2x2048x2048) ![s.val, 0, 0] S1x2048x2048.size (pc_inb s))) x).trans ?_
  rw [Rect.mem_set_unit]
  have h1 : (x 1).val < 2048 := (x 1).isLt
  have h2 : (x 2).val < 2048 := (x 2).isLt
  constructor
  · intro h
    have a0 : s.val ≤ (x 0).val ∧ (x 0).val < s.val + 1 := h 0
    omega
  · intro e0 a
    match a with
    | ⟨0, _⟩ => show s.val ≤ (x 0).val ∧ (x 0).val < s.val + 1; omega
    | ⟨1, _⟩ => show 0 ≤ (x 1).val ∧ (x 1).val < 0 + 2048; omega
    | ⟨2, _⟩ => show 0 ≤ (x 2).val ∧ (x 2).val < 0 + 2048; omega

/-- The halves by number. -/
abbrev pk (t : Fin 2) : Finset S2x2048x2048.Idx := (pc t).view.set

theorem pk_univ : (Finset.univ : Finset (Fin 2)).biUnion pk = Finset.univ := by
  ext x
  simp only [Finset.mem_biUnion, Finset.mem_univ, true_and, iff_true]
  exact ⟨x 0, (pc_mem _ x).mpr rfl⟩

theorem pk_disj : ∀ t ∈ (Finset.univ : Finset (Fin 2)), ∀ t' ∈ (Finset.univ : Finset (Fin 2)), t ≠ t' → Disjoint (pk t) (pk t') := by
  intro t _ t' _ h
  rw [Finset.disjoint_left]
  intro x hx hx'
  exact h (Fin.ext (((pc_mem t x).mp hx).symm.trans ((pc_mem t' x).mp hx')))

theorem owns_at (c : Dev nD) (s : Fin 2) (f : S2x2048x2048.Idx → Elt F .f32) :
    (scF.view.loc (c : Thread nD τ) ↦[(pc s).view.set]{fullShare} f : sProp 𝕄) ⊢ iprop(∃ d, owns (c : Thread nD τ) (pc s) fullShare d) := by
  unfold owns
  iintro H
  iexists _; iexists f; isplitr; swap
  · iexact H
  · ipureintro; rfl
theorem owns_out (c : Dev nD) (s : Fin 2) :
    (iprop(∃ d, owns (c : Thread nD τ) (pc s) fullShare d) : sProp 𝕄)
      ⊢ iprop(∃ f : S2x2048x2048.Idx → Elt F .f32, (scF.view.loc (c : Thread nD τ) ↦[(pc s).view.set]{fullShare} f)) := by
  unfold owns
  iintro ⟨%d, %f, -, H⟩
  iexists f; iexact H

theorem scF_split (c : Dev nD) (f : S2x2048x2048.Idx → Elt F .f32) :
    (scF.view.loc (c : Thread nD τ) ↦{fullShare} f : sProp 𝕄) ⊢
      iprop((∃ d, owns (c : Thread nD τ) (pc 0) fullShare d) ∗ (∃ d, owns (c : Thread nD τ) (pc 1) fullShare d)) := by
  have h : (scF.view.loc (c : Thread nD τ) ↦[(Finset.univ : Finset (Fin 2)).biUnion pk]{fullShare} f : sProp 𝕄)
      = bigSep Finset.univ fun t => (scF.view.loc (c : Thread nD τ) ↦[pk t]{fullShare} f) :=
    pointsTo_biUnion (Ix := Unit) (Name := ℕ) (U := Pipeline.UD sig nD τ) (Lvl := ℕ) (Val := Elt F) (ℓ := scF.view.loc (c : Thread nD τ)) (q := fullShare) (f := f) (T := Fin 2)
      Finset.univ pk pk_disj
  rw [pk_univ, BI.bigSep_univ_eq_bigSepL [0, 1] (by decide) (by decide)] at h
  refine (BIBase.Entails.of_eq h).trans ?_
  show iprop((scF.view.loc (c : Thread nD τ) ↦[pk 0]{fullShare} f) ∗ (scF.view.loc (c : Thread nD τ) ↦[pk 1]{fullShare} f)) ⊢ _
  exact BIClass.sep_mono (owns_at c 0 f) (owns_at c 1 f)

theorem scF_join (c : Dev nD) :
    iprop((∃ d, owns (c : Thread nD τ) (pc 0) fullShare d) ∗ (∃ d, owns (c : Thread nD τ) (pc 1) fullShare d))
      ⊢ (iprop(∃ f : S2x2048x2048.Idx → Elt F .f32, (scF.view.loc (c : Thread nD τ) ↦{fullShare} f)) : sProp 𝕄) := by
  refine (BIClass.sep_mono (owns_out c 0) (owns_out c 1)).trans ?_
  iintro ⟨⟨%f0, H0⟩, ⟨%f1, H1⟩⟩
  have h := pointsTo_biUnion_join (Ix := Unit) (Name := ℕ) (U := Pipeline.UD sig nD τ) (Lvl := ℕ) (Val := Elt F) (ℓ := scF.view.loc (c : Thread nD τ)) (q := fullShare)
    Finset.univ pk (fun t : Fin 2 => (![f0, f1] : Fin 2 → S2x2048x2048.Idx → Elt F .f32) t) f0 pk_disj
  rw [pk_univ, BI.bigSep_univ_eq_bigSepL [0, 1] (by decide) (by decide)] at h
  have h' : iprop((scF.view.loc (c : Thread nD τ) ↦[pk 0]{fullShare} f0) ∗ (scF.view.loc (c : Thread nD τ) ↦[pk 1]{fullShare} f1)) ⊢ _ := h
  ihave Hg := h' $$ [H0 H1]
  · isplitl [H0]; · iexact H0
    iexact H1
  icases Hg with ⟨%g, -, Hg⟩
  iexists g; iexact Hg

/-! ### The transfers' cells and the weights -/

abbrev osem0 : Fin 2 → SemLoc sig := fun j => (![SemLoc.dma 6, SemLoc.dma 7] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (cell 0)) 0 ∗ semVal ((c : Thread nD τ), SemLoc.dma (cell 1)) 0) := by
  rw [Pipeline.ownSems0_eq_of_list c osem0 [0, 1] (by decide) (by decide)]; rfl
def H0 : Finset (Ref sig .tc) := {main_arg2}
theorem H0_sub : H0 ⊆ Pipeline.restRefsP sig pre0 spec0 := by decide
theorem hbmPts0_eq (V : (c : Dev nD) → (b : Ref sig .tc) → Buf (Elt F) ((c : Thread nD τ).loc b)) (c : Dev nD) :
    (bigSep H0 fun b => ((c : Thread nD τ).loc b) ↦{fullShare} V c b : sProp 𝕄) = srcs c (V c main_arg2) := by
  unfold H0
  rw [bigSep_singleton]; rfl
theorem tables_eq (c : Dev nD) (q : Fin 7 → PosShare TreeShare) (v : pre0.Contents (Elt F)) :
    (Pipeline.prefHeld (Ix := Unit) (Name := ℕ) (U := Pipeline.UD sig nD τ) (Lvl := ℕ) pre0 c q v : sProp 𝕄)
      = iprop((tbE.view.loc (c : Thread nD τ) ↦{q 0} v 0) ∗ (tbU.view.loc (c : Thread nD τ) ↦{q 1} v 1) ∗ (tbF.view.loc (c : Thread nD τ) ↦{q 2} v 2)
        ∗ (tbR.view.loc (c : Thread nD τ) ↦{q 3} v 3) ∗ (tbN.view.loc (c : Thread nD τ) ↦{q 4} v 4) ∗ (tbG.view.loc (c : Thread nD τ) ↦{q 5} v 5)
        ∗ (tbJ.view.loc (c : Thread nD τ) ↦{q 6} v 6)) := by
  unfold Pipeline.prefHeld
  rw [show (Finset.univ : Finset (Fin 7)) = insert 0 (insert 1 (insert 2 (insert 3 (insert 4 (insert 5 {6}))))) from by decide,
    bigSep_insert (by decide), bigSep_insert (by decide), bigSep_insert (by decide), bigSep_insert (by decide), bigSep_insert (by decide),
    bigSep_insert (by decide), bigSep_singleton]
  rfl

variable {T : Tabs} (L : T.Sched) (V : (c : Dev nD) → (b : Ref sig .tc) → Buf (Elt F) ((c : Thread nD τ).loc b))

/-- The invariant before the first point, -/
theorem phi_in (c : Dev nD) :
    iprop(Pipeline.ΦD osem0 spec0 H0 V c ∗ Pipeline.ΦT pre0 (pfT (F := F) T) c) ⊢ (Phi L V c 0 : sProp 𝕄) := by
  unfold Pipeline.ΦT
  rw [Pipeline.ΦD_eq, scopedRest0_eq, ownSems00_eq, hbmPts0_eq, tables_eq]
  unfold Phi
  rw [L.pos_zero]
  unfold Stream
  rw [if_pos (Or.inl rfl)]
  iintro ⟨⟨⟨⟨%f, HS⟩, ⟨%B, HB⟩⟩, Hg, ⟨Q0, Q1⟩, Hs⟩, HE, HU, HF, HR, HN, HG, HJ⟩
  ihave HP := (scF_split c f) $$ [HS]; · iexact HS
  icases HP with ⟨P0, P1⟩
  isplitl [HE]; · iexact HE
  isplitl [HU]; · iexact HU
  isplitl [HF]; · iexact HF
  isplitl [HR]; · iexact HR
  isplitl [HN]; · iexact HN
  isplitl [HG]; · iexact HG
  isplitl [HJ]; · iexact HJ
  isplitl [Hg]; · iexact Hg
  isplitl [P0 P1 Q0 Q1 Hs]
  · unfold free
    isplitl [P0 Q0]
    · isplitl [P0]; · iexact P0
      iexact Q0
    isplitl [P1 Q1]
    · isplitl [P1]; · iexact P1
      iexact Q1
    iexact Hs
  iexists B; isplitr; swap
  · iexact HB
  · ipureintro; intro t h; exact absurd h (Nat.succ_ne_zero t).symm

/-- and after the last. -/
theorem phi_out (c : Dev nD) : (Phi L V c 288 : sProp 𝕄) ⊢ Pipeline.ΦD osem0 spec0 H0 V c := by
  rw [Pipeline.ΦD_eq, scopedRest0_eq, ownSems00_eq, hbmPts0_eq]
  unfold Phi
  rw [L.pos_last]
  unfold Stream
  rw [if_pos (Or.inr rfl)]
  unfold free
  iintro ⟨-, -, -, -, -, -, -, Hg, ⟨⟨P0, Q0⟩, ⟨P1, Q1⟩, Hs⟩, ⟨%B, -, HB⟩⟩
  ihave HP := (scF_join c) $$ [P0 P1]
  · isplitl [P0]; · iexact P0
    iexact P1
  isplitl [HP HB]
  · isplitl [HP]; · iexact HP
    iexists B; iexact HB
  isplitl [Hg]; · iexact Hg
  isplitl [Q0 Q1]
  · isplitl [Q0]; · iexact Q0
    iexact Q1
  iexact Hs
end Cert.DownIdeal.Hand

end
-- ==== Proof.DnFrame.lean ====
module

public import proofs.«01_k».proof.Proof.DnLaunch
public import proofs.«01_k».proof.Proof.DnOblig

/-! The run of the program, given a plan its tables hold. -/

@[expose] public section

noncomputable section

namespace Cert.DownIdeal.Hand

open Cert.DownIdeal Cert.DownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (Pipeline.UD sig nD τ) ℕ

/-- The host's operations, stretch by stretch. -/
abbrev opss : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]

theorem opss_sub : (opss : List (List (HloOp τ sig (Elt F)))).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub⟩

theorem opss_fresh : (opss : List (List (HloOp τ sig (Elt F)))).Forall fun ops => ops.Forall fun op => op.fresh = ∅ :=
  ⟨⟨rfl, rfl, rfl, rfl, rfl, rfl, rfl⟩,
    ⟨rfl, rfl, rfl, rfl, rfl, rfl, rfl, rfl, rfl, rfl, rfl, rfl, rfl, rfl, rfl, rfl, rfl⟩,
    ⟨rfl, rfl, rfl⟩,
    ⟨rfl, rfl, rfl⟩,
    ⟨rfl, rfl, rfl, rfl⟩,
    ⟨rfl, rfl, rfl, rfl, rfl, rfl, rfl, rfl, rfl, rfl, rfl, rfl⟩,
    ⟨rfl, rfl, rfl, rfl, rfl, rfl, rfl, rfl, rfl, rfl, rfl, rfl, rfl, rfl, rfl, rfl, rfl, rfl, rfl⟩,
    ⟨rfl, rfl, rfl⟩,
    ⟨rfl, rfl, rfl, rfl⟩,
    ⟨rfl, rfl⟩,
    ⟨rfl, rfl, rfl, rfl, rfl, rfl, rfl, rfl⟩,
    ⟨rfl, rfl, rfl⟩,
    ⟨rfl, rfl, rfl, rfl, rfl, rfl, rfl, rfl, rfl, rfl, rfl, rfl, rfl, rfl, rfl, rfl, rfl, rfl, rfl, rfl, rfl⟩,
    ⟨rfl, rfl, rfl, rfl⟩,
    ⟨rfl, rfl, rfl⟩,
    ⟨rfl, rfl, rfl, rfl, rfl, rfl, rfl, rfl, rfl, rfl, rfl, rfl, rfl, rfl, rfl, rfl, rfl, rfl, rfl, rfl⟩,
    ⟨rfl, rfl, rfl, rfl, rfl, rfl, rfl⟩,
    ⟨rfl, rfl, rfl, rfl⟩,
    ⟨rfl, rfl⟩,
    ⟨rfl, rfl, rfl, rfl, rfl, rfl, rfl, rfl, rfl, rfl, rfl, rfl, rfl, rfl, rfl, rfl⟩,
    ⟨rfl, rfl, rfl, rfl, rfl, rfl⟩⟩

variable (m : (ℓ : Loc nD τ sig) → Buf (Elt F) ℓ) (ρ : Dev nD → PrngReg)

/-- What a buffer holds when the region is entered. -/
abbrev V (c : Dev nD) (b : Ref sig .tc) : Buf (Elt F) ((c : Thread nD τ).loc b) := StableHlo.after opss.flatten (fun b => m (c, b)) b

theorem hmain : Pipeline.HMainP (Ix := Unit) (Name := ℕ) (U := Pipeline.UD sig nD τ) (Lvl := ℕ) (pcfgs (F := F)) 0 defs₀ Variants.none m (main (F := F)) (V m) :=
  Pipeline.hmainP_prefixes (pcfgs (F := F)) 0 defs₀ Variants.none m main opss opss_sub opss_fresh fun c => (main_chain c).trans rfl

/-- The tables of a core's launch are `T`'s. -/
structure IsTab (T : Tabs) (c : Dev nD) : Prop where
  E : V m c main_v30 = T.E
  U : V m c main_v71 = T.U
  F : V m c main_v37 = T.F
  R : V m c main_v40 = T.R
  N : V m c main_v72 = T.N
  G : V m c main_v67 = T.G
  J : V m c main_v70 = T.J

set_option backward.isDefEq.respectTransparency.types false in
/-- The run: at its end the arrays and the buffers beside them hold what the proof data say, and every counter is at zero. -/
theorem run_of {T : Tabs} (L : T.Sched) (hT : ∀ c, IsTab m T c) :
    θ_run defs (onTc (τ := τ) (main (F := F))) (s₀ m ρ)
      (fun r => Pipeline.FramePost (pcsT (F := F) L) (datT L (V m)) 0 (V m) r ∧ r.2.sem = fun _ => 0) :=
  Pipeline.θ_run_frameP_dma (Q' := _) (pcfgs (F := F)) (fun _ => admT L) (datT L (V m)) (0 : Fin 1) launch0 osem0 defs₀ Variants.none
    ownSemFacts0 H0 H0_sub m ρ main
    (hbody := fun c => (body_obligation L (V m) c).loose) (hshare := fun c => (datT L (V m) 0 c).share_full fun _ => rfl)
    (howed := fun _ _ => rfl) (V := V m) (hmain := hmain m) (hA := fun c w => datA L (V m) c w)
    (hpf := fun c k => match k with
      | ⟨0, _⟩ => (hT c).E
      | ⟨1, _⟩ => (hT c).U
      | ⟨2, _⟩ => (hT c).F
      | ⟨3, _⟩ => (hT c).R
      | ⟨4, _⟩ => (hT c).N
      | ⟨5, _⟩ => (hT c).G
      | ⟨6, _⟩ => (hT c).J)
    (hin := fun c => phi_in L (V m) c)
    (hout := fun c => (BIBase.Entails.of_eq (congrArg (Phi L (V m) c) ((Fin.val_last _).trans N_0))).trans (phi_out L (V m) c))

theorem V_arg0 (c : Dev nD) : V m c main_arg0 = m ((c : Thread nD τ).loc main_arg0) := by rfl
theorem V_arg1 (c : Dev nD) : V m c main_arg1 = m ((c : Thread nD τ).loc main_arg1) := by rfl
theorem V_arg2 (c : Dev nD) : V m c main_arg2 = m ((c : Thread nD τ).loc main_arg2) := by rfl
theorem V_arg3 (c : Dev nD) : V m c main_arg3 = m ((c : Thread nD τ).loc main_arg3) := by rfl

/-- What the run leaves in the program's arguments and in its result. -/
theorem post_of {T : Tabs} (L : T.Sched) (r : PUnit × MemSt nD τ sig (Elt F))
    (h : Pipeline.FramePost (pcsT (F := F) L) (datT L (V m)) 0 (V m) r) (c : Dev nD) :
    (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.mem ((c.tc : Thread nD τ).loc main_v74) = (datT L (V m) 0 c).arrAt 2 (cfgT (F := F) L).N := by
  have hr (b : Ref sig .tc) (hb : b ∈ Pipeline.restRefs sig spec0) : r.2.mem ((c.tc : Thread nD τ).loc b) = V m c b := (h c).2 b hb
  refine ⟨⟨(hr main_arg0 (by decide)).trans (V_arg0 m c), ?_, (hr main_arg2 (by decide)).trans (V_arg2 m c), (hr main_arg3 (by decide)).trans (V_arg3 m c)⟩, (h c).1 2⟩
  exact (((h c).1 0).trans ((datT L (V m) 0 c).arrAt_in 0 rfl _)).trans ((datA L (V m) c 0).trans (V_arg1 m c))

end Cert.DownIdeal.Hand

end
-- ==== Proof.DnHostEqs.lean ====
module

public import proofs.«01_k».proof.Proof.DnFrame
public import Idealize.ShloMosaic.Lib.Routing.OpsSearch

/-! What each stretch of host operations leaves. -/

@[expose] public section

noncomputable section

namespace Cert.DownIdeal.Hand

open Cert.DownIdeal Cert.DownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (Pipeline.UD sig nD τ) ℕ

open Idealize.ShloMosaic.Routing Idealize.ShloMosaic.ValueIdx

variable (X : Valuation τ sig (Elt F))

theorem s3 : (StableHlo.after hostOps0 X main_v3 : IVec S32 32) = subi (addi (X main_arg0 : IVec S32 32) (broadcastInDim S32 ![] bcast_S_S32 (constantI S_ 32 256#32)))
    (broadcastInDim S32 ![] bcast_S_S32 (constantI S_ 32 1#32)) := by rfl
theorem s4 : (StableHlo.after hostOps0_1 X main_v4 : IVec S32 32) = pyDiv bcast_S_S32 (X main_v3 : IVec S32 32) (X main_c_1 : IVec S_ 32) := by rfl
theorem s6 : (StableHlo.after hostOps0_2 X main_v6 : IVec S32 32) = muli (X main_v4 : IVec S32 32) (broadcastInDim S32 ![] bcast_S_S32 (constantI S_ 32 256#32)) := by rfl
theorem s7 : (StableHlo.after hostOps0_3 X main_v7 : IVec S32 32) = Host.reduceWindow IntOp.addi ![32] ![1] ![31] ![0] (X main_v6 : IVec S32 32)
    (broadcastInDim S_ ![] bcast_S_S_ (constantI S_ 32 0#32)) reduceWindows_S32_S32_w32s1p31_0 h_S_ := by rfl
theorem s10 : (StableHlo.after hostOps0_4 X main_v10 : IVec S_ 32) = shapeCast S_ (extractStridedSlice S1 ![31] (X main_v7 : IVec S32 32) slices_S32_S1_31) shapeCasts_S1_S_ := by rfl
theorem s11 : (StableHlo.after hostOps0_5 X main_v11 : IVec S_ 32) = pyDiv0 (X main_v10 : IVec S_ 32) (X main_c_3 : IVec S_ 32) := by rfl
theorem s18 : (StableHlo.after (hostOps0_6.take 8) X main_v18 : IVec S288x32 1) = cmpi .sle
      (broadcastInDim S288x32 ![0, 1] bcast_S1x32_S288x32_0_1 (broadcastInDim S1x32 ![1] bcast_S32_S1x32_1 (X main_v7 : IVec S32 32)))
      (broadcastInDim S288x32 ![0, 1] bcast_S288x1_S288x32_0_1 (broadcastInDim S288x1 ![0] bcast_S288_S288x1_0
        (muli (X main_v8 : IVec S288 32) (broadcastInDim S288 ![] bcast_S_S288 (constantI S_ 32 256#32))))) := by rfl
set_option maxRecDepth 20000 in
theorem s20 : (StableHlo.after ((hostOps0_6.drop 8).take 3) X main_v20 : IVec S288 32) = Host.reduce IntOp.addi (extui 32 (X main_v18 : IVec S288x32 1) natLt_1_32)
      (constantI S_ 32 0#32) reducesTo_S288x32_S288_d1 h_S_ := by rfl
theorem s22 : (StableHlo.after (hostOps0_6.drop 11) X main_v22 : IVec S288 32) = minsi (X main_v20 : IVec S288 32) (broadcastInDim S288 ![] bcast_S_S288 (constantI S_ 32 31#32)) := by rfl
theorem s25 : (StableHlo.after hostOps0_6 X main_v25 : IVec S288 1) = cmpi .eq (X main_v8 : IVec S288 32)
    (broadcastInDim S288 ![] bcast_S_S288 (subi (X main_v11 : IVec S_ 32) (constantI S_ 32 1#32))) := by rfl
theorem s26 : (StableHlo.after hostOps0_7 X main_v26 : IVec S288 32) = select (X main_v25 : IVec S288 1) (X main_v22 : IVec S288 32)
    (broadcastInDim S288 ![] bcast_S_S288 (X main_c_8 : IVec S_ 32)) := by rfl
theorem s27 : (StableHlo.after hostOps0_8 X main_v27 : IVec S_ 32) = Host.reduce IntOp.addi (X main_v26 : IVec S288 32) (constantI S_ 32 0#32) reducesTo_S288_S_d0 h_S_ := by rfl
theorem s29 : (StableHlo.after hostOps0_8 X main_v29 : IVec S288 1) = cmpi .slt (X main_v8 : IVec S288 32) (broadcastInDim S288 ![] bcast_S_S288 (X main_v11 : IVec S_ 32)) := by rfl
theorem s30 : (StableHlo.after hostOps0_9 X main_v30 : IVec S288 32) = select (X main_v29 : IVec S288 1) (X main_v22 : IVec S288 32)
    (broadcastInDim S288 ![] bcast_S_S288 (X main_v27 : IVec S_ 32)) := by rfl
theorem s37 : (StableHlo.after hostOps0_10 X main_v37 : IVec S288 32) = extui 32 (cmpi .ne (X main_v30 : IVec S288 32)
    (concatenate S288 0 [⟨S1, subi (extractStridedSlice S1 ![0] (X main_v30 : IVec S288 32) slices_S288_S1_0) (broadcastInDim S1 ![] bcast_S_S1 (constantI S_ 32 1#32))⟩,
      ⟨S287, extractStridedSlice S287 ![0] (X main_v30 : IVec S288 32) slices_S288_S287_0⟩] concatenates_S1_S287_S288_d0)) natLt_1_32 := by rfl
theorem s38 : (StableHlo.after hostOps0_11 X main_v38 : IVec S288 32) = Host.reduceWindow IntOp.addi ![288] ![1] ![287] ![0] (X main_v37 : IVec S288 32)
    (broadcastInDim S_ ![] bcast_S_S_ (constantI S_ 32 0#32)) reduceWindows_S288_S288_w288s1p287_0 h_S_ := by rfl
theorem s40 : (StableHlo.after hostOps0_12 X main_v40 : IVec S288 32) = subi (X main_v38 : IVec S288 32) (broadcastInDim S288 ![] bcast_S_S288 (constantI S_ 32 1#32)) := by rfl
theorem s43 : (StableHlo.after hostOps0_12 X main_v43 : IVec S_ 32) = addi (shapeCast S_ (extractStridedSlice S1 ![287]
    (subi (X main_v38 : IVec S288 32) (broadcastInDim S288 ![] bcast_S_S288 (constantI S_ 32 1#32))) slices_S288_S1_287) shapeCasts_S1_S_) (constantI S_ 32 1#32) := by rfl
theorem s54 : (StableHlo.after hostOps0_12 X main_v54 : IVec S32x288 1) = andi
    (broadcastInDim S32x288 ![0, 1] bcast_S1x288_S32x288_0_1 (cmpi .eq (broadcastInDim S1x288 ![1] bcast_S288_S1x288_1 (X main_v37 : IVec S288 32))
      (broadcastInDim S1x288 ![] bcast_S_S1x288 (constantI S_ 32 1#32))))
    (cmpi .eq (broadcastInDim S32x288 ![0, 1] bcast_S1x288_S32x288_0_1 (broadcastInDim S1x288 ![1] bcast_S288_S1x288_1
        (subi (X main_v38 : IVec S288 32) (broadcastInDim S288 ![] bcast_S_S288 (constantI S_ 32 1#32)))))
      (broadcastInDim S32x288 ![0, 1] bcast_S32x1_S32x288_0_1 (broadcastInDim S32x1 ![0] bcast_S32_S32x1_0 (iotaInDim S32 32 0)))) := by rfl
theorem s55 : (StableHlo.after hostOps0_12 X main_v55 : IVec S1x288 32) = broadcastInDim S1x288 ![1] bcast_S288_S1x288_1 (X main_v30 : IVec S288 32) := by rfl
theorem s56 : (StableHlo.after hostOps0_13 X main_v56 : IVec S32x288 32) = select (X main_v54 : IVec S32x288 1)
    (broadcastInDim S32x288 ![0, 1] bcast_S1x288_S32x288_0_1 (X main_v55 : IVec S1x288 32)) (broadcastInDim S32x288 ![] bcast_S_S32x288 (X main_c_14 : IVec S_ 32)) := by rfl
set_option maxRecDepth 20000 in
theorem s57 : (StableHlo.after hostOps0_14 X main_v57 : IVec S32 32) = Host.reduce IntOp.addi (X main_v56 : IVec S32x288 32) (constantI S_ 32 0#32) reducesTo_S32x288_S32_d1 h_S_ := by rfl
theorem s59a : (StableHlo.after (hostOps0_15.take 4) X main_call7_v1 : IVec S_ 32) = divGuard (X main_v43 : IVec S_ 32) := by rfl
theorem s59b : (StableHlo.after ((hostOps0_15.drop 4).take 2) X main_call7_v3 : IVec S64 32) = Host.remsi (X main_v58 : IVec S64 32)
    (broadcastInDim S64 ![] bcast_S_S64 (X main_call7_v1 : IVec S_ 32)) := by rfl
theorem s59c : (StableHlo.after (hostOps0_15.drop 6) X main_v59 : IVec S64 32) =
    select (andi (cmpi .ne (cmpi .slt (X main_call7_v3 : IVec S64 32) (broadcastInDim S64 ![] bcast_S_S64 (constantI S_ 32 0#32)))
        (broadcastInDim S64 ![] bcast_S_S64 (cmpi .slt (X main_call7_v1 : IVec S_ 32) (constantI S_ 32 0#32))))
      (cmpi .ne (X main_call7_v3 : IVec S64 32) (broadcastInDim S64 ![] bcast_S_S64 (constantI S_ 32 0#32))))
    (addi (X main_call7_v3 : IVec S64 32) (broadcastInDim S64 ![] bcast_S_S64 (X main_call7_v1 : IVec S_ 32)))
    (X main_call7_v3 : IVec S64 32) := by rfl
theorem s64 : (StableHlo.after hostOps0_16 X main_v64 : IVec S64x32 1) = cmpi .eq
    (broadcastInDim S64x32 ![0, 1] bcast_S64x1_S64x32_0_1 (broadcastInDim S64x1 ![0] bcast_S64_S64x1_0 (X main_v59 : IVec S64 32)))
    (broadcastInDim S64x32 ![0, 1] bcast_S1x32_S64x32_0_1 (broadcastInDim S1x32 ![1] bcast_S32_S1x32_1 (X main_v44 : IVec S32 32))) := by rfl
theorem s65 : (StableHlo.after hostOps0_16 X main_v65 : IVec S1x32 32) = broadcastInDim S1x32 ![1] bcast_S32_S1x32_1 (X main_v57 : IVec S32 32) := by rfl
theorem s66 : (StableHlo.after hostOps0_17 X main_v66 : IVec S64x32 32) = select (X main_v64 : IVec S64x32 1)
    (broadcastInDim S64x32 ![0, 1] bcast_S1x32_S64x32_0_1 (X main_v65 : IVec S1x32 32)) (broadcastInDim S64x32 ![] bcast_S_S64x32 (X main_c_16 : IVec S_ 32)) := by rfl
set_option maxRecDepth 20000 in
theorem s67 : (StableHlo.after hostOps0_18 X main_v67 : IVec S64 32) = Host.reduce IntOp.addi (X main_v66 : IVec S64x32 32) (constantI S_ 32 0#32) reducesTo_S64x32_S64_d1 h_S_ := by rfl
theorem s68 : (StableHlo.after hostOps0_19 X main_v68 : IVec S64 32) = pyDiv bcast_S_S64 (X main_v58 : IVec S64 32) (X main_v43 : IVec S_ 32) := by rfl
theorem s70 : (StableHlo.after hostOps0_20 X main_v70 : IVec S64 32) = minsi (X main_v68 : IVec S64 32) (broadcastInDim S64 ![] bcast_S_S64 (constantI S_ 32 1#32)) := by rfl
theorem s71 : (StableHlo.after hostOps0_20 X main_v71 : IVec S1 32) = shapeCast S1 (X main_v11 : IVec S_ 32) shapeCasts_S_S1 := by rfl
theorem s72 : (StableHlo.after hostOps0_20 X main_v72 : IVec S1 32) = shapeCast S1 (X main_v43 : IVec S_ 32) shapeCasts_S_S1 := by rfl

end Cert.DownIdeal.Hand

end
-- ==== Proof.DnHostZ.lean ====
module

public import proofs.«01_k».proof.Proof.DnHostEqs

/-! What the buffers hold after all the host operations, each in terms of the others. -/

@[expose] public section

noncomputable section

namespace Cert.DownIdeal.Hand

open Cert.DownIdeal Cert.DownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (Pipeline.UD sig nD τ) ℕ

open Idealize.ShloMosaic.Routing Idealize.ShloMosaic.ValueIdx

/-- The buffers after the host's operations, after the first `k` stretches, and after the others. -/
abbrev Z (X : Valuation τ sig (Elt F)) : Valuation τ sig (Elt F) := StableHlo.after opss.flatten X
def pf (k : ℕ) (X : Valuation τ sig (Elt F)) : Valuation τ sig (Elt F) := StableHlo.after (opss.take k).flatten X
abbrev sf (k : ℕ) (X : Valuation τ sig (Elt F)) : Valuation τ sig (Elt F) := StableHlo.after (opss.drop k).flatten X

theorem split (k : ℕ) (X : Valuation τ sig (Elt F)) : Z X = sf k (pf k X) := by
  show StableHlo.after opss.flatten X = StableHlo.after (opss.drop k).flatten (StableHlo.after (opss.take k).flatten X)
  rw [← StableHlo.after_append, ← List.flatten_append, List.take_append_drop]

variable (X : Valuation τ sig (Elt F))

theorem s22' : (StableHlo.after hostOps0_6 X main_v22 : IVec S288 32) = minsi (Host.reduce IntOp.addi (extui 32 (cmpi .sle
      (broadcastInDim S288x32 ![0, 1] bcast_S1x32_S288x32_0_1 (broadcastInDim S1x32 ![1] bcast_S32_S1x32_1 (X main_v7 : IVec S32 32)))
      (broadcastInDim S288x32 ![0, 1] bcast_S288x1_S288x32_0_1 (broadcastInDim S288x1 ![0] bcast_S288_S288x1_0
        (muli (X main_v8 : IVec S288 32) (broadcastInDim S288 ![] bcast_S_S288 (constantI S_ 32 256#32))))))  natLt_1_32)
      (constantI S_ 32 0#32) reducesTo_S288x32_S288_d1 h_S_) (broadcastInDim S288 ![] bcast_S_S288 (constantI S_ 32 31#32)) := by
  have h1 := StableHlo.after_append (hostOps0_6.take 8) (hostOps0_6.drop 8) X
  have h2 := StableHlo.after_append ((hostOps0_6.drop 8).take 3) (hostOps0_6.drop 11) (StableHlo.after (hostOps0_6.take 8) X)
  have h3 : StableHlo.after hostOps0_6 X = StableHlo.after (hostOps0_6.drop 11) (StableHlo.after ((hostOps0_6.drop 8).take 3) (StableHlo.after (hostOps0_6.take 8) X)) :=
    h1.trans h2
  rw [h3, s22, s20, s18]

theorem s59' : (StableHlo.after hostOps0_15 X main_v59 : IVec S64 32) = pyRem bcast_S_S64 (X main_v58 : IVec S64 32) (X main_v43 : IVec S_ 32) := by
  have h1 := StableHlo.after_append (hostOps0_15.take 4) (hostOps0_15.drop 4) X
  have h2 := StableHlo.after_append ((hostOps0_15.drop 4).take 2) (hostOps0_15.drop 6) (StableHlo.after (hostOps0_15.take 4) X)
  have h3 : StableHlo.after hostOps0_15 X = StableHlo.after (hostOps0_15.drop 6) (StableHlo.after ((hostOps0_15.drop 4).take 2) (StableHlo.after (hostOps0_15.take 4) X)) :=
    h1.trans h2
  have k1 (Y : Valuation τ sig (Elt F)) : (StableHlo.after ((hostOps0_15.drop 4).take 2) Y main_call7_v1 : IVec S_ 32) = Y main_call7_v1 := by rfl
  have k2 (Y : Valuation τ sig (Elt F)) : (StableHlo.after (hostOps0_15.take 4) Y main_v58 : IVec S64 32) = Y main_v58 := by rfl
  rw [h3, s59c, k1, s59b, k2, s59a]
  rfl

private theorem u3 : (sf 0 X main_v3 : IVec S32 32) = subi (addi (sf 0 X main_arg0 : IVec S32 32) (broadcastInDim S32 ![] bcast_S_S32 (constantI S_ 32 256#32)))
    (broadcastInDim S32 ![] bcast_S_S32 (constantI S_ 32 1#32)) := by
  have e : (sf 0 X main_v3 : IVec S32 32) = StableHlo.after hostOps0 X main_v3 := by rfl
  have k_main_arg0 : (sf 0 X main_arg0 : IVec S32 32) = X main_arg0 := by rfl
  rw [e, s3 X, k_main_arg0]
theorem z3 : (Z X main_v3 : IVec S32 32) = subi (addi (Z X main_arg0 : IVec S32 32) (broadcastInDim S32 ![] bcast_S_S32 (constantI S_ 32 256#32)))
    (broadcastInDim S32 ![] bcast_S_S32 (constantI S_ 32 1#32)) := by
  have h := u3 (pf 0 X)
  rwa [← split 0 X] at h
private theorem u4 : (sf 1 X main_v4 : IVec S32 32) = pyDiv bcast_S_S32 (sf 1 X main_v3 : IVec S32 32) (sf 1 X main_c_1 : IVec S_ 32) := by
  have e : (sf 1 X main_v4 : IVec S32 32) = StableHlo.after hostOps0_1 X main_v4 := by rfl
  have k_main_c_1 : (sf 1 X main_c_1 : IVec S_ 32) = X main_c_1 := by rfl
  have k_main_v3 : (sf 1 X main_v3 : IVec S32 32) = X main_v3 := by rfl
  rw [e, s4 X, k_main_c_1, k_main_v3]
theorem z4 : (Z X main_v4 : IVec S32 32) = pyDiv bcast_S_S32 (Z X main_v3 : IVec S32 32) (Z X main_c_1 : IVec S_ 32) := by
  have h := u4 (pf 1 X)
  rwa [← split 1 X] at h
private theorem u6 : (sf 2 X main_v6 : IVec S32 32) = muli (sf 2 X main_v4 : IVec S32 32) (broadcastInDim S32 ![] bcast_S_S32 (constantI S_ 32 256#32)) := by
  have e : (sf 2 X main_v6 : IVec S32 32) = StableHlo.after hostOps0_2 X main_v6 := by rfl
  have k_main_v4 : (sf 2 X main_v4 : IVec S32 32) = X main_v4 := by rfl
  rw [e, s6 X, k_main_v4]
theorem z6 : (Z X main_v6 : IVec S32 32) = muli (Z X main_v4 : IVec S32 32) (broadcastInDim S32 ![] bcast_S_S32 (constantI S_ 32 256#32)) := by
  have h := u6 (pf 2 X)
  rwa [← split 2 X] at h
private theorem u7 : (sf 3 X main_v7 : IVec S32 32) = Host.reduceWindow IntOp.addi ![32] ![1] ![31] ![0] (sf 3 X main_v6 : IVec S32 32)
    (broadcastInDim S_ ![] bcast_S_S_ (constantI S_ 32 0#32)) reduceWindows_S32_S32_w32s1p31_0 h_S_ := by
  have e : (sf 3 X main_v7 : IVec S32 32) = StableHlo.after hostOps0_3 X main_v7 := by rfl
  have k_main_v6 : (sf 3 X main_v6 : IVec S32 32) = X main_v6 := by rfl
  rw [e, s7 X, k_main_v6]
theorem z7 : (Z X main_v7 : IVec S32 32) = Host.reduceWindow IntOp.addi ![32] ![1] ![31] ![0] (Z X main_v6 : IVec S32 32)
    (broadcastInDim S_ ![] bcast_S_S_ (constantI S_ 32 0#32)) reduceWindows_S32_S32_w32s1p31_0 h_S_ := by
  have h := u7 (pf 3 X)
  rwa [← split 3 X] at h
private theorem u10 : (sf 4 X main_v10 : IVec S_ 32) = shapeCast S_ (extractStridedSlice S1 ![31] (sf 4 X main_v7 : IVec S32 32) slices_S32_S1_31) shapeCasts_S1_S_ := by
  have e : (sf 4 X main_v10 : IVec S_ 32) = StableHlo.after hostOps0_4 X main_v10 := by rfl
  have k_main_v7 : (sf 4 X main_v7 : IVec S32 32) = X main_v7 := by rfl
  rw [e, s10 X, k_main_v7]
theorem z10 : (Z X main_v10 : IVec S_ 32) = shapeCast S_ (extractStridedSlice S1 ![31] (Z X main_v7 : IVec S32 32) slices_S32_S1_31) shapeCasts_S1_S_ := by
  have h := u10 (pf 4 X)
  rwa [← split 4 X] at h
private theorem u11 : (sf 5 X main_v11 : IVec S_ 32) = pyDiv0 (sf 5 X main_v10 : IVec S_ 32) (sf 5 X main_c_3 : IVec S_ 32) := by
  have e : (sf 5 X main_v11 : IVec S_ 32) = StableHlo.after hostOps0_5 X main_v11 := by rfl
  have k_main_c_3 : (sf 5 X main_c_3 : IVec S_ 32) = X main_c_3 := by rfl
  have k_main_v10 : (sf 5 X main_v10 : IVec S_ 32) = X main_v10 := by rfl
  rw [e, s11 X, k_main_c_3, k_main_v10]
theorem z11 : (Z X main_v11 : IVec S_ 32) = pyDiv0 (Z X main_v10 : IVec S_ 32) (Z X main_c_3 : IVec S_ 32) := by
  have h := u11 (pf 5 X)
  rwa [← split 5 X] at h
private theorem u22 : (sf 6 X main_v22 : IVec S288 32) = minsi (Host.reduce IntOp.addi (extui 32 (cmpi .sle
      (broadcastInDim S288x32 ![0, 1] bcast_S1x32_S288x32_0_1 (broadcastInDim S1x32 ![1] bcast_S32_S1x32_1 (sf 6 X main_v7 : IVec S32 32)))
      (broadcastInDim S288x32 ![0, 1] bcast_S288x1_S288x32_0_1 (broadcastInDim S288x1 ![0] bcast_S288_S288x1_0
        (muli (sf 6 X main_v8 : IVec S288 32) (broadcastInDim S288 ![] bcast_S_S288 (constantI S_ 32 256#32))))))  natLt_1_32)
      (constantI S_ 32 0#32) reducesTo_S288x32_S288_d1 h_S_) (broadcastInDim S288 ![] bcast_S_S288 (constantI S_ 32 31#32)):= by
  have e : (sf 6 X main_v22 : IVec S288 32) = StableHlo.after hostOps0_6 X main_v22 := by rfl
  have k_main_v7 : (sf 6 X main_v7 : IVec S32 32) = X main_v7 := by rfl
  have k_main_v8 : (sf 6 X main_v8 : IVec S288 32) = X main_v8 := by rfl
  rw [e, s22' X, k_main_v7, k_main_v8]
theorem z22 : (Z X main_v22 : IVec S288 32) = minsi (Host.reduce IntOp.addi (extui 32 (cmpi .sle
      (broadcastInDim S288x32 ![0, 1] bcast_S1x32_S288x32_0_1 (broadcastInDim S1x32 ![1] bcast_S32_S1x32_1 (Z X main_v7 : IVec S32 32)))
      (broadcastInDim S288x32 ![0, 1] bcast_S288x1_S288x32_0_1 (broadcastInDim S288x1 ![0] bcast_S288_S288x1_0
        (muli (Z X main_v8 : IVec S288 32) (broadcastInDim S288 ![] bcast_S_S288 (constantI S_ 32 256#32))))))  natLt_1_32)
      (constantI S_ 32 0#32) reducesTo_S288x32_S288_d1 h_S_) (broadcastInDim S288 ![] bcast_S_S288 (constantI S_ 32 31#32)):= by
  have h := u22 (pf 6 X)
  rwa [← split 6 X] at h
private theorem u25 : (sf 6 X main_v25 : IVec S288 1) = cmpi .eq (sf 6 X main_v8 : IVec S288 32)
    (broadcastInDim S288 ![] bcast_S_S288 (subi (sf 6 X main_v11 : IVec S_ 32) (constantI S_ 32 1#32))) := by
  have e : (sf 6 X main_v25 : IVec S288 1) = StableHlo.after hostOps0_6 X main_v25 := by rfl
  have k_main_v11 : (sf 6 X main_v11 : IVec S_ 32) = X main_v11 := by rfl
  have k_main_v8 : (sf 6 X main_v8 : IVec S288 32) = X main_v8 := by rfl
  rw [e, s25 X, k_main_v11, k_main_v8]
theorem z25 : (Z X main_v25 : IVec S288 1) = cmpi .eq (Z X main_v8 : IVec S288 32)
    (broadcastInDim S288 ![] bcast_S_S288 (subi (Z X main_v11 : IVec S_ 32) (constantI S_ 32 1#32))) := by
  have h := u25 (pf 6 X)
  rwa [← split 6 X] at h
private theorem u26 : (sf 7 X main_v26 : IVec S288 32) = select (sf 7 X main_v25 : IVec S288 1) (sf 7 X main_v22 : IVec S288 32)
    (broadcastInDim S288 ![] bcast_S_S288 (sf 7 X main_c_8 : IVec S_ 32)) := by
  have e : (sf 7 X main_v26 : IVec S288 32) = StableHlo.after hostOps0_7 X main_v26 := by rfl
  have k_main_c_8 : (sf 7 X main_c_8 : IVec S_ 32) = X main_c_8 := by rfl
  have k_main_v22 : (sf 7 X main_v22 : IVec S288 32) = X main_v22 := by rfl
  have k_main_v25 : (sf 7 X main_v25 : IVec S288 1) = X main_v25 := by rfl
  rw [e, s26 X, k_main_c_8, k_main_v22, k_main_v25]
theorem z26 : (Z X main_v26 : IVec S288 32) = select (Z X main_v25 : IVec S288 1) (Z X main_v22 : IVec S288 32)
    (broadcastInDim S288 ![] bcast_S_S288 (Z X main_c_8 : IVec S_ 32)) := by
  have h := u26 (pf 7 X)
  rwa [← split 7 X] at h
private theorem u27 : (sf 8 X main_v27 : IVec S_ 32) = Host.reduce IntOp.addi (sf 8 X main_v26 : IVec S288 32) (constantI S_ 32 0#32) reducesTo_S288_S_d0 h_S_ := by
  have e : (sf 8 X main_v27 : IVec S_ 32) = StableHlo.after hostOps0_8 X main_v27 := by rfl
  have k_main_v26 : (sf 8 X main_v26 : IVec S288 32) = X main_v26 := by rfl
  rw [e, s27 X, k_main_v26]
theorem z27 : (Z X main_v27 : IVec S_ 32) = Host.reduce IntOp.addi (Z X main_v26 : IVec S288 32) (constantI S_ 32 0#32) reducesTo_S288_S_d0 h_S_ := by
  have h := u27 (pf 8 X)
  rwa [← split 8 X] at h
private theorem u29 : (sf 8 X main_v29 : IVec S288 1) = cmpi .slt (sf 8 X main_v8 : IVec S288 32) (broadcastInDim S288 ![] bcast_S_S288 (sf 8 X main_v11 : IVec S_ 32)) := by
  have e : (sf 8 X main_v29 : IVec S288 1) = StableHlo.after hostOps0_8 X main_v29 := by rfl
  have k_main_v11 : (sf 8 X main_v11 : IVec S_ 32) = X main_v11 := by rfl
  have k_main_v8 : (sf 8 X main_v8 : IVec S288 32) = X main_v8 := by rfl
  rw [e, s29 X, k_main_v11, k_main_v8]
theorem z29 : (Z X main_v29 : IVec S288 1) = cmpi .slt (Z X main_v8 : IVec S288 32) (broadcastInDim S288 ![] bcast_S_S288 (Z X main_v11 : IVec S_ 32)) := by
  have h := u29 (pf 8 X)
  rwa [← split 8 X] at h
private theorem u30 : (sf 9 X main_v30 : IVec S288 32) = select (sf 9 X main_v29 : IVec S288 1) (sf 9 X main_v22 : IVec S288 32)
    (broadcastInDim S288 ![] bcast_S_S288 (sf 9 X main_v27 : IVec S_ 32)) := by
  have e : (sf 9 X main_v30 : IVec S288 32) = StableHlo.after hostOps0_9 X main_v30 := by rfl
  have k_main_v22 : (sf 9 X main_v22 : IVec S288 32) = X main_v22 := by rfl
  have k_main_v27 : (sf 9 X main_v27 : IVec S_ 32) = X main_v27 := by rfl
  have k_main_v29 : (sf 9 X main_v29 : IVec S288 1) = X main_v29 := by rfl
  rw [e, s30 X, k_main_v22, k_main_v27, k_main_v29]
theorem z30 : (Z X main_v30 : IVec S288 32) = select (Z X main_v29 : IVec S288 1) (Z X main_v22 : IVec S288 32)
    (broadcastInDim S288 ![] bcast_S_S288 (Z X main_v27 : IVec S_ 32)) := by
  have h := u30 (pf 9 X)
  rwa [← split 9 X] at h
private theorem u37 : (sf 10 X main_v37 : IVec S288 32) = extui 32 (cmpi .ne (sf 10 X main_v30 : IVec S288 32)
    (concatenate S288 0 [⟨S1, subi (extractStridedSlice S1 ![0] (sf 10 X main_v30 : IVec S288 32) slices_S288_S1_0) (broadcastInDim S1 ![] bcast_S_S1 (constantI S_ 32 1#32))⟩,
      ⟨S287, extractStridedSlice S287 ![0] (sf 10 X main_v30 : IVec S288 32) slices_S288_S287_0⟩] concatenates_S1_S287_S288_d0)) natLt_1_32 := by
  have e : (sf 10 X main_v37 : IVec S288 32) = StableHlo.after hostOps0_10 X main_v37 := by rfl
  have k_main_v30 : (sf 10 X main_v30 : IVec S288 32) = X main_v30 := by rfl
  rw [e, s37 X, k_main_v30]
theorem z37 : (Z X main_v37 : IVec S288 32) = extui 32 (cmpi .ne (Z X main_v30 : IVec S288 32)
    (concatenate S288 0 [⟨S1, subi (extractStridedSlice S1 ![0] (Z X main_v30 : IVec S288 32) slices_S288_S1_0) (broadcastInDim S1 ![] bcast_S_S1 (constantI S_ 32 1#32))⟩,
      ⟨S287, extractStridedSlice S287 ![0] (Z X main_v30 : IVec S288 32) slices_S288_S287_0⟩] concatenates_S1_S287_S288_d0)) natLt_1_32 := by
  have h := u37 (pf 10 X)
  rwa [← split 10 X] at h
private theorem u38 : (sf 11 X main_v38 : IVec S288 32) = Host.reduceWindow IntOp.addi ![288] ![1] ![287] ![0] (sf 11 X main_v37 : IVec S288 32)
    (broadcastInDim S_ ![] bcast_S_S_ (constantI S_ 32 0#32)) reduceWindows_S288_S288_w288s1p287_0 h_S_ := by
  have e : (sf 11 X main_v38 : IVec S288 32) = StableHlo.after hostOps0_11 X main_v38 := by rfl
  have k_main_v37 : (sf 11 X main_v37 : IVec S288 32) = X main_v37 := by rfl
  rw [e, s38 X, k_main_v37]
theorem z38 : (Z X main_v38 : IVec S288 32) = Host.reduceWindow IntOp.addi ![288] ![1] ![287] ![0] (Z X main_v37 : IVec S288 32)
    (broadcastInDim S_ ![] bcast_S_S_ (constantI S_ 32 0#32)) reduceWindows_S288_S288_w288s1p287_0 h_S_ := by
  have h := u38 (pf 11 X)
  rwa [← split 11 X] at h
private theorem u40 : (sf 12 X main_v40 : IVec S288 32) = subi (sf 12 X main_v38 : IVec S288 32) (broadcastInDim S288 ![] bcast_S_S288 (constantI S_ 32 1#32)) := by
  have e : (sf 12 X main_v40 : IVec S288 32) = StableHlo.after hostOps0_12 X main_v40 := by rfl
  have k_main_v38 : (sf 12 X main_v38 : IVec S288 32) = X main_v38 := by rfl
  rw [e, s40 X, k_main_v38]
theorem z40 : (Z X main_v40 : IVec S288 32) = subi (Z X main_v38 : IVec S288 32) (broadcastInDim S288 ![] bcast_S_S288 (constantI S_ 32 1#32)) := by
  have h := u40 (pf 12 X)
  rwa [← split 12 X] at h
private theorem u43 : (sf 12 X main_v43 : IVec S_ 32) = addi (shapeCast S_ (extractStridedSlice S1 ![287]
    (subi (sf 12 X main_v38 : IVec S288 32) (broadcastInDim S288 ![] bcast_S_S288 (constantI S_ 32 1#32))) slices_S288_S1_287) shapeCasts_S1_S_) (constantI S_ 32 1#32) := by
  have e : (sf 12 X main_v43 : IVec S_ 32) = StableHlo.after hostOps0_12 X main_v43 := by rfl
  have k_main_v38 : (sf 12 X main_v38 : IVec S288 32) = X main_v38 := by rfl
  rw [e, s43 X, k_main_v38]
theorem z43 : (Z X main_v43 : IVec S_ 32) = addi (shapeCast S_ (extractStridedSlice S1 ![287]
    (subi (Z X main_v38 : IVec S288 32) (broadcastInDim S288 ![] bcast_S_S288 (constantI S_ 32 1#32))) slices_S288_S1_287) shapeCasts_S1_S_) (constantI S_ 32 1#32) := by
  have h := u43 (pf 12 X)
  rwa [← split 12 X] at h
private theorem u54 : (sf 12 X main_v54 : IVec S32x288 1) = andi
    (broadcastInDim S32x288 ![0, 1] bcast_S1x288_S32x288_0_1 (cmpi .eq (broadcastInDim S1x288 ![1] bcast_S288_S1x288_1 (sf 12 X main_v37 : IVec S288 32))
      (broadcastInDim S1x288 ![] bcast_S_S1x288 (constantI S_ 32 1#32))))
    (cmpi .eq (broadcastInDim S32x288 ![0, 1] bcast_S1x288_S32x288_0_1 (broadcastInDim S1x288 ![1] bcast_S288_S1x288_1
        (subi (sf 12 X main_v38 : IVec S288 32) (broadcastInDim S288 ![] bcast_S_S288 (constantI S_ 32 1#32)))))
      (broadcastInDim S32x288 ![0, 1] bcast_S32x1_S32x288_0_1 (broadcastInDim S32x1 ![0] bcast_S32_S32x1_0 (iotaInDim S32 32 0)))) := by
  have e : (sf 12 X main_v54 : IVec S32x288 1) = StableHlo.after hostOps0_12 X main_v54 := by rfl
  have k_main_v37 : (sf 12 X main_v37 : IVec S288 32) = X main_v37 := by rfl
  have k_main_v38 : (sf 12 X main_v38 : IVec S288 32) = X main_v38 := by rfl
  rw [e, s54 X, k_main_v37, k_main_v38]
theorem z54 : (Z X main_v54 : IVec S32x288 1) = andi
    (broadcastInDim S32x288 ![0, 1] bcast_S1x288_S32x288_0_1 (cmpi .eq (broadcastInDim S1x288 ![1] bcast_S288_S1x288_1 (Z X main_v37 : IVec S288 32))
      (broadcastInDim S1x288 ![] bcast_S_S1x288 (constantI S_ 32 1#32))))
    (cmpi .eq (broadcastInDim S32x288 ![0, 1] bcast_S1x288_S32x288_0_1 (broadcastInDim S1x288 ![1] bcast_S288_S1x288_1
        (subi (Z X main_v38 : IVec S288 32) (broadcastInDim S288 ![] bcast_S_S288 (constantI S_ 32 1#32)))))
      (broadcastInDim S32x288 ![0, 1] bcast_S32x1_S32x288_0_1 (broadcastInDim S32x1 ![0] bcast_S32_S32x1_0 (iotaInDim S32 32 0)))) := by
  have h := u54 (pf 12 X)
  rwa [← split 12 X] at h
private theorem u55 : (sf 12 X main_v55 : IVec S1x288 32) = broadcastInDim S1x288 ![1] bcast_S288_S1x288_1 (sf 12 X main_v30 : IVec S288 32) := by
  have e : (sf 12 X main_v55 : IVec S1x288 32) = StableHlo.after hostOps0_12 X main_v55 := by rfl
  have k_main_v30 : (sf 12 X main_v30 : IVec S288 32) = X main_v30 := by rfl
  rw [e, s55 X, k_main_v30]
theorem z55 : (Z X main_v55 : IVec S1x288 32) = broadcastInDim S1x288 ![1] bcast_S288_S1x288_1 (Z X main_v30 : IVec S288 32) := by
  have h := u55 (pf 12 X)
  rwa [← split 12 X] at h
private theorem u56 : (sf 13 X main_v56 : IVec S32x288 32) = select (sf 13 X main_v54 : IVec S32x288 1)
    (broadcastInDim S32x288 ![0, 1] bcast_S1x288_S32x288_0_1 (sf 13 X main_v55 : IVec S1x288 32)) (broadcastInDim S32x288 ![] bcast_S_S32x288 (sf 13 X main_c_14 : IVec S_ 32)) := by
  have e : (sf 13 X main_v56 : IVec S32x288 32) = StableHlo.after hostOps0_13 X main_v56 := by rfl
  have k_main_c_14 : (sf 13 X main_c_14 : IVec S_ 32) = X main_c_14 := by rfl
  have k_main_v54 : (sf 13 X main_v54 : IVec S32x288 1) = X main_v54 := by rfl
  have k_main_v55 : (sf 13 X main_v55 : IVec S1x288 32) = X main_v55 := by rfl
  rw [e, s56 X, k_main_c_14, k_main_v54, k_main_v55]
theorem z56 : (Z X main_v56 : IVec S32x288 32) = select (Z X main_v54 : IVec S32x288 1)
    (broadcastInDim S32x288 ![0, 1] bcast_S1x288_S32x288_0_1 (Z X main_v55 : IVec S1x288 32)) (broadcastInDim S32x288 ![] bcast_S_S32x288 (Z X main_c_14 : IVec S_ 32)) := by
  have h := u56 (pf 13 X)
  rwa [← split 13 X] at h
private theorem u57 : (sf 14 X main_v57 : IVec S32 32) = Host.reduce IntOp.addi (sf 14 X main_v56 : IVec S32x288 32) (constantI S_ 32 0#32) reducesTo_S32x288_S32_d1 h_S_ := by
  have e : (sf 14 X main_v57 : IVec S32 32) = StableHlo.after hostOps0_14 X main_v57 := by rfl
  have k_main_v56 : (sf 14 X main_v56 : IVec S32x288 32) = X main_v56 := by rfl
  rw [e, s57 X, k_main_v56]
theorem z57 : (Z X main_v57 : IVec S32 32) = Host.reduce IntOp.addi (Z X main_v56 : IVec S32x288 32) (constantI S_ 32 0#32) reducesTo_S32x288_S32_d1 h_S_ := by
  have h := u57 (pf 14 X)
  rwa [← split 14 X] at h
private theorem u59 : (sf 15 X main_v59 : IVec S64 32) = pyRem bcast_S_S64 (sf 15 X main_v58 : IVec S64 32) (sf 15 X main_v43 : IVec S_ 32) := by
  have e : (sf 15 X main_v59 : IVec S64 32) = StableHlo.after hostOps0_15 X main_v59 := by rfl
  have k_main_v43 : (sf 15 X main_v43 : IVec S_ 32) = X main_v43 := by rfl
  have k_main_v58 : (sf 15 X main_v58 : IVec S64 32) = X main_v58 := by rfl
  rw [e, s59' X, k_main_v43, k_main_v58]
theorem z59 : (Z X main_v59 : IVec S64 32) = pyRem bcast_S_S64 (Z X main_v58 : IVec S64 32) (Z X main_v43 : IVec S_ 32) := by
  have h := u59 (pf 15 X)
  rwa [← split 15 X] at h
private theorem u64 : (sf 16 X main_v64 : IVec S64x32 1) = cmpi .eq
    (broadcastInDim S64x32 ![0, 1] bcast_S64x1_S64x32_0_1 (broadcastInDim S64x1 ![0] bcast_S64_S64x1_0 (sf 16 X main_v59 : IVec S64 32)))
    (broadcastInDim S64x32 ![0, 1] bcast_S1x32_S64x32_0_1 (broadcastInDim S1x32 ![1] bcast_S32_S1x32_1 (sf 16 X main_v44 : IVec S32 32))) := by
  have e : (sf 16 X main_v64 : IVec S64x32 1) = StableHlo.after hostOps0_16 X main_v64 := by rfl
  have k_main_v44 : (sf 16 X main_v44 : IVec S32 32) = X main_v44 := by rfl
  have k_main_v59 : (sf 16 X main_v59 : IVec S64 32) = X main_v59 := by rfl
  rw [e, s64 X, k_main_v44, k_main_v59]
theorem z64 : (Z X main_v64 : IVec S64x32 1) = cmpi .eq
    (broadcastInDim S64x32 ![0, 1] bcast_S64x1_S64x32_0_1 (broadcastInDim S64x1 ![0] bcast_S64_S64x1_0 (Z X main_v59 : IVec S64 32)))
    (broadcastInDim S64x32 ![0, 1] bcast_S1x32_S64x32_0_1 (broadcastInDim S1x32 ![1] bcast_S32_S1x32_1 (Z X main_v44 : IVec S32 32))) := by
  have h := u64 (pf 16 X)
  rwa [← split 16 X] at h
private theorem u65 : (sf 16 X main_v65 : IVec S1x32 32) = broadcastInDim S1x32 ![1] bcast_S32_S1x32_1 (sf 16 X main_v57 : IVec S32 32) := by
  have e : (sf 16 X main_v65 : IVec S1x32 32) = StableHlo.after hostOps0_16 X main_v65 := by rfl
  have k_main_v57 : (sf 16 X main_v57 : IVec S32 32) = X main_v57 := by rfl
  rw [e, s65 X, k_main_v57]
theorem z65 : (Z X main_v65 : IVec S1x32 32) = broadcastInDim S1x32 ![1] bcast_S32_S1x32_1 (Z X main_v57 : IVec S32 32) := by
  have h := u65 (pf 16 X)
  rwa [← split 16 X] at h
private theorem u66 : (sf 17 X main_v66 : IVec S64x32 32) = select (sf 17 X main_v64 : IVec S64x32 1)
    (broadcastInDim S64x32 ![0, 1] bcast_S1x32_S64x32_0_1 (sf 17 X main_v65 : IVec S1x32 32)) (broadcastInDim S64x32 ![] bcast_S_S64x32 (sf 17 X main_c_16 : IVec S_ 32)) := by
  have e : (sf 17 X main_v66 : IVec S64x32 32) = StableHlo.after hostOps0_17 X main_v66 := by rfl
  have k_main_c_16 : (sf 17 X main_c_16 : IVec S_ 32) = X main_c_16 := by rfl
  have k_main_v64 : (sf 17 X main_v64 : IVec S64x32 1) = X main_v64 := by rfl
  have k_main_v65 : (sf 17 X main_v65 : IVec S1x32 32) = X main_v65 := by rfl
  rw [e, s66 X, k_main_c_16, k_main_v64, k_main_v65]
theorem z66 : (Z X main_v66 : IVec S64x32 32) = select (Z X main_v64 : IVec S64x32 1)
    (broadcastInDim S64x32 ![0, 1] bcast_S1x32_S64x32_0_1 (Z X main_v65 : IVec S1x32 32)) (broadcastInDim S64x32 ![] bcast_S_S64x32 (Z X main_c_16 : IVec S_ 32)) := by
  have h := u66 (pf 17 X)
  rwa [← split 17 X] at h
private theorem u67 : (sf 18 X main_v67 : IVec S64 32) = Host.reduce IntOp.addi (sf 18 X main_v66 : IVec S64x32 32) (constantI S_ 32 0#32) reducesTo_S64x32_S64_d1 h_S_ := by
  have e : (sf 18 X main_v67 : IVec S64 32) = StableHlo.after hostOps0_18 X main_v67 := by rfl
  have k_main_v66 : (sf 18 X main_v66 : IVec S64x32 32) = X main_v66 := by rfl
  rw [e, s67 X, k_main_v66]
theorem z67 : (Z X main_v67 : IVec S64 32) = Host.reduce IntOp.addi (Z X main_v66 : IVec S64x32 32) (constantI S_ 32 0#32) reducesTo_S64x32_S64_d1 h_S_ := by
  have h := u67 (pf 18 X)
  rwa [← split 18 X] at h
private theorem u68 : (sf 19 X main_v68 : IVec S64 32) = pyDiv bcast_S_S64 (sf 19 X main_v58 : IVec S64 32) (sf 19 X main_v43 : IVec S_ 32) := by
  have e : (sf 19 X main_v68 : IVec S64 32) = StableHlo.after hostOps0_19 X main_v68 := by rfl
  have k_main_v43 : (sf 19 X main_v43 : IVec S_ 32) = X main_v43 := by rfl
  have k_main_v58 : (sf 19 X main_v58 : IVec S64 32) = X main_v58 := by rfl
  rw [e, s68 X, k_main_v43, k_main_v58]
theorem z68 : (Z X main_v68 : IVec S64 32) = pyDiv bcast_S_S64 (Z X main_v58 : IVec S64 32) (Z X main_v43 : IVec S_ 32) := by
  have h := u68 (pf 19 X)
  rwa [← split 19 X] at h
private theorem u70 : (sf 20 X main_v70 : IVec S64 32) = minsi (sf 20 X main_v68 : IVec S64 32) (broadcastInDim S64 ![] bcast_S_S64 (constantI S_ 32 1#32)) := by
  have e : (sf 20 X main_v70 : IVec S64 32) = StableHlo.after hostOps0_20 X main_v70 := by rfl
  have k_main_v68 : (sf 20 X main_v68 : IVec S64 32) = X main_v68 := by rfl
  rw [e, s70 X, k_main_v68]
theorem z70 : (Z X main_v70 : IVec S64 32) = minsi (Z X main_v68 : IVec S64 32) (broadcastInDim S64 ![] bcast_S_S64 (constantI S_ 32 1#32)) := by
  have h := u70 (pf 20 X)
  rwa [← split 20 X] at h
private theorem u71 : (sf 20 X main_v71 : IVec S1 32) = shapeCast S1 (sf 20 X main_v11 : IVec S_ 32) shapeCasts_S_S1 := by
  have e : (sf 20 X main_v71 : IVec S1 32) = StableHlo.after hostOps0_20 X main_v71 := by rfl
  have k_main_v11 : (sf 20 X main_v11 : IVec S_ 32) = X main_v11 := by rfl
  rw [e, s71 X, k_main_v11]
theorem z71 : (Z X main_v71 : IVec S1 32) = shapeCast S1 (Z X main_v11 : IVec S_ 32) shapeCasts_S_S1 := by
  have h := u71 (pf 20 X)
  rwa [← split 20 X] at h
private theorem u72 : (sf 20 X main_v72 : IVec S1 32) = shapeCast S1 (sf 20 X main_v43 : IVec S_ 32) shapeCasts_S_S1 := by
  have e : (sf 20 X main_v72 : IVec S1 32) = StableHlo.after hostOps0_20 X main_v72 := by rfl
  have k_main_v43 : (sf 20 X main_v43 : IVec S_ 32) = X main_v43 := by rfl
  rw [e, s72 X, k_main_v43]
theorem z72 : (Z X main_v72 : IVec S1 32) = shapeCast S1 (Z X main_v43 : IVec S_ 32) shapeCasts_S_S1 := by
  have h := u72 (pf 20 X)
  rwa [← split 20 X] at h
theorem zc_1 : (Z X main_c_1 : IVec S_ 32) = constantI S_ 32 256#32 := by rfl
theorem zc_3 : (Z X main_c_3 : IVec S_ 32) = constantI S_ 32 256#32 := by rfl
theorem zc_8 : (Z X main_c_8 : IVec S_ 32) = constantI S_ 32 0#32 := by rfl
theorem zc_14 : (Z X main_c_14 : IVec S_ 32) = constantI S_ 32 0#32 := by rfl
theorem zc_16 : (Z X main_c_16 : IVec S_ 32) = constantI S_ 32 0#32 := by rfl
theorem z8 : (Z X main_v8 : IVec S288 32) = iotaInDim S288 32 0 := by rfl
theorem z44 : (Z X main_v44 : IVec S32 32) = iotaInDim S32 32 0 := by rfl
theorem z58 : (Z X main_v58 : IVec S64 32) = iotaInDim S64 32 0 := by rfl
theorem za : (Z X main_arg0 : IVec S32 32) = X main_arg0 := by rfl

end Cert.DownIdeal.Hand

end
-- ==== Proof.DnPlanNat.lean ====
module

public import Idealize.ShloMosaic.Lib.Routing.OpsSearch

/-! Runs of equal experts over a nondecreasing list of blocks, and sums of words that hold naturals. -/

@[expose] public section

noncomputable section

namespace Cert.DownIdeal.Hand

open Idealize.ShloMosaic

variable (be : ℕ → ℕ)

/-- Block `b` is the first of a run of blocks of one expert. -/
def fstB (b : ℕ) : Bool := b == 0 || be b != be (b - 1)

/-- How many runs start by block `b`. -/
def cumF (b : ℕ) : ℕ := ∑ k ∈ Finset.range (b + 1), if fstB be k then 1 else 0

/-- The run block `b` is in. -/
def rbN (b : ℕ) : ℕ := cumF be b - 1

theorem fstB_zero : fstB be 0 = true := rfl

theorem cumF_zero : cumF be 0 = 1 := by
  unfold cumF
  rw [Finset.sum_range_one, fstB_zero]
  rfl

theorem cumF_succ (b : ℕ) : cumF be (b + 1) = cumF be b + if fstB be (b + 1) then 1 else 0 := Finset.sum_range_succ _ _

theorem cumF_pos : ∀ b, 1 ≤ cumF be b
  | 0 => (cumF_zero be).ge
  | b + 1 => (cumF_pos b).trans ((cumF_succ be b).ge.trans' (Nat.le_add_right _ _))

theorem rbN_zero : rbN be 0 = 0 := by unfold rbN; rw [cumF_zero]

theorem rbN_succ (b : ℕ) : rbN be (b + 1) = rbN be b + if fstB be (b + 1) then 1 else 0 := by
  have h := cumF_pos be b
  have h1 := cumF_succ be b
  unfold rbN
  omega

theorem rbN_mono : Monotone (rbN be) := monotone_nat_of_le_succ fun b => by rw [rbN_succ]; exact Nat.le_add_right _ _

theorem fstB_succ (b : ℕ) : fstB be (b + 1) = true ↔ be (b + 1) ≠ be b := by
  unfold fstB
  simp

theorem rbN_le (hm : Monotone be) : ∀ b, be 0 + rbN be b ≤ be b
  | 0 => by rw [rbN_zero]; exact le_rfl
  | b + 1 => by
    have ih := rbN_le hm b
    have h1 := hm (Nat.le_succ b)
    rw [rbN_succ]
    by_cases h : fstB be (b + 1) = true
    · have h2 := (fstB_succ be b).mp h
      rw [if_pos h]
      simp only [Nat.succ_eq_add_one] at h1
      omega
    · rw [if_neg h]
      simp only [Nat.succ_eq_add_one] at h1
      omega

theorem exists_first : ∀ b, ∃ k, k ≤ b ∧ fstB be k = true ∧ rbN be k = rbN be b ∧ be k = be b
  | 0 => ⟨0, le_rfl, rfl, rfl, rfl⟩
  | b + 1 => by
    by_cases h : fstB be (b + 1) = true
    · exact ⟨b + 1, le_rfl, h, rfl, rfl⟩
    · obtain ⟨k, h1, h2, h3, h4⟩ := exists_first b
      have h5 : be (b + 1) = be b := not_not.mp fun h6 => h ((fstB_succ be b).mpr h6)
      refine ⟨k, Nat.le_succ_of_le h1, h2, ?_, h4.trans h5.symm⟩
      rw [rbN_succ, if_neg h]
      exact h3

theorem first_lt {k l : ℕ} (h : k < l) (hl : fstB be l = true) : rbN be k < rbN be l := by
  obtain ⟨j, rfl⟩ : ∃ j, l = j + 1 := ⟨l - 1, by omega⟩
  have h1 := rbN_mono be (Nat.le_of_lt_succ h)
  rw [rbN_succ, if_pos hl]
  exact Nat.lt_succ_of_le h1

theorem first_unique {k l : ℕ} (hk : fstB be k = true) (hl : fstB be l = true) (h : rbN be k = rbN be l) : k = l := by
  rcases lt_trichotomy k l with h1 | h1 | h1
  · exact absurd h (first_lt be h1 hl).ne
  · exact h1
  · exact absurd h.symm (first_lt be h1 hk).ne

/-- The expert of run `r`, as a sum over the blocks of which one counts. -/
def reN (n r : ℕ) : ℕ := ∑ k ∈ Finset.range n, if fstB be k = true ∧ rbN be k = r then be k else 0

theorem reN_rb {n b : ℕ} (h : b < n) : reN be n (rbN be b) = be b := by
  obtain ⟨k, h1, h2, h3, h4⟩ := exists_first be b
  unfold reN
  rw [Finset.sum_eq_single k, if_pos ⟨h2, h3⟩, h4]
  · intro l _ hl
    exact if_neg fun ⟨h5, h6⟩ => hl (first_unique be h5 h2 (h6.trans h3.symm))
  · intro h5
    exact absurd (Finset.mem_range.mpr (lt_of_le_of_lt h1 h)) h5

/-- Every run up to a block's is some block's. -/
theorem exists_run : ∀ b r, r ≤ rbN be b → ∃ k, k ≤ b ∧ rbN be k = r
  | 0, r, h => ⟨0, le_rfl, by rw [rbN_zero] at h ⊢; omega⟩
  | b + 1, r, h => by
    by_cases h1 : r ≤ rbN be b
    · obtain ⟨k, h2, h3⟩ := exists_run b r h1
      exact ⟨k, Nat.le_succ_of_le h2, h3⟩
    · refine ⟨b + 1, le_rfl, ?_⟩
      have h2 := rbN_succ be b
      by_cases h3 : fstB be (b + 1) = true
      · rw [if_pos h3] at h2; omega
      · rw [if_neg h3] at h2; omega

open Idealize.ShloMosaic.Routing Idealize.ShloMosaic.ValueIdx

theorem sum_list (n : ℕ) (f : ℕ → ℕ) : ((List.range n).map f).sum = ∑ k ∈ Finset.range n, f k := rfl

theorem fold_addi_ofNat {ι : Type} (S : Finset ι) (x : ι → BitVec 32) (g : ι → ℕ) (h : ∀ k ∈ S, x k = BitVec.ofNat 32 (g k)) :
    S.fold IntOp.addi (0#32) x = BitVec.ofNat 32 (∑ k ∈ S, g k) := by
  classical
  induction S using Finset.induction_on with
  | empty => rfl
  | insert a S ha ih =>
    rw [Finset.fold_insert ha, ih fun k hk => h k (Finset.mem_insert_of_mem hk), Finset.sum_insert ha, h a (Finset.mem_insert_self _ _)]
    exact (BitVec.ofNat_add _ _).symm

/-- The sums along the rows of a rectangle of words that hold naturals. -/
theorem reduce_rows {n m : ℕ} (x : IVec (shape2 n m) 32) (h : (shape2 n m).ReducesTo [1] (shape1 n)) (hu : 0 < shape0.numel) (i : Fin n) (f : ℕ → ℕ)
    (hx : ∀ q : Fin m, x (ix2 i q) = BitVec.ofNat 32 (f q.val)) :
    Host.reduce IntOp.addi x (constantI shape0 32 0#32) h hu (ix1 i) = BitVec.ofNat 32 (∑ q ∈ Finset.range m, f q) := by
  classical
  rw [Host.reduce_eq_fold]
  have hdrop : ∀ z : (shape2 n m).Idx, h.drop z = ix1 i ↔ z 0 = i := by
    intro z
    have hv : (h.drop z 0 : ℕ) = z 0 := Shape.ReducesTo.drop_apply_val h z 0
    constructor
    · intro e; rw [e] at hv; exact Fin.ext hv.symm
    · intro e; funext b; have hb : b = 0 := Subsingleton.elim _ _; subst hb; exact Fin.ext (by rw [hv, e]; rfl)
  have hback : ∀ z : (shape2 n m).Idx, z 0 = i → ix2 i (z 1) = z := fun z h0 => by
    funext b; match b with
    | ⟨0, _⟩ => exact h0.symm
    | ⟨1, _⟩ => rfl
  refine (fold_addi_ofNat _ x (fun z => f (z 1).val) fun z hz => ?_).trans (congrArg (BitVec.ofNat 32) ?_)
  · have h0 := (hdrop z).mp (Finset.mem_filter.mp hz).2
    exact (congrArg x (hback z h0)).symm.trans (hx (z 1))
  · refine Finset.sum_bij' (fun z _ => (z 1).val) (fun q hq => ix2 i ⟨q, Finset.mem_range.mp hq⟩) ?_ ?_ ?_ ?_ ?_
    · exact fun z _ => Finset.mem_range.mpr (z 1).isLt
    · exact fun q hq => Finset.mem_filter.mpr ⟨Finset.mem_univ _, (hdrop _).mpr rfl⟩
    · exact fun z hz => hback z ((hdrop z).mp (Finset.mem_filter.mp hz).2)
    · exact fun q hq => rfl
    · exact fun z hz => rfl

end Cert.DownIdeal.Hand

end
-- ==== Proof.DnHostPlan.lean ====
module

public import proofs.«01_k».proof.Proof.DnHostZ
public import proofs.«01_k».proof.Proof.DnPlanNat
public import Idealize.ShloMosaic.Lib.Pipeline.Value
public import Idealize.ShloMosaic.Lib.WordCmp

/-! What the tables hold: the plan of the blocks and of the runs. -/

@[expose] public section

noncomputable section

namespace Cert.DownIdeal.Hand

open Cert.DownIdeal Cert.DownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (Pipeline.UD sig nD τ) ℕ

open Idealize.ShloMosaic.Routing Idealize.ShloMosaic.ValueIdx

/-- Expert `e`'s rows. -/
def sz (a : IVec S32 32) (e : ℕ) : ℕ := if h : e < 32 then (a (ix1 ⟨e, h⟩)).toNat else 0
/-- Its rows in whole blocks. -/
def cds (a : IVec S32 32) (e : ℕ) : ℕ := (sz a e + 255) / 256 * 256
/-- Where its blocks end. -/
def pe (a : IVec S32 32) (e : ℕ) : ℕ := ∑ k ∈ Finset.range (e + 1), cds a k
/-- The blocks in use. -/
def nuN (a : IVec S32 32) : ℕ := pe a 31 / 256
/-- The experts that end by block `b`. -/
def cnt (a : IVec S32 32) (b : ℕ) : ℕ := Nat.count (fun e => pe a e ≤ b * 256) 32
/-- Block `b`'s expert. -/
def beN (a : IVec S32 32) (b : ℕ) : ℕ := min (cnt a (min b (nuN a - 1))) 31

/-- The rows are those of a routing of 65536 pairs. -/
structure Routed (a : IVec S32 32) : Prop where
  le : ∀ e, sz a e ≤ 65536
  sum : ∑ e ∈ Finset.range 32, sz a e = 65536

namespace Routed

variable {a : IVec S32 32} (h : Routed a)
include h

theorem sz_word (e : Fin 32) : a (ix1 e) = BitVec.ofNat 32 (sz a e.val) := by
  unfold sz
  rw [dif_pos e.isLt]
  exact ((BitVec.ofNat_toNat 32 _).trans (BitVec.setWidth_eq _)).symm

theorem cds_le (e : ℕ) : cds a e ≤ sz a e + 255 := Nat.div_mul_le_self _ _
theorem le_cds (e : ℕ) : sz a e ≤ cds a e := by unfold cds; omega

theorem pe31_le : pe a 31 ≤ 73696 := by
  have h1 : pe a 31 ≤ ∑ k ∈ Finset.range 32, (sz a k + 255) := Finset.sum_le_sum fun k _ => h.cds_le k
  rw [Finset.sum_add_distrib, h.sum, Finset.sum_const, Finset.card_range] at h1
  exact h1

theorem le_pe31 : 65536 ≤ pe a 31 := h.sum.ge.trans (Finset.sum_le_sum fun k _ => h.le_cds k)

omit h in
theorem pe_mono : Monotone (pe a) := fun i j hij =>
  Finset.sum_le_sum_of_subset (Finset.range_mono (Nat.succ_le_succ hij))

theorem pe_le {e : ℕ} (he : e < 32) : pe a e ≤ 73696 := (pe_mono (show e ≤ 31 by omega)).trans h.pe31_le

omit h in
theorem nu_mul : nuN a * 256 = pe a 31 := by
  have h1 : 256 ∣ pe a 31 := Finset.dvd_sum fun k _ => Dvd.intro_left _ rfl
  exact Nat.div_mul_cancel h1

theorem nu_pos : 1 ≤ nuN a := by have := h.le_pe31; unfold nuN; omega
theorem nu_le : nuN a ≤ 287 := by have := h.pe31_le; unfold nuN; omega

omit h in
theorem cnt_mono : Monotone (cnt a) := fun i j hij => by
  unfold cnt
  exact Nat.count_mono_left fun e _ (he : pe a e ≤ i * 256) => le_trans he (Nat.mul_le_mul_right 256 hij)

omit h in
theorem beN_mono : Monotone (beN a) := fun i j hij =>
  min_le_min_right _ (cnt_mono (min_le_min_right _ hij))

omit h in
theorem beN_lt (b : ℕ) : beN a b < 32 := by unfold beN; omega

omit h in
theorem cnt_le (b : ℕ) : cnt a b ≤ 32 := Nat.count_le _

end Routed

theorem iota_word {n : ℕ} (p : Fin n) : iotaInDim (⟨1, ![n]⟩ : Shape) 32 0 (ix1 p) = BitVec.ofNat 32 p.val := rfl

variable (X : Valuation τ sig (Elt F)) {a : IVec S32 32} (ha : (X main_arg0 : IVec S32 32) = a) (h : Routed a)
include ha h

theorem w6 (e : Fin 32) : (Z X main_v6 : IVec S32 32) (ix1 e) = BitVec.ofNat 32 (cds a e.val) := by
  have h3 : (Z X main_v3 : IVec S32 32) (ix1 e) = BitVec.ofNat 32 (sz a e.val + 255) := by
    rw [z3, za, ha, subi_ap, addi_ap, bc0, bc0, h.sz_word e]
    show BitVec.ofNat 32 (sz a e.val) + BitVec.ofNat 32 256 - BitVec.ofNat 32 1 = _
    rw [← BitVec.ofNat_add, ofNat32_sub (by omega)]
    rfl
  have h4 : (Z X main_v4 : IVec S32 32) (ix1 e) = BitVec.ofNat 32 ((sz a e.val + 255) / 256) := by
    rw [z4, zc_1]
    exact pyDiv_ap bcast_S_S32 _ _ (ix1 e) h3 rfl (by have := h.le e.val; omega) (by decide) (by decide)
  rw [z6, muli_ap, h4, bc0]
  exact (BitVec.ofNat_mul _ _).symm

theorem w7 (e : Fin 32) : (Z X main_v7 : IVec S32 32) (ix1 e) = BitVec.ofNat 32 (pe a e.val) := by
  rw [z7]
  refine (cumsum1 rfl _ (cds a) (w6 X ha h) _ ?_ _ _ e).trans rfl
  rw [bc0]
  rfl

theorem w11 : (Z X main_v11 : IVec S_ 32) ValueIdx.ix0 = BitVec.ofNat 32 (nuN a) := by
  have h10 : (Z X main_v10 : IVec S_ 32) ValueIdx.ix0 = BitVec.ofNat 32 (pe a 31) := by
    rw [z10]
    refine (shapeCast_apply _ _ ValueIdx.ix0 (ix1 (0 : Fin 1)) rfl).trans ?_
    refine (slice1 31 _ _ 0 (by decide)).trans ?_
    exact w7 X ha h 31
  rw [z11]
  exact pyDiv0_ap _ _ h10 (by rw [zc_3]; rfl) (by have := h.pe31_le; omega) (by decide) (by decide)

omit ha in
theorem minsi_cnt (v7 : IVec S32 32) (v8 : IVec S288 32) (h7 : ∀ e : Fin 32, v7 (ix1 e) = BitVec.ofNat 32 (pe a e.val)) (h8 : v8 = iotaInDim S288 32 0) (b : Fin 288) :
    minsi (Host.reduce IntOp.addi (extui 32 (cmpi .sle
      (broadcastInDim S288x32 ![0, 1] bcast_S1x32_S288x32_0_1 (broadcastInDim S1x32 ![1] bcast_S32_S1x32_1 v7))
      (broadcastInDim S288x32 ![0, 1] bcast_S288x1_S288x32_0_1 (broadcastInDim S288x1 ![0] bcast_S288_S288x1_0
        (muli v8 (broadcastInDim S288 ![] bcast_S_S288 (constantI S_ 32 256#32))))))  natLt_1_32)
      (constantI S_ 32 0#32) reducesTo_S288x32_S288_d1 h_S_) (broadcastInDim S288 ![] bcast_S_S288 (constantI S_ 32 31#32)) (ix1 b)
      = BitVec.ofNat 32 (min (cnt a b.val) 31) := by
  have hc := Routed.cnt_le (a := a) b.val
  have hr := reduce_count (n := 288) (m := 32) (by decide) (cmpi .sle
      (broadcastInDim S288x32 ![0, 1] bcast_S1x32_S288x32_0_1 (broadcastInDim S1x32 ![1] bcast_S32_S1x32_1 v7))
      (broadcastInDim S288x32 ![0, 1] bcast_S288x1_S288x32_0_1 (broadcastInDim S288x1 ![0] bcast_S288_S288x1_0
        (muli v8 (broadcastInDim S288 ![] bcast_S_S288 (constantI S_ 32 256#32))))))
    natLt_1_32 reducesTo_S288x32_S288_d1 h_S_ b (fun e => pe a e ≤ b.val * 256) (fun q => by
      have e1 : broadcastInDim S288x32 ![0, 1] bcast_S1x32_S288x32_0_1 (broadcastInDim S1x32 ![1] bcast_S32_S1x32_1 v7) (ix2 b q)
          = BitVec.ofNat 32 (pe a q.val) := (bcCols _ _ _ b q).trans (h7 q)
      have e2 : broadcastInDim S288x32 ![0, 1] bcast_S288x1_S288x32_0_1 (broadcastInDim S288x1 ![0] bcast_S288_S288x1_0
          (muli v8 (broadcastInDim S288 ![] bcast_S_S288 (constantI S_ 32 256#32)))) (ix2 b q)
          = BitVec.ofNat 32 (b.val * 256) := by
        refine (bcRows _ _ _ b q).trans ?_
        rw [muli_ap, h8, bc0]
        exact (BitVec.ofNat_mul _ _).symm
      have hq := h.pe_le q.isLt
      have hb := b.isLt
      refine (iff_of_eq (congrArg (· = 1#1) (congrArg₂ (IntOp.cmpi .sle) e1 e2))).trans ?_
      rw [StableHlo.Predicate.sle_iff_toNat (by rw [BitVec.toNat_ofNat]; omega) (by rw [BitVec.toNat_ofNat]; omega),
        BitVec.toNat_ofNat, BitVec.toNat_ofNat, Nat.mod_eq_of_lt (by omega), Nat.mod_eq_of_lt (by omega)])
  refine (congrArg₂ IntOp.minsi hr (bc0 _ _ _)).trans ?_
  show IntOp.minsi (BitVec.ofNat 32 (cnt a b.val)) (BitVec.ofNat 32 31) = _
  unfold IntOp.minsi
  rw [slt_ofNat32 (by omega) (by decide)]
  by_cases h1 : cnt a b.val < 31
  · rw [min_eq_left h1.le]; simp [h1]
  · rw [min_eq_right (by omega)]; simp [h1]

theorem w22 (b : Fin 288) : (Z X main_v22 : IVec S288 32) (ix1 b) = BitVec.ofNat 32 (min (cnt a b.val) 31) := by
  rw [z22]
  exact minsi_cnt h _ _ (w7 X ha h) (z8 X) b

open Idealize.ShloMosaic.WordCmp

theorem w27 : (Z X main_v27 : IVec S_ 32) ValueIdx.ix0 = BitVec.ofNat 32 (min (cnt a (nuN a - 1)) 31) := by
  have h26 (b : Fin 288) : (Z X main_v26 : IVec S288 32) (ix1 b) = BitVec.ofNat 32 (if b.val = nuN a - 1 then min (cnt a (nuN a - 1)) 31 else 0) := by
    have h25 : (Z X main_v25 : IVec S288 1) (ix1 b) = BitVec.ofBool (decide (b.val = nuN a - 1)) := by
      have hp := h.nu_pos
      have hl := h.nu_le
      have hb := b.isLt
      rw [z25, cmpi_at, z8, iota_word, bc0, subi_ap, w11 X ha h]
      show IntOp.cmpi .eq _ (BitVec.ofNat 32 (nuN a) - BitVec.ofNat 32 1) = _
      rw [ofNat32_sub hp, cmpi_eq_ofNat (w := 32) (by omega) (by omega)]
    rw [z26, select_at, h25, w22 X ha h, bc0, zc_8, select_decide]
    by_cases e : b.val = nuN a - 1
    · rw [if_pos e, if_pos e, e]
    · rw [if_neg e, if_neg e]; rfl
  rw [z27]
  refine (reduce_sum (N := 288) _ (fun b => if b = nuN a - 1 then min (cnt a (nuN a - 1)) 31 else 0) h26 _ _).trans (congrArg (BitVec.ofNat 32) ?_)
  rw [sum_list, Finset.sum_ite_eq' , if_pos (Finset.mem_range.mpr (by have := h.nu_le; omega))]

theorem w30 (b : Fin 288) : (Z X main_v30 : IVec S288 32) (ix1 b) = BitVec.ofNat 32 (beN a b.val) := by
  have hl := h.nu_le
  have hb := b.isLt
  have h29 : (Z X main_v29 : IVec S288 1) (ix1 b) = BitVec.ofBool (decide (b.val < nuN a)) := by
    rw [z29, cmpi_at, z8, iota_word, bc0, w11 X ha h, cmpi_slt_ofNat (w := 32) (by omega) (by omega)]
  rw [z30, select_at, h29, w22 X ha h, bc0, w27 X ha h, select_decide]
  unfold beN
  by_cases e : b.val < nuN a
  · rw [if_pos e, min_eq_left (show b.val ≤ nuN a - 1 by omega)]
  · rw [if_neg e, min_eq_right (show nuN a - 1 ≤ b.val by omega)]

omit ha h in
theorem shift_at (v : IVec S288 32) (b : Fin 288) (h0 : 1 ≤ b.val) :
    concatenate S288 0 [⟨S1, subi (extractStridedSlice S1 ![0] v slices_S288_S1_0) (broadcastInDim S1 ![] bcast_S_S1 (constantI S_ 32 1#32))⟩,
      ⟨S287, extractStridedSlice S287 ![0] v slices_S288_S287_0⟩] concatenates_S1_S287_S288_d0 (ix1 b) = v (ix1 ⟨b.val - 1, by omega⟩) := by
  refine (concatenate_pair_apply_right (t := S288) (s₁ := S1) (s₂ := S287) 0 _ _ _ (ix1 b) rfl rfl (ix1 ⟨b.val - 1, by omega⟩) ?_ ?_).trans ?_
  · intro c hc; exact absurd (Subsingleton.elim _ _) hc
  · show b.val - 1 + 1 = b.val; omega
  · refine (slice1 0 v _ ⟨b.val - 1, by omega⟩ (by show 0 + (b.val - 1) < 288; omega)).trans (congrArg v (congrArg ix1 (Fin.ext (Nat.zero_add _))))

omit ha h in
theorem shift_zero (v : IVec S288 32) :
    concatenate S288 0 [⟨S1, subi (extractStridedSlice S1 ![0] v slices_S288_S1_0) (broadcastInDim S1 ![] bcast_S_S1 (constantI S_ 32 1#32))⟩,
      ⟨S287, extractStridedSlice S287 ![0] v slices_S288_S287_0⟩] concatenates_S1_S287_S288_d0 (ix1 (0 : Fin 288)) = v (ix1 (0 : Fin 288)) - 1#32 := by
  refine (concatenate_pair_apply_left (t := S288) (s₁ := S1) (s₂ := S287) 0 _ _ _ (ix1 0) rfl (ix1 (0 : Fin 1)) ?_).trans ?_
  · intro c; match c with | ⟨0, _⟩ => rfl
  · rw [subi_ap, bc0]
    exact congrArg (fun z : BitVec 32 => z - 1#32) (slice1 0 v _ 0 (by decide))

theorem w37 (b : Fin 288) : (Z X main_v37 : IVec S288 32) (ix1 b) = BitVec.ofNat 32 (if fstB (beN a) b.val then 1 else 0) := by
  rw [z37]
  refine (show _ = (IntOp.cmpi .ne _ _).setWidth 32 from rfl).trans ?_
  rcases Nat.eq_zero_or_pos b.val with h0 | h0
  · obtain rfl : b = 0 := Fin.ext h0
    rw [shift_zero]
    have key (w : BitVec 32) : (IntOp.cmpi .ne w (w - 1#32)).setWidth 32 = BitVec.ofNat 32 1 := by
      have e : w ≠ w - 1#32 := by bv_omega
      rw [cmpi_ne_eq, decide_eq_true e]
      rfl
    exact key _
  · have hb := b.isLt
    have hl1 := Routed.beN_lt (a := a) b.val
    have hl2 := Routed.beN_lt (a := a) (b.val - 1)
    rw [shift_at _ b h0, w30 X ha h b, w30 X ha h ⟨b.val - 1, by omega⟩, cmpi_ne_ofNat (w := 32) (by omega) (by show beN a (b.val - 1) < _; omega), setWidth_ofBool]
    congr 1
    unfold fstB
    refine if_congr ?_ rfl rfl
    have : (b.val == 0) = false := by simp; omega
    rw [this, Bool.false_or, bne_iff_ne]

theorem w38 (b : Fin 288) : (Z X main_v38 : IVec S288 32) (ix1 b) = BitVec.ofNat 32 (cumF (beN a) b.val) := by
  rw [z38]
  refine (cumsum1 rfl _ (fun b => if fstB (beN a) b then 1 else 0) (w37 X ha h) _ ?_ _ _ b).trans rfl
  rw [bc0]
  rfl

theorem w40 (b : Fin 288) : (Z X main_v40 : IVec S288 32) (ix1 b) = BitVec.ofNat 32 (rbN (beN a) b.val) := by
  rw [z40, subi_ap, w38 X ha h, bc0]
  exact ofNat32_sub (cumF_pos _ _)

theorem w43 : (Z X main_v43 : IVec S_ 32) ValueIdx.ix0 = BitVec.ofNat 32 (rbN (beN a) 287 + 1) := by
  rw [z43, ← z40, addi_ap]
  refine (congrArg (· + 1#32) ?_).trans (BitVec.ofNat_add _ _).symm
  refine (shapeCast_apply _ _ ValueIdx.ix0 (ix1 (0 : Fin 1)) rfl).trans ?_
  exact (slice1 287 _ _ 0 (by decide)).trans (w40 X ha h 287)

omit ha h in
theorem rb_lt (b : ℕ) : rbN (beN a) b < 32 := by
  have h1 := rbN_le (beN a) Routed.beN_mono b
  have h2 := Routed.beN_lt (a := a) b
  omega

omit ha h in
theorem and_decide (p q : Prop) [Decidable p] [Decidable q] : BitVec.ofBool (decide p) &&& BitVec.ofBool (decide q) = BitVec.ofBool (decide (p ∧ q)) := by
  by_cases hp : p <;> by_cases hq : q <;> simp [hp, hq]

omit ha h in
theorem first_ap (v w : IVec S288 32) (u : IVec S32 32) (i : Fin 32) (q : Fin 288) (f : Bool) (r : ℕ)
    (hv : v (ix1 q) = BitVec.ofNat 32 (if f then 1 else 0)) (hw : w (ix1 q) = BitVec.ofNat 32 r) (hr : r < 2 ^ 32) (hu : u (ix1 i) = BitVec.ofNat 32 i.val) :
    andi (broadcastInDim S32x288 ![0, 1] bcast_S1x288_S32x288_0_1 (cmpi .eq (broadcastInDim S1x288 ![1] bcast_S288_S1x288_1 v)
        (broadcastInDim S1x288 ![] bcast_S_S1x288 (constantI S_ 32 1#32))))
      (cmpi .eq (broadcastInDim S32x288 ![0, 1] bcast_S1x288_S32x288_0_1 (broadcastInDim S1x288 ![1] bcast_S288_S1x288_1 w))
        (broadcastInDim S32x288 ![0, 1] bcast_S32x1_S32x288_0_1 (broadcastInDim S32x1 ![0] bcast_S32_S32x1_0 u))) (ix2 i q)
      = BitVec.ofBool (decide (f = true ∧ r = i.val)) := by
  have hi := i.isLt
  have e1 : broadcastInDim S32x288 ![0, 1] bcast_S1x288_S32x288_0_1 (broadcastInDim S1x288 ![1] bcast_S288_S1x288_1 v) (ix2 i q) = v (ix1 q) := bcCols _ _ v i q
  have e2 : broadcastInDim S32x288 ![0, 1] bcast_S1x288_S32x288_0_1 (broadcastInDim S1x288 ![1] bcast_S288_S1x288_1 w) (ix2 i q) = w (ix1 q) := bcCols _ _ w i q
  have e3 : broadcastInDim S32x288 ![0, 1] bcast_S32x1_S32x288_0_1 (broadcastInDim S32x1 ![0] bcast_S32_S32x1_0 u) (ix2 i q) = u (ix1 i) := bcRows _ _ u i q
  refine (show _ = IntOp.cmpi .eq (broadcastInDim S32x288 ![0, 1] bcast_S1x288_S32x288_0_1 (broadcastInDim S1x288 ![1] bcast_S288_S1x288_1 v) (ix2 i q)) 1#32 &&&
    IntOp.cmpi .eq (broadcastInDim S32x288 ![0, 1] bcast_S1x288_S32x288_0_1 (broadcastInDim S1x288 ![1] bcast_S288_S1x288_1 w) (ix2 i q))
      (broadcastInDim S32x288 ![0, 1] bcast_S32x1_S32x288_0_1 (broadcastInDim S32x1 ![0] bcast_S32_S32x1_0 u) (ix2 i q)) from rfl).trans ?_
  rw [e1, e2, e3, hv, hw, hu, show (1#32 : BitVec 32) = BitVec.ofNat 32 1 from rfl, cmpi_eq_ofNat (w := 32) (by split <;> decide) (by decide), cmpi_eq_ofNat (w := 32) hr (by omega), and_decide]
  cases f <;> simp

omit ha h in
theorem iota32 (i : Fin 32) : (iotaInDim S32 32 0 : IVec S32 32) (ix1 i) = BitVec.ofNat 32 i.val := rfl

omit ha h in
theorem iota64 (i : Fin 64) : (iotaInDim S64 32 0 : IVec S64 32) (ix1 i) = BitVec.ofNat 32 i.val := rfl

theorem w56 (i : Fin 32) (q : Fin 288) : (Z X main_v56 : IVec S32x288 32) (ix2 i q)
    = BitVec.ofNat 32 (if fstB (beN a) q.val = true ∧ rbN (beN a) q.val = i.val then beN a q.val else 0) := by
  have hq := rb_lt (a := a) q.val
  have e : broadcastInDim S32x288 ![0, 1] bcast_S1x288_S32x288_0_1 (broadcastInDim S1x288 ![1] bcast_S288_S1x288_1 (Z X main_v30 : IVec S288 32)) (ix2 i q)
      = (Z X main_v30 : IVec S288 32) (ix1 q) := bcCols _ _ _ i q
  rw [z56, select_at, z54, ← z40, first_ap _ _ _ i q _ _ (w37 X ha h q) (w40 X ha h q) (by omega) (iota32 i), z55, e, w30 X ha h, bc0, zc_14, select_decide]
  split <;> rfl

theorem w57 (i : Fin 32) : (Z X main_v57 : IVec S32 32) (ix1 i) = BitVec.ofNat 32 (reN (beN a) 288 i.val) := by
  rw [z57]
  exact reduce_rows _ _ _ i (fun q => if fstB (beN a) q = true ∧ rbN (beN a) q = i.val then beN a q else 0) (w56 X ha h i)

theorem w59 (g : Fin 64) : (Z X main_v59 : IVec S64 32) (ix1 g) = BitVec.ofNat 32 (g.val % (rbN (beN a) 287 + 1)) := by
  have hq := rb_lt (a := a) 287
  rw [z59, z58]
  exact pyRem_ap _ _ _ (ix1 g) (iota64 g) (w43 X ha h) (by omega) (by omega) (by omega)

theorem w68 (g : Fin 64) : (Z X main_v68 : IVec S64 32) (ix1 g) = BitVec.ofNat 32 (g.val / (rbN (beN a) 287 + 1)) := by
  have hq := rb_lt (a := a) 287
  rw [z68, z58]
  exact pyDiv_ap _ _ _ (ix1 g) (iota64 g) (w43 X ha h) (by omega) (by omega) (by omega)

omit ha h in
theorem minsi_one (v : IVec S64 32) (g : Fin 64) (n : ℕ) (hv : v (ix1 g) = BitVec.ofNat 32 n) (hn : n < 2) :
    minsi v (broadcastInDim S64 ![] bcast_S_S64 (constantI S_ 32 1#32)) (ix1 g) = BitVec.ofNat 32 n := by
  refine (show _ = IntOp.minsi (v (ix1 g)) 1#32 from rfl).trans ?_
  rw [hv]
  interval_cases n <;> rfl

theorem w70 (g : Fin 64) (hg : g.val < 2 * (rbN (beN a) 287 + 1)) :
    (Z X main_v70 : IVec S64 32) (ix1 g) = BitVec.ofNat 32 (g.val / (rbN (beN a) 287 + 1)) := by
  rw [z70]
  exact minsi_one _ g _ (w68 X ha h g) (Nat.div_lt_of_lt_mul (by rw [Nat.mul_comm]; exact hg))

theorem w66 (g : Fin 64) (q : Fin 32) : (Z X main_v66 : IVec S64x32 32) (ix2 g q)
    = BitVec.ofNat 32 (if q.val = g.val % (rbN (beN a) 287 + 1) then reN (beN a) 288 q.val else 0) := by
  have hq := rb_lt (a := a) 287
  have hm := Nat.mod_lt g.val (show 0 < rbN (beN a) 287 + 1 by omega)
  have e1 : broadcastInDim S64x32 ![0, 1] bcast_S1x32_S64x32_0_1 (broadcastInDim S1x32 ![1] bcast_S32_S1x32_1 (Z X main_v57 : IVec S32 32)) (ix2 g q)
      = (Z X main_v57 : IVec S32 32) (ix1 q) := bcCols _ _ _ g q
  have e2 : broadcastInDim S64x32 ![0, 1] bcast_S1x32_S64x32_0_1 (broadcastInDim S1x32 ![1] bcast_S32_S1x32_1 (Z X main_v44 : IVec S32 32)) (ix2 g q)
      = (Z X main_v44 : IVec S32 32) (ix1 q) := bcCols _ _ _ g q
  have e3 : broadcastInDim S64x32 ![0, 1] bcast_S64x1_S64x32_0_1 (broadcastInDim S64x1 ![0] bcast_S64_S64x1_0 (Z X main_v59 : IVec S64 32)) (ix2 g q)
      = (Z X main_v59 : IVec S64 32) (ix1 g) := bcRows _ _ _ g q
  rw [z66, select_at, z64, cmpi_at, e3, e2, z44, iota32, w59 X ha h, cmpi_eq_ofNat (w := 32) (by omega) (by omega), z65, e1, w57 X ha h, bc0, zc_16, select_decide]
  by_cases hh : q.val = g.val % (rbN (beN a) 287 + 1)
  · rw [if_pos hh, if_pos hh.symm]
  · rw [if_neg hh, if_neg (Ne.symm hh)]; rfl

theorem w67 (g : Fin 64) : (Z X main_v67 : IVec S64 32) (ix1 g) = BitVec.ofNat 32 (reN (beN a) 288 (g.val % (rbN (beN a) 287 + 1))) := by
  have hq := rb_lt (a := a) 287
  have hm := Nat.mod_lt g.val (show 0 < rbN (beN a) 287 + 1 by omega)
  rw [z67]
  refine (reduce_rows _ _ _ g (fun q => if q = g.val % (rbN (beN a) 287 + 1) then reN (beN a) 288 q else 0) (w66 X ha h g)).trans (congrArg (BitVec.ofNat 32) ?_)
  rw [Finset.sum_ite_eq', if_pos (Finset.mem_range.mpr (by omega))]

theorem w71 : (Z X main_v71 : IVec S1 32) (ix1 0) = BitVec.ofNat 32 (nuN a) := by
  rw [z71]
  exact (shapeCast_apply _ _ (ix1 (0 : Fin 1)) ValueIdx.ix0 rfl).trans (w11 X ha h)

theorem w72 : (Z X main_v72 : IVec S1 32) (ix1 0) = BitVec.ofNat 32 (rbN (beN a) 287 + 1) := by
  rw [z72]
  exact (shapeCast_apply _ _ (ix1 (0 : Fin 1)) ValueIdx.ix0 rfl).trans (w43 X ha h)

end Cert.DownIdeal.Hand

end
-- ==== Proof.DnTables.lean ====
module

public import proofs.«01_k».proof.Proof.DnFrame
public import proofs.«01_k».proof.Proof.DnHostPlan

/-! The tables of a state of the buffers, and the plan the sizes make of them. -/

@[expose] public section

noncomputable section

namespace Cert.DownIdeal.Hand

open Cert.DownIdeal Cert.DownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (Pipeline.UD sig nD τ) ℕ

theorem re_lt {a : IVec S32 32} (r : ℕ) (hr : r ≤ rbN (beN a) 287) : reN (beN a) 288 r < 32 := by
  obtain ⟨k, hk, e⟩ := exists_run (beN a) 287 r hr
  rw [← e, reN_rb (n := 288) (beN a) (by omega)]
  exact Routed.beN_lt k

section

variable (X : Valuation τ sig (Elt F)) {a : IVec S32 32} (ha : (X main_arg0 : IVec S32 32) = a) (h : Routed a)

/-- The plan the sizes make. -/
def schedOf : Plan (Z X main_v30 : IVec S288 32) (Z X main_v37 : IVec S288 32) (Z X main_v40 : IVec S288 32) (Z X main_v71 : IVec S1 32)
    (Z X main_v72 : IVec S1 32) (Z X main_v67 : IVec S64 32) (Z X main_v70 : IVec S64 32) where
  nu := ⟨nuN a, by have := h.nu_le; omega⟩
  nr := ⟨rbN (beN a) 287 + 1, by have := rb_lt (a := a) 287; omega⟩
  be b := ⟨beN a b.val, Routed.beN_lt _⟩
  fb b := fstB (beN a) b.val
  rb b := rbN (beN a) b.val
  re r := ⟨reN (beN a) 288 r % 32, Nat.mod_lt _ (by decide)⟩
  nu_pos := h.nu_pos
  hE := w30 X ha h
  hU := w71 X ha h
  hF b := (w37 X ha h b).trans (by split <;> rfl)
  hR := w40 X ha h
  hN := w72 X ha h
  f0 := fstB_zero _
  r0 := rbN_zero _
  rs b _ := rbN_succ _ b
  rl := rfl
  hre b := Fin.ext ((congrArg (· % 32) (reN_rb (n := 288) (beN a) b.isLt)).trans (Nat.mod_eq_of_lt (Routed.beN_lt _)))
  hG g _ := (w67 X ha h g).trans (congrArg (BitVec.ofNat 32)
    (Nat.mod_eq_of_lt (re_lt (a := a) _ (Nat.le_of_lt_succ (Nat.mod_lt _ (Nat.succ_pos _))))).symm)
  hJ g hg := w70 X ha h g hg

end

attribute [local irreducible] StableHlo.after

variable (m : (ℓ : Loc nD τ sig) → Buf (Elt F) ℓ)

/-- The tables a state of the buffers holds. -/
abbrev tabs : Tabs where
  E := V m 0 main_v30
  U := V m 0 main_v71
  F := V m 0 main_v37
  R := V m 0 main_v40
  N := V m 0 main_v72
  G := V m 0 main_v67
  J := V m 0 main_v70

theorem isTab (c : Dev nD) : IsTab m (tabs m) c := by
  obtain rfl : c = 0 := Subsingleton.elim _ _
  exact ⟨rfl, rfl, rfl, rfl, rfl, rfl, rfl⟩

/-- The sizes of the experts' rows. -/
abbrev sizes : IVec S32 32 := m (((0 : Dev nD) : Thread nD τ).loc main_arg0)

/-- The plan of that state. -/
def sched (h : Routed (sizes m)) : (tabs m).Sched := schedOf (fun b => m (0, b)) rfl h

theorem run_frame (ρ : Dev nD → PrngReg) (h : Routed (sizes m)) :
    θ_run (defs (F := F)) (onTc (τ := τ) (main (F := F))) ⟨m, fun _ => 0, ρ⟩ (fun r => (∀ c : Dev nD,
      (r.2.mem ((c : Thread nD τ).loc main_arg0) = m ((c : Thread nD τ).loc main_arg0) ∧
      r.2.mem ((c : Thread nD τ).loc main_arg1) = m ((c : Thread nD τ).loc main_arg1) ∧
      r.2.mem ((c : Thread nD τ).loc main_arg2) = m ((c : Thread nD τ).loc main_arg2) ∧
      r.2.mem ((c : Thread nD τ).loc main_arg3) = m ((c : Thread nD τ).loc main_arg3)) ∧
      r.2.mem ((c : Thread nD τ).loc main_v74) = (datT (sched m h) (V m) 0 c).arrAt 2 (cfgT (F := F) (sched m h)).N) ∧ r.2.sem = fun _ => 0) := by
  refine (θ_run (defs (F := F)) _ _).mono ?_ (run_of m ρ (sched m h) (isTab m))
  intro r hr
  exact ⟨fun c => post_of m (sched m h) r hr.1 c, hr.2⟩

end Cert.DownIdeal.Hand

end
-- ==== Proof.DnPreRouted.lean ====
module

public import proofs.«01_k».proof.Proof.DnHostPlan
public import proofs.«01_k».proof.Proof.Gen.Pre_routed_down
public import Idealize.ShloMosaic.Lib.ReduceAll

/-! The sizes the precondition allows. -/

@[expose] public section

noncomputable section

namespace Cert.DownIdeal.Hand

open Cert.DownIdeal Cert.DownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (Pipeline.UD sig nD τ) ℕ

open Idealize.ShloMosaic.Routing Idealize.ShloMosaic.ValueIdx Idealize.ShloMosaic.WordCmp

theorem word_le (w : BitVec 32) (h6 : (0#32).toInt ≤ w.toInt) (h7 : w.toInt ≤ (65536#32).toInt) : w.toNat ≤ 65536 := by
  have e0 : (0#32 : BitVec 32).toInt = 0 := by decide
  have e1 : (65536#32 : BitVec 32).toInt = 65536 := by decide
  rw [e0] at h6
  rw [e1] at h7
  have e2 := BitVec.toInt_eq_toNat_cond w
  have := w.isLt
  split at e2 <;> omega

theorem routed_of {F : FTy → Type} [FloatOps F] (a : IVec S32 32) (x : FVec F S73728x2048 .bf16) (b1 : FVec F S32x2048x2048 .f32) (b2 : FVec F S32x2048 .f32)
    (e : Cert.Pre_routed_down.fn (F := F) a x b1 b2 = fun _ => 1#1) : Routed a := by
  have h0 := congrFun e ValueIdx.ix0
  unfold Cert.Pre_routed_down.fn at h0
  obtain ⟨h1, h2⟩ := IntOp.andi_eq_one.1 h0
  have hall (i : Fin 32) : (a (ix1 i)).toNat ≤ 65536 := by
    haveI : Subsingleton Cert.Pre_routed_down.S_.Idx := ⟨fun i j => funext fun k => k.elim0⟩
    have h3 := Host.reduce_andi_all _ _ _ _ _ h1 (ix1 i)
    obtain ⟨h4, h5⟩ := IntOp.andi_eq_one.1 h3
    exact word_le _ (IntOp.cmpi_sge.1 h4) (IntOp.cmpi_sle.1 h5)
  have hle (i : ℕ) : sz a i ≤ 65536 := by
    unfold sz
    split
    · exact hall _
    · omega
  refine ⟨hle, ?_⟩
  have h3 := IntOp.cmpi_eq.1 h2
  have hsz (e : Fin 32) : a (ix1 e) = BitVec.ofNat 32 (sz a e.val) := by
    unfold sz
    rw [dif_pos e.isLt]
    exact ((BitVec.ofNat_toNat 32 _).trans (BitVec.setWidth_eq _)).symm
  have h4 := (reduce_sum (N := 32) a (fun i => sz a i) hsz Cert.Pre_routed_down.Facts.reducesTo_S32_S_d0 Cert.Pre_routed_down.Facts.h_S_).symm.trans h3
  rw [sum_list] at h4
  have h5 : ∑ k ∈ Finset.range 32, sz a k ≤ ∑ k ∈ Finset.range 32, 65536 := Finset.sum_le_sum fun i _ => hle i
  rw [Finset.sum_const, Finset.card_range, smul_eq_mul] at h5
  have h6 := congrArg BitVec.toNat h4
  rw [BitVec.toNat_ofNat, Nat.mod_eq_of_lt (by omega)] at h6
  exact h6

end Cert.DownIdeal.Hand

end
-- ==== Proof.DnSame.lean ====
module

public import proofs.«01_k».proof.Defs
public import proofs.«01_k».proof.Proof.Gen.Down
public import proofs.«01_k».proof.Proof.Gen.Down.Skeleton
public import proofs.«01_k».proof.Proof.Gen.Down.Launch
public import proofs.«01_k».proof.Proof.Gen.Down.Flash
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Flash
public import proofs.«01_k».proof.Proof.Gen.DownReferenceIdeal
public import proofs.«01_k».proof.Proof.Gen.DownReferenceIdeal.Run
public import proofs.«01_k».proof.Proof.Gen.Pre_routed_down
public import Idealize.ShloMosaic.Adequacy
public import Idealize.ShloMosaic.Init

/-! The two programs of the kernel have the same text. -/

@[expose] public section

noncomputable section

namespace Cert.DownProof

open Idealize.ShloMosaic Idealize.SL.Sem

set_option maxHeartbeats 1000000

theorem defs₀_eq : Cert.Down.defs₀ (F := Bits) = Cert.DownIdeal.defs₀ (F := Bits) := by
  unfold Cert.Down.defs₀ Cert.DownIdeal.defs₀
  apply congrArg
  funext l x
  match l, x with
  | 0, (t, s) => exact rfl

theorem pcfgs_eq : Cert.Down.pcfgs (F := Bits) = Cert.DownIdeal.pcfgs (F := Bits) := by rfl

theorem defs_eq : Cert.Down.defs (F := Bits) = Cert.DownIdeal.defs (F := Bits) := by
  unfold Cert.Down.defs Cert.DownIdeal.defs
  exact congrArg (Pipeline.defs (Cert.DownIdeal.pcfgs (F := Bits))) defs₀_eq

theorem main_part0_eq : Cert.Down.main_part0 (F := Bits) = Cert.DownIdeal.main_part0 (F := Bits) := by rfl

theorem main_part1_eq : Cert.Down.main_part1 (F := Bits) = Cert.DownIdeal.main_part1 (F := Bits) := by rfl

theorem main_eq : Cert.Down.main (F := Bits) = Cert.DownIdeal.main (F := Bits) := by
  funext d
  unfold Cert.Down.main Cert.DownIdeal.main
  rw [main_part0_eq, main_part1_eq]
  rfl

end Cert.DownProof
end
-- ==== Proof.DnFrames.lean ====
module

public import proofs.«01_k».proof.Defs
public import proofs.«01_k».proof.Proof.Gen.Down
public import proofs.«01_k».proof.Proof.Gen.Down.Skeleton
public import proofs.«01_k».proof.Proof.Gen.Down.Launch
public import proofs.«01_k».proof.Proof.Gen.Down.Flash
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Flash
public import proofs.«01_k».proof.Proof.Gen.DownReferenceIdeal
public import proofs.«01_k».proof.Proof.Gen.DownReferenceIdeal.Run
public import proofs.«01_k».proof.Proof.Gen.Pre_routed_down
public import Idealize.ShloMosaic.Adequacy
public import Idealize.ShloMosaic.Init
public import proofs.«01_k».proof.Proof.DnTables
public import proofs.«01_k».proof.Proof.DnPreRouted
public import proofs.«01_k».proof.Proof.DnSame

/-! The frames of the three programs. -/

@[expose] public section

noncomputable section

namespace Cert.DownProof

open Idealize.ShloMosaic Idealize.SL.Sem

open Cert.DownIdeal.Hand in
/-- The kernel at the ideal instance: it ends, its arguments as they were and every counter at zero. -/
theorem frame_pi : Cert.quiescent_DownIdeal := by
  intro m ρ hp
  exact (θ_run (Cert.DownIdeal.defs (F := Ideal)) _ _).mono (fun r h => ⟨fun c => (h.1 c).1, h.2⟩)
    (run_frame (F := Ideal) m ρ (routed_of (F := Ideal) _ _ _ _ (hp 0)))

open Cert.DownIdeal.Hand in
/-- The same run at the bits. -/
theorem frame_p : Cert.quiescent_Down := by
  intro m ρ hp
  rw [defs_eq, main_eq]
  exact (θ_run (Cert.DownIdeal.defs (F := Bits)) (onTc (τ := Cert.DownIdeal.τ) (Cert.DownIdeal.main (F := Bits))) ⟨m, fun _ => 0, ρ⟩).mono
    (fun r h => ⟨fun c => (h.1 c).1, h.2⟩)
    (run_frame (F := Bits) m ρ (routed_of (F := Bits) _ _ _ _ (hp 0)))

/-- The reference: a list of host operations. -/
theorem frame_ri : Cert.quiescent_DownReferenceIdeal := by
  intro m ρ _
  exact (θ_run (Cert.DownReferenceIdeal.defs (F := Ideal)) _ _).mono (fun r h => ⟨fun c => (h c).2, sem_eq_zero_of_no_sems (by decide) r.2⟩)
    (Cert.DownReferenceIdeal.Value.run (F := Ideal) m ρ)

theorem preserves : Cert.preserves_Down_DownIdeal := trivial

end Cert.DownProof

end
-- ==== Proof.DnRefShape.lean ====
module

public import proofs.«01_k».proof.Proof.Gen.DownReferenceIdeal.Run

/-! The reference's composed term, cut in its parts. -/

@[expose] public section

noncomputable section

namespace Cert.DownReferenceIdeal.Hand

open Cert.DownReferenceIdeal Cert.DownReferenceIdeal.Gen
open Idealize.ShloMosaic
open Idealize.ShloMosaic.TcCoe Idealize.SL.Sem

variable {F : FTy → Type} [FloatOps F]

/-- The blocks' ends: the experts' rows padded to whole blocks, summed. -/
def refPend (a : IVec S32 32) : IVec S32 32 :=
  Host.reduceWindow IntOp.addi ![32] ![1] ![31] ![0] (muli (select (andi (cmpi .ne (signi (addi a (broadcastInDim S32 ![] bcast_S_S32 (constantI S_ 32 255#32)))) (broadcastInDim S32 ![] bcast_S_S32 (signi (id (constantI S_ 32 256#32))))) (cmpi .ne (Host.remsi (addi a (broadcastInDim S32 ![] bcast_S_S32 (constantI S_ 32 255#32))) (broadcastInDim S32 ![] bcast_S_S32 (id (constantI S_ 32 256#32)))) (broadcastInDim S32 ![] bcast_S_S32 (constantI S_ 32 0#32)))) (subi (Host.divsi (addi a (broadcastInDim S32 ![] bcast_S_S32 (constantI S_ 32 255#32))) (broadcastInDim S32 ![] bcast_S_S32 (id (constantI S_ 32 256#32)))) (broadcastInDim S32 ![] bcast_S_S32 (constantI S_ 32 1#32))) (Host.divsi (addi a (broadcastInDim S32 ![] bcast_S_S32 (constantI S_ 32 255#32))) (broadcastInDim S32 ![] bcast_S_S32 (id (constantI S_ 32 256#32))))) (broadcastInDim S32 ![] bcast_S_S32 (constantI S_ 32 256#32))) (broadcastInDim S_ ![] bcast_S_S_ (constantI S_ 32 0#32)) reduceWindows_S32_S32_w32s1p31_0 h_S_

/-- The blocks' first rows. -/
def refStart : IVec S288 32 := muli (iotaInDim S288 32 0) (broadcastInDim S288 ![] bcast_S_S288 (constantI S_ 32 256#32))

/-- The blocks' experts, from the blocks' ends. -/
def refE (P : IVec S32 32) : IVec S288 32 :=
  minsi (Host.reduce IntOp.addi (extui 32 (cmpi .sle (broadcastInDim S288x32 ![0, 1] bcast_S1x32_S288x32_0_1 (broadcastInDim S1x32 ![1] bcast_S32_S1x32_1 P)) (broadcastInDim S288x32 ![0, 1] bcast_S288x1_S288x32_0_1 (broadcastInDim S288x1 ![0] bcast_S288_S288x1_0 refStart))) natLt_1_32) (constantI S_ 32 0#32) reducesTo_S288x32_S288_d1 h_S_) (broadcastInDim S288 ![] bcast_S_S288 (constantI S_ 32 31#32))

/-- The column of row numbers a lookup of the experts is made at. -/
def refIdx (E : IVec S288 32) : IVec S288x1 32 :=
  broadcastInDim S288x1 ![0] bcast_S288_S288x1_0 (select (cmpi .slt E (broadcastInDim S288 ![] bcast_S_S288 (constantI S_ 32 0#32))) (addi E (broadcastInDim S288 ![] bcast_S_S288 (constantI S_ 32 32#32))) E)

/-- The rows, in blocks. -/
def refX (X : FVec F S73728x2048 .bf16) : FVec F S288x256x2048 .f32 :=
  shapeCast _ (extf .f32 X bitsLt_bf16_f32) shapeCasts_S73728x2048_S288x256x2048

/-- A product of the rows with their experts' weights, and the bias. -/
def refProj (x : FVec F S288x256x2048 .f32) (I : IVec S288x1 32) (W : FVec F S32x2048x2048 .f32) (b : FVec F S32x2048 .f32) : FVec F S288x256x2048 .f32 :=
  addf (Host.dotGeneral dot_S288x256x2048_S288x2048x2048_S288x256x2048_2_1_1_2_0_0 none x (Host.gather gather_S32x2048x2048_S288x1_S288x2048x2048_12_0_n_n_0_1_120482048 W I)) (broadcastInDim S288x256x2048 ![0, 1, 2] bcast_S288x1x2048_S288x256x2048_0_1_2 (broadcastInDim S288x1x2048 ![0, 2] bcast_S288x2048_S288x1x2048_0_2 (Host.gather gather_S32x2048_S288x1_S288x2048_1_0_n_n_0_1_12048 b I)))

/-- The result, from the blocks' ends and the products. -/
def refOut (P : IVec S32 32) (u : FVec F S288x256x2048 .f32) : FVec F S73728x2048 .f32 :=
  shapeCast _ (select (broadcastInDim S288x256x2048 ![0, 1, 2] bcast_S288x1x1_S288x256x2048_0_1_2 (broadcastInDim S288x1x1 ![0] bcast_S288_S288x1x1_0 (cmpi .slt refStart (broadcastInDim S288 ![] bcast_S_S288 (shapeCast _ (extractStridedSlice S1 ![31] P slices_S32_S1_31) shapeCasts_S1_S_))))) u (broadcastInDim S288x256x2048 ![] bcast_S_S288x256x2048 (id (constant S_ .f32 0x00000000#32)))) shapeCasts_S288x256x2048_S73728x2048

/-- The reference, in those parts. -/
def refA (a : IVec S32 32) (X : FVec F S73728x2048 .bf16) (W : FVec F S32x2048x2048 .f32) (b : FVec F S32x2048 .f32) : FVec F S73728x2048 .f32 :=
  refOut (refPend a) (refProj (refX X) (refIdx (refE (refPend a))) W b)

theorem res_eq (m : (ℓ : Loc nD τ sig) → Buf (Elt F) ℓ) (c : Dev nD) :
    Cert.DownReferenceIdeal.Value.res_main_v44 m c = refA (m ((c.tc : Thread nD τ).loc main_arg0)) (m ((c.tc : Thread nD τ).loc main_arg1)) (m ((c.tc : Thread nD τ).loc main_arg2))
      (m ((c.tc : Thread nD τ).loc main_arg3)) := by
  unfold Cert.DownReferenceIdeal.Value.res_main_v44 refA
  rfl

end Cert.DownReferenceIdeal.Hand

end
-- ==== Proof.DnBlocks.lean ====
module

public import proofs.«01_k».proof.Proof.DnDats
public import proofs.«01_k».proof.Proof.DnSound
public import proofs.«01_k».proof.Proof.DnRuns
public import Idealize.ShloMosaic.Lib.Writes
public import Idealize.ShloMosaic.Lib.Pointwise
public import Idealize.ShloMosaic.Lib.Pipeline.Covers
public import Idealize.ShloMosaic.Lib.Pipeline.ValueKit.Geometry

/-! The array the pipeline leaves, entry by entry, from the arrays its windows and its weight stream read. -/

@[expose] public section

noncomputable section

namespace Cert.DownIdeal.Hand

open Cert.DownIdeal Cert.DownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (Pipeline.UD sig nD τ) ℕ

set_option maxRecDepth 16384 in
theorem drop_at {α : Type} (v : S1x2048x2048.Idx → α) (h : S1x2048x2048.ShapeCasts S2048x2048) (k q : Fin 2048) :
    shapeCast S2048x2048 v h (ix2 k q) = v (ix3 0 k q) := by
  pointwise

theorem tileV_at (W : S32x2048x2048.Idx → Elt F .f32) (e : Fin 32) (k q : Fin 2048) : tileV W e (ix2 k q) = W (ix3 e k q) := by
  unfold tileV
  have h1 : (⟨3, S1x2048x2048.size⟩ : Shape).ShapeCasts S2048x2048 := shapeCasts_S1x2048x2048_S2048x2048
  refine (congrFun (Memref.read_squeeze_slice (Val := Elt F) hbD (Rect.unit (s := S32x2048x2048) ![e.val, 0, 0] S1x2048x2048.size (tile_inb e)) (fun _ => rfl)
    squeezes_S1x2048x2048_S2048x2048 h1 W) (ix2 k q)).trans ?_
  refine (drop_at _ h1 k q).trans (congrArg W (Rect.emb_eq_of_coords _ _ _ fun a => ?_))
  fin_cases a <;> simp [ix3]

/-- A row times a column. -/
def dotF (X W : Fin 2048 → EReal) : EReal := ∑ d : Fin 2048, X d * W d

theorem outOn_at (X : Vec Ideal S256x2048 .bf16) (Y : Vec Ideal S1x1x2048 .f32) (B : Vec Ideal S2048x2048 .bf16) (p : Fin 256) (q : Fin 2048) :
    (k0_pay2 (F := Ideal) X B Y (ix2 p q) : EReal) = dotF (fun k => X (ix2 p k)) (fun d => B (ix2 d q)) + Y (ix3 0 0 q) := by
  pointwise [k0_pay2]
  rfl

theorem castB_at (P : S2048x2048.Idx → Elt Ideal .f32) (k q : Fin 2048) : (castB (F := Ideal) P (ix2 k q) : EReal) = P (ix2 k q) := by
  pointwise [castB]

variable {T : Tabs} (L : T.Sched) (V : (c : Dev nD) → (b : Ref sig .tc) → Buf (Elt F) ((c : Thread nD τ).loc b))

theorem iblk0_at (c : Dev nD) (t : Fin (cfgT (F := F) L).N) (p : Fin 256) (k : Fin 2048) (r : Fin 73728)
    (hr : r.val = min (t.val % 288) (L.nu.val - 1) * 256 + p.val) :
    (iblk L V c 0 t : S256x2048.Idx → Elt F .bf16) (ix2 p k) = (V c main_arg1 : S73728x2048.Idx → Elt F .bf16) (ix2 r k) := by
  unfold iblk
  refine congrArg (V c main_arg1 : S73728x2048.Idx → Elt F .bf16) ?_
  funext a
  apply Fin.ext
  refine (((cfgT (F := F) L).win 0).rect_emb_val t (ix2 p k : S256x2048.Idx) a rfl).trans ?_
  have h := tr0 (F := F) L (crd L t)
  rw [crd0] at h
  match a with
  | ⟨0, _⟩ => exact (congrArg (· * 256 + p.val) (congrFun h 0)).trans hr.symm
  | ⟨1, _⟩ => exact (congrArg (· * 2048 + k.val) (congrFun h 1)).trans (by simp)

theorem iblk1_at (c : Dev nD) (t : Fin (cfgT (F := F) L).N) (q : Fin 2048) :
    (iblk L V c 1 t : S1x1x2048.Idx → Elt F .f32) (ix3 0 0 q) = (V c main_v73 : S32x1x2048.Idx → Elt F .f32) (ix3 (L.be (Plan.bk t.val)) 0 q) := by
  unfold iblk
  refine congrArg (V c main_v73 : S32x1x2048.Idx → Elt F .f32) ?_
  funext a
  apply Fin.ext
  refine (((cfgT (F := F) L).win 1).rect_emb_val t (ix3 0 0 q : S1x1x2048.Idx) a rfl).trans ?_
  have h := tr2 (F := F) L (crd L t)
  rw [crd_b] at h
  match a with
  | ⟨0, _⟩ => exact (congrArg (· * 1 + 0) (congrFun h 0)).trans (Nat.mul_one _)
  | ⟨1, _⟩ => exact (congrArg (· * 1 + 0) (congrFun h 1))
  | ⟨2, _⟩ => exact (congrArg (· * 2048 + q.val) (congrFun h 2)).trans (by simp)

section Ideal

variable (V : (c : Dev nD) → (b : Ref sig .tc) → Buf (Elt Ideal) ((c : Thread nD τ).loc b))

/-- The down product of row `r` and column `col`: with its block's expert, or zero past the blocks in use. -/
def dwn (nu : ℕ) (be : ℕ → Fin 32) (X : S73728x2048.Idx → EReal) (W : S32x2048x2048.Idx → EReal) (b : Fin 32 → Fin 2048 → EReal)
    (r : Fin 73728) (col : Fin 2048) : EReal :=
  if r.val / 256 < nu then dotF (fun k => X (ix2 r k)) (fun d => W (ix3 (be (r.val / 256)) d col)) + b (be (r.val / 256)) col else 0

/-- The array the pipeline leaves. -/
def dwnL (c : Dev nD) : S73728x2048.Idx → EReal := fun i =>
  dwn L.nu.val (fun b => L.be (Plan.bk b)) (V c main_arg1 : S73728x2048.Idx → EReal) (V c main_arg2 : S32x2048x2048.Idx → EReal)
    (fun e f => (V c main_v73 : S32x1x2048.Idx → EReal) (ix3 e 0 f)) (i 0) (i 1)

theorem dwnL_at (c : Dev nD) (r : Fin 73728) (col : Fin 2048) : dwnL L V c (ix2 r col) =
    dwn L.nu.val (fun b => L.be (Plan.bk b)) (V c main_arg1 : S73728x2048.Idx → EReal) (V c main_arg2 : S32x2048x2048.Idx → EReal)
      (fun e f => (V c main_v73 : S32x1x2048.Idx → EReal) (ix3 e 0 f)) r col := rfl

theorem outT_at (c : Dev nD) (t : Fin (cfgT (F := Ideal) L).N) (p : Fin 256) (q : Fin 2048) (r : Fin 73728) (hr : r.val = t.val % 288 * 256 + p.val) :
    (outT (F := Ideal) L V c t : S256x2048.Idx → EReal) (ix2 p q) = dwnL L V c (ix2 r q) := by
  have hb : r.val / 256 = t.val % 288 := by have := p.isLt; omega
  have hbk : Plan.bk (t.val % 288) = Plan.bk t.val := Fin.ext (Nat.mod_mod _ _)
  have hk : k0_cond4 (crd L t) (rdU (F := Ideal) T.U) = 1#1 ↔ t.val % 288 < L.nu.val := by
    rw [cond4_iff (n := L.nu) ((rdU_eq (F := Ideal) T.U).trans L.hU), crd0]
  rw [dwnL_at]
  unfold outT outV dwn
  rw [hb]
  by_cases h : t.val % 288 < L.nu.val
  · rw [if_pos (hk.mpr h), if_pos h]
    refine (outOn_at _ _ _ p q).trans ?_
    have hmin : min (t.val % 288) (L.nu.val - 1) = t.val % 288 := by omega
    have e0 : ∀ k : Fin 2048, (iblk L V c 0 t : S256x2048.Idx → EReal) (ix2 p k) = (V c main_arg1 : S73728x2048.Idx → EReal) (ix2 r k) := fun k =>
      iblk0_at (F := Ideal) L V c t p k r (by rw [hmin]; exact hr)
    have e3 : ∀ d : Fin 2048, (wtile L V c t.val : S2048x2048.Idx → EReal) (ix2 d q) = (V c main_arg2 : S32x2048x2048.Idx → EReal) (ix3 (L.be (Plan.bk (t.val % 288))) d q) := fun d => by
      rw [hbk]; exact (castB_at _ d q).trans (tileV_at (F := Ideal) _ _ d q)
    have e1 := iblk1_at (F := Ideal) L V c t q
    rw [← hbk] at e1
    exact congrArg₂ (· + ·) (congrArg₂ dotF (funext e0) (funext e3)) e1
  · rw [if_neg (fun g => h (hk.mp g)), if_neg h]
    exact Ideal.ofBits_zero .f32

theorem toNat_small (n : ℕ) (h : n < 289) : (BitVec.ofNat 32 n).toNat = n := by
  rw [BitVec.toNat_ofNat, Nat.mod_eq_of_lt (by omega)]

theorem arr_eq (c : Dev nD) : (datT (F := Ideal) L V 0 c).arrAt 2 (cfgT (F := Ideal) L).N = dwnL L V c := by
  refine (datT (F := Ideal) L V 0 c).arrAt_eq_of_covers 2 (dwnL L V c) (((cfgT (F := Ideal) L).win 2).covers_of_indexMap_surj rfl ?_ fun β => ?_) fun t hf (y : S256x2048.Idx) => ?_
  · exact (by decide : ∀ a : Fin 2, 0 < S256x2048.size a)
  · have h0 : (β (0 : Fin 2)).val < 288 := (β (0 : Fin 2)).isLt.trans_eq (show (73728 + 256 - 1) / 256 = 288 from rfl)
    have h1 : (β (1 : Fin 2)).val < 1 := (β (1 : Fin 2)).isLt.trans_eq (show (2048 + 2048 - 1) / 2048 = 1 from rfl)
    refine ⟨fun a => match a with | ⟨0, _⟩ => ⟨(β (0 : Fin 2)).val, h0⟩, fun a => ?_⟩
    match a with
    | ⟨0, _⟩ => exact toNat_small (β (0 : Fin 2)).val (by omega)
    | ⟨1, _⟩ => exact (Nat.lt_one_iff.mp h1).symm
  · rw [aft2]
    have hp : (y 0).val < 256 := (y 0).isLt
    have hq : (y 1).val < 2048 := (y 1).isLt
    have hb : (crd (F := Ideal) L t 0).val < 288 := (crd (F := Ideal) L t 0).isLt
    have ey : (((cfgT (F := Ideal) L).win 2).blk t).view.emb y
        = (ix2 (⟨(crd (F := Ideal) L t 0).val * 256 + (y 0).val, by omega⟩ : Fin 73728) (⟨(y 1).val, hq⟩ : Fin 2048) : S73728x2048.Idx) := by
      funext a
      apply Fin.ext
      refine (((cfgT (F := Ideal) L).win 2).rect_emb_val t y a rfl).trans ?_
      match a with
      | ⟨0, _⟩ => exact congrArg (· * 256 + (y 0).val) (toNat_small _ (hb.trans (by decide)))
      | ⟨1, _⟩ => exact (congrArg (· + (y 1).val) (Nat.zero_mul 2048)).trans (Nat.zero_add _)
    have ex : ((cfgT (F := Ideal) L).win 2).xinj ((cfgT (F := Ideal) L).grid.coords t) y = (ix2 (⟨(y 0).val, hp⟩ : Fin 256) (⟨(y 1).val, hq⟩ : Fin 2048) : S256x2048.Idx) := by
      funext a
      match a with
      | ⟨0, _⟩ => rfl
      | ⟨1, _⟩ => rfl
    refine Eq.trans ?_ ((outT_at L V c t ⟨(y 0).val, hp⟩ ⟨(y 1).val, hq⟩ _ ?_).trans (congrArg (dwnL L V c) ey.symm))
    · exact congrArg (outT (F := Ideal) L V c t : S256x2048.Idx → EReal) ex
    · exact congrArg (· * 256 + (y 0).val) (crd0 t)

end Ideal

end Cert.DownIdeal.Hand

end
-- ==== Proof.DnKernelValue.lean ====
module

public import proofs.«01_k».proof.Proof.DnTables
public import proofs.«01_k».proof.Proof.DnBlocks

/-! The array the kernel leaves, from its arguments. -/

@[expose] public section

noncomputable section

namespace Cert.DownIdeal.Hand

open Cert.DownIdeal Cert.DownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)

variable {F : FTy → Type} [FloatOps F]

local notation "𝕄" => MT nD τ sig Unit (Elt F) ℕ (Pipeline.UD sig nD τ) ℕ

theorem z1 (X : Valuation τ sig (Elt F)) : (Z X main_arg1 : S73728x2048.Idx → Elt F .bf16) = X main_arg1 := by rfl
theorem z2 (X : Valuation τ sig (Elt F)) : (Z X main_arg2 : S32x2048x2048.Idx → Elt F .f32) = X main_arg2 := by rfl
theorem z73 (X : Valuation τ sig (Elt F)) : (Z X main_v73 : S32x1x2048.Idx → Elt F .f32) = shapeCast S32x1x2048 (X main_arg3 : S32x2048.Idx → Elt F .f32) shapeCasts_S32x2048_S32x1x2048 := by rfl

set_option maxRecDepth 16384 in
theorem bias_at {α : Type} (v : S32x2048.Idx → α) (h : S32x2048.ShapeCasts S32x1x2048) (e : Fin 32) (f : Fin 2048) :
    shapeCast S32x1x2048 v h (ix3 e 0 f) = v (ix2 e f) := by
  pointwise

/-- The experts' outputs, of the sizes, the hidden activations, the weights and the biases. -/
def downA (a : IVec S32 32) (X : S73728x2048.Idx → EReal) (W : S32x2048x2048.Idx → EReal) (b : S32x2048.Idx → EReal) : S73728x2048.Idx → EReal := fun i =>
  dwn (nuN a) (fun b => ⟨min (cnt a b) 31, by omega⟩) X W (fun e f => b (ix2 e f)) (i 0) (i 1)

attribute [local irreducible] StableHlo.after

theorem dwn_congr {nu : ℕ} {be be' : ℕ → Fin 32} {X X' : S73728x2048.Idx → EReal} {W W' : S32x2048x2048.Idx → EReal} {b b' : Fin 32 → Fin 2048 → EReal}
    {r : Fin 73728} (col : Fin 2048) (hbe : r.val / 256 < nu → be (r.val / 256) = be' (r.val / 256)) (hX : X = X') (hW : W = W') (hb : b = b') :
    dwn nu be X W b r col = dwn nu be' X' W' b' r col := by
  subst hX hW hb
  unfold dwn
  by_cases h : r.val / 256 < nu
  · rw [if_pos h, if_pos h, hbe h]
  · rw [if_neg h, if_neg h]

theorem kernel_val (m : (ℓ : Loc nD τ sig) → Buf (Elt Ideal) ℓ) (h : Routed (sizes m)) (c : Dev nD) :
    (datT (F := Ideal) (sched m h) (V m) 0 c).arrAt 2 (cfgT (F := Ideal) (sched m h)).N
      = downA (sizes m) (m ((c : Thread nD τ).loc main_arg1)) (m ((c : Thread nD τ).loc main_arg2)) (m ((c : Thread nD τ).loc main_arg3)) := by
  rw [arr_eq]
  funext i
  refine dwn_congr _ (fun hb => ?_) (z1 _) (z2 _) (funext fun e => funext fun f => ?_)
  · apply Fin.ext
    have hb' : (i 0).val / 256 < nuN (sizes m) := hb
    have hn := h.nu_le
    show beN (sizes m) ((i 0).val / 256 % 288) = min (cnt (sizes m) ((i 0).val / 256)) 31
    rw [Nat.mod_eq_of_lt (by omega)]
    unfold beN
    rw [min_eq_left (show (i 0).val / 256 ≤ nuN (sizes m) - 1 by omega)]
  · exact (congrFun (z73 _) _).trans (bias_at _ _ e f)

end Cert.DownIdeal.Hand

end
-- ==== Proof.DnRefValue.lean ====
module

public import proofs.«01_k».proof.Proof.DnRefShape
public import proofs.«01_k».proof.Proof.DnKernelValue
public import Idealize.ShloMosaic.Lib.Routing.Ops
public import Idealize.ShloMosaic.Lib.Pointwise

/-! The reference's array, from its arguments: the function the kernel's array is. -/

@[expose] public section

noncomputable section

namespace Cert.DownReferenceIdeal.Hand

open Cert.DownReferenceIdeal Cert.DownReferenceIdeal.Gen
open Idealize.ShloMosaic
open Idealize.ShloMosaic.TcCoe Idealize.SL.Sem

variable {F : FTy → Type} [FloatOps F]

open Cert.DownIdeal.Hand (pe sz cds cnt nuN Routed downA dwn dotF)
open Idealize.ShloMosaic.Routing

section
variable {a : IVec S32 32} (h : Routed a)
include h

theorem refPend_at (e : Fin 32) : refPend a (ix1 e) = BitVec.ofNat 32 (pe a e.val) := by
  have h6 (e : Fin 32) : muli (pyDiv bcast_S_S32 (addi a (broadcastInDim S32 ![] bcast_S_S32 (constantI S_ 32 255#32))) (id (constantI S_ 32 256#32)))
      (broadcastInDim S32 ![] bcast_S_S32 (constantI S_ 32 256#32)) (ix1 e) = BitVec.ofNat 32 (cds a e.val) := by
    have h3 : addi a (broadcastInDim S32 ![] bcast_S_S32 (constantI S_ 32 255#32)) (ix1 e) = BitVec.ofNat 32 (sz a e.val + 255) := by
      rw [addi_ap, bc0, show a (ix1 e) = _ from h.sz_word e]
      exact (BitVec.ofNat_add _ _).symm
    rw [muli_ap, pyDiv_ap bcast_S_S32 _ _ (ix1 e) h3 rfl (by have := h.le e.val; omega) (by decide) (by decide), bc0]
    exact (BitVec.ofNat_mul _ _).symm
  unfold refPend
  refine (cumsum1 rfl _ (cds a) h6 _ ?_ _ _ e).trans rfl
  first | rfl | (rw [bc0]; rfl)

theorem refE_at (b : Fin 288) : refE (refPend a) (ix1 b) = BitVec.ofNat 32 (min (cnt a b.val) 31) :=
  Cert.DownIdeal.Hand.minsi_cnt h _ _ (refPend_at h) rfl b

theorem refIdx_at (b : Fin 288) : refIdx (refE (refPend a)) (ix2 b 0) = BitVec.ofNat 32 (min (cnt a b.val) 31) := by
  have e : refIdx (refE (refPend a)) (ix2 b 0) = Scalar.select (IntOp.cmpi .slt (refE (refPend a) (ix1 b)) 0#32) (refE (refPend a) (ix1 b) + 32#32) (refE (refPend a) (ix1 b)) := by
    generalize refE (refPend a) = E
    pointwise [refIdx]
    try rfl
  rw [e, refE_at h b]
  have hc : min (cnt a b.val) 31 < 32 := by omega
  generalize min (cnt a b.val) 31 = n at hc
  interval_cases n <;> rfl

end

theorem gatherB_at {α : Type} (v : S32x2048.Idx → α) (I : IVec S288x1 32) (b : Fin 288) (f : Fin 2048) (e : Fin 32) (hI : I (ix2 b 0) = BitVec.ofNat 32 e.val) :
    Host.gather gather_S32x2048_S288x1_S288x2048_1_0_n_n_0_1_12048 v I (ix2 b f) = v (ix2 e f) :=
  gather_row _ rfl rfl rfl rfl rfl v I b f e hI (by decide)

theorem gatherW_at {α : Type} (W : S32x2048x2048.Idx → α) (I : IVec S288x1 32) (b : Fin 288) (k f : Fin 2048) (e : Fin 32) (hI : I (ix2 b 0) = BitVec.ofNat 32 e.val) :
    Host.gather gather_S32x2048x2048_S288x1_S288x2048x2048_12_0_n_n_0_1_120482048 W I (ix3 b k f) = W (ix3 e k f) := by
  generalize hd : gather_S32x2048x2048_S288x1_S288x2048x2048_12_0_n_n_0_1_120482048 = d
  have hcoll : d.collapsedSliceDims = [0] := by rw [← hd]; rfl
  have hob : d.operandBatchingDims = [] := by rw [← hd]; rfl
  have hsim : d.startIndexMap = [0] := by rw [← hd]; rfl
  unfold Host.gather
  refine congrArg W (funext fun x => Fin.ext ?_)
  have hbN : ∀ a', a' ∉ d.operandBatchingDims := fun a' => by rw [hob]; exact List.not_mem_nil
  match x with
  | ⟨0, _⟩ =>
    have hk : (0 : Fin 3) ∉ d.sKept := fun h => ((d.mem_sKept 0).1 h).1 (by rw [hcoll]; exact List.mem_singleton.2 rfl)
    have hm : (0 : Fin 3) ∈ d.startIndexMap := by rw [hsim]; exact List.mem_singleton.2 rfl
    have hsl : d.sliceSizes 0 = 1 := d.slice_collapsed 0 (by rw [hcoll]; exact List.mem_singleton.2 rfl)
    show d.start (ix3 b k f) I 0 + d.batchCoord (ix3 b k f) 0 + d.offCoord (ix3 b k f) 0 = e.val
    rw [d.batchCoord_eq_zero _ _ (hbN 0), d.offCoord_eq_zero _ _ hk]
    simp only [Nat.add_zero]
    unfold GatherDims.start
    rw [dif_pos hm]
    have hsi : d.siIdx (ix3 b k f) ⟨d.startIndexMap.idxOf 0, List.idxOf_lt_length_iff.2 hm⟩ = ix2 b (0 : Fin 1) := by
      subst hd
      funext b'
      apply Fin.ext
      match b' with
      | ⟨0, _⟩ => rfl
      | ⟨1, _⟩ => rfl
    have hbl := e.isLt
    rw [hsi, hI, hsl, StableHlo.Predicate.toInt_ofNat_small _ (by omega)]
    show min ((e.val : Int)).toNat (32 - 1) = e.val
    omega
  | ⟨1, _⟩ =>
    have hm : (1 : Fin 3) ∉ d.startIndexMap := by rw [hsim]; decide
    show d.start (ix3 b k f) I 1 + d.batchCoord (ix3 b k f) 1 + d.offCoord (ix3 b k f) 1 = k.val
    rw [d.batchCoord_eq_zero _ _ (hbN 1), Nat.add_zero]
    unfold GatherDims.start
    rw [dif_neg hm, Nat.zero_add]
    subst hd
    rfl
  | ⟨2, _⟩ =>
    have hm : (2 : Fin 3) ∉ d.startIndexMap := by rw [hsim]; decide
    show d.start (ix3 b k f) I 2 + d.batchCoord (ix3 b k f) 2 + d.offCoord (ix3 b k f) 2 = f.val
    rw [d.batchCoord_eq_zero _ _ (hbN 2), Nat.add_zero]
    unfold GatherDims.start
    rw [dif_neg hm, Nat.zero_add]
    subst hd
    rfl

set_option maxRecDepth 16384

theorem refX_at (X : FVec Ideal S73728x2048 .bf16) (b : Fin 288) (p : Fin 256) (d : Fin 2048) (r : Fin 73728) (hr : r.val = b.val * 256 + p.val) :
    (refX (F := Ideal) X (ix3 b p d) : EReal) = X (ix2 r d) := by
  have hr' : (⟨b.val * 256 + p.val, by omega⟩ : Fin 73728) = r := Fin.ext hr.symm
  pointwise [refX]
  simp only [hr']

theorem refProj_at (x : FVec Ideal S288x256x2048 .f32) (I : IVec S288x1 32) (W : FVec Ideal S32x2048x2048 .f32) (v : FVec Ideal S32x2048 .f32) (b : Fin 288) (p : Fin 256) (f : Fin 2048) :
    (refProj x I W v (ix3 b p f) : EReal) = (∑ d : Fin 2048, x (ix3 b p d) * Host.gather gather_S32x2048x2048_S288x1_S288x2048x2048_12_0_n_n_0_1_120482048 W I (ix3 b d f))
      + Host.gather gather_S32x2048_S288x1_S288x2048_1_0_n_n_0_1_12048 v I (ix2 b f) := by
  unfold refProj
  generalize Host.gather gather_S32x2048x2048_S288x1_S288x2048x2048_12_0_n_n_0_1_120482048 W I = A
  generalize Host.gather gather_S32x2048_S288x1_S288x2048_1_0_n_n_0_1_12048 v I = B
  pointwise

theorem zero_bits : Ideal.ofBits FTy.f32 0#32 = 0 := by
  pointwise

theorem refOut_at (P : IVec S32 32) (u : FVec Ideal S288x256x2048 .f32) (r : Fin 73728) (f : Fin 2048) :
    (refOut P u (ix2 r f) : EReal) = Scalar.select (IntOp.cmpi .slt (IntOp.muli (BitVec.ofNat 32 (r.val / 256)) 256#32) (P (ix1 31)))
      (u (ix3 ⟨r.val / 256, by omega⟩ ⟨r.val % 256, by omega⟩ f)) 0 := by
  have hz : (id (constant (F := Ideal) S_ .f32 0#32) ValueIdx.ix0 : EReal) = 0 := zero_bits
  pointwise [refOut, refStart]
  exact congrArg₂ (Scalar.select _) rfl hz

theorem sel_at (n nu : ℕ) (h1 : n * 256 < 2 ^ 31) (h2 : nu * 256 < 2 ^ 31) (x : EReal) :
    Scalar.select (IntOp.cmpi .slt (IntOp.muli (BitVec.ofNat 32 n) 256#32) (BitVec.ofNat 32 (nu * 256))) x 0 = if n < nu then x else 0 := by
  have hm : IntOp.muli (BitVec.ofNat 32 n) 256#32 = BitVec.ofNat 32 (n * 256) := (BitVec.ofNat_mul _ _).symm
  rw [hm, Idealize.ShloMosaic.WordCmp.cmpi_slt_ofNat (w := 32) h1 h2, decide_eq_decide.2 (show n * 256 < nu * 256 ↔ n < nu by omega)]
  by_cases hb : n < nu
  · rw [if_pos hb, decide_eq_true hb]
    rfl
  · rw [if_neg hb, decide_eq_false hb]
    rfl

theorem val_eq {a : IVec S32 32} (h : Routed a) (X : FVec Ideal S73728x2048 .bf16) (W : FVec Ideal S32x2048x2048 .f32) (v : FVec Ideal S32x2048 .f32) :
    refA (F := Ideal) a X W v = downA a X W v := by
  have hp (r : Fin 73728) (f : Fin 2048) :
      (refProj (refX X) (refIdx (refE (refPend a))) W v (ix3 ⟨r.val / 256, by omega⟩ ⟨r.val % 256, by omega⟩ f) : EReal)
        = dotF (fun k => X (ix2 r k)) (fun d => W (ix3 ⟨min (cnt a (r.val / 256)) 31, by omega⟩ d f)) + v (ix2 ⟨min (cnt a (r.val / 256)) 31, by omega⟩ f) := by
    rw [refProj_at]
    refine congrArg₂ (· + ·) (Finset.sum_congr rfl fun d _ => congrArg₂ (· * ·) ?_ ?_) ?_
    · exact refX_at X _ _ d r (by show r.val = r.val / 256 * 256 + r.val % 256; omega)
    · exact gatherW_at W _ _ d f _ (refIdx_at h _)
    · exact gatherB_at v _ _ f _ (refIdx_at h _)
  funext i
  obtain ⟨r, f, rfl⟩ : ∃ (r : Fin 73728) (f : Fin 2048), i = ix2 r f := ⟨i 0, i 1, by funext x; match x with | ⟨0, _⟩ => rfl | ⟨1, _⟩ => rfl⟩
  unfold refA
  refine (refOut_at _ _ r f).trans ?_
  rw [hp, refPend_at h 31]
  have hr := r.isLt
  have hl := h.pe31_le
  have hn : pe a (31 : Fin 32).val = nuN a * 256 := (Routed.nu_mul (a := a)).symm
  have hl' : nuN a * 256 < 2 ^ 31 := by rw [← hn]; exact lt_of_le_of_lt hl (by decide)
  rw [hn]
  exact sel_at _ _ (by omega) hl' _

end Cert.DownReferenceIdeal.Hand

end
-- ==== Proof.DnAlgebraic.lean ====
module

public import proofs.«01_k».proof.Proof.DnFrames
public import proofs.«01_k».proof.Proof.DnRefValue

/-! The kernel's result and the reference's: one function of the arguments. -/

@[expose] public section

noncomputable section

namespace Cert.DownProof

open Idealize.ShloMosaic Idealize.SL.Sem

/-- The reference's frame, on the arguments the precondition allows. -/
theorem frame_ri_routed : Cert.quiescent_DownReferenceIdeal_pre_routed_down := fun m ρ _ => frame_ri m ρ trivial

open Cert.DownIdeal.Hand in
/-- Both programs leave the outputs `downA` of their arguments. -/
theorem algebraic : Cert.algebraic_DownIdeal_DownReferenceIdeal := by
  intro m g m' g' hp ha
  have hR : Routed (sizes m) := routed_of (F := Ideal) _ _ _ _ (hp 0)
  refine ⟨fun c => downA (sizes m) (m ((c.tc : Thread Cert.DownIdeal.nD Cert.DownIdeal.τ).loc Cert.DownIdeal.main_arg1))
    (m ((c.tc : Thread Cert.DownIdeal.nD Cert.DownIdeal.τ).loc Cert.DownIdeal.main_arg2)) (m ((c.tc : Thread Cert.DownIdeal.nD Cert.DownIdeal.τ).loc Cert.DownIdeal.main_arg3)), ?_, ?_⟩
  · exact (θ_run (Cert.DownIdeal.defs (F := Ideal)) _ _).mono (fun r h c => ⟨(h.1 c).2.trans (kernel_val m hR c), (h.1 c).1⟩)
      (run_frame (F := Ideal) m g hR)
  · refine (θ_run (Cert.DownReferenceIdeal.defs (F := Ideal)) _ _).mono (fun r h c => ⟨(h c).1.trans ?_, (h c).2⟩)
      (Cert.DownReferenceIdeal.Value.run (F := Ideal) m' g')
    obtain rfl : c = 0 := Subsingleton.elim _ _
    obtain ⟨a0, a1, a2, a3⟩ := ha 0
    refine (Cert.DownReferenceIdeal.Hand.res_eq m' 0).trans ?_
    rw [a0, a1, a2, a3]
    exact Cert.DownReferenceIdeal.Hand.val_eq hR _ _ _

end Cert.DownProof

end
-- ==== Proof.MixGen.lean ====
module

public import proofs.«01_k».proof.Proof.Gen.Mix
public import proofs.«01_k».proof.Proof.Gen.Mix.Frame
public import proofs.«01_k».proof.Proof.Gen.MixWords
public import proofs.«01_k».proof.Proof.Gen.MixWords.Frame
public import proofs.«01_k».proof.Proof.Gen.MixIdeal
public import proofs.«01_k».proof.Proof.Gen.MixIdeal.Frame
public import proofs.«01_k».proof.Proof.Gen.MixIdeal.Value
public import proofs.«01_k».proof.Proof.Gen.MixReferenceIdeal
public import proofs.«01_k».proof.Proof.Gen.MixReferenceIdeal.Run
public import proofs.«01_k».proof.Proof.Gen.MixReferenceIdeal.Read

/-! The generated modules of the output projection's programs. -/
-- ==== Proof.MixPay.lean ====
module

public import proofs.«01_k».proof.Proof.Gen.MixIdeal.Skeleton
public import Idealize.ShloMosaic.Lib.Pipeline.Value
public import Idealize.ShloMosaic.Lib.ValueIdx
public import Idealize.ShloMosaic.Lib.Pointwise
public import Idealize.ShloMosaic.PureOps.Ideal.Laws

/-! What the output projection's body stores, entry by entry, at exact arithmetic. -/

@[expose] public section

noncomputable section

namespace Cert.MixIdeal.Hand

open Cert.MixIdeal Cert.MixIdeal.Gen
open Idealize.ShloMosaic
open Idealize.ShloMosaic.TcCoe Idealize.ShloMosaic.Tactic

set_option maxRecDepth 16384 in
theorem pay4_at (v3 : Vec Ideal S256x1024 .bf16) (v4 : Vec Ideal S1024x2048 .bf16) (v7 : Vec Ideal S256x1024 .bf16) (v8 : Vec Ideal S1024x2048 .bf16)
    (v12 : Vec Ideal S256x2048 .f32) (v13 : Vec Ideal S1x1x2048 .f32) (p : Fin 256) (q : Fin 2048) :
    (k0_pay4 (F := Ideal) v3 v4 v7 v8 v12 v13 (ix2 p q) : EReal)
      = v12 (ix2 p q) + v13 (ix3 0 0 q) * ((∑ k : Fin 1024, v3 (ix2 p k) * v4 (ix2 k q)) + ∑ k : Fin 1024, v7 (ix2 p k) * v8 (ix2 k q)) := by
  pointwise [k0_pay4]

set_option maxRecDepth 16384 in
theorem pay5_at (v3 : Vec Ideal S256x1024 .bf16) (v4 : Vec Ideal S1024x2048 .bf16) (v7 : Vec Ideal S256x1024 .bf16) (v8 : Vec Ideal S1024x2048 .bf16)
    (v12 : Vec Ideal S256x2048 .f32) (v13 : Vec Ideal S1x1x2048 .f32) (v29 : Vec Ideal S1x2048 .f32) (p : Fin 256) (q : Fin 2048)
    (X : Fin 2048 → EReal) (hX : ∀ k : Fin 2048, k0_pay4 (F := Ideal) v3 v4 v7 v8 v12 v13 (ix2 p k) = X k) :
    (k0_pay5 (F := Ideal) v3 v4 v7 v8 v12 v13 v29 (ix2 p q) : EReal)
      = X q * Ideal.rsqrt (Ideal.div (∑ k : Fin 2048, X k * X k) (Ideal.ofBits FTy.f32 1157627904#32) + Ideal.ofBits FTy.f32 897988541#32) * v29 (ix2 0 q) := by
  unfold k0_pay5
  generalize k0_pay4 (F := Ideal) v3 v4 v7 v8 v12 v13 = Y at *
  pointwise
  simp only [hX]

set_option maxRecDepth 16384 in
theorem pay6_at (v32 : FVec Ideal S256x2048 .f32) (v33 v39 : Vec Ideal S1x1x2048 .f32) (p : Fin 256) (q : Fin 2048) :
    (k0_pay6 (F := Ideal) v32 v33 v39 (ix2 p q) : EReal) = v32 (ix2 p q) * (1 + v33 (ix3 0 0 q)) + v39 (ix3 0 0 q) := by
  pointwise [k0_pay6]

set_option maxRecDepth 16384 in
theorem pay7_at (v32 : FVec Ideal S256x2048 .f32) (v33 v39 : Vec Ideal S1x1x2048 .f32) (p : Fin 512) (q : Fin 1024) :
    (k0_pay7 (F := Ideal) v32 v33 v39 (ix2 p q) : EReal)
      = k0_pay6 (F := Ideal) v32 v33 v39 (ix2 ⟨p.val / 2, by omega⟩ ⟨p.val % 2 * 1024 + q.val, by omega⟩) := by
  unfold k0_pay7
  generalize k0_pay6 (F := Ideal) v32 v33 v39 = Y
  pointwise
  by_cases h : p.val % 2 = 0
  · rw [if_pos h]
    refine congrArg (fun k => Y (ix2 _ k)) (Fin.ext ?_)
    show q.val = p.val % 2 * 1024 + q.val
    omega
  · rw [if_neg h]
    refine congrArg (fun k => Y (ix2 _ k)) (Fin.ext ?_)
    show 1024 + q.val = p.val % 2 * 1024 + q.val
    omega

end Cert.MixIdeal.Hand

end
-- ==== Proof.MixSpec.lean ====
module

public import proofs.«01_k».proof.Proof.Gen.MixIdeal.Skeleton
public import Idealize.ShloMosaic.Lib.Pointwise

/-! The tokens after the mixer and their modulated norm, as functions of the arguments. -/

@[expose] public section

noncomputable section

namespace Cert.MixIdeal.Hand

open Cert.MixIdeal
open Idealize.ShloMosaic

/-- Feature `q` of token `r` after the mixer: the token plus its gate times the heads' outputs through the output projection. -/
def x1R (a c : S16384x1024.Idx → EReal) (w : S2048x2048.Idx → EReal) (x : S16384x2048.Idx → EReal) (md : S8x1x12288.Idx → EReal)
    (r : Fin 16384) (q : Fin 2048) : EReal :=
  x (ix2 r q) + md (ix3 ⟨r.val / 4096, by omega⟩ 0 ⟨4096 + q.val, by omega⟩)
    * ((∑ k : Fin 1024, a (ix2 r k) * w (ix2 ⟨k.val, by omega⟩ q)) + ∑ k : Fin 1024, c (ix2 r k) * w (ix2 ⟨1024 + k.val, by omega⟩ q))

/-- A row over its root mean square, times a weight, scaled and shifted. -/
def nrm (X g sc sh : Fin 2048 → EReal) (q : Fin 2048) : EReal :=
  X q * Ideal.rsqrt (Ideal.div (∑ k : Fin 2048, X k * X k) (Ideal.ofBits FTy.f32 1157627904#32) + Ideal.ofBits FTy.f32 897988541#32) * g q * (1 + sc q) + sh q

/-- Feature `q` of token `r`'s modulated norm. -/
def hR (a c : S16384x1024.Idx → EReal) (w : S2048x2048.Idx → EReal) (x : S16384x2048.Idx → EReal) (md : S8x1x12288.Idx → EReal) (g : S2048.Idx → EReal)
    (r : Fin 16384) (q : Fin 2048) : EReal :=
  nrm (x1R a c w x md r) (fun k => g (ix1 k)) (fun k => md (ix3 ⟨r.val / 4096, by omega⟩ 0 ⟨8192 + k.val, by omega⟩))
    (fun k => md (ix3 ⟨r.val / 4096, by omega⟩ 0 ⟨6144 + k.val, by omega⟩)) q

/-- The tokens after the mixer. -/
def x1A (a c : S16384x1024.Idx → EReal) (w : S2048x2048.Idx → EReal) (x : S16384x2048.Idx → EReal) (md : S8x1x12288.Idx → EReal) : S16384x2048.Idx → EReal :=
  fun i => x1R a c w x md (i 0) (i 1)

/-- Their modulated norm, the two halves of a token's features in two rows. -/
def hA (a c : S16384x1024.Idx → EReal) (w : S2048x2048.Idx → EReal) (x : S16384x2048.Idx → EReal) (md : S8x1x12288.Idx → EReal) (g : S2048.Idx → EReal) :
    S32768x1024.Idx → EReal := fun i =>
  hR a c w x md g ⟨(i 0).val / 2, by have h : (i 0).val < 32768 := (i 0).isLt; omega⟩
    ⟨(i 0).val % 2 * 1024 + (i 1).val, by have h : (i 1).val < 1024 := (i 1).isLt; omega⟩

end Cert.MixIdeal.Hand

end
-- ==== Proof.MixBlk.lean ====
module

public import proofs.«01_k».proof.Proof.MixSpec
public import proofs.«01_k».proof.Proof.Gen.MixIdeal.Frame.Runs
public import Idealize.ShloMosaic.Lib.Pipeline.Value
public import Idealize.ShloMosaic.Lib.Pipeline.ValueKit
public import Idealize.ShloMosaic.Lib.Pointwise

/-! The blocks a point reads, entry by entry, as entries of the arguments. -/

@[expose] public section

noncomputable section

namespace Cert.MixIdeal.Hand

open Cert.MixIdeal Cert.MixIdeal.Gen
open Idealize.ShloMosaic Idealize.ShloMosaic.TcCoe Idealize.ShloMosaic.Tactic Idealize.SL.Sem

variable (m : (ℓ : Loc nD τ sig) → Buf (Elt Ideal) ℓ)

theorem idx0 : ∀ t : Fin cfg0.N, win0_0.index t = ![t.val, 0] :=
  (by decide +kernel : ∀ t : Fin grid0.N, _)

theorem idx1 : ∀ t : Fin cfg0.N, win0_1.index t = ![t.val, 0] :=
  (by decide +kernel : ∀ t : Fin grid0.N, _)

theorem idx2 : ∀ t : Fin cfg0.N, win0_2.index t = ![0, 0] :=
  (by decide +kernel : ∀ t : Fin grid0.N, _)

theorem idx3 : ∀ t : Fin cfg0.N, win0_3.index t = ![t.val, 0] :=
  (by decide +kernel : ∀ t : Fin grid0.N, _)

theorem idx4 : ∀ t : Fin cfg0.N, win0_4.index t = ![t.val / 16, 0, 2] :=
  (by decide +kernel : ∀ t : Fin grid0.N, _)

theorem idx5 : ∀ t : Fin cfg0.N, win0_5.index t = ![t.val / 16, 0, 3] :=
  (by decide +kernel : ∀ t : Fin grid0.N, _)

theorem idx6 : ∀ t : Fin cfg0.N, win0_6.index t = ![t.val / 16, 0, 4] :=
  (by decide +kernel : ∀ t : Fin grid0.N, _)

theorem idx7 : ∀ t : Fin cfg0.N, win0_7.index t = ![0, 0] :=
  (by decide +kernel : ∀ t : Fin grid0.N, _)

theorem iblk0_at (c : Dev nD) (t : Fin cfg0.N) (p : Fin 256) (q : Fin 1024) (p' : Fin 16384) (q' : Fin 1024) (h0 : p'.val = t.val * 256 + p.val) (h1 : q'.val = 0 * 1024 + q.val) :
    (iblk m c 0 t : S256x1024.Idx → Elt Ideal .bf16) (ix2 p q) = (V m c main_arg0 : S16384x1024.Idx → Elt Ideal .bf16) (ix2 p' q') := by
  unfold iblk
  refine congrArg (V m c main_arg0 : S16384x1024.Idx → Elt Ideal .bf16) ?_
  funext a
  apply Fin.ext
  refine ((cfg0.win 0).rect_emb_val t (ix2 p q : S256x1024.Idx) a rfl).trans ?_
  match a with
  | ⟨0, _⟩ => exact (congrArg (· * 256 + p.val) (congrFun (idx0 t) 0)).trans h0.symm
  | ⟨1, _⟩ => exact (congrArg (· * 1024 + q.val) (congrFun (idx0 t) 1)).trans h1.symm

theorem iblk1_at (c : Dev nD) (t : Fin cfg0.N) (p : Fin 256) (q : Fin 1024) (p' : Fin 16384) (q' : Fin 1024) (h0 : p'.val = t.val * 256 + p.val) (h1 : q'.val = 0 * 1024 + q.val) :
    (iblk m c 1 t : S256x1024.Idx → Elt Ideal .bf16) (ix2 p q) = (V m c main_arg1 : S16384x1024.Idx → Elt Ideal .bf16) (ix2 p' q') := by
  unfold iblk
  refine congrArg (V m c main_arg1 : S16384x1024.Idx → Elt Ideal .bf16) ?_
  funext a
  apply Fin.ext
  refine ((cfg0.win 1).rect_emb_val t (ix2 p q : S256x1024.Idx) a rfl).trans ?_
  match a with
  | ⟨0, _⟩ => exact (congrArg (· * 256 + p.val) (congrFun (idx1 t) 0)).trans h0.symm
  | ⟨1, _⟩ => exact (congrArg (· * 1024 + q.val) (congrFun (idx1 t) 1)).trans h1.symm

theorem iblk2_at (c : Dev nD) (t : Fin cfg0.N) (p : Fin 2048) (q : Fin 2048) (p' : Fin 2048) (q' : Fin 2048) (h0 : p'.val = 0 * 2048 + p.val) (h1 : q'.val = 0 * 2048 + q.val) :
    (iblk m c 2 t : S2048x2048.Idx → Elt Ideal .bf16) (ix2 p q) = (V m c main_v0 : S2048x2048.Idx → Elt Ideal .bf16) (ix2 p' q') := by
  unfold iblk
  refine congrArg (V m c main_v0 : S2048x2048.Idx → Elt Ideal .bf16) ?_
  funext a
  apply Fin.ext
  refine ((cfg0.win 2).rect_emb_val t (ix2 p q : S2048x2048.Idx) a rfl).trans ?_
  match a with
  | ⟨0, _⟩ => exact (congrArg (· * 2048 + p.val) (congrFun (idx2 t) 0)).trans h0.symm
  | ⟨1, _⟩ => exact (congrArg (· * 2048 + q.val) (congrFun (idx2 t) 1)).trans h1.symm

theorem iblk3_at (c : Dev nD) (t : Fin cfg0.N) (p : Fin 256) (q : Fin 2048) (p' : Fin 16384) (q' : Fin 2048) (h0 : p'.val = t.val * 256 + p.val) (h1 : q'.val = 0 * 2048 + q.val) :
    (iblk m c 3 t : S256x2048.Idx → Elt Ideal .f32) (ix2 p q) = (V m c main_arg3 : S16384x2048.Idx → Elt Ideal .f32) (ix2 p' q') := by
  unfold iblk
  refine congrArg (V m c main_arg3 : S16384x2048.Idx → Elt Ideal .f32) ?_
  funext a
  apply Fin.ext
  refine ((cfg0.win 3).rect_emb_val t (ix2 p q : S256x2048.Idx) a rfl).trans ?_
  match a with
  | ⟨0, _⟩ => exact (congrArg (· * 256 + p.val) (congrFun (idx3 t) 0)).trans h0.symm
  | ⟨1, _⟩ => exact (congrArg (· * 2048 + q.val) (congrFun (idx3 t) 1)).trans h1.symm

theorem iblk4_at (c : Dev nD) (t : Fin cfg0.N) (p : Fin 1) (q : Fin 1) (s : Fin 2048) (p' : Fin 8) (q' : Fin 1) (s' : Fin 12288) (h0 : p'.val = t.val / 16 * 1 + p.val) (h1 : q'.val = 0 * 1 + q.val) (h2 : s'.val = 2 * 2048 + s.val) :
    (iblk m c 4 t : S1x1x2048.Idx → Elt Ideal .f32) (ix3 p q s) = (V m c main_arg4 : S8x1x12288.Idx → Elt Ideal .f32) (ix3 p' q' s') := by
  unfold iblk
  refine congrArg (V m c main_arg4 : S8x1x12288.Idx → Elt Ideal .f32) ?_
  funext a
  apply Fin.ext
  refine ((cfg0.win 4).rect_emb_val t (ix3 p q s : S1x1x2048.Idx) a rfl).trans ?_
  match a with
  | ⟨0, _⟩ => exact (congrArg (· * 1 + p.val) (congrFun (idx4 t) 0)).trans h0.symm
  | ⟨1, _⟩ => exact (congrArg (· * 1 + q.val) (congrFun (idx4 t) 1)).trans h1.symm
  | ⟨2, _⟩ => exact (congrArg (· * 2048 + s.val) (congrFun (idx4 t) 2)).trans h2.symm

theorem iblk5_at (c : Dev nD) (t : Fin cfg0.N) (p : Fin 1) (q : Fin 1) (s : Fin 2048) (p' : Fin 8) (q' : Fin 1) (s' : Fin 12288) (h0 : p'.val = t.val / 16 * 1 + p.val) (h1 : q'.val = 0 * 1 + q.val) (h2 : s'.val = 3 * 2048 + s.val) :
    (iblk m c 5 t : S1x1x2048.Idx → Elt Ideal .f32) (ix3 p q s) = (V m c main_arg4 : S8x1x12288.Idx → Elt Ideal .f32) (ix3 p' q' s') := by
  unfold iblk
  refine congrArg (V m c main_arg4 : S8x1x12288.Idx → Elt Ideal .f32) ?_
  funext a
  apply Fin.ext
  refine ((cfg0.win 5).rect_emb_val t (ix3 p q s : S1x1x2048.Idx) a rfl).trans ?_
  match a with
  | ⟨0, _⟩ => exact (congrArg (· * 1 + p.val) (congrFun (idx5 t) 0)).trans h0.symm
  | ⟨1, _⟩ => exact (congrArg (· * 1 + q.val) (congrFun (idx5 t) 1)).trans h1.symm
  | ⟨2, _⟩ => exact (congrArg (· * 2048 + s.val) (congrFun (idx5 t) 2)).trans h2.symm

theorem iblk6_at (c : Dev nD) (t : Fin cfg0.N) (p : Fin 1) (q : Fin 1) (s : Fin 2048) (p' : Fin 8) (q' : Fin 1) (s' : Fin 12288) (h0 : p'.val = t.val / 16 * 1 + p.val) (h1 : q'.val = 0 * 1 + q.val) (h2 : s'.val = 4 * 2048 + s.val) :
    (iblk m c 6 t : S1x1x2048.Idx → Elt Ideal .f32) (ix3 p q s) = (V m c main_arg4 : S8x1x12288.Idx → Elt Ideal .f32) (ix3 p' q' s') := by
  unfold iblk
  refine congrArg (V m c main_arg4 : S8x1x12288.Idx → Elt Ideal .f32) ?_
  funext a
  apply Fin.ext
  refine ((cfg0.win 6).rect_emb_val t (ix3 p q s : S1x1x2048.Idx) a rfl).trans ?_
  match a with
  | ⟨0, _⟩ => exact (congrArg (· * 1 + p.val) (congrFun (idx6 t) 0)).trans h0.symm
  | ⟨1, _⟩ => exact (congrArg (· * 1 + q.val) (congrFun (idx6 t) 1)).trans h1.symm
  | ⟨2, _⟩ => exact (congrArg (· * 2048 + s.val) (congrFun (idx6 t) 2)).trans h2.symm

theorem iblk7_at (c : Dev nD) (t : Fin cfg0.N) (p : Fin 1) (q : Fin 2048) (p' : Fin 1) (q' : Fin 2048) (h0 : p'.val = 0 * 1 + p.val) (h1 : q'.val = 0 * 2048 + q.val) :
    (iblk m c 7 t : S1x2048.Idx → Elt Ideal .f32) (ix2 p q) = (V m c main_v4 : S1x2048.Idx → Elt Ideal .f32) (ix2 p' q') := by
  unfold iblk
  refine congrArg (V m c main_v4 : S1x2048.Idx → Elt Ideal .f32) ?_
  funext a
  apply Fin.ext
  refine ((cfg0.win 7).rect_emb_val t (ix2 p q : S1x2048.Idx) a rfl).trans ?_
  match a with
  | ⟨0, _⟩ => exact (congrArg (· * 1 + p.val) (congrFun (idx7 t) 0)).trans h0.symm
  | ⟨1, _⟩ => exact (congrArg (· * 2048 + q.val) (congrFun (idx7 t) 1)).trans h1.symm

theorem V_v0 (c : Dev nD) : (V m c main_v0 : S2048x2048.Idx → Elt Ideal .bf16) = truncf (F := Ideal) .bf16 (m ((c : Thread nD τ).loc main_arg2) : S2048x2048.Idx → Elt Ideal .f32) bitsLt_bf16_f32 := by
  simp only [V, hostOps0, hostOps0_1, hostOps0_2, hostOps0_3, hostOps0_4, List.flatten_cons, List.flatten_nil, List.append_nil, List.cons_append, List.nil_append]
  after_results

theorem V_v4 (c : Dev nD) : (V m c main_v4 : S1x2048.Idx → Elt Ideal .f32) = shapeCast S1x2048 (m ((c : Thread nD τ).loc main_arg5) : S2048.Idx → Elt Ideal .f32) shapeCasts_S2048_S1x2048 := by
  simp only [V, hostOps0, hostOps0_1, hostOps0_2, hostOps0_3, hostOps0_4, List.flatten_cons, List.flatten_nil, List.append_nil, List.cons_append, List.nil_append]
  after_results
  rfl

set_option maxRecDepth 16384 in
theorem row_at {α : Type} (v : S2048.Idx → α) (h : S2048.ShapeCasts S1x2048) (q : Fin 2048) : shapeCast S1x2048 v h (ix2 0 q) = v (ix1 q) := by
  pointwise

end Cert.MixIdeal.Hand

end
-- ==== Proof.MixOut.lean ====
module

public import proofs.«01_k».proof.Proof.MixSpec
public import proofs.«01_k».proof.Proof.Gen.MixIdeal.Frame
public import Idealize.ShloMosaic.Lib.Pipeline.Value
public import Idealize.ShloMosaic.Lib.Pipeline.ValueKit

/-! What a point leaves in its blocks, as the body's own functions of the blocks it reads. -/

@[expose] public section

noncomputable section

namespace Cert.MixIdeal.Hand

open Cert.MixIdeal Cert.MixIdeal.Gen
open Idealize.ShloMosaic Idealize.ShloMosaic.TcCoe Idealize.ShloMosaic.Tactic Idealize.SL.Sem

variable {F : FTy → Type} [FloatOps F]

/-- The 1024 rows of the output weight from row `o`. -/
abbrev wHalf (B : Vec F S2048x2048 .bf16) (o : Fin 2 → ℕ) (h : ∀ a, o a + S1024x2048.size a ≤ S2048x2048.size a) : Vec F S1024x2048 .bf16 :=
  View.ld B (Rect.unit (s := S2048x2048) o S1024x2048.size h)

theorem hz2 : (![0, 0] : Fin 2 → ℕ) = fun _ => 0 := funext fun a => by fin_cases a <;> rfl
theorem hz3 : (![0, 0, 0] : Fin 3 → ℕ) = fun _ => 0 := funext fun a => by fin_cases a <;> rfl

set_option maxHeartbeats 4000000 in
theorem out10_A (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S2048x2048 .bf16) (harg3 : arg3.IsWhole) (arg4 : Memref sig .tc .vmem S256x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x2048 .f32) (harg8 : arg8.IsWhole) (arg9 : Memref sig .tc .vmem S2048x128 .f32) (harg9 : arg9.IsWhole) (arg10 : Memref sig .tc .vmem S1x128 .f32) (harg10 : arg10.IsWhole) (arg11 : Memref sig .tc .vmem S256x2048 .f32) (harg11 : arg11.IsWhole) (arg12 : Memref sig .tc .vmem S512x1024 .bf16) (harg12 : arg12.IsWhole) (arg13 : Memref sig .tc .vmem S256x128 .i32) (harg13 : arg13.IsWhole) (arg14 : Memref sig .tc .vmem S256x128 .f32) (harg14 : arg14.IsWhole) (arg15 : Memref sig .tc .vmem S8x128 .f32) (harg15 : arg15.IsWhole) (arg16 : Memref sig .tc .vmem S1x128 .f32) (harg16 : arg16.IsWhole) (hc0 : cond0_0 i)
    (x0 : Vec F S256x1024 .bf16) (x1 : Vec F S256x1024 .bf16) (x2 : Vec F S2048x2048 .bf16) (x3 : Vec F S256x2048 .f32) (x4 : Vec F S1x1x2048 .f32) (x5 : Vec F S1x1x2048 .f32) (x6 : Vec F S1x1x2048 .f32) (x7 : Vec F S1x2048 .f32) (x8 : Vec F S2048x128 .f32) (x9 : Vec F S1x128 .f32) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 = k0_pay4 (F := F) x0 (wHalf x2 ![0, 0] inb_S2048x2048_S1024x2048_0_0) x1 (wHalf x2 ![1024, 0] inb_S2048x2048_S1024x2048_1024_0) x3 x4 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9)]
  unfold kernelRun0_A
  dsimp only
  rw [View.canon_unit_zero hz2]
  sl_unfold_words
  simp only [View.readAt_eq_ld, harg1.read_unread, harg2.read_unread, harg3.read_unread, harg4.read_unread, harg5.read_unread, harg6.read_unread, harg7.read_unread, harg8.read_unread,
    View.ld_unit_zero (S := S256x1024) hz2, View.ld_unit_zero (S := S256x2048) hz2, View.ld_unit_zero (S := S1x2048) hz2, View.ld_unit_zero (S := S1x1x2048) hz3]

set_option maxHeartbeats 4000000 in
theorem out11_A (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S2048x2048 .bf16) (harg3 : arg3.IsWhole) (arg4 : Memref sig .tc .vmem S256x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x2048 .f32) (harg8 : arg8.IsWhole) (arg9 : Memref sig .tc .vmem S2048x128 .f32) (harg9 : arg9.IsWhole) (arg10 : Memref sig .tc .vmem S1x128 .f32) (harg10 : arg10.IsWhole) (arg11 : Memref sig .tc .vmem S256x2048 .f32) (harg11 : arg11.IsWhole) (arg12 : Memref sig .tc .vmem S512x1024 .bf16) (harg12 : arg12.IsWhole) (arg13 : Memref sig .tc .vmem S256x128 .i32) (harg13 : arg13.IsWhole) (arg14 : Memref sig .tc .vmem S256x128 .f32) (harg14 : arg14.IsWhole) (arg15 : Memref sig .tc .vmem S8x128 .f32) (harg15 : arg15.IsWhole) (arg16 : Memref sig .tc .vmem S1x128 .f32) (harg16 : arg16.IsWhole) (hc0 : cond0_0 i)
    (x0 : Vec F S256x1024 .bf16) (x1 : Vec F S256x1024 .bf16) (x2 : Vec F S2048x2048 .bf16) (x3 : Vec F S256x2048 .f32) (x4 : Vec F S1x1x2048 .f32) (x5 : Vec F S1x1x2048 .f32) (x6 : Vec F S1x1x2048 .f32) (x7 : Vec F S1x2048 .f32) (x8 : Vec F S2048x128 .f32) (x9 : Vec F S1x128 .f32) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 = k0_pay7 (F := F) (k0_pay5 (F := F) x0 (wHalf x2 ![0, 0] inb_S2048x2048_S1024x2048_0_0) x1 (wHalf x2 ![1024, 0] inb_S2048x2048_S1024x2048_1024_0) x3 x4 x7) x6 x5 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9)]
  unfold kernelRun0_A
  dsimp only
  rw [View.canon_unit_zero hz2]
  sl_unfold_words
  simp only [View.readAt_eq_ld, harg1.read_unread, harg2.read_unread, harg3.read_unread, harg4.read_unread, harg5.read_unread, harg6.read_unread, harg7.read_unread, harg8.read_unread,
    View.ld_unit_zero (S := S256x1024) hz2, View.ld_unit_zero (S := S256x2048) hz2, View.ld_unit_zero (S := S1x2048) hz2, View.ld_unit_zero (S := S1x1x2048) hz3]

set_option maxHeartbeats 4000000 in
theorem out10_B (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S2048x2048 .bf16) (harg3 : arg3.IsWhole) (arg4 : Memref sig .tc .vmem S256x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x2048 .f32) (harg8 : arg8.IsWhole) (arg9 : Memref sig .tc .vmem S2048x128 .f32) (harg9 : arg9.IsWhole) (arg10 : Memref sig .tc .vmem S1x128 .f32) (harg10 : arg10.IsWhole) (arg11 : Memref sig .tc .vmem S256x2048 .f32) (harg11 : arg11.IsWhole) (arg12 : Memref sig .tc .vmem S512x1024 .bf16) (harg12 : arg12.IsWhole) (arg13 : Memref sig .tc .vmem S256x128 .i32) (harg13 : arg13.IsWhole) (arg14 : Memref sig .tc .vmem S256x128 .f32) (harg14 : arg14.IsWhole) (arg15 : Memref sig .tc .vmem S8x128 .f32) (harg15 : arg15.IsWhole) (arg16 : Memref sig .tc .vmem S1x128 .f32) (harg16 : arg16.IsWhole) (hc0 : ¬cond0_0 i)
    (x0 : Vec F S256x1024 .bf16) (x1 : Vec F S256x1024 .bf16) (x2 : Vec F S2048x2048 .bf16) (x3 : Vec F S256x2048 .f32) (x4 : Vec F S1x1x2048 .f32) (x5 : Vec F S1x1x2048 .f32) (x6 : Vec F S1x1x2048 .f32) (x7 : Vec F S1x2048 .f32) (x8 : Vec F S2048x128 .f32) (x9 : Vec F S1x128 .f32) (xs0 : Vec F S1x128 .f32) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 = k0_pay4 (F := F) x0 (wHalf x2 ![0, 0] inb_S2048x2048_S1024x2048_0_0) x1 (wHalf x2 ![1024, 0] inb_S2048x2048_S1024x2048_1024_0) x3 x4 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0)]
  unfold kernelRun0_B
  dsimp only
  rw [View.canon_unit_zero hz2]
  sl_unfold_words
  simp only [View.readAt_eq_ld, harg1.read_unread, harg2.read_unread, harg3.read_unread, harg4.read_unread, harg5.read_unread, harg6.read_unread, harg7.read_unread, harg8.read_unread,
    View.ld_unit_zero (S := S256x1024) hz2, View.ld_unit_zero (S := S256x2048) hz2, View.ld_unit_zero (S := S1x2048) hz2, View.ld_unit_zero (S := S1x1x2048) hz3]

set_option maxHeartbeats 4000000 in
theorem out11_B (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S2048x2048 .bf16) (harg3 : arg3.IsWhole) (arg4 : Memref sig .tc .vmem S256x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x2048 .f32) (harg8 : arg8.IsWhole) (arg9 : Memref sig .tc .vmem S2048x128 .f32) (harg9 : arg9.IsWhole) (arg10 : Memref sig .tc .vmem S1x128 .f32) (harg10 : arg10.IsWhole) (arg11 : Memref sig .tc .vmem S256x2048 .f32) (harg11 : arg11.IsWhole) (arg12 : Memref sig .tc .vmem S512x1024 .bf16) (harg12 : arg12.IsWhole) (arg13 : Memref sig .tc .vmem S256x128 .i32) (harg13 : arg13.IsWhole) (arg14 : Memref sig .tc .vmem S256x128 .f32) (harg14 : arg14.IsWhole) (arg15 : Memref sig .tc .vmem S8x128 .f32) (harg15 : arg15.IsWhole) (arg16 : Memref sig .tc .vmem S1x128 .f32) (harg16 : arg16.IsWhole) (hc0 : ¬cond0_0 i)
    (x0 : Vec F S256x1024 .bf16) (x1 : Vec F S256x1024 .bf16) (x2 : Vec F S2048x2048 .bf16) (x3 : Vec F S256x2048 .f32) (x4 : Vec F S1x1x2048 .f32) (x5 : Vec F S1x1x2048 .f32) (x6 : Vec F S1x1x2048 .f32) (x7 : Vec F S1x2048 .f32) (x8 : Vec F S2048x128 .f32) (x9 : Vec F S1x128 .f32) (xs0 : Vec F S1x128 .f32) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0 = k0_pay7 (F := F) (k0_pay5 (F := F) x0 (wHalf x2 ![0, 0] inb_S2048x2048_S1024x2048_0_0) x1 (wHalf x2 ![1024, 0] inb_S2048x2048_S1024x2048_1024_0) x3 x4 x7) x6 x5 := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 xs0)]
  unfold kernelRun0_B
  dsimp only
  rw [View.canon_unit_zero hz2]
  sl_unfold_words
  simp only [View.readAt_eq_ld, harg1.read_unread, harg2.read_unread, harg3.read_unread, harg4.read_unread, harg5.read_unread, harg6.read_unread, harg7.read_unread, harg8.read_unread,
    View.ld_unit_zero (S := S256x1024) hz2, View.ld_unit_zero (S := S256x2048) hz2, View.ld_unit_zero (S := S1x2048) hz2, View.ld_unit_zero (S := S1x1x2048) hz3]

end Cert.MixIdeal.Hand

end
-- ==== Proof.MixArr.lean ====
module

public import proofs.«01_k».proof.Proof.MixPay
public import proofs.«01_k».proof.Proof.MixBlk
public import proofs.«01_k».proof.Proof.MixOut
public import proofs.«01_k».proof.Proof.Gen.MixIdeal.Value

/-! The arrays the output projection leaves, from its arguments. -/

@[expose] public section

noncomputable section

namespace Cert.MixIdeal.Hand

open Cert.MixIdeal Cert.MixIdeal.Gen
open Idealize.ShloMosaic Idealize.ShloMosaic.TcCoe Idealize.ShloMosaic.Tactic Idealize.SL.Sem
open Idealize.ShloMosaic.Pipeline (Dat Window)

variable (m : (ℓ : Loc nD τ sig) → Buf (Elt Ideal) ℓ)

/-- The arguments. -/
abbrev aA (c : Dev nD) : S16384x1024.Idx → EReal := m ((c : Thread nD τ).loc main_arg0)
abbrev aC (c : Dev nD) : S16384x1024.Idx → EReal := m ((c : Thread nD τ).loc main_arg1)
abbrev aW (c : Dev nD) : S2048x2048.Idx → EReal := m ((c : Thread nD τ).loc main_arg2)
abbrev aX (c : Dev nD) : S16384x2048.Idx → EReal := m ((c : Thread nD τ).loc main_arg3)
abbrev aM (c : Dev nD) : S8x1x12288.Idx → EReal := m ((c : Thread nD τ).loc main_arg4)
abbrev aG (c : Dev nD) : S2048.Idx → EReal := m ((c : Thread nD τ).loc main_arg5)

theorem wLo_at (B : Vec Ideal S2048x2048 .bf16) (k : Fin 1024) (q : Fin 2048) :
    wHalf (F := Ideal) B ![0, 0] inb_S2048x2048_S1024x2048_0_0 (ix2 k q) = B (ix2 ⟨k.val, by omega⟩ q) := by
  refine congrArg B (Rect.emb_eq_of_coords _ _ _ fun a => ?_)
  fin_cases a <;> simp [ix2]

theorem wHi_at (B : Vec Ideal S2048x2048 .bf16) (k : Fin 1024) (q : Fin 2048) :
    wHalf (F := Ideal) B ![1024, 0] inb_S2048x2048_S1024x2048_1024_0 (ix2 k q) = B (ix2 ⟨1024 + k.val, by omega⟩ q) := by
  refine congrArg B (Rect.emb_eq_of_coords _ _ _ fun a => ?_)
  fin_cases a <;> simp [ix2]

theorem w_at (c : Dev nD) (t : Fin cfg0.N) (k q : Fin 2048) :
    (iblk (F := Ideal) m c 2 t : S2048x2048.Idx → EReal) (ix2 k q) = aW m c (ix2 k q) :=
  (iblk2_at m c t k q k q (by simp) (by simp)).trans (congrFun (V_v0 m c) (ix2 k q))

/-- A point's tokens after the mixer. -/
theorem pay4_arg (c : Dev nD) (t : Fin cfg0.N) (p : Fin 256) (q : Fin 2048) (r : Fin 16384) (hr : r.val = t.val * 256 + p.val) :
    (k0_pay4 (F := Ideal) (iblk m c 0 t) (wHalf (iblk m c 2 t) ![0, 0] inb_S2048x2048_S1024x2048_0_0) (iblk m c 1 t)
      (wHalf (iblk m c 2 t) ![1024, 0] inb_S2048x2048_S1024x2048_1024_0) (iblk m c 3 t) (iblk m c 4 t) (ix2 p q) : EReal)
    = x1R (aA m c) (aC m c) (aW m c) (aX m c) (aM m c) r q := by
  have hN : t.val < 64 := lt_of_lt_of_eq t.isLt N_0
  refine (pay4_at _ _ _ _ _ _ p q).trans ?_
  unfold x1R
  refine congrArg₂ (· + ·) ?_ (congrArg₂ (· * ·) ?_ (congrArg₂ (· + ·) (Finset.sum_congr rfl fun k _ => congrArg₂ (· * ·) ?_ ?_) (Finset.sum_congr rfl fun k _ => congrArg₂ (· * ·) ?_ ?_)))
  · exact (iblk3_at m c t p q r q hr (by simp)).trans (congrFun (V_main_arg3 m c) _)
  · exact (iblk4_at m c t 0 0 q ⟨r.val / 4096, by omega⟩ 0 ⟨4096 + q.val, by omega⟩ (by show r.val / 4096 = t.val / 16 * 1 + 0; omega) (by simp) (by show 4096 + q.val = 2 * 2048 + q.val; omega)).trans
      (congrFun (V_main_arg4 m c) _)
  · exact (iblk0_at m c t p k r k hr (by simp)).trans (congrFun (V_main_arg0 m c) _)
  · exact (wLo_at _ k q).trans (w_at m c t _ q)
  · exact (iblk1_at m c t p k r k hr (by simp)).trans (congrFun (V_main_arg1 m c) _)
  · exact (wHi_at _ k q).trans (w_at m c t _ q)

/-- A point's modulated norm. -/
theorem pay7_arg (c : Dev nD) (t : Fin cfg0.N) (p : Fin 512) (q : Fin 1024) (R : Fin 16384) (Q : Fin 2048) (hR' : R.val = t.val * 256 + p.val / 2)
    (hQ : Q.val = p.val % 2 * 1024 + q.val) :
    (k0_pay7 (F := Ideal) (k0_pay5 (F := Ideal) (iblk m c 0 t) (wHalf (iblk m c 2 t) ![0, 0] inb_S2048x2048_S1024x2048_0_0) (iblk m c 1 t)
        (wHalf (iblk m c 2 t) ![1024, 0] inb_S2048x2048_S1024x2048_1024_0) (iblk m c 3 t) (iblk m c 4 t) (iblk m c 7 t)) (iblk m c 6 t) (iblk m c 5 t) (ix2 p q) : EReal)
    = hR (aA m c) (aC m c) (aW m c) (aX m c) (aM m c) (aG m c) R Q := by
  have hN : t.val < 64 := lt_of_lt_of_eq t.isLt N_0
  refine (pay7_at _ _ _ p q).trans ((pay6_at _ _ _ _ _).trans ?_)
  have hq : (⟨p.val % 2 * 1024 + q.val, by omega⟩ : Fin 2048) = Q := Fin.ext hQ.symm
  rw [hq]
  unfold hR nrm
  refine congrArg₂ (· + ·) (congrArg₂ (· * ·) ((pay5_at _ _ _ _ _ _ _ _ Q (x1R (aA m c) (aC m c) (aW m c) (aX m c) (aM m c) R) fun k => ?_).trans ?_) (congrArg (1 + ·) ?_)) ?_
  · exact pay4_arg m c t ⟨p.val / 2, by omega⟩ k R hR'
  · refine congrArg₂ (· * ·) rfl ?_
    exact (iblk7_at m c t 0 Q 0 Q (by simp) (by simp)).trans ((congrFun (V_v4 m c) _).trans (row_at _ _ Q))
  · exact (iblk6_at m c t 0 0 Q ⟨R.val / 4096, by omega⟩ 0 ⟨8192 + Q.val, by omega⟩ (by show R.val / 4096 = t.val / 16 * 1 + 0; omega) (by simp) (by show 8192 + Q.val = 4 * 2048 + Q.val; omega)).trans
      (congrFun (V_main_arg4 m c) _)
  · exact (iblk5_at m c t 0 0 Q ⟨R.val / 4096, by omega⟩ 0 ⟨6144 + Q.val, by omega⟩ (by show R.val / 4096 = t.val / 16 * 1 + 0; omega) (by simp) (by show 6144 + Q.val = 3 * 2048 + Q.val; omega)).trans
      (congrFun (V_main_arg4 m c) _)

theorem point10 (c : Dev nD) (t : Fin cfg0.N) (p : Fin 256) (q : Fin 2048) (r : Fin 16384) (hr : r.val = t.val * 256 + p.val) :
    ((outsAt0 (F := Ideal) m c t.val t.isLt).1 (ix2 p q) : EReal) = x1R (aA m c) (aC m c) (aW m c) (aX m c) (aM m c) r q := by
  by_cases h : t.val % 64 = 0
  · rw [outsAt0_A m c t h]
    dsimp only
    rw [out10_A]
    exact pay4_arg m c t p q r hr
  · rw [outsAt0_B m c t h]
    dsimp only
    rw [out10_B]
    exact pay4_arg m c t p q r hr

theorem point11 (c : Dev nD) (t : Fin cfg0.N) (p : Fin 512) (q : Fin 1024) (R : Fin 16384) (Q : Fin 2048) (hR' : R.val = t.val * 256 + p.val / 2)
    (hQ : Q.val = p.val % 2 * 1024 + q.val) :
    ((outsAt0 (F := Ideal) m c t.val t.isLt).2.1 (ix2 p q) : EReal) = hR (aA m c) (aC m c) (aW m c) (aX m c) (aM m c) (aG m c) R Q := by
  by_cases h : t.val % 64 = 0
  · rw [outsAt0_A m c t h]
    dsimp only
    rw [out11_A]
    exact pay7_arg m c t p q R Q hR' hQ
  · rw [outsAt0_B m c t h]
    dsimp only
    rw [out11_B]
    exact pay7_arg m c t p q R Q hR' hQ

theorem idx10 : ∀ t : Fin cfg0.N, win0_10.index t = ![t.val, 0] :=
  (by decide +kernel : ∀ t : Fin grid0.N, _)

theorem idx11 : ∀ t : Fin cfg0.N, win0_11.index t = ![t.val, 0] :=
  (by decide +kernel : ∀ t : Fin grid0.N, _)

theorem arr10 (c : Dev nD) : (dats (F := Ideal) m 0 c).arrAt 10 cfg0.N = x1A (aA m c) (aC m c) (aW m c) (aX m c) (aM m c) := by
  refine (dats m 0 c).arrAt_eq_of_covers 10 _ (by decide +kernel) fun t hf y => ?_
  have e0 : (((cfg0.win 10).blk t).view.emb y 0).val = t.val * 256 + (y 0).val :=
    ((cfg0.win 10).rect_emb_val t y 0 rfl).trans (congrArg (· * 256 + (y 0).val) (congrFun (idx10 t) 0))
  have e1 : (((cfg0.win 10).blk t).view.emb y 1).val = (y 1).val :=
    ((cfg0.win 10).rect_emb_val t y 1 rfl).trans ((congrArg (· * 2048 + (y 1).val) (congrFun (idx10 t) 1)).trans (by simp))
  rw [after0_10]
  refine (congrArg (outsAt0 (F := Ideal) m c t.val t.isLt).1 (eq_ix2 _)).trans ?_
  refine (point10 m c t (y 0) (y 1) (((cfg0.win 10).blk t).view.emb y 0) e0).trans ?_
  exact congrArg (x1R (aA m c) (aC m c) (aW m c) (aX m c) (aM m c) (((cfg0.win 10).blk t).view.emb y 0)) (Fin.ext e1.symm)

theorem arr11 (c : Dev nD) : (dats (F := Ideal) m 0 c).arrAt 11 cfg0.N = hA (aA m c) (aC m c) (aW m c) (aX m c) (aM m c) (aG m c) := by
  refine (dats m 0 c).arrAt_eq_of_covers 11 _ (by decide +kernel) fun t hf y => ?_
  have e0 : (((cfg0.win 11).blk t).view.emb y 0).val = t.val * 512 + (y 0).val :=
    ((cfg0.win 11).rect_emb_val t y 0 rfl).trans (congrArg (· * 512 + (y 0).val) (congrFun (idx11 t) 0))
  have e1 : (((cfg0.win 11).blk t).view.emb y 1).val = (y 1).val :=
    ((cfg0.win 11).rect_emb_val t y 1 rfl).trans ((congrArg (· * 1024 + (y 1).val) (congrFun (idx11 t) 1)).trans (by simp))
  rw [after0_11]
  refine (congrArg (outsAt0 (F := Ideal) m c t.val t.isLt).2.1 (eq_ix2 _)).trans ?_
  refine (point11 m c t (y 0) (y 1) _ _ ?_ ?_)
  · show (((cfg0.win 11).blk t).view.emb y 0).val / 2 = t.val * 256 + (y 0).val / 2
    omega
  · show (((cfg0.win 11).blk t).view.emb y 0).val % 2 * 1024 + (((cfg0.win 11).blk t).view.emb y 1).val = (y 0).val % 2 * 1024 + (y 1).val
    omega

end Cert.MixIdeal.Hand

end
-- ==== Proof.MixRef.lean ====
module

public import proofs.«01_k».proof.Proof.MixSpec
public import proofs.«01_k».proof.Proof.Gen.MixReferenceIdeal.Read
public import Idealize.ShloMosaic.Lib.Pipeline.Value
public import Idealize.ShloMosaic.Lib.ValueIdx
public import Idealize.ShloMosaic.PureOps.Ideal.Laws
public import Idealize.ShloMosaic.Lib.IdealHost

/-! The reference's results, entry by entry. -/

@[expose] public section

noncomputable section

namespace Cert.MixReferenceIdeal.Hand

open Cert.MixReferenceIdeal Cert.MixReferenceIdeal.Gen Cert.MixReferenceIdeal.Read
open Idealize.ShloMosaic
open Idealize.ShloMosaic.TcCoe Idealize.ShloMosaic.Tactic

variable (a c : (⟨S16384x1024, .bf16⟩ : BufTy).Contents (Elt Ideal)) (w : (⟨S2048x2048, .f32⟩ : BufTy).Contents (Elt Ideal))
  (x : (⟨S16384x2048, .f32⟩ : BufTy).Contents (Elt Ideal)) (md : (⟨S8x1x12288, .f32⟩ : BufTy).Contents (Elt Ideal)) (g : (⟨S2048, .f32⟩ : BufTy).Contents (Elt Ideal))

set_option maxRecDepth 16384 in
theorem cat_lo (r : Fin 16384) (k : Fin 1024) : (val_main_v0 (F := Ideal) a c (ix2 r ⟨k.val, by omega⟩) : EReal) = a (ix2 r k) := by
  pointwise [val_main_v0]

set_option maxRecDepth 16384 in
theorem cat_hi (r : Fin 16384) (k : Fin 1024) : (val_main_v0 (F := Ideal) a c (ix2 r ⟨1024 + k.val, by omega⟩) : EReal) = c (ix2 r k) := by
  pointwise [val_main_v0]

theorem v2_at (r : Fin 16384) (q : Fin 2048) : (val_main_v2 (F := Ideal) a c w (ix2 r q) : EReal)
    = (∑ k : Fin 1024, a (ix2 r k) * w (ix2 ⟨k.val, by omega⟩ q)) + ∑ k : Fin 1024, c (ix2 r k) * w (ix2 ⟨1024 + k.val, by omega⟩ q) := by
  rw [val_main_v2_apply]
  rw [Fin.sum_univ_two_halves 1024 1024 rfl]
  refine congrArg₂ (· + ·) (Finset.sum_congr rfl fun k _ => ?_) (Finset.sum_congr rfl fun k _ => ?_)
  · refine congrArg₂ (· * ·) ((congrArg (val_main_v0 (F := Ideal) a c) (funext fun b => ?_)).trans (cat_lo a c r k)) (congrArg w (funext fun b => ?_)) <;> match b with
    | ⟨0, _⟩ => rfl
    | ⟨1, _⟩ => rfl
  · refine congrArg₂ (· * ·) ((congrArg (val_main_v0 (F := Ideal) a c) (funext fun b => ?_)).trans (cat_hi a c r k)) (congrArg w (funext fun b => ?_)) <;> match b with
    | ⟨0, _⟩ => rfl
    | ⟨1, _⟩ => rfl

/-- The sum at batch `b`, place `s`. -/
theorem v8_at (b : Fin 4) (s : Fin 4096) (q : Fin 2048) (r : Fin 16384) (hr : r.val = b.val * 4096 + s.val) :
    (val_main_v8 (F := Ideal) a c w x md (ix3 b s q) : EReal) = Cert.MixIdeal.Hand.x1R a c w x md r q := by
  have hb : b.val = r.val / 4096 := by omega
  rw [val_main_v8_apply, val_main_v4_apply, val_main_v7_apply, val_main_v6_apply, val_main_v5_apply, val_main_v3_apply]
  unfold Cert.MixIdeal.Hand.x1R
  rw [← v2_at]
  refine congrArg₂ (· + ·) (congrArg x (funext fun e => ?_)) (congrArg₂ (· * ·) (congrArg md (funext fun e => ?_)) (congrArg (val_main_v2 (F := Ideal) a c w) (funext fun e => ?_))) <;>
    apply Fin.ext
  · match e with
    | ⟨0, _⟩ => show ((b.val * 4096 + s.val) * 2048 + q.val) / 2048 = r.val; omega
    | ⟨1, _⟩ => show ((b.val * 4096 + s.val) * 2048 + q.val) % 2048 = q.val; omega
  · match e with
    | ⟨0, _⟩ => show b.val = r.val / 4096; omega
    | ⟨1, _⟩ => rfl
    | ⟨2, _⟩ => show 4096 + q.val = 4096 + q.val; rfl
  · match e with
    | ⟨0, _⟩ => show ((b.val * 4096 + s.val) * 2048 + q.val) / 2048 = r.val; omega
    | ⟨1, _⟩ => show ((b.val * 4096 + s.val) * 2048 + q.val) % 2048 = q.val; omega

theorem v29_at (b : Fin 4) (s : Fin 4096) (q : Fin 2048) (r : Fin 16384) (hr : r.val = b.val * 4096 + s.val) :
    (val_main_v29 (F := Ideal) a c w x md g (ix3 b s q) : EReal) = Cert.MixIdeal.Hand.hR a c w x md g r q := by
  have hb : b.val = r.val / 4096 := by omega
  rw [val_main_v29_apply, val_main_v26_apply, val_main_v21_apply, val_main_v18_apply, val_main_v17_apply, val_main_v16_apply, val_main_v15_apply,
    val_main_v13_apply, val_main_v11_apply, val_main_v10_apply, val_main_v12_apply, val_main_v14_apply, val_main_v20_apply, val_main_v19_apply,
    val_main_v25_apply, val_main_v24_apply, val_main_v23_apply, val_main_v22_apply, val_main_v28_apply, val_main_v27_apply,
    val_main_cst_apply, val_main_cst_0_apply, val_main_cst_1_apply, val_main_cst_2_apply, v8_at a c w x md b s q r hr]
  have hs : ∀ k : Fin 2048, (val_main_v9 (F := Ideal) a c w x md (ix3 b s k) : EReal) = Cert.MixIdeal.Hand.x1R a c w x md r k * Cert.MixIdeal.Hand.x1R a c w x md r k := by
    intro k
    rw [val_main_v9_apply, v8_at a c w x md b s k r hr]
    rfl
  unfold Cert.MixIdeal.Hand.hR Cert.MixIdeal.Hand.nrm
  refine congrArg₂ (· + ·) (congrArg₂ (· * ·) (congrArg₂ (· * ·) (congrArg₂ (· * ·) rfl (congrArg Ideal.rsqrt (congrArg₂ (· + ·) (congrArg₂ Ideal.div ?_ ?_) ?_))) ?_) (congrArg₂ (· + ·) ?_ (congrArg md (funext fun e => ?_)))) (congrArg md (funext fun e => ?_))
  · refine (congrArg₂ (· + ·) (Ideal.ofBits_zero .f32) (Finset.sum_congr rfl fun k _ => (congrArg (val_main_v9 (F := Ideal) a c w x md) (funext fun e => ?_)).trans (hs k))).trans (zero_add _)
    match e with
    | ⟨0, _⟩ => rfl
    | ⟨1, _⟩ => rfl
    | ⟨2, _⟩ => rfl
  · rfl
  · rfl
  · refine congrArg g (funext fun e => ?_)
    match e with
    | ⟨0, _⟩ => rfl
  · exact Ideal.ofBits_one_f32
  · apply Fin.ext
    match e with
    | ⟨0, _⟩ => show b.val = r.val / 4096; omega
    | ⟨1, _⟩ => rfl
    | ⟨2, _⟩ => show 8192 + q.val = 8192 + q.val; rfl
  · apply Fin.ext
    match e with
    | ⟨0, _⟩ => show b.val = r.val / 4096; omega
    | ⟨1, _⟩ => rfl
    | ⟨2, _⟩ => show 6144 + q.val = 6144 + q.val; rfl

theorem x1_eq : (val_main_v30 (F := Ideal) a c w x md : S16384x2048.Idx → EReal) = Cert.MixIdeal.Hand.x1A a c w x md := by
  funext i
  have h0 : (i 0).val < 16384 := (i 0).isLt
  have h1 : (i 1).val < 2048 := (i 1).isLt
  rw [val_main_v30_apply]
  refine (congrArg (val_main_v8 (F := Ideal) a c w x md) (funext fun e => Fin.ext ?_)).trans
    (v8_at a c w x md ⟨(i 0).val / 4096, by omega⟩ ⟨(i 0).val % 4096, by omega⟩ (i 1) (i 0) (by show (i 0).val = (i 0).val / 4096 * 4096 + (i 0).val % 4096; omega))
  match e with
  | ⟨0, _⟩ => show ((i 0).val * 2048 + (i 1).val) / 8388608 = (i 0).val / 4096; omega
  | ⟨1, _⟩ => show ((i 0).val * 2048 + (i 1).val) / 2048 % 4096 = (i 0).val % 4096; omega
  | ⟨2, _⟩ => show ((i 0).val * 2048 + (i 1).val) % 2048 = (i 1).val; omega

theorem h_eq : (val_main_v32 (F := Ideal) a c w x md g : S32768x1024.Idx → EReal) = Cert.MixIdeal.Hand.hA a c w x md g := by
  funext i
  have h0 : (i 0).val < 32768 := (i 0).isLt
  have h1 : (i 1).val < 1024 := (i 1).isLt
  rw [val_main_v32_apply, val_main_v31_apply]
  refine (congrArg (val_main_v29 (F := Ideal) a c w x md g) (funext fun e => Fin.ext ?_)).trans
    (v29_at a c w x md g ⟨(i 0).val / 2 / 4096, by omega⟩ ⟨(i 0).val / 2 % 4096, by omega⟩ ⟨(i 0).val % 2 * 1024 + (i 1).val, by omega⟩ ⟨(i 0).val / 2, by omega⟩
      (by show (i 0).val / 2 = (i 0).val / 2 / 4096 * 4096 + (i 0).val / 2 % 4096; omega))
  match e with
  | ⟨0, _⟩ => show ((i 0).val * 1024 + (i 1).val) / 8388608 = (i 0).val / 2 / 4096; omega
  | ⟨1, _⟩ => show ((i 0).val * 1024 + (i 1).val) / 2048 % 4096 = (i 0).val / 2 % 4096; omega
  | ⟨2, _⟩ => show ((i 0).val * 1024 + (i 1).val) % 2048 = (i 0).val % 2 * 1024 + (i 1).val; omega

end Cert.MixReferenceIdeal.Hand

end
-- ==== Proof.MixClaims.lean ====
module

public import proofs.«01_k».proof.Defs
public import proofs.«01_k».proof.Proof.MixGen
public import proofs.«01_k».proof.Proof.MixArr
public import proofs.«01_k».proof.Proof.MixRef
public import Idealize.ShloMosaic.Lib.Bf16Pair
public import Idealize.ShloMosaic.Lib.Quiescent

/-! The output projection: frames, the rewrites, and one function of the arguments for the kernel and the reference. -/

@[expose] public section

noncomputable section

namespace Cert.MixProof

open Idealize.ShloMosaic Idealize.SL.Sem

/-- The kernel as written, at the bits. -/
theorem frame_w : Cert.quiescent_MixWords := fun m ρ _ => Cert.MixWords.Gen.frame m ρ

/-- The kernel with the packed words stored as rows, at the bits. -/
theorem frame_p : Cert.quiescent_Mix := fun m ρ _ => Cert.Mix.Gen.frame m ρ

/-- The same at exact arithmetic. -/
theorem frame_pi : Cert.quiescent_MixIdeal := fun m ρ _ => Cert.MixIdeal.Gen.frame m ρ

/-- The reference: a list of host operations. -/
theorem frame_ri : Cert.quiescent_MixReferenceIdeal := by
  intro m ρ _
  exact (θ_run (Cert.MixReferenceIdeal.defs (F := Ideal)) _ _).mono (fun r h => ⟨fun c => (h c).2.2, sem_eq_zero_of_no_sems (by decide) r.2⟩)
    (Cert.MixReferenceIdeal.Value.run (F := Ideal) m ρ)

/-- The packed words read as the rows of bf16 values they are. -/
theorem preserves : Cert.preserves_Mix_MixIdeal :=
  ⟨IdealRules.bf16_pair.packStatement _, IdealRules.bf16_pair.statement _ _⟩

open Cert.MixIdeal.Hand in
/-- Both programs leave the tokens after the mixer and their modulated norm. -/
theorem algebraic : Cert.algebraic_MixIdeal_MixReferenceIdeal := by
  intro m g m' g' _ ha
  refine ⟨fun c => x1A (aA m c) (aC m c) (aW m c) (aX m c) (aM m c), fun c => hA (aA m c) (aC m c) (aW m c) (aX m c) (aM m c) (aG m c), ?_, ?_⟩
  · exact (θ_run (Cert.MixIdeal.defs (F := Ideal)) _ _).mono
      (fun r h c => ⟨(h c).1.trans (arr10 m c), (h c).2.1.trans (arr11 m c), (h c).2.2.2.2.2⟩)
      (Cert.MixIdeal.Value.run_blocks (F := Ideal) m g)
  · refine (θ_run (Cert.MixReferenceIdeal.defs (F := Ideal)) _ _).mono (fun r h c => ⟨(h c).1.trans ?_, (h c).2.1.trans ?_, (h c).2.2⟩)
      (Cert.MixReferenceIdeal.Value.run (F := Ideal) m' g')
    · obtain rfl : c = 0 := Subsingleton.elim _ _
      obtain ⟨a0, a1, a2, a3, a4, a5, a6, a7⟩ := ha 0
      refine (Cert.MixReferenceIdeal.Read.val_main_v30_eq _ _ _ _ _).trans ((Cert.MixReferenceIdeal.Hand.x1_eq _ _ _ _ _).trans ?_)
      rw [a0, a1, a2, a3, a4]
    · obtain rfl : c = 0 := Subsingleton.elim _ _
      obtain ⟨a0, a1, a2, a3, a4, a5, a6, a7⟩ := ha 0
      refine (Cert.MixReferenceIdeal.Read.val_main_v32_eq _ _ _ _ _ _).trans ((Cert.MixReferenceIdeal.Hand.h_eq _ _ _ _ _ _).trans ?_)
      rw [a0, a1, a2, a3, a4, a5]

end Cert.MixProof

end
-- ==== Proof.lean ====
module

public import proofs.«01_k».proof.Defs
public import proofs.«01_k».proof.Proof.Frames
public import proofs.«01_k».proof.Proof.DownGen
public import proofs.«01_k».proof.Proof.Algebraic
public import proofs.«01_k».proof.Proof.DnFrames
public import proofs.«01_k».proof.Proof.DnAlgebraic
public import proofs.«01_k».proof.Proof.MixClaims

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Down.Gen.facts, Cert.DownIdeal.Gen.facts,
    Cert.DownReferenceIdeal.Gen.facts, Cert.MixWords.Gen.facts, Cert.Mix.Gen.facts, Cert.MixIdeal.Gen.facts, Cert.MixReferenceIdeal.Gen.facts,
    Cert.Pre_routed.Gen.facts, Cert.Pre_routed_down.Gen.facts,
    frame_p, frame_pi, frame_ri, frame_ri_routed,
    Cert.DownProof.frame_p, Cert.DownProof.frame_pi, Cert.DownProof.frame_ri, Cert.DownProof.frame_ri_routed,
    Cert.MixProof.frame_w, Cert.MixProof.frame_p, Cert.MixProof.frame_pi, Cert.MixProof.frame_ri,
    preserves, algebraic, Cert.DownProof.preserves, Cert.DownProof.algebraic, Cert.MixProof.preserves, Cert.MixProof.algebraic⟩

end Cert.Proof

end
